-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x72 : Shape := ⟨3, ![1, 16384, 72]⟩
abbrev S1x72x72 : Shape := ⟨3, ![1, 72, 72]⟩
abbrev S1x1152x16384 : Shape := ⟨3, ![1, 1152, 16384]⟩
abbrev S16384x72 : Shape := ⟨2, ![16384, 72]⟩
abbrev S72x16384 : Shape := ⟨2, ![72, 16384]⟩
abbrev S72x72 : Shape := ⟨2, ![72, 72]⟩
abbrev S1152x16384 : Shape := ⟨2, ![1152, 16384]⟩
abbrev S1x128 : Shape := ⟨2, ![1, 128]⟩
abbrev S1152x128 : Shape := ⟨2, ![1152, 128]⟩
abbrev S72x1152 : Shape := ⟨2, ![72, 1152]⟩
abbrev S1x1152 : Shape := ⟨2, ![1, 1152]⟩
abbrev S10x64x16384 : Shape := ⟨3, ![10, 64, 16384]⟩
abbrev S96x16384 : Shape := ⟨2, ![96, 16384]⟩
abbrev S80x16384 : Shape := ⟨2, ![80, 16384]⟩
abbrev S2x64x16384 : Shape := ⟨3, ![2, 64, 16384]⟩
abbrev S1x16384 : Shape := ⟨2, ![1, 16384]⟩
abbrev S64x128 : Shape := ⟨2, ![64, 128]⟩
abbrev S128x128 : Shape := ⟨2, ![128, 128]⟩
abbrev S4 : Shape := ⟨1, ![4]⟩
abbrev S10 : Shape := ⟨1, ![10]⟩
abbrev S2 : Shape := ⟨1, ![2]⟩
abbrev S8 : Shape := ⟨1, ![8]⟩
abbrev S1 : Shape := ⟨1, ![1]⟩
abbrev S_ : Shape := ⟨0, ![]⟩
abbrev S72x4096 : Shape := ⟨2, ![72, 4096]⟩
abbrev S1x64x16384 : Shape := ⟨3, ![1, 64, 16384]⟩
abbrev S64x16384 : Shape := ⟨2, ![64, 16384]⟩
abbrev S72x128 : Shape := ⟨2, ![72, 128]⟩
abbrev S128 : Shape := ⟨1, ![128]⟩
abbrev S1x1 : Shape := ⟨2, ![1, 1]⟩
abbrev S24x128 : Shape := ⟨2, ![24, 128]⟩
abbrev S96x128 : Shape := ⟨2, ![96, 128]⟩
abbrev S80x128 : Shape := ⟨2, ![80, 128]⟩
abbrev S72x56 : Shape := ⟨2, ![72, 56]⟩
abbrev S56x128 : Shape := ⟨2, ![56, 128]⟩
abbrev S64 : Shape := ⟨1, ![64]⟩
abbrev S64x1 : Shape := ⟨2, ![64, 1]⟩
abbrev S1x64x128 : Shape := ⟨3, ![1, 64, 128]⟩
abbrev S80x512 : Shape := ⟨2, ![80, 512]⟩
abbrev S64x80 : Shape := ⟨2, ![64, 80]⟩
abbrev S64x512 : Shape := ⟨2, ![64, 512]⟩
abbrev S64x96 : Shape := ⟨2, ![64, 96]⟩
abbrev S96x512 : Shape := ⟨2, ![96, 512]⟩

abbrev nBuf : Space → Nat
  | .hbm => 14
  | .vmem => 16
  | .smem => 0
  | _ => 0

abbrev bufTy : (tb : Table) → Fin (tcTables nBuf tb) → BufTy
  | .hbm, ⟨0, _⟩ => ⟨S1x16384x72, .f32⟩
  | .hbm, ⟨1, _⟩ => ⟨S1x72x72, .f32⟩
  | .hbm, ⟨2, _⟩ => ⟨S1x1152x16384, .f32⟩
  | .hbm, ⟨3, _⟩ => ⟨S16384x72, .f32⟩
  | .hbm, ⟨4, _⟩ => ⟨S72x16384, .f32⟩
  | .hbm, ⟨5, _⟩ => ⟨S72x72, .f32⟩
  | .hbm, ⟨6, _⟩ => ⟨S1152x16384, .f32⟩
  | .hbm, ⟨7, _⟩ => ⟨S1152x16384, .f32⟩
  | .hbm, ⟨8, _⟩ => ⟨S72x16384, .fp8e4m3⟩
  | .hbm, ⟨9, _⟩ => ⟨S1x128, .f32⟩
  | .hbm, ⟨10, _⟩ => ⟨S1152x16384, .fp8e4m3⟩
  | .hbm, ⟨11, _⟩ => ⟨S1152x128, .f32⟩
  | .hbm, ⟨12, _⟩ => ⟨S72x1152, .fp8e4m3⟩
  | .hbm, ⟨13, _⟩ => ⟨S1x1152, .f32⟩
  | .local _ .vmem, ⟨0, _⟩ => ⟨S10x64x16384, .f32⟩
  | .local _ .vmem, ⟨1, _⟩ => ⟨S72x16384, .f32⟩
  | .local _ .vmem, ⟨2, _⟩ => ⟨S96x16384, .fp8e4m3⟩
  | .local _ .vmem, ⟨3, _⟩ => ⟨S72x16384, .fp8e4m3⟩
  | .local _ .vmem, ⟨4, _⟩ => ⟨S80x16384, .bf16⟩
  | .local _ .vmem, ⟨5, _⟩ => ⟨S2x64x16384, .fp8e4m3⟩
  | .local _ .vmem, ⟨6, _⟩ => ⟨S1152x128, .f32⟩
  | .local _ .vmem, ⟨7, _⟩ => ⟨S1152x128, .f32⟩
  | .local _ .vmem, ⟨8, _⟩ => ⟨S1152x128, .f32⟩
  | .local _ .vmem, ⟨9, _⟩ => ⟨S72x1152, .fp8e4m3⟩
  | .local _ .vmem, ⟨10, _⟩ => ⟨S1x1152, .f32⟩
  | .local _ .vmem, ⟨11, _⟩ => ⟨S1x16384, .f32⟩
  | .local _ .vmem, ⟨12, _⟩ => ⟨S1x128, .f32⟩
  | .local _ .vmem, ⟨13, _⟩ => ⟨S64x128, .f32⟩
  | .local _ .vmem, ⟨14, _⟩ => ⟨S128x128, .f32⟩
  | .local _ .vmem, ⟨15, _⟩ => ⟨S72x72, .f32⟩
  | _, _ => ⟨S1x16384x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩

abbrev nD : Nat := 1
abbrev τ : Topo := Topo.v7x

variable {F : FTy → Type} [FloatOps F]

abbrev grid0 : Pipeline.Grid := .none

def k0_off1 (c0_i32_13 : BitVec 32) : Fin 1 → Nat :=
  let c10_i32 : BitVec 32 := 10#32
  let v16 : BitVec 32 := Scalar.remsi c0_i32_13 c10_i32
  ![v16.toNat]
def k0_off2 (c0_i32_13 : BitVec 32) : Fin 3 → Nat :=
  let c10_i32 : BitVec 32 := 10#32
  let v16 : BitVec 32 := Scalar.remsi c0_i32_13 c10_i32
  let c0_i32_15 : BitVec 32 := 0#32
  let c0_i32_16 : BitVec 32 := 0#32
  ![v16.toNat, 0, 0]
def k0_off3 (c0_i32_14 : BitVec 32) : Fin 2 → Nat :=
  let c64_i32 : BitVec 32 := 64#32
  let v17 : BitVec 32 := Scalar.muli c0_i32_14 c64_i32
  let c0_i32_17 : BitVec 32 := 0#32
  ![v17.toNat, 0]
@[reducible] def k0_t1_loop : Scf.Loop 32 :=
  let c0_i32_96 : BitVec 32 := 0#32
  let c32_i32 : BitVec 32 := 32#32
  let v106 : BitVec 32 := Scalar.addi c0_i32_96 c32_i32
  let c1_i32_97 : BitVec 32 := 1#32
  ⟨c0_i32_96, v106, c1_i32_97⟩
def k0_mult1 (k0_t1 : Fin k0_t1_loop.trips) : BitVec 32 :=
  let c0_i32_96 : BitVec 32 := 0#32
  let c1_i32_97 : BitVec 32 := 1#32
  let arg31 : BitVec 32 := Scf.iv c0_i32_96 c1_i32_97 k0_t1
  let c4_i32_264 : BitVec 32 := 4#32
  let v348 : BitVec 32 := Scalar.muli arg31 c4_i32_264
  let c0_i32_265 : BitVec 32 := 0#32
  let v349 : BitVec 32 := Scalar.addi v348 c0_i32_265
  let c128_i32 : BitVec 32 := 128#32
  let v350 : BitVec 32 := Scalar.muli v349 c128_i32
  v350
def k0_off4 (k0_t1 : Fin k0_t1_loop.trips) (c0_i32_265 : BitVec 32) : Fin 2 → Nat :=
  let c0_266 : Index := 0#32
  let c0_i32_96 : BitVec 32 := 0#32
  let c1_i32_97 : BitVec 32 := 1#32
  let arg31 : BitVec 32 := Scf.iv c0_i32_96 c1_i32_97 k0_t1
  let c4_i32_264 : BitVec 32 := 4#32
  let v348 : BitVec 32 := Scalar.muli arg31 c4_i32_264
  let v349 : BitVec 32 := Scalar.addi v348 c0_i32_265
  let c128_i32 : BitVec 32 := 128#32
  let v350 : BitVec 32 := Scalar.muli v349 c128_i32
  let v351 : BitVec 32 := v350
  let v352 : Index := Scalar.indexCast v351
  ![0, v352.toNat]
def k0_off5 (k0_t1 : Fin k0_t1_loop.trips) (c0_i32_265 : BitVec 32) : Fin 2 → Nat :=
  let c0_294 : Index := 0#32
  let c0_i32_96 : BitVec 32 := 0#32
  let c1_i32_97 : BitVec 32 := 1#32
  let arg31 : BitVec 32 := Scf.iv c0_i32_96 c1_i32_97 k0_t1
  let c4_i32_264 : BitVec 32 := 4#32
  let v348 : BitVec 32 := Scalar.muli arg31 c4_i32_264
  let v349 : BitVec 32 := Scalar.addi v348 c0_i32_265
  let c128_i32 : BitVec 32 := 128#32
  let v350 : BitVec 32 := Scalar.muli v349 c128_i32
  let v351 : BitVec 32 := v350
  let v427 : Index := Scalar.indexCast v351
  ![0, v427.toNat]
def k0_off6 (k0_t1 : Fin k0_t1_loop.trips) (c0_i32_265 : BitVec 32) : Fin 2 → Nat :=
  let c0_296 : Index := 0#32
  let c0_i32_96 : BitVec 32 := 0#32
  let c1_i32_97 : BitVec 32 := 1#32
  let arg31 : BitVec 32 := Scf.iv c0_i32_96 c1_i32_97 k0_t1
  let c4_i32_264 : BitVec 32 := 4#32
  let v348 : BitVec 32 := Scalar.muli arg31 c4_i32_264
  let v349 : BitVec 32 := Scalar.addi v348 c0_i32_265
  let c128_i32 : BitVec 32 := 128#32
  let v350 : BitVec 32 := Scalar.muli v349 c128_i32
  let v351 : BitVec 32 := v350
  let v442 : Index := Scalar.indexCast v351
  ![0, v442.toNat]
def k0_off7 (k0_t1 : Fin k0_t1_loop.trips) (c0_i32_265 : BitVec 32) : Fin 2 → Nat :=
  let c0_297 : Index := 0#32
  let c0_i32_96 : BitVec 32 := 0#32
  let c1_i32_97 : BitVec 32 := 1#32
  let arg31 : BitVec 32 := Scf.iv c0_i32_96 c1_i32_97 k0_t1
  let c4_i32_264 : BitVec 32 := 4#32
  let v348 : BitVec 32 := Scalar.muli arg31 c4_i32_264
  let v349 : BitVec 32 := Scalar.addi v348 c0_i32_265
  let c128_i32 : BitVec 32 := 128#32
  let v350 : BitVec 32 := Scalar.muli v349 c128_i32
  let v351 : BitVec 32 := v350
  let v446 : Index := Scalar.indexCast v351
  ![0, v446.toNat]
def k0_mult2 (k0_t1 : Fin k0_t1_loop.trips) : BitVec 32 :=
  let c0_i32_96 : BitVec 32 := 0#32
  let c1_i32_97 : BitVec 32 := 1#32
  let arg31 : BitVec 32 := Scf.iv c0_i32_96 c1_i32_97 k0_t1
  let c4_i32_298 : BitVec 32 := 4#32
  let v453 : BitVec 32 := Scalar.muli arg31 c4_i32_298
  let c1_i32_299 : BitVec 32 := 1#32
  let v454 : BitVec 32 := Scalar.addi v453 c1_i32_299
  let c128_i32_300 : BitVec 32 := 128#32
  let v455 : BitVec 32 := Scalar.muli v454 c128_i32_300
  v455
def k0_mult3 (k0_t1 : Fin k0_t1_loop.trips) : BitVec 32 :=
  let c0_i32_96 : BitVec 32 := 0#32
  let c1_i32_97 : BitVec 32 := 1#32
  let arg31 : BitVec 32 := Scf.iv c0_i32_96 c1_i32_97 k0_t1
  let c4_i32_333 : BitVec 32 := 4#32
  let v558 : BitVec 32 := Scalar.muli arg31 c4_i32_333
  let c2_i32_334 : BitVec 32 := 2#32
  let v559 : BitVec 32 := Scalar.addi v558 c2_i32_334
  let c128_i32_335 : BitVec 32 := 128#32
  let v560 : BitVec 32 := Scalar.muli v559 c128_i32_335
  v560
def k0_mult4 (k0_t1 : Fin k0_t1_loop.trips) : BitVec 32 :=
  let c0_i32_96 : BitVec 32 := 0#32
  let c1_i32_97 : BitVec 32 := 1#32
  let arg31 : BitVec 32 := Scf.iv c0_i32_96 c1_i32_97 k0_t1
  let c4_i32_368 : BitVec 32 := 4#32
  let v663 : BitVec 32 := Scalar.muli arg31 c4_i32_368
  let c3_i32_369 : BitVec 32 := 3#32
  let v664 : BitVec 32 := Scalar.addi v663 c3_i32_369
  let c128_i32_370 : BitVec 32 := 128#32
  let v665 : BitVec 32 := Scalar.muli v664 c128_i32_370
  v665
@[reducible] def k0_t2_loop : Scf.Loop 32 :=
  let c0_i32_112 : BitVec 32 := 0#32
  let c18_i32 : BitVec 32 := 18#32
  let v130 : BitVec 32 := Scalar.addi c0_i32_112 c18_i32
  let c1_i32_113 : BitVec 32 := 1#32
  ⟨c0_i32_112, v130, c1_i32_113⟩
def k0_mult5 (k0_t2 : Fin k0_t2_loop.trips) : BitVec 32 :=
  let c0_i32_112 : BitVec 32 := 0#32
  let c1_i32_113 : BitVec 32 := 1#32
  let arg31 : BitVec 32 := Scf.iv c0_i32_112 c1_i32_113 k0_t2
  let c64_i32_266 : BitVec 32 := 64#32
  let v350 : BitVec 32 := Scalar.muli arg31 c64_i32_266
  v350
def k0_cond1 (k0_t2 : Fin k0_t2_loop.trips) : BitVec 1 :=
  let c0_i32_112 : BitVec 32 := 0#32
  let c1_i32_113 : BitVec 32 := 1#32
  let arg31 : BitVec 32 := Scf.iv c0_i32_112 c1_i32_113 k0_t2
  let c2_i32_267 : BitVec 32 := 2#32
  let v352 : BitVec 1 := Scalar.cmpi .sge arg31 c2_i32_267
  let v353 : BitVec 32 := Scalar.extui v352
  let c0_i32_268 : BitVec 32 := 0#32
  let v354 : BitVec 1 := Scalar.cmpi .ne v353 c0_i32_268
  v354

def k0_off8 (k0_t2 : Fin k0_t2_loop.trips) : Fin 1 → Nat :=
  let c0_i32_112 : BitVec 32 := 0#32
  let c1_i32_113 : BitVec 32 := 1#32
  let arg31 : BitVec 32 := Scf.iv c0_i32_112 c1_i32_113 k0_t2
  let c2_i32_334 : BitVec 32 := 2#32
  let v479 : BitVec 32 := Scalar.subi arg31 c2_i32_334
  let c2_i32_335 : BitVec 32 := 2#32
  let v480 : BitVec 32 := Scalar.remsi v479 c2_i32_335
  ![v480.toNat]
def k0_off9 (k0_t2 : Fin k0_t2_loop.trips) : Fin 2 → Nat :=
  let c0_i32_112 : BitVec 32 := 0#32
  let c1_i32_113 : BitVec 32 := 1#32
  let arg31 : BitVec 32 := Scf.iv c0_i32_112 c1_i32_113 k0_t2
  let c2_i32_334 : BitVec 32 := 2#32
  let v479 : BitVec 32 := Scalar.subi arg31 c2_i32_334
  let c64_i32_336 : BitVec 32 := 64#32
  let v481 : BitVec 32 := Scalar.muli v479 c64_i32_336
  let c0_i32_337 : BitVec 32 := 0#32
  ![v481.toNat, 0]
def k0_off10 (k0_t2 : Fin k0_t2_loop.trips) : Fin 3 → Nat :=
  let c0_i32_112 : BitVec 32 := 0#32
  let c1_i32_113 : BitVec 32 := 1#32
  let arg31 : BitVec 32 := Scf.iv c0_i32_112 c1_i32_113 k0_t2
  let c2_i32_334 : BitVec 32 := 2#32
  let v479 : BitVec 32 := Scalar.subi arg31 c2_i32_334
  let c2_i32_335 : BitVec 32 := 2#32
  let v480 : BitVec 32 := Scalar.remsi v479 c2_i32_335
  let c0_i32_338 : BitVec 32 := 0#32
  let c0_i32_339 : BitVec 32 := 0#32
  ![v480.toNat, 0, 0]
def k0_off11 (k0_t2 : Fin k0_t2_loop.trips) : Fin 1 → Nat :=
  let c0_i32_112 : BitVec 32 := 0#32
  let c1_i32_113 : BitVec 32 := 1#32
  let arg31 : BitVec 32 := Scf.iv c0_i32_112 c1_i32_113 k0_t2
  let c10_i32_269 : BitVec 32 := 10#32
  let v355 : BitVec 32 := Scalar.remsi arg31 c10_i32_269
  ![v355.toNat]
def k0_off12 (k0_t2 : Fin k0_t2_loop.trips) : Fin 3 → Nat :=
  let c0_i32_112 : BitVec 32 := 0#32
  let c1_i32_113 : BitVec 32 := 1#32
  let arg31 : BitVec 32 := Scf.iv c0_i32_112 c1_i32_113 k0_t2
  let c10_i32_269 : BitVec 32 := 10#32
  let v355 : BitVec 32 := Scalar.remsi arg31 c10_i32_269
  let c0_i32_271 : BitVec 32 := 0#32
  let c0_i32_272 : BitVec 32 := 0#32
  ![v355.toNat, 0, 0]
def k0_off13 (k0_t2 : Fin k0_t2_loop.trips) : Fin 2 → Nat :=
  let c0_i32_112 : BitVec 32 := 0#32
  let c1_i32_113 : BitVec 32 := 1#32
  let arg31 : BitVec 32 := Scf.iv c0_i32_112 c1_i32_113 k0_t2
  let c64_i32_270 : BitVec 32 := 64#32
  let v356 : BitVec 32 := Scalar.muli arg31 c64_i32_270
  let c0_i32_273 : BitVec 32 := 0#32
  ![v356.toNat, 0]
def k0_off14 (k0_t2 : Fin k0_t2_loop.trips) : Fin 2 → Nat :=
  let c0_i32_112 : BitVec 32 := 0#32
  let c1_i32_113 : BitVec 32 := 1#32
  let arg31 : BitVec 32 := Scf.iv c0_i32_112 c1_i32_113 k0_t2
  let c64_i32_266 : BitVec 32 := 64#32
  let v350 : BitVec 32 := Scalar.muli arg31 c64_i32_266
  let v351 : BitVec 32 := v350
  let v369 : Index := Scalar.indexCast v351
  let c0_278 : Index := 0#32
  ![v369.toNat, 0]
@[reducible] def k0_t3_loop : Scf.Loop 32 :=
  let c0_i32_279 : BitVec 32 := 0#32
  let c32_i32_280 : BitVec 32 := 32#32
  let v373 : BitVec 32 := Scalar.addi c0_i32_279 c32_i32_280
  let c1_i32_281 : BitVec 32 := 1#32
  ⟨c0_i32_279, v373, c1_i32_281⟩
def k0_mult6 (k0_t3 : Fin k0_t3_loop.trips) : BitVec 32 :=
  let c0_i32_279 : BitVec 32 := 0#32
  let c1_i32_281 : BitVec 32 := 1#32
  let arg32 : BitVec 32 := Scf.iv c0_i32_279 c1_i32_281 k0_t3
  let c512_i32 : BitVec 32 := 512#32
  let v479 : BitVec 32 := Scalar.muli arg32 c512_i32
  v479
def k0_off15 (k0_t2 : Fin k0_t2_loop.trips) : Fin 2 → Nat :=
  let c0_i32_112 : BitVec 32 := 0#32
  let c1_i32_113 : BitVec 32 := 1#32
  let arg31 : BitVec 32 := Scf.iv c0_i32_112 c1_i32_113 k0_t2
  let c64_i32_266 : BitVec 32 := 64#32
  let v350 : BitVec 32 := Scalar.muli arg31 c64_i32_266
  let v351 : BitVec 32 := v350
  let v481 : Index := Scalar.indexCast v351
  let c0_334 : Index := 0#32
  ![v481.toNat, 0]
def k0_mult7 (k0_t3 : Fin k0_t3_loop.trips) : BitVec 32 :=
  let c0_i32_279 : BitVec 32 := 0#32
  let c1_i32_281 : BitVec 32 := 1#32
  let arg32 : BitVec 32 := Scf.iv c0_i32_279 c1_i32_281 k0_t3
  let c512_i32 : BitVec 32 := 512#32
  let v479 : BitVec 32 := Scalar.muli arg32 c512_i32
  let v480 : BitVec 32 := v479
  let c0_i32_335 : BitVec 32 := 0#32
  let v483 : BitVec 32 := Scalar.addi v480 c0_i32_335
  v483
def k0_off16 (k0_t2 : Fin k0_t2_loop.trips) : Fin 3 → Nat :=
  let c0_i32_112 : BitVec 32 := 0#32
  let c1_i32_113 : BitVec 32 := 1#32
  let arg31 : BitVec 32 := Scf.iv c0_i32_112 c1_i32_113 k0_t2
  let c10_i32_264 : BitVec 32 := 10#32
  let v348 : BitVec 32 := Scalar.remsi arg31 c10_i32_264
  let c0_i32_336 : BitVec 32 := 0#32
  let c0_i32_337 : BitVec 32 := 0#32
  ![v348.toNat, 0, 0]
def k0_off17 (k0_t3 : Fin k0_t3_loop.trips) (c0_i32_335 : BitVec 32) : Fin 2 → Nat :=
  let c0_338 : Index := 0#32
  let c0_i32_279 : BitVec 32 := 0#32
  let c1_i32_281 : BitVec 32 := 1#32
  let arg32 : BitVec 32 := Scf.iv c0_i32_279 c1_i32_281 k0_t3
  let c512_i32 : BitVec 32 := 512#32
  let v479 : BitVec 32 := Scalar.muli arg32 c512_i32
  let v480 : BitVec 32 := v479
  let v483 : BitVec 32 := Scalar.addi v480 c0_i32_335
  let v484 : BitVec 32 := v483
  let v487 : Index := Scalar.indexCast v484
  ![0, v487.toNat]
def k0_off18 (k0_t2 : Fin k0_t2_loop.trips) : Fin 3 → Nat :=
  let c0_i32_112 : BitVec 32 := 0#32
  let c1_i32_113 : BitVec 32 := 1#32
  let arg31 : BitVec 32 := Scf.iv c0_i32_112 c1_i32_113 k0_t2
  let c2_i32_265 : BitVec 32 := 2#32
  let v349 : BitVec 32 := Scalar.remsi arg31 c2_i32_265
  let c0_i32_364 : BitVec 32 := 0#32
  let c0_i32_365 : BitVec 32 := 0#32
  ![v349.toNat, 0, 0]
def k0_off19 (k0_t2 : Fin k0_t2_loop.trips) (k0_t3 : Fin k0_t3_loop.trips) (c0_i32_335 : BitVec 32) : Fin 3 → Nat :=
  let c0_i32_112 : BitVec 32 := 0#32
  let c1_i32_113 : BitVec 32 := 1#32
  let arg31 : BitVec 32 := Scf.iv c0_i32_112 c1_i32_113 k0_t2
  let c2_i32_265 : BitVec 32 := 2#32
  let v349 : BitVec 32 := Scalar.remsi arg31 c2_i32_265
  let c0_i32_364 : BitVec 32 := 0#32
  let c0_i32_279 : BitVec 32 := 0#32
  let c1_i32_281 : BitVec 32 := 1#32
  let arg32 : BitVec 32 := Scf.iv c0_i32_279 c1_i32_281 k0_t3
  let c512_i32 : BitVec 32 := 512#32
  let v479 : BitVec 32 := Scalar.muli arg32 c512_i32
  let v480 : BitVec 32 := v479
  let v483 : BitVec 32 := Scalar.addi v480 c0_i32_335
  let v484 : BitVec 32 := v483
  let v560 : Index := Scalar.indexCast v484
  ![v349.toNat, 0, v560.toNat]
def k0_mult8 (k0_t3 : Fin k0_t3_loop.trips) : BitVec 32 :=
  let c0_i32_279 : BitVec 32 := 0#32
  let c1_i32_281 : BitVec 32 := 1#32
  let arg32 : BitVec 32 := Scf.iv c0_i32_279 c1_i32_281 k0_t3
  let c512_i32 : BitVec 32 := 512#32
  let v479 : BitVec 32 := Scalar.muli arg32 c512_i32
  let v480 : BitVec 32 := v479
  let c128_i32 : BitVec 32 := 128#32
  let v573 : BitVec 32 := Scalar.addi v480 c128_i32
  v573
def k0_mult9 (k0_t3 : Fin k0_t3_loop.trips) : BitVec 32 :=
  let c0_i32_279 : BitVec 32 := 0#32
  let c1_i32_281 : BitVec 32 := 1#32
  let arg32 : BitVec 32 := Scf.iv c0_i32_279 c1_i32_281 k0_t3
  let c512_i32 : BitVec 32 := 512#32
  let v479 : BitVec 32 := Scalar.muli arg32 c512_i32
  let v480 : BitVec 32 := v479
  let c256_i32 : BitVec 32 := 256#32
  let v663 : BitVec 32 := Scalar.addi v480 c256_i32
  v663
def k0_mult10 (k0_t3 : Fin k0_t3_loop.trips) : BitVec 32 :=
  let c0_i32_279 : BitVec 32 := 0#32
  let c1_i32_281 : BitVec 32 := 1#32
  let arg32 : BitVec 32 := Scf.iv c0_i32_279 c1_i32_281 k0_t3
  let c512_i32 : BitVec 32 := 512#32
  let v479 : BitVec 32 := Scalar.muli arg32 c512_i32
  let v480 : BitVec 32 := v479
  let c384_i32 : BitVec 32 := 384#32
  let v753 : BitVec 32 := Scalar.addi v480 c384_i32
  v753
def k0_off20 (k0_t3 : Fin k0_t3_loop.trips) : Fin 2 → Nat :=
  let c0_469 : Index := 0#32
  let c0_i32_279 : BitVec 32 := 0#32
  let c1_i32_281 : BitVec 32 := 1#32
  let arg32 : BitVec 32 := Scf.iv c0_i32_279 c1_i32_281 k0_t3
  let c512_i32 : BitVec 32 := 512#32
  let v479 : BitVec 32 := Scalar.muli arg32 c512_i32
  let v480 : BitVec 32 := v479
  let v847 : Index := Scalar.indexCast v480
  ![0, v847.toNat]
def k0_off21 (k0_t2 : Fin k0_t2_loop.trips) : Fin 1 → Nat :=
  let c0_i32_112 : BitVec 32 := 0#32
  let c1_i32_113 : BitVec 32 := 1#32
  let arg31 : BitVec 32 := Scf.iv c0_i32_112 c1_i32_113 k0_t2
  let c2_i32_283 : BitVec 32 := 2#32
  let v374 : BitVec 32 := Scalar.remsi arg31 c2_i32_283
  ![v374.toNat]
def k0_off22 (k0_t2 : Fin k0_t2_loop.trips) : Fin 3 → Nat :=
  let c0_i32_112 : BitVec 32 := 0#32
  let c1_i32_113 : BitVec 32 := 1#32
  let arg31 : BitVec 32 := Scf.iv c0_i32_112 c1_i32_113 k0_t2
  let c2_i32_283 : BitVec 32 := 2#32
  let v374 : BitVec 32 := Scalar.remsi arg31 c2_i32_283
  let c0_i32_286 : BitVec 32 := 0#32
  let c0_i32_287 : BitVec 32 := 0#32
  ![v374.toNat, 0, 0]
@[reducible] def k0_t4_loop : Scf.Loop 32 :=
  let c0_i32_320 : BitVec 32 := 0#32
  let c32_i32_321 : BitVec 32 := 32#32
  let v464 : BitVec 32 := Scalar.addi c0_i32_320 c32_i32_321
  let c1_i32_322 : BitVec 32 := 1#32
  ⟨c0_i32_320, v464, c1_i32_322⟩
def k0_mult11 (k0_t4 : Fin k0_t4_loop.trips) : BitVec 32 :=
  let c0_i32_320 : BitVec 32 := 0#32
  let c1_i32_322 : BitVec 32 := 1#32
  let arg32 : BitVec 32 := Scf.iv c0_i32_320 c1_i32_322 k0_t4
  let c512_i32 : BitVec 32 := 512#32
  let v479 : BitVec 32 := Scalar.muli arg32 c512_i32
  v479
def k0_off23 (k0_t4 : Fin k0_t4_loop.trips) : Fin 2 → Nat :=
  let c0_334 : Index := 0#32
  let c0_i32_320 : BitVec 32 := 0#32
  let c1_i32_322 : BitVec 32 := 1#32
  let arg32 : BitVec 32 := Scf.iv c0_i32_320 c1_i32_322 k0_t4
  let c512_i32 : BitVec 32 := 512#32
  let v479 : BitVec 32 := Scalar.muli arg32 c512_i32
  let v480 : BitVec 32 := v479
  let v481 : Index := Scalar.indexCast v480
  ![0, v481.toNat]
def k0_mult12 (k0_t4 : Fin k0_t4_loop.trips) : BitVec 32 :=
  let c0_i32_320 : BitVec 32 := 0#32
  let c1_i32_322 : BitVec 32 := 1#32
  let arg32 : BitVec 32 := Scf.iv c0_i32_320 c1_i32_322 k0_t4
  let c512_i32 : BitVec 32 := 512#32
  let v479 : BitVec 32 := Scalar.muli arg32 c512_i32
  let v480 : BitVec 32 := v479
  let c0_i32_336 : BitVec 32 := 0#32
  let v484 : BitVec 32 := Scalar.addi v480 c0_i32_336
  v484
def k0_off24 (k0_t2 : Fin k0_t2_loop.trips) : Fin 3 → Nat :=
  let c0_i32_112 : BitVec 32 := 0#32
  let c1_i32_113 : BitVec 32 := 1#32
  let arg31 : BitVec 32 := Scf.iv c0_i32_112 c1_i32_113 k0_t2
  let c10_i32_264 : BitVec 32 := 10#32
  let v348 : BitVec 32 := Scalar.remsi arg31 c10_i32_264
  let c0_i32_337 : BitVec 32 := 0#32
  let c0_i32_338 : BitVec 32 := 0#32
  ![v348.toNat, 0, 0]
def k0_off25 (k0_t4 : Fin k0_t4_loop.trips) (c0_i32_336 : BitVec 32) : Fin 2 → Nat :=
  let c0_339 : Index := 0#32
  let c0_i32_320 : BitVec 32 := 0#32
  let c1_i32_322 : BitVec 32 := 1#32
  let arg32 : BitVec 32 := Scf.iv c0_i32_320 c1_i32_322 k0_t4
  let c512_i32 : BitVec 32 := 512#32
  let v479 : BitVec 32 := Scalar.muli arg32 c512_i32
  let v480 : BitVec 32 := v479
  let v484 : BitVec 32 := Scalar.addi v480 c0_i32_336
  let v485 : BitVec 32 := v484
  let v489 : Index := Scalar.indexCast v485
  ![0, v489.toNat]
def k0_off26 (k0_t4 : Fin k0_t4_loop.trips) (c0_i32_336 : BitVec 32) : Fin 2 → Nat :=
  let c0_340 : Index := 0#32
  let c0_i32_320 : BitVec 32 := 0#32
  let c1_i32_322 : BitVec 32 := 1#32
  let arg32 : BitVec 32 := Scf.iv c0_i32_320 c1_i32_322 k0_t4
  let c512_i32 : BitVec 32 := 512#32
  let v479 : BitVec 32 := Scalar.muli arg32 c512_i32
  let v480 : BitVec 32 := v479
  let v484 : BitVec 32 := Scalar.addi v480 c0_i32_336
  let v485 : BitVec 32 := v484
  let v492 : Index := Scalar.indexCast v485
  ![0, v492.toNat]
def k0_mult13 (k0_t4 : Fin k0_t4_loop.trips) : BitVec 32 :=
  let c0_i32_320 : BitVec 32 := 0#32
  let c1_i32_322 : BitVec 32 := 1#32
  let arg32 : BitVec 32 := Scf.iv c0_i32_320 c1_i32_322 k0_t4
  let c512_i32 : BitVec 32 := 512#32
  let v479 : BitVec 32 := Scalar.muli arg32 c512_i32
  let v480 : BitVec 32 := v479
  let c128_i32 : BitVec 32 := 128#32
  let v503 : BitVec 32 := Scalar.addi v480 c128_i32
  v503
def k0_mult14 (k0_t4 : Fin k0_t4_loop.trips) : BitVec 32 :=
  let c0_i32_320 : BitVec 32 := 0#32
  let c1_i32_322 : BitVec 32 := 1#32
  let arg32 : BitVec 32 := Scf.iv c0_i32_320 c1_i32_322 k0_t4
  let c512_i32 : BitVec 32 := 512#32
  let v479 : BitVec 32 := Scalar.muli arg32 c512_i32
  let v480 : BitVec 32 := v479
  let c256_i32 : BitVec 32 := 256#32
  let v522 : BitVec 32 := Scalar.addi v480 c256_i32
  v522
def k0_mult15 (k0_t4 : Fin k0_t4_loop.trips) : BitVec 32 :=
  let c0_i32_320 : BitVec 32 := 0#32
  let c1_i32_322 : BitVec 32 := 1#32
  let arg32 : BitVec 32 := Scf.iv c0_i32_320 c1_i32_322 k0_t4
  let c512_i32 : BitVec 32 := 512#32
  let v479 : BitVec 32 := Scalar.muli arg32 c512_i32
  let v480 : BitVec 32 := v479
  let c384_i32 : BitVec 32 := 384#32
  let v541 : BitVec 32 := Scalar.addi v480 c384_i32
  v541
def k0_cond2 (k0_t2 : Fin k0_t2_loop.trips) : BitVec 1 :=
  let c0_i32_112 : BitVec 32 := 0#32
  let c1_i32_113 : BitVec 32 := 1#32
  let arg31 : BitVec 32 := Scf.iv c0_i32_112 c1_i32_113 k0_t2
  let c1_i32_329 : BitVec 32 := 1#32
  let v472 : BitVec 1 := Scalar.cmpi .sge arg31 c1_i32_329
  let c1_i32_330 : BitVec 32 := 1#32
  let v473 : BitVec 32 := Scalar.subi arg31 c1_i32_330
  let c10_i32_331 : BitVec 32 := 10#32
  let v474 : BitVec 32 := Scalar.addi v473 c10_i32_331
  let c18_i32_332 : BitVec 32 := 18#32
  let v475 : BitVec 1 := Scalar.cmpi .slt v474 c18_i32_332
  let v476 : BitVec 1 := Scalar.andi v472 v475
  let v477 : BitVec 32 := Scalar.extui v476
  let c0_i32_333 : BitVec 32 := 0#32
  let v478 : BitVec 1 := Scalar.cmpi .ne v477 c0_i32_333
  v478

def k0_off27 (k0_t2 : Fin k0_t2_loop.trips) : Fin 1 → Nat :=
  let c0_i32_112 : BitVec 32 := 0#32
  let c1_i32_113 : BitVec 32 := 1#32
  let arg31 : BitVec 32 := Scf.iv c0_i32_112 c1_i32_113 k0_t2
  let c1_i32_334 : BitVec 32 := 1#32
  let v479 : BitVec 32 := Scalar.subi arg31 c1_i32_334
  let c10_i32_335 : BitVec 32 := 10#32
  let v480 : BitVec 32 := Scalar.remsi v479 c10_i32_335
  ![v480.toNat]
def k0_off28 (k0_t2 : Fin k0_t2_loop.trips) : Fin 2 → Nat :=
  let c0_i32_112 : BitVec 32 := 0#32
  let c1_i32_113 : BitVec 32 := 1#32
  let arg31 : BitVec 32 := Scf.iv c0_i32_112 c1_i32_113 k0_t2
  let c1_i32_334 : BitVec 32 := 1#32
  let v479 : BitVec 32 := Scalar.subi arg31 c1_i32_334
  let c64_i32_336 : BitVec 32 := 64#32
  let v481 : BitVec 32 := Scalar.muli v479 c64_i32_336
  let c0_i32_337 : BitVec 32 := 0#32
  ![v481.toNat, 0]
def k0_off29 (k0_t2 : Fin k0_t2_loop.trips) : Fin 3 → Nat :=
  let c0_i32_112 : BitVec 32 := 0#32
  let c1_i32_113 : BitVec 32 := 1#32
  let arg31 : BitVec 32 := Scf.iv c0_i32_112 c1_i32_113 k0_t2
  let c1_i32_334 : BitVec 32 := 1#32
  let v479 : BitVec 32 := Scalar.subi arg31 c1_i32_334
  let c10_i32_335 : BitVec 32 := 10#32
  let v480 : BitVec 32 := Scalar.remsi v479 c10_i32_335
  let c0_i32_338 : BitVec 32 := 0#32
  let c0_i32_339 : BitVec 32 := 0#32
  ![v480.toNat, 0, 0]
def k0_off30 (k0_t2 : Fin k0_t2_loop.trips) : Fin 1 → Nat :=
  let c0_i32_112 : BitVec 32 := 0#32
  let c1_i32_113 : BitVec 32 := 1#32
  let arg31 : BitVec 32 := Scf.iv c0_i32_112 c1_i32_113 k0_t2
  let c1_i32_340 : BitVec 32 := 1#32
  let v487 : BitVec 32 := Scalar.subi arg31 c1_i32_340
  let c10_i32_341 : BitVec 32 := 10#32
  let v488 : BitVec 32 := Scalar.addi v487 c10_i32_341
  let c10_i32_342 : BitVec 32 := 10#32
  let v489 : BitVec 32 := Scalar.remsi v488 c10_i32_342
  ![v489.toNat]
def k0_off31 (k0_t2 : Fin k0_t2_loop.trips) : Fin 3 → Nat :=
  let c0_i32_112 : BitVec 32 := 0#32
  let c1_i32_113 : BitVec 32 := 1#32
  let arg31 : BitVec 32 := Scf.iv c0_i32_112 c1_i32_113 k0_t2
  let c1_i32_340 : BitVec 32 := 1#32
  let v487 : BitVec 32 := Scalar.subi arg31 c1_i32_340
  let c10_i32_341 : BitVec 32 := 10#32
  let v488 : BitVec 32 := Scalar.addi v487 c10_i32_341
  let c10_i32_342 : BitVec 32 := 10#32
  let v489 : BitVec 32 := Scalar.remsi v488 c10_i32_342
  let c0_i32_344 : BitVec 32 := 0#32
  let c0_i32_345 : BitVec 32 := 0#32
  ![v489.toNat, 0, 0]
def k0_off32 (k0_t2 : Fin k0_t2_loop.trips) : Fin 2 → Nat :=
  let c0_i32_112 : BitVec 32 := 0#32
  let c1_i32_113 : BitVec 32 := 1#32
  let arg31 : BitVec 32 := Scf.iv c0_i32_112 c1_i32_113 k0_t2
  let c1_i32_340 : BitVec 32 := 1#32
  let v487 : BitVec 32 := Scalar.subi arg31 c1_i32_340
  let c10_i32_341 : BitVec 32 := 10#32
  let v488 : BitVec 32 := Scalar.addi v487 c10_i32_341
  let c64_i32_343 : BitVec 32 := 64#32
  let v490 : BitVec 32 := Scalar.muli v488 c64_i32_343
  let c0_i32_346 : BitVec 32 := 0#32
  ![v490.toNat, 0]
def k0_off33 (c16_i32 : BitVec 32) : Fin 1 → Nat :=
  let c2_i32_187 : BitVec 32 := 2#32
  let v264 : BitVec 32 := Scalar.remsi c16_i32 c2_i32_187
  ![v264.toNat]
def k0_off34 (c16_i32 : BitVec 32) : Fin 3 → Nat :=
  let c2_i32_187 : BitVec 32 := 2#32
  let v264 : BitVec 32 := Scalar.remsi c16_i32 c2_i32_187
  let c0_i32_191 : BitVec 32 := 0#32
  let c0_i32_192 : BitVec 32 := 0#32
  ![v264.toNat, 0, 0]
-- ==== ReferenceIdeal.lean ====
abbrev S1x16384x72 : Shape := ⟨3, ![1, 16384, 72]⟩
abbrev S1x72x72 : Shape := ⟨3, ![1, 72, 72]⟩
abbrev S1x1152x16384 : Shape := ⟨3, ![1, 1152, 16384]⟩
abbrev S16384x72 : Shape := ⟨2, ![16384, 72]⟩
abbrev S72x72 : Shape := ⟨2, ![72, 72]⟩
abbrev S1152x16384 : Shape := ⟨2, ![1152, 16384]⟩
abbrev S72x16384 : Shape := ⟨2, ![72, 16384]⟩
abbrev S1x128 : Shape := ⟨2, ![1, 128]⟩
abbrev S1152x128 : Shape := ⟨2, ![1152, 128]⟩
abbrev S72x1152 : Shape := ⟨2, ![72, 1152]⟩
abbrev S1x1152 : Shape := ⟨2, ![1, 1152]⟩
abbrev S128x128x72 : Shape := ⟨3, ![128, 128, 72]⟩
abbrev S128 : Shape := ⟨1, ![128]⟩
abbrev S128x1x1 : Shape := ⟨3, ![128, 1, 1]⟩
abbrev S1152x128x128 : Shape := ⟨3, ![1152, 128, 128]⟩
abbrev S1152x128x1 : Shape := ⟨3, ![1152, 128, 1]⟩
abbrev S1152x72 : Shape := ⟨2, ![1152, 72]⟩
abbrev S1152 : Shape := ⟨1, ![1152]⟩
abbrev S1152x1 : Shape := ⟨2, ![1152, 1]⟩
abbrev S128x128x1 : Shape := ⟨3, ![128, 128, 1]⟩
abbrev S1x16384 : Shape := ⟨2, ![1, 16384]⟩

abbrev nBuf : Space → Nat
  | .hbm => 13
  | .vmem => 10
  | .smem => 0
  | _ => 0

abbrev bufTy : (tb : Table) → Fin (tcTables nBuf tb) → BufTy
  | .hbm, ⟨0, _⟩ => ⟨S1x16384x72, .f32⟩
  | .hbm, ⟨1, _⟩ => ⟨S1x72x72, .f32⟩
  | .hbm, ⟨2, _⟩ => ⟨S1x1152x16384, .f32⟩
  | .hbm, ⟨3, _⟩ => ⟨S16384x72, .f32⟩
  | .hbm, ⟨4, _⟩ => ⟨S72x72, .f32⟩
  | .hbm, ⟨5, _⟩ => ⟨S1152x16384, .f32⟩
  | .hbm, ⟨6, _⟩ => ⟨S1152x16384, .f32⟩
  | .hbm, ⟨7, _⟩ => ⟨S72x16384, .fp8e4m3⟩
  | .hbm, ⟨8, _⟩ => ⟨S1x128, .f32⟩
  | .hbm, ⟨9, _⟩ => ⟨S1152x16384, .fp8e4m3⟩
  | .hbm, ⟨10, _⟩ => ⟨S1152x128, .f32⟩
  | .hbm, ⟨11, _⟩ => ⟨S72x1152, .fp8e4m3⟩
  | .hbm, ⟨12, _⟩ => ⟨S1x1152, .f32⟩
  | .local _ .vmem, ⟨0, _⟩ => ⟨S16384x72, .f32⟩
  | .local _ .vmem, ⟨1, _⟩ => ⟨S72x72, .f32⟩
  | .local _ .vmem, ⟨2, _⟩ => ⟨S1152x16384, .f32⟩
  | .local _ .vmem, ⟨3, _⟩ => ⟨S1152x16384, .f32⟩
  | .local _ .vmem, ⟨4, _⟩ => ⟨S72x16384, .fp8e4m3⟩
  | .local _ .vmem, ⟨5, _⟩ => ⟨S1x128, .f32⟩
  | .local _ .vmem, ⟨6, _⟩ => ⟨S1152x16384, .fp8e4m3⟩
  | .local _ .vmem, ⟨7, _⟩ => ⟨S1152x128, .f32⟩
  | .local _ .vmem, ⟨8, _⟩ => ⟨S72x1152, .fp8e4m3⟩
  | .local _ .vmem, ⟨9, _⟩ => ⟨S1x1152, .f32⟩
  | _, _ => ⟨S1x16384x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S16384x72 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x16384 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x16384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1152x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S72x1152 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1152 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Mix.lean ====
/-
  Arrays of 16384 columns filled block by block: `blk w X n` is the `n`-th block of `w` columns, `mix n B X` the
  array whose first `n` blocks of 128 columns are those of `B` and whose others are those of `X`. Storing block `n`
  takes `mix n B X` to `mix (n + 1) B X`.
-/
module

public import Idealize.ShloMosaic.Lib.VecWindow
public import Idealize.ShloMosaic.Lib.Pointwise.Index

@[expose] public section

noncomputable section

namespace Cert.Hand

open Idealize.ShloMosaic

variable {α : Type}

abbrev Sh (R C : ℕ) : Shape := ⟨2, ![R, C]⟩

/-- Block `n` of `w` columns. -/
def blk (w : ℕ) {R : ℕ} (X : (Sh R 16384).Idx → α) (n : ℕ) : (Sh R w).Idx → α :=
  fun y => X (ix2 (y 0) ⟨(w * n + (y 1).val) % 16384, Nat.mod_lt _ (by decide)⟩)

/-- The blocks below `n` from `B`, the others from `X`. -/
def mix {R : ℕ} (n : ℕ) (B : ℕ → (Sh R 128).Idx → α) (X : (Sh R 16384).Idx → α) : (Sh R 16384).Idx → α :=
  fun y => if (y 1).val < 128 * n then B ((y 1).val / 128) (ix2 (y 0) ⟨(y 1).val % 128, Nat.mod_lt _ (by decide)⟩) else X y

theorem mix_zero {R : ℕ} (B : ℕ → (Sh R 128).Idx → α) (X : (Sh R 16384).Idx → α) : mix 0 B X = X := by
  funext y; unfold mix; rw [if_neg (by omega)]

/-- All blocks from `B`. -/
def full {R : ℕ} (B : ℕ → (Sh R 128).Idx → α) : (Sh R 16384).Idx → α :=
  fun y => B ((y 1).val / 128) (ix2 (y 0) ⟨(y 1).val % 128, Nat.mod_lt _ (by decide)⟩)

theorem mix_full {R : ℕ} (B : ℕ → (Sh R 128).Idx → α) (X : (Sh R 16384).Idx → α) : mix 128 B X = full B := by
  funext y; unfold mix full; rw [if_pos (show (y 1).val < 128 * 128 from (y 1).isLt)]

theorem window_blk {R w : ℕ} (X : (Sh R 16384).Idx → α) (n : ℕ) {off : Fin 2 → ℕ} (h : off = ![0, w * n])
    (inb : ∀ a, off a + (![R, w] : Fin 2 → ℕ) a ≤ (Sh R 16384).size a) :
    VecWindow.window X off ![R, w] inb = blk w X n := by
  subst h
  funext y
  unfold VecWindow.window blk
  refine congrArg X ?_
  funext a
  have h1 : w * n + w ≤ 16384 := inb 1
  have h2 : (y 1).val < w := (y 1).isLt
  match a with
  | ⟨0, _⟩ => exact Fin.ext (by show 0 + 1 * (y 0).val = (y 0).val; omega)
  | ⟨1, _⟩ => exact Fin.ext (by show w * n + 1 * (y 1).val = (w * n + (y 1).val) % 16384; rw [Nat.mod_eq_of_lt (by omega)]; omega)

theorem blk_mix {R : ℕ} (m n : ℕ) (h : m ≤ n) (hn : n < 128) (B : ℕ → (Sh R 128).Idx → α) (X : (Sh R 16384).Idx → α) :
    blk 128 (mix m B X) n = blk 128 X n := by
  funext y
  have h2 : (y 1).val < 128 := (y 1).isLt
  unfold blk mix
  rw [if_neg]
  show ¬ (128 * n + (y 1).val) % 16384 < 128 * m
  rw [Nat.mod_eq_of_lt (by omega)]; omega

theorem blk_full {R : ℕ} (n : ℕ) (hn : n < 128) (B : ℕ → (Sh R 128).Idx → α) : blk 128 (full B) n = B n := by
  funext y
  have h2 : (y 1).val < 128 := (y 1).isLt
  unfold blk full
  have e : (128 * n + (y 1).val) % 16384 = 128 * n + (y 1).val := Nat.mod_eq_of_lt (by omega)
  have e1 : (128 * n + (y 1).val) % 16384 / 128 = n := by omega
  have e2 : (128 * n + (y 1).val) % 16384 % 128 = (y 1).val := by omega
  show B ((128 * n + (y 1).val) % 16384 / 128) (ix2 (y 0) ⟨(128 * n + (y 1).val) % 16384 % 128, _⟩) = _
  simp only [e1, e2]
  exact congrArg (B n) (ix2_eta y)

theorem put_mix {R : ℕ} (n : ℕ) (B : ℕ → (Sh R 128).Idx → α) (X : (Sh R 16384).Idx → α) (b : (Sh R 128).Idx → α) (hb : b = B n)
    {off : Fin 2 → ℕ} (h : off = ![0, 128 * n]) :
    VecWindow.put (s := Sh R 16384) (mix n B X) off ![R, 128] b = mix (n + 1) B X := by
  subst h; subst hb
  funext y
  have h0 : (y 0).val < R := (y 0).isLt
  unfold VecWindow.put
  by_cases hy : ∀ a, (![0, 128 * n] : Fin 2 → ℕ) a ≤ (y a).val ∧ (y a).val < (![0, 128 * n] : Fin 2 → ℕ) a + (![R, 128] : Fin 2 → ℕ) a
  · rw [dif_pos hy]
    have h1 : 128 * n ≤ (y 1).val ∧ (y 1).val < 128 * n + 128 := hy 1
    unfold mix
    rw [if_pos (by omega)]
    have e1 : (y 1).val / 128 = n := by omega
    rw [e1]
    refine congrArg (B n) ?_
    funext a
    match a with
    | ⟨0, _⟩ => exact Fin.ext (by show (y 0).val - 0 = (y 0).val; omega)
    | ⟨1, _⟩ => exact Fin.ext (by show (y 1).val - 128 * n = (y 1).val % 128; omega)
  · rw [dif_neg hy]
    have h1 : ¬ (128 * n ≤ (y 1).val ∧ (y 1).val < 128 * n + 128) := fun h' => hy fun a => by
      match a with
      | ⟨0, _⟩ => exact ⟨Nat.zero_le _, by show (y 0).val < 0 + R; omega⟩
      | ⟨1, _⟩ => exact h'
    unfold mix
    by_cases h3 : (y 1).val < 128 * n
    · rw [if_pos h3, if_pos (by omega)]
    · rw [if_neg h3, if_neg (by omega)]

theorem off_blk {off : Fin 2 → ℕ} {p q : ℕ} (h : off = ![0, p]) (e : p = q) : off = ![0, q] := h.trans (by rw [e])

theorem readAt_blk {sig : RefSig} {κ : Kind} {sp : Space} {e : EltTy} {Val : EltTy → Type} [∀ e, Nonempty (Val e)] {R w : ℕ}
    (v : View sig κ sp (Sh R 16384) e) (X : (Sh R 16384).Idx → Val e) {off : Fin 2 → ℕ} (n : ℕ) (h : off = ![0, w * n])
    (inb : ∀ a, off a + (![R, w] : Fin 2 → ℕ) a ≤ (Sh R 16384).size a) :
    v.readAt Val (Rect.unit (s := Sh R 16384) off ![R, w] inb).toLoadRect (v.rep X) = blk w X n := by
  rw [View.readAt_rep_unit v X inb rfl inb]; exact window_blk X n h inb

theorem mod4 (t : ℕ) (r : ℕ) (h : r < 4) : (4 * t + r) % 4 = r := by omega
theorem div4 (t : ℕ) (r : ℕ) (h : r < 4) : (4 * t + r) / 4 = t := by omega

end Cert.Hand

end
-- ==== Proof.KNames.lean ====
/-
  Names for the buffers, ring slots, row blocks and semaphores of the kernel, and the lemmas that bring the
  memory references the program prints to these names.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.VecWindow
public import Idealize.ShloMosaic.Lib.Tactic
public import proofs.«01_k».proof.Proof.Mix

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand

/-! ## The resource algebra -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The buffers -/

abbrev vtM : Memref sig .tc .hbm S72x16384 .f32 := Memref.whole main_v1
abbrev tM : Memref sig .tc .hbm S72x72 .f32 := Memref.whole main_v2
abbrev cM : Memref sig .tc .hbm S1152x16384 .f32 := Memref.whole main_v3
abbrev coutM : Memref sig .tc .hbm S1152x16384 .f32 := Memref.whole main_v4_0
abbrev vqtM : Memref sig .tc .hbm S72x16384 .fp8e4m3 := Memref.whole main_v4_1
abbrev vsM : Memref sig .tc .hbm S1x128 .f32 := Memref.whole main_v4_2
abbrev cqM : Memref sig .tc .hbm S1152x16384 .fp8e4m3 := Memref.whole main_v4_3
abbrev csM : Memref sig .tc .hbm S1152x128 .f32 := Memref.whole main_v4_4
abbrev yqtM : Memref sig .tc .hbm S72x1152 .fp8e4m3 := Memref.whole main_v4_5
abbrev ysM : Memref sig .tc .hbm S1x1152 .f32 := Memref.whole main_v4_6
abbrev cbufM : Memref sig .tc .vmem S10x64x16384 .f32 := Memref.whole cc0_scratch0
abbrev atM : Memref sig .tc .vmem S72x16384 .f32 := Memref.whole cc0_scratch1
abbrev vqM : Memref sig .tc .vmem S96x16384 .fp8e4m3 := Memref.whole cc0_scratch2
abbrev vqoM : Memref sig .tc .vmem S72x16384 .fp8e4m3 := Memref.whole cc0_scratch3
abbrev vwM : Memref sig .tc .vmem S80x16384 .bf16 := Memref.whole cc0_scratch4
abbrev qbufM : Memref sig .tc .vmem S2x64x16384 .fp8e4m3 := Memref.whole cc0_scratch5
abbrev csbM : Memref sig .tc .vmem S1152x128 .f32 := Memref.whole cc0_scratch6
abbrev yfM : Memref sig .tc .vmem S1152x128 .f32 := Memref.whole cc0_scratch7
abbrev ysfM : Memref sig .tc .vmem S1152x128 .f32 := Memref.whole cc0_scratch8
abbrev yqbM : Memref sig .tc .vmem S72x1152 .fp8e4m3 := Memref.whole cc0_scratch9
abbrev ysbM : Memref sig .tc .vmem S1x1152 .f32 := Memref.whole cc0_scratch10
abbrev vsrM : Memref sig .tc .vmem S1x16384 .f32 := Memref.whole cc0_scratch11
abbrev vsvM : Memref sig .tc .vmem S1x128 .f32 := Memref.whole cc0_scratch12
abbrev wM : Memref sig .tc .vmem S64x128 .f32 := Memref.whole cc0_scratch13
abbrev ttM : Memref sig .tc .vmem S128x128 .f32 := Memref.whole cc0_scratch14
abbrev toM : Memref sig .tc .vmem S72x72 .f32 := Memref.whole cc0_scratch15

/-! ## Slots, row blocks and cells -/

abbrev s10 (n : ℕ) : Fin 10 := ⟨n % 10, Nat.mod_lt _ (by decide)⟩
abbrev s2 (n : ℕ) : Fin 2 := ⟨n % 2, Nat.mod_lt _ (by decide)⟩
abbrev b18 (n : ℕ) : Fin 18 := ⟨n % 18, Nat.mod_lt _ (by decide)⟩

theorem slotInb (s : Fin 10) : ∀ a, (![s.val, 0, 0] : Fin 3 → Nat) a + S1x64x16384.size a ≤ S10x64x16384.size a := by
  have := s.isLt; intro a; fin_cases a
  · show s.val + 1 ≤ 10; omega
  · show 0 + 64 ≤ 64; omega
  · show 0 + 16384 ≤ 16384; omega
theorem qslotInb (s : Fin 2) : ∀ a, (![s.val, 0, 0] : Fin 3 → Nat) a + S1x64x16384.size a ≤ S2x64x16384.size a := by
  have := s.isLt; intro a; fin_cases a
  · show s.val + 1 ≤ 2; omega
  · show 0 + 64 ≤ 64; omega
  · show 0 + 16384 ≤ 16384; omega
theorem blkInb (j : Fin 18) : ∀ a, (![64 * j.val, 0] : Fin 2 → Nat) a + S64x16384.size a ≤ S1152x16384.size a := by
  have := j.isLt; intro a; fin_cases a
  · show 64 * j.val + 64 ≤ 1152; omega
  · show 0 + 16384 ≤ 16384; omega
theorem colInb (i : Fin 4) : ∀ a, (![0, 4096 * i.val] : Fin 2 → Nat) a + S72x4096.size a ≤ S72x16384.size a := by
  have := i.isLt; intro a; fin_cases a
  · show 0 + 72 ≤ 72; omega
  · show 4096 * i.val + 4096 ≤ 16384; omega
theorem cellInb {n : ℕ} (s : Fin n) : ∀ a, (![s.val] : Fin 1 → Nat) a + (Shape.size ⟨1, ![1]⟩ a) ≤ Shape.size ⟨1, ![n]⟩ a := by
  have := s.isLt; intro a; fin_cases a; show s.val + 1 ≤ n; omega

/-- Semaphore `s` of `cc0_scratch16`. -/
def aC (s : Fin 4) : DmaSems sig S_ := (cc0_scratch16.slice (Rect.unit (s := S4) ![s.val] S1.size (cellInb s))).squeeze S_ squeezes_S1_S_

/-- Semaphore `s` of `cc0_scratch17`. -/
def inC (s : Fin 10) : DmaSems sig S_ := (cc0_scratch17.slice (Rect.unit (s := S10) ![s.val] S1.size (cellInb s))).squeeze S_ squeezes_S1_S_

/-- Semaphore `s` of `cc0_scratch18`. -/
def outC (s : Fin 10) : DmaSems sig S_ := (cc0_scratch18.slice (Rect.unit (s := S10) ![s.val] S1.size (cellInb s))).squeeze S_ squeezes_S1_S_

/-- Semaphore `s` of `cc0_scratch19`. -/
def qC (s : Fin 2) : DmaSems sig S_ := (cc0_scratch19.slice (Rect.unit (s := S2) ![s.val] S1.size (cellInb s))).squeeze S_ squeezes_S1_S_

/-- Semaphore `s` of `cc0_scratch20`. -/
def mC (s : Fin 8) : DmaSems sig S_ := (cc0_scratch20.slice (Rect.unit (s := S8) ![s.val] S1.size (cellInb s))).squeeze S_ squeezes_S1_S_

/-- Slot `s` of the ring of chunks. -/
def slot (s : Fin 10) : Memref sig .tc .vmem S64x16384 .f32 :=
  (cbufM.slice (Rect.unit (s := S10x64x16384) ![s.val, 0, 0] S1x64x16384.size (slotInb s)) (fun _ => rfl)).squeeze S64x16384 squeezes_S1x64x16384_S64x16384
/-- Slot `s` of the ring of codes. -/
def qslot (s : Fin 2) : Memref sig .tc .vmem S64x16384 .fp8e4m3 :=
  (qbufM.slice (Rect.unit (s := S2x64x16384) ![s.val, 0, 0] S1x64x16384.size (qslotInb s)) (fun _ => rfl)).squeeze S64x16384 squeezes_S1x64x16384_S64x16384
/-- Chunk `j` of the trailing matrix, -/
def cblk (j : Fin 18) : Memref sig .tc .hbm S64x16384 .f32 := cM.slice (Rect.unit (s := S1152x16384) ![64 * j.val, 0] S64x16384.size (blkInb j)) (fun _ => rfl)
/-- of the updated one, -/
def oblk (j : Fin 18) : Memref sig .tc .hbm S64x16384 .f32 := coutM.slice (Rect.unit (s := S1152x16384) ![64 * j.val, 0] S64x16384.size (blkInb j)) (fun _ => rfl)
/-- of its codes. -/
def qblk (j : Fin 18) : Memref sig .tc .hbm S64x16384 .fp8e4m3 := cqM.slice (Rect.unit (s := S1152x16384) ![64 * j.val, 0] S64x16384.size (blkInb j)) (fun _ => rfl)
/-- Quarter `i` of the columns of the panel in HBM, -/
def vcol (i : Fin 4) : Memref sig .tc .hbm S72x4096 .f32 := vtM.slice (Rect.unit (s := S72x16384) ![0, 4096 * i.val] S72x4096.size (colInb i)) (fun _ => rfl)
/-- and in VMEM. -/
def acol (i : Fin 4) : Memref sig .tc .vmem S72x4096 .f32 := atM.slice (Rect.unit (s := S72x16384) ![0, 4096 * i.val] S72x4096.size (colInb i)) (fun _ => rfl)

instance (n : ℕ) : ClosedOff (![n] : Fin 1 → ℕ) := ⟨_, rfl⟩
instance (n p : ℕ) : ClosedOff (![n, p] : Fin 2 → ℕ) := ⟨_, rfl⟩
instance (n p r : ℕ) : ClosedOff (![n, p, r] : Fin 3 → ℕ) := ⟨_, rfl⟩

/-! ## The names the program prints are these -/

theorem slot_of {off : Fin 3 → Nat} (s : Fin 10) (e : off = ![s.val, 0, 0]) (h : ∀ a, off a + S1x64x16384.size a ≤ S10x64x16384.size a) (h') :
    (cbufM.slice (Rect.unit (s := S10x64x16384) off S1x64x16384.size h) h').squeeze S64x16384 squeezes_S1x64x16384_S64x16384 = slot s :=
  by subst e; rfl
theorem qslot_of {off : Fin 3 → Nat} (s : Fin 2) (e : off = ![s.val, 0, 0]) (h : ∀ a, off a + S1x64x16384.size a ≤ S2x64x16384.size a) (h') :
    (qbufM.slice (Rect.unit (s := S2x64x16384) off S1x64x16384.size h) h').squeeze S64x16384 squeezes_S1x64x16384_S64x16384 = qslot s :=
  by subst e; rfl
theorem cblk_of {off : Fin 2 → Nat} (j : Fin 18) (e : off = ![64 * j.val, 0]) (h : ∀ a, off a + S64x16384.size a ≤ S1152x16384.size a) (h') :
    cM.slice (Rect.unit (s := S1152x16384) off S64x16384.size h) h' = cblk j := by subst e; rfl
theorem oblk_of {off : Fin 2 → Nat} (j : Fin 18) (e : off = ![64 * j.val, 0]) (h : ∀ a, off a + S64x16384.size a ≤ S1152x16384.size a) (h') :
    coutM.slice (Rect.unit (s := S1152x16384) off S64x16384.size h) h' = oblk j := by subst e; rfl
theorem qblk_of {off : Fin 2 → Nat} (j : Fin 18) (e : off = ![64 * j.val, 0]) (h : ∀ a, off a + S64x16384.size a ≤ S1152x16384.size a) (h') :
    cqM.slice (Rect.unit (s := S1152x16384) off S64x16384.size h) h' = qblk j := by subst e; rfl
theorem inC_of {off : Fin 1 → Nat} (s : Fin 10) (e : off = ![s.val]) (h : ∀ a, off a + S1.size a ≤ S10.size a) :
    (cc0_scratch17.slice (Rect.unit (s := S10) off S1.size h)).squeeze S_ squeezes_S1_S_ = inC s :=
  congrArg (fun M => SemArray.squeeze M S_ squeezes_S1_S_) (SemArray.slice_unit_congr _ e _ _)
theorem outC_of {off : Fin 1 → Nat} (s : Fin 10) (e : off = ![s.val]) (h : ∀ a, off a + S1.size a ≤ S10.size a) :
    (cc0_scratch18.slice (Rect.unit (s := S10) off S1.size h)).squeeze S_ squeezes_S1_S_ = outC s :=
  congrArg (fun M => SemArray.squeeze M S_ squeezes_S1_S_) (SemArray.slice_unit_congr _ e _ _)
theorem qC_of {off : Fin 1 → Nat} (s : Fin 2) (e : off = ![s.val]) (h : ∀ a, off a + S1.size a ≤ S2.size a) :
    (cc0_scratch19.slice (Rect.unit (s := S2) off S1.size h)).squeeze S_ squeezes_S1_S_ = qC s :=
  congrArg (fun M => SemArray.squeeze M S_ squeezes_S1_S_) (SemArray.slice_unit_congr _ e _ _)

section Trip
variable (k : Fin k0_t2_loop.trips)
theorem k_lt : k.val < 18 := Nat.lt_of_lt_of_le k.isLt k0_t2_abs.2.1
theorem off8_eq : ∀ k : Fin k0_t2_loop.trips, 2 ≤ k.val → k0_off8 k = ![k.val % 2] := by decide +kernel
theorem off9_eq : ∀ k : Fin k0_t2_loop.trips, 2 ≤ k.val → k0_off9 k = ![64 * ((k.val - 2) % 18), 0] := by decide +kernel
theorem off10_eq : ∀ k : Fin k0_t2_loop.trips, 2 ≤ k.val → k0_off10 k = ![k.val % 2, 0, 0] := by decide +kernel
theorem off13_eq : ∀ k : Fin k0_t2_loop.trips, k0_off13 k = ![64 * (k.val % 18), 0] := by decide +kernel
theorem off27_eq : ∀ k : Fin k0_t2_loop.trips, 1 ≤ k.val → k0_off27 k = ![(k.val + 9) % 10] := by decide +kernel
theorem off28_eq : ∀ k : Fin k0_t2_loop.trips, 1 ≤ k.val → k0_off28 k = ![64 * ((k.val - 1) % 18), 0] := by decide +kernel
theorem off29_eq : ∀ k : Fin k0_t2_loop.trips, 1 ≤ k.val → k0_off29 k = ![(k.val + 9) % 10, 0, 0] := by decide +kernel
theorem off32_eq : ∀ k : Fin k0_t2_loop.trips, k.val ≤ 8 → k0_off32 k = ![64 * ((k.val + 9) % 18), 0] := by decide +kernel
theorem cond1_iff : ∀ k : Fin k0_t2_loop.trips, k0_cond1 k = 1#1 ↔ 2 ≤ k.val := by decide +kernel
theorem cond2_iff : ∀ k : Fin k0_t2_loop.trips, k0_cond2 k = 1#1 ↔ (1 ≤ k.val ∧ k.val ≤ 8) := by decide +kernel

@[sl_canon] theorem cn_slot12 (h h') : (cbufM.slice (Rect.unit (s := S10x64x16384) (k0_off12 k) S1x64x16384.size h) h').squeeze S64x16384 squeezes_S1x64x16384_S64x16384 = slot (s10 k.val) := slot_of _ (k0_off12_eq k) _ _
@[sl_canon] theorem cn_slot16 (h h') : (cbufM.slice (Rect.unit (s := S10x64x16384) (k0_off16 k) S1x64x16384.size h) h').squeeze S64x16384 squeezes_S1x64x16384_S64x16384 = slot (s10 k.val) := slot_of _ (k0_off16_eq k) _ _
@[sl_canon] theorem cn_slot24 (h h') : (cbufM.slice (Rect.unit (s := S10x64x16384) (k0_off24 k) S1x64x16384.size h) h').squeeze S64x16384 squeezes_S1x64x16384_S64x16384 = slot (s10 k.val) := slot_of _ (k0_off24_eq k) _ _
@[sl_canon] theorem cn_slot31 (h h') : (cbufM.slice (Rect.unit (s := S10x64x16384) (k0_off31 k) S1x64x16384.size h) h').squeeze S64x16384 squeezes_S1x64x16384_S64x16384 = slot (s10 (k.val + 9)) := slot_of _ (k0_off31_eq k) _ _
@[sl_canon] theorem cn_slot29 (hk : 1 ≤ k.val) (h h') : (cbufM.slice (Rect.unit (s := S10x64x16384) (k0_off29 k) S1x64x16384.size h) h').squeeze S64x16384 squeezes_S1x64x16384_S64x16384 = slot (s10 (k.val + 9)) := slot_of _ (off29_eq k hk) _ _
@[sl_canon] theorem cn_qslot18 (h h') : (qbufM.slice (Rect.unit (s := S2x64x16384) (k0_off18 k) S1x64x16384.size h) h').squeeze S64x16384 squeezes_S1x64x16384_S64x16384 = qslot (s2 k.val) := qslot_of _ (k0_off18_eq k) _ _
@[sl_canon] theorem cn_qslot22 (h h') : (qbufM.slice (Rect.unit (s := S2x64x16384) (k0_off22 k) S1x64x16384.size h) h').squeeze S64x16384 squeezes_S1x64x16384_S64x16384 = qslot (s2 k.val) := qslot_of _ (k0_off22_eq k) _ _
@[sl_canon] theorem cn_qslot10 (hk : 2 ≤ k.val) (h h') : (qbufM.slice (Rect.unit (s := S2x64x16384) (k0_off10 k) S1x64x16384.size h) h').squeeze S64x16384 squeezes_S1x64x16384_S64x16384 = qslot (s2 k.val) := qslot_of _ (off10_eq k hk) _ _
@[sl_canon] theorem cn_cblk13 (h h') : cM.slice (Rect.unit (s := S1152x16384) (k0_off13 k) S64x16384.size h) h' = cblk (b18 k.val) := cblk_of _ (off13_eq k) _ _
@[sl_canon] theorem cn_oblk13 (h h') : coutM.slice (Rect.unit (s := S1152x16384) (k0_off13 k) S64x16384.size h) h' = oblk (b18 k.val) := oblk_of _ (off13_eq k) _ _
@[sl_canon] theorem cn_qblk13 (h h') : cqM.slice (Rect.unit (s := S1152x16384) (k0_off13 k) S64x16384.size h) h' = qblk (b18 k.val) := qblk_of _ (off13_eq k) _ _
@[sl_canon] theorem cn_qblk9 (hk : 2 ≤ k.val) (h h') : cqM.slice (Rect.unit (s := S1152x16384) (k0_off9 k) S64x16384.size h) h' = qblk (b18 (k.val - 2)) := qblk_of _ (off9_eq k hk) _ _
@[sl_canon] theorem cn_oblk28 (hk : 1 ≤ k.val) (h h') : coutM.slice (Rect.unit (s := S1152x16384) (k0_off28 k) S64x16384.size h) h' = oblk (b18 (k.val - 1)) := oblk_of _ (off28_eq k hk) _ _
@[sl_canon] theorem cn_cblk32 (hk : k.val ≤ 8) (h h') : cM.slice (Rect.unit (s := S1152x16384) (k0_off32 k) S64x16384.size h) h' = cblk (b18 (k.val + 9)) := cblk_of _ (off32_eq k hk) _ _
@[sl_canon] theorem cn_inC11 (h) : (cc0_scratch17.slice (Rect.unit (s := S10) (k0_off11 k) S1.size h)).squeeze S_ squeezes_S1_S_ = inC (s10 k.val) := inC_of _ (k0_off11_eq k) _
@[sl_canon] theorem cn_outC11 (h) : (cc0_scratch18.slice (Rect.unit (s := S10) (k0_off11 k) S1.size h)).squeeze S_ squeezes_S1_S_ = outC (s10 k.val) := outC_of _ (k0_off11_eq k) _
@[sl_canon] theorem cn_inC30 (h) : (cc0_scratch17.slice (Rect.unit (s := S10) (k0_off30 k) S1.size h)).squeeze S_ squeezes_S1_S_ = inC (s10 (k.val + 9)) := inC_of _ (k0_off30_eq k) _
@[sl_canon] theorem cn_outC27 (hk : 1 ≤ k.val) (h) : (cc0_scratch18.slice (Rect.unit (s := S10) (k0_off27 k) S1.size h)).squeeze S_ squeezes_S1_S_ = outC (s10 (k.val + 9)) := outC_of _ (off27_eq k hk) _
@[sl_canon] theorem cn_qC21 (h) : (cc0_scratch19.slice (Rect.unit (s := S2) (k0_off21 k) S1.size h)).squeeze S_ squeezes_S1_S_ = qC (s2 k.val) := qC_of _ (k0_off21_eq k) _
@[sl_canon] theorem cn_qC8 (hk : 2 ≤ k.val) (h) : (cc0_scratch19.slice (Rect.unit (s := S2) (k0_off8 k) S1.size h)).squeeze S_ squeezes_S1_S_ = qC (s2 k.val) := qC_of _ (off8_eq k hk) _

end Trip

/-! The prologue's and the tail's literal names. -/
@[sl_canon] theorem cl_inC0 (h) : (cc0_scratch17.slice (Rect.unit (s := S10) (k0_off1 0#32) S1.size h)).squeeze S_ squeezes_S1_S_ = inC 0 := inC_of 0 (k0_off1_eq 0) _
@[sl_canon] theorem cl_cblk0 (h h') : cM.slice (Rect.unit (s := S1152x16384) (k0_off3 0#32) S64x16384.size h) h' = cblk 0 := cblk_of 0 (k0_off3_eq 0) _ _
@[sl_canon] theorem cl_slot0 (h h') : (cbufM.slice (Rect.unit (s := S10x64x16384) (k0_off2 0#32) S1x64x16384.size h) h').squeeze S64x16384 squeezes_S1x64x16384_S64x16384 = slot 0 := slot_of 0 (k0_off2_eq 0) _ _
@[sl_canon] theorem cl_inC1 (h) : (cc0_scratch17.slice (Rect.unit (s := S10) (k0_off1 1#32) S1.size h)).squeeze S_ squeezes_S1_S_ = inC 1 := inC_of 1 (k0_off1_eq 1) _
@[sl_canon] theorem cl_cblk1 (h h') : cM.slice (Rect.unit (s := S1152x16384) (k0_off3 1#32) S64x16384.size h) h' = cblk 1 := cblk_of 1 (k0_off3_eq 1) _ _
@[sl_canon] theorem cl_slot1 (h h') : (cbufM.slice (Rect.unit (s := S10x64x16384) (k0_off2 1#32) S1x64x16384.size h) h').squeeze S64x16384 squeezes_S1x64x16384_S64x16384 = slot 1 := slot_of 1 (k0_off2_eq 1) _ _
@[sl_canon] theorem cl_inC2 (h) : (cc0_scratch17.slice (Rect.unit (s := S10) (k0_off1 2#32) S1.size h)).squeeze S_ squeezes_S1_S_ = inC 2 := inC_of 2 (k0_off1_eq 2) _
@[sl_canon] theorem cl_cblk2 (h h') : cM.slice (Rect.unit (s := S1152x16384) (k0_off3 2#32) S64x16384.size h) h' = cblk 2 := cblk_of 2 (k0_off3_eq 2) _ _
@[sl_canon] theorem cl_slot2 (h h') : (cbufM.slice (Rect.unit (s := S10x64x16384) (k0_off2 2#32) S1x64x16384.size h) h').squeeze S64x16384 squeezes_S1x64x16384_S64x16384 = slot 2 := slot_of 2 (k0_off2_eq 2) _ _
@[sl_canon] theorem cl_inC3 (h) : (cc0_scratch17.slice (Rect.unit (s := S10) (k0_off1 3#32) S1.size h)).squeeze S_ squeezes_S1_S_ = inC 3 := inC_of 3 (k0_off1_eq 3) _
@[sl_canon] theorem cl_cblk3 (h h') : cM.slice (Rect.unit (s := S1152x16384) (k0_off3 3#32) S64x16384.size h) h' = cblk 3 := cblk_of 3 (k0_off3_eq 3) _ _
@[sl_canon] theorem cl_slot3 (h h') : (cbufM.slice (Rect.unit (s := S10x64x16384) (k0_off2 3#32) S1x64x16384.size h) h').squeeze S64x16384 squeezes_S1x64x16384_S64x16384 = slot 3 := slot_of 3 (k0_off2_eq 3) _ _
@[sl_canon] theorem cl_inC4 (h) : (cc0_scratch17.slice (Rect.unit (s := S10) (k0_off1 4#32) S1.size h)).squeeze S_ squeezes_S1_S_ = inC 4 := inC_of 4 (k0_off1_eq 4) _
@[sl_canon] theorem cl_cblk4 (h h') : cM.slice (Rect.unit (s := S1152x16384) (k0_off3 4#32) S64x16384.size h) h' = cblk 4 := cblk_of 4 (k0_off3_eq 4) _ _
@[sl_canon] theorem cl_slot4 (h h') : (cbufM.slice (Rect.unit (s := S10x64x16384) (k0_off2 4#32) S1x64x16384.size h) h').squeeze S64x16384 squeezes_S1x64x16384_S64x16384 = slot 4 := slot_of 4 (k0_off2_eq 4) _ _
@[sl_canon] theorem cl_inC5 (h) : (cc0_scratch17.slice (Rect.unit (s := S10) (k0_off1 5#32) S1.size h)).squeeze S_ squeezes_S1_S_ = inC 5 := inC_of 5 (k0_off1_eq 5) _
@[sl_canon] theorem cl_cblk5 (h h') : cM.slice (Rect.unit (s := S1152x16384) (k0_off3 5#32) S64x16384.size h) h' = cblk 5 := cblk_of 5 (k0_off3_eq 5) _ _
@[sl_canon] theorem cl_slot5 (h h') : (cbufM.slice (Rect.unit (s := S10x64x16384) (k0_off2 5#32) S1x64x16384.size h) h').squeeze S64x16384 squeezes_S1x64x16384_S64x16384 = slot 5 := slot_of 5 (k0_off2_eq 5) _ _
@[sl_canon] theorem cl_inC6 (h) : (cc0_scratch17.slice (Rect.unit (s := S10) (k0_off1 6#32) S1.size h)).squeeze S_ squeezes_S1_S_ = inC 6 := inC_of 6 (k0_off1_eq 6) _
@[sl_canon] theorem cl_cblk6 (h h') : cM.slice (Rect.unit (s := S1152x16384) (k0_off3 6#32) S64x16384.size h) h' = cblk 6 := cblk_of 6 (k0_off3_eq 6) _ _
@[sl_canon] theorem cl_slot6 (h h') : (cbufM.slice (Rect.unit (s := S10x64x16384) (k0_off2 6#32) S1x64x16384.size h) h').squeeze S64x16384 squeezes_S1x64x16384_S64x16384 = slot 6 := slot_of 6 (k0_off2_eq 6) _ _
@[sl_canon] theorem cl_inC7 (h) : (cc0_scratch17.slice (Rect.unit (s := S10) (k0_off1 7#32) S1.size h)).squeeze S_ squeezes_S1_S_ = inC 7 := inC_of 7 (k0_off1_eq 7) _
@[sl_canon] theorem cl_cblk7 (h h') : cM.slice (Rect.unit (s := S1152x16384) (k0_off3 7#32) S64x16384.size h) h' = cblk 7 := cblk_of 7 (k0_off3_eq 7) _ _
@[sl_canon] theorem cl_slot7 (h h') : (cbufM.slice (Rect.unit (s := S10x64x16384) (k0_off2 7#32) S1x64x16384.size h) h').squeeze S64x16384 squeezes_S1x64x16384_S64x16384 = slot 7 := slot_of 7 (k0_off2_eq 7) _ _
@[sl_canon] theorem cl_inC8 (h) : (cc0_scratch17.slice (Rect.unit (s := S10) (k0_off1 8#32) S1.size h)).squeeze S_ squeezes_S1_S_ = inC 8 := inC_of 8 (k0_off1_eq 8) _
@[sl_canon] theorem cl_cblk8 (h h') : cM.slice (Rect.unit (s := S1152x16384) (k0_off3 8#32) S64x16384.size h) h' = cblk 8 := cblk_of 8 (k0_off3_eq 8) _ _
@[sl_canon] theorem cl_outC8 (h) : (cc0_scratch18.slice (Rect.unit (s := S10) (k0_off1 8#32) S1.size h)).squeeze S_ squeezes_S1_S_ = outC 8 := outC_of 8 (k0_off1_eq 8) _
@[sl_canon] theorem cl_oblk8 (h h') : coutM.slice (Rect.unit (s := S1152x16384) (k0_off3 8#32) S64x16384.size h) h' = oblk 8 := oblk_of 8 (k0_off3_eq 8) _ _
@[sl_canon] theorem cl_slot8 (h h') : (cbufM.slice (Rect.unit (s := S10x64x16384) (k0_off2 8#32) S1x64x16384.size h) h').squeeze S64x16384 squeezes_S1x64x16384_S64x16384 = slot 8 := slot_of 8 (k0_off2_eq 8) _ _
@[sl_canon] theorem cl_inC9 (h) : (cc0_scratch17.slice (Rect.unit (s := S10) (k0_off1 9#32) S1.size h)).squeeze S_ squeezes_S1_S_ = inC 9 := inC_of 9 (k0_off1_eq 9) _
@[sl_canon] theorem cl_cblk9 (h h') : cM.slice (Rect.unit (s := S1152x16384) (k0_off3 9#32) S64x16384.size h) h' = cblk 9 := cblk_of 9 (k0_off3_eq 9) _ _
@[sl_canon] theorem cl_outC9 (h) : (cc0_scratch18.slice (Rect.unit (s := S10) (k0_off1 9#32) S1.size h)).squeeze S_ squeezes_S1_S_ = outC 9 := outC_of 9 (k0_off1_eq 9) _
@[sl_canon] theorem cl_oblk9 (h h') : coutM.slice (Rect.unit (s := S1152x16384) (k0_off3 9#32) S64x16384.size h) h' = oblk 9 := oblk_of 9 (k0_off3_eq 9) _ _
@[sl_canon] theorem cl_slot9 (h h') : (cbufM.slice (Rect.unit (s := S10x64x16384) (k0_off2 9#32) S1x64x16384.size h) h').squeeze S64x16384 squeezes_S1x64x16384_S64x16384 = slot 9 := slot_of 9 (k0_off2_eq 9) _ _
@[sl_canon] theorem cl_outC10 (h) : (cc0_scratch18.slice (Rect.unit (s := S10) (k0_off1 10#32) S1.size h)).squeeze S_ squeezes_S1_S_ = outC 0 := outC_of 0 (k0_off1_eq 10) _
@[sl_canon] theorem cl_oblk10 (h h') : coutM.slice (Rect.unit (s := S1152x16384) (k0_off3 10#32) S64x16384.size h) h' = oblk 10 := oblk_of 10 (k0_off3_eq 10) _ _
@[sl_canon] theorem cl_slot10 (h h') : (cbufM.slice (Rect.unit (s := S10x64x16384) (k0_off2 10#32) S1x64x16384.size h) h').squeeze S64x16384 squeezes_S1x64x16384_S64x16384 = slot 0 := slot_of 0 (k0_off2_eq 10) _ _
@[sl_canon] theorem cl_outC11 (h) : (cc0_scratch18.slice (Rect.unit (s := S10) (k0_off1 11#32) S1.size h)).squeeze S_ squeezes_S1_S_ = outC 1 := outC_of 1 (k0_off1_eq 11) _
@[sl_canon] theorem cl_oblk11 (h h') : coutM.slice (Rect.unit (s := S1152x16384) (k0_off3 11#32) S64x16384.size h) h' = oblk 11 := oblk_of 11 (k0_off3_eq 11) _ _
@[sl_canon] theorem cl_slot11 (h h') : (cbufM.slice (Rect.unit (s := S10x64x16384) (k0_off2 11#32) S1x64x16384.size h) h').squeeze S64x16384 squeezes_S1x64x16384_S64x16384 = slot 1 := slot_of 1 (k0_off2_eq 11) _ _
@[sl_canon] theorem cl_outC12 (h) : (cc0_scratch18.slice (Rect.unit (s := S10) (k0_off1 12#32) S1.size h)).squeeze S_ squeezes_S1_S_ = outC 2 := outC_of 2 (k0_off1_eq 12) _
@[sl_canon] theorem cl_oblk12 (h h') : coutM.slice (Rect.unit (s := S1152x16384) (k0_off3 12#32) S64x16384.size h) h' = oblk 12 := oblk_of 12 (k0_off3_eq 12) _ _
@[sl_canon] theorem cl_slot12 (h h') : (cbufM.slice (Rect.unit (s := S10x64x16384) (k0_off2 12#32) S1x64x16384.size h) h').squeeze S64x16384 squeezes_S1x64x16384_S64x16384 = slot 2 := slot_of 2 (k0_off2_eq 12) _ _
@[sl_canon] theorem cl_outC13 (h) : (cc0_scratch18.slice (Rect.unit (s := S10) (k0_off1 13#32) S1.size h)).squeeze S_ squeezes_S1_S_ = outC 3 := outC_of 3 (k0_off1_eq 13) _
@[sl_canon] theorem cl_oblk13 (h h') : coutM.slice (Rect.unit (s := S1152x16384) (k0_off3 13#32) S64x16384.size h) h' = oblk 13 := oblk_of 13 (k0_off3_eq 13) _ _
@[sl_canon] theorem cl_slot13 (h h') : (cbufM.slice (Rect.unit (s := S10x64x16384) (k0_off2 13#32) S1x64x16384.size h) h').squeeze S64x16384 squeezes_S1x64x16384_S64x16384 = slot 3 := slot_of 3 (k0_off2_eq 13) _ _
@[sl_canon] theorem cl_outC14 (h) : (cc0_scratch18.slice (Rect.unit (s := S10) (k0_off1 14#32) S1.size h)).squeeze S_ squeezes_S1_S_ = outC 4 := outC_of 4 (k0_off1_eq 14) _
@[sl_canon] theorem cl_oblk14 (h h') : coutM.slice (Rect.unit (s := S1152x16384) (k0_off3 14#32) S64x16384.size h) h' = oblk 14 := oblk_of 14 (k0_off3_eq 14) _ _
@[sl_canon] theorem cl_slot14 (h h') : (cbufM.slice (Rect.unit (s := S10x64x16384) (k0_off2 14#32) S1x64x16384.size h) h').squeeze S64x16384 squeezes_S1x64x16384_S64x16384 = slot 4 := slot_of 4 (k0_off2_eq 14) _ _
@[sl_canon] theorem cl_outC15 (h) : (cc0_scratch18.slice (Rect.unit (s := S10) (k0_off1 15#32) S1.size h)).squeeze S_ squeezes_S1_S_ = outC 5 := outC_of 5 (k0_off1_eq 15) _
@[sl_canon] theorem cl_oblk15 (h h') : coutM.slice (Rect.unit (s := S1152x16384) (k0_off3 15#32) S64x16384.size h) h' = oblk 15 := oblk_of 15 (k0_off3_eq 15) _ _
@[sl_canon] theorem cl_slot15 (h h') : (cbufM.slice (Rect.unit (s := S10x64x16384) (k0_off2 15#32) S1x64x16384.size h) h').squeeze S64x16384 squeezes_S1x64x16384_S64x16384 = slot 5 := slot_of 5 (k0_off2_eq 15) _ _
@[sl_canon] theorem cl_outC16 (h) : (cc0_scratch18.slice (Rect.unit (s := S10) (k0_off1 16#32) S1.size h)).squeeze S_ squeezes_S1_S_ = outC 6 := outC_of 6 (k0_off1_eq 16) _
@[sl_canon] theorem cl_oblk16 (h h') : coutM.slice (Rect.unit (s := S1152x16384) (k0_off3 16#32) S64x16384.size h) h' = oblk 16 := oblk_of 16 (k0_off3_eq 16) _ _
@[sl_canon] theorem cl_slot16 (h h') : (cbufM.slice (Rect.unit (s := S10x64x16384) (k0_off2 16#32) S1x64x16384.size h) h').squeeze S64x16384 squeezes_S1x64x16384_S64x16384 = slot 6 := slot_of 6 (k0_off2_eq 16) _ _
@[sl_canon] theorem cl_qC16 (h) : (cc0_scratch19.slice (Rect.unit (s := S2) (k0_off33 16#32) S1.size h)).squeeze S_ squeezes_S1_S_ = qC 0 := qC_of 0 (k0_off33_eq 0) _
@[sl_canon] theorem cl_qslot16 (h h') : (qbufM.slice (Rect.unit (s := S2x64x16384) (k0_off34 16#32) S1x64x16384.size h) h').squeeze S64x16384 squeezes_S1x64x16384_S64x16384 = qslot 0 := qslot_of 0 (k0_off34_eq 0) _ _
@[sl_canon] theorem cl_qblk16 (h h') : cqM.slice (Rect.unit (s := S1152x16384) (k0_off3 16#32) S64x16384.size h) h' = qblk 16 := qblk_of 16 (k0_off3_eq 16) _ _
@[sl_canon] theorem cl_outC17 (h) : (cc0_scratch18.slice (Rect.unit (s := S10) (k0_off1 17#32) S1.size h)).squeeze S_ squeezes_S1_S_ = outC 7 := outC_of 7 (k0_off1_eq 17) _
@[sl_canon] theorem cl_oblk17 (h h') : coutM.slice (Rect.unit (s := S1152x16384) (k0_off3 17#32) S64x16384.size h) h' = oblk 17 := oblk_of 17 (k0_off3_eq 17) _ _
@[sl_canon] theorem cl_slot17 (h h') : (cbufM.slice (Rect.unit (s := S10x64x16384) (k0_off2 17#32) S1x64x16384.size h) h').squeeze S64x16384 squeezes_S1x64x16384_S64x16384 = slot 7 := slot_of 7 (k0_off2_eq 17) _ _
@[sl_canon] theorem cl_qC17 (h) : (cc0_scratch19.slice (Rect.unit (s := S2) (k0_off33 17#32) S1.size h)).squeeze S_ squeezes_S1_S_ = qC 1 := qC_of 1 (k0_off33_eq 1) _
@[sl_canon] theorem cl_qslot17 (h h') : (qbufM.slice (Rect.unit (s := S2x64x16384) (k0_off34 17#32) S1x64x16384.size h) h').squeeze S64x16384 squeezes_S1x64x16384_S64x16384 = qslot 1 := qslot_of 1 (k0_off34_eq 1) _ _
@[sl_canon] theorem cl_qblk17 (h h') : cqM.slice (Rect.unit (s := S1152x16384) (k0_off3 17#32) S64x16384.size h) h' = qblk 17 := qblk_of 17 (k0_off3_eq 17) _ _
@[sl_canon] theorem cl_aC0 (h) : (cc0_scratch16.slice (Rect.unit (s := S4) (![0]) S1.size h)).squeeze S_ squeezes_S1_S_ = aC 0 := rfl
@[sl_canon] theorem cl_vcol0 (h h') : vtM.slice (Rect.unit (s := S72x16384) ![0, 0] S72x4096.size h) h' = vcol 0 := rfl
@[sl_canon] theorem cl_acol0 (h h') : atM.slice (Rect.unit (s := S72x16384) ![0, 0] S72x4096.size h) h' = acol 0 := rfl
@[sl_canon] theorem cl_aC1 (h) : (cc0_scratch16.slice (Rect.unit (s := S4) (![1]) S1.size h)).squeeze S_ squeezes_S1_S_ = aC 1 := rfl
@[sl_canon] theorem cl_vcol1 (h h') : vtM.slice (Rect.unit (s := S72x16384) ![0, 4096] S72x4096.size h) h' = vcol 1 := rfl
@[sl_canon] theorem cl_acol1 (h h') : atM.slice (Rect.unit (s := S72x16384) ![0, 4096] S72x4096.size h) h' = acol 1 := rfl
@[sl_canon] theorem cl_aC2 (h) : (cc0_scratch16.slice (Rect.unit (s := S4) (![2]) S1.size h)).squeeze S_ squeezes_S1_S_ = aC 2 := rfl
@[sl_canon] theorem cl_vcol2 (h h') : vtM.slice (Rect.unit (s := S72x16384) ![0, 8192] S72x4096.size h) h' = vcol 2 := rfl
@[sl_canon] theorem cl_acol2 (h h') : atM.slice (Rect.unit (s := S72x16384) ![0, 8192] S72x4096.size h) h' = acol 2 := rfl
@[sl_canon] theorem cl_aC3 (h) : (cc0_scratch16.slice (Rect.unit (s := S4) (![3]) S1.size h)).squeeze S_ squeezes_S1_S_ = aC 3 := rfl
@[sl_canon] theorem cl_vcol3 (h h') : vtM.slice (Rect.unit (s := S72x16384) ![0, 12288] S72x4096.size h) h' = vcol 3 := rfl
@[sl_canon] theorem cl_acol3 (h h') : atM.slice (Rect.unit (s := S72x16384) ![0, 12288] S72x4096.size h) h' = acol 3 := rfl
@[sl_canon] theorem cl_mC0 (h) : (cc0_scratch20.slice (Rect.unit (s := S8) (![0]) S1.size h)).squeeze S_ squeezes_S1_S_ = mC 0 := rfl
@[sl_canon] theorem cl_mC1 (h) : (cc0_scratch20.slice (Rect.unit (s := S8) (![1]) S1.size h)).squeeze S_ squeezes_S1_S_ = mC 1 := rfl
@[sl_canon] theorem cl_mC2 (h) : (cc0_scratch20.slice (Rect.unit (s := S8) (![2]) S1.size h)).squeeze S_ squeezes_S1_S_ = mC 2 := rfl
@[sl_canon] theorem cl_mC3 (h) : (cc0_scratch20.slice (Rect.unit (s := S8) (![3]) S1.size h)).squeeze S_ squeezes_S1_S_ = mC 3 := rfl
@[sl_canon] theorem cl_mC4 (h) : (cc0_scratch20.slice (Rect.unit (s := S8) (![4]) S1.size h)).squeeze S_ squeezes_S1_S_ = mC 4 := rfl
@[sl_canon] theorem cl_mC5 (h) : (cc0_scratch20.slice (Rect.unit (s := S8) (![5]) S1.size h)).squeeze S_ squeezes_S1_S_ = mC 5 := rfl
@[sl_canon] theorem cl_mC6 (h) : (cc0_scratch20.slice (Rect.unit (s := S8) (![6]) S1.size h)).squeeze S_ squeezes_S1_S_ = mC 6 := rfl
@[sl_canon] theorem cl_mC7 (h) : (cc0_scratch20.slice (Rect.unit (s := S8) (![7]) S1.size h)).squeeze S_ squeezes_S1_S_ = mC 7 := rfl

/-! ## The columns a trip of the column loops touches -/

theorem p4_0 (t : Fin k0_t1_loop.trips) : k0_off4 t 0#32 = ![0, 128 * (4 * t.val)] :=
  off_blk (k0_off4_eq t 0) (by have : (0 : Fin 4).val = 0 := rfl; omega)
theorem p4_1 (t : Fin k0_t1_loop.trips) : k0_off4 t 1#32 = ![0, 128 * (4 * t.val + 1)] :=
  off_blk (k0_off4_eq t 1) (by have : (1 : Fin 4).val = 1 := rfl; omega)
theorem p4_2 (t : Fin k0_t1_loop.trips) : k0_off4 t 2#32 = ![0, 128 * (4 * t.val + 2)] :=
  off_blk (k0_off4_eq t 2) (by have : (2 : Fin 4).val = 2 := rfl; omega)
theorem p4_3 (t : Fin k0_t1_loop.trips) : k0_off4 t 3#32 = ![0, 128 * (4 * t.val + 3)] :=
  off_blk (k0_off4_eq t 3) (by have : (3 : Fin 4).val = 3 := rfl; omega)
theorem p5_0 (t : Fin k0_t1_loop.trips) : k0_off5 t 0#32 = ![0, 128 * (4 * t.val)] :=
  off_blk (k0_off5_eq t 0) (by have : (0 : Fin 4).val = 0 := rfl; omega)
theorem p5_1 (t : Fin k0_t1_loop.trips) : k0_off5 t 1#32 = ![0, 128 * (4 * t.val + 1)] :=
  off_blk (k0_off5_eq t 1) (by have : (1 : Fin 4).val = 1 := rfl; omega)
theorem p5_2 (t : Fin k0_t1_loop.trips) : k0_off5 t 2#32 = ![0, 128 * (4 * t.val + 2)] :=
  off_blk (k0_off5_eq t 2) (by have : (2 : Fin 4).val = 2 := rfl; omega)
theorem p5_3 (t : Fin k0_t1_loop.trips) : k0_off5 t 3#32 = ![0, 128 * (4 * t.val + 3)] :=
  off_blk (k0_off5_eq t 3) (by have : (3 : Fin 4).val = 3 := rfl; omega)
theorem p6_0 (t : Fin k0_t1_loop.trips) : k0_off6 t 0#32 = ![0, 128 * (4 * t.val)] :=
  off_blk (k0_off6_eq t 0) (by have : (0 : Fin 4).val = 0 := rfl; omega)
theorem p6_1 (t : Fin k0_t1_loop.trips) : k0_off6 t 1#32 = ![0, 128 * (4 * t.val + 1)] :=
  off_blk (k0_off6_eq t 1) (by have : (1 : Fin 4).val = 1 := rfl; omega)
theorem p6_2 (t : Fin k0_t1_loop.trips) : k0_off6 t 2#32 = ![0, 128 * (4 * t.val + 2)] :=
  off_blk (k0_off6_eq t 2) (by have : (2 : Fin 4).val = 2 := rfl; omega)
theorem p6_3 (t : Fin k0_t1_loop.trips) : k0_off6 t 3#32 = ![0, 128 * (4 * t.val + 3)] :=
  off_blk (k0_off6_eq t 3) (by have : (3 : Fin 4).val = 3 := rfl; omega)
theorem p7_0 (t : Fin k0_t1_loop.trips) : k0_off7 t 0#32 = ![0, 128 * (4 * t.val)] :=
  off_blk (k0_off7_eq t 0) (by have : (0 : Fin 4).val = 0 := rfl; omega)
theorem p7_1 (t : Fin k0_t1_loop.trips) : k0_off7 t 1#32 = ![0, 128 * (4 * t.val + 1)] :=
  off_blk (k0_off7_eq t 1) (by have : (1 : Fin 4).val = 1 := rfl; omega)
theorem p7_2 (t : Fin k0_t1_loop.trips) : k0_off7 t 2#32 = ![0, 128 * (4 * t.val + 2)] :=
  off_blk (k0_off7_eq t 2) (by have : (2 : Fin 4).val = 2 := rfl; omega)
theorem p7_3 (t : Fin k0_t1_loop.trips) : k0_off7 t 3#32 = ![0, 128 * (4 * t.val + 3)] :=
  off_blk (k0_off7_eq t 3) (by have : (3 : Fin 4).val = 3 := rfl; omega)
theorem p17_0 (t : Fin k0_t3_loop.trips) : k0_off17 t 0#32 = ![0, 128 * (4 * t.val)] :=
  off_blk (k0_off17_eq t 0) (by have : (0 : Fin 4).val = 0 := rfl; omega)
theorem p17_1 (t : Fin k0_t3_loop.trips) : k0_off17 t 128#32 = ![0, 128 * (4 * t.val + 1)] :=
  off_blk (k0_off17_eq t 1) (by have : (1 : Fin 4).val = 1 := rfl; omega)
theorem p17_2 (t : Fin k0_t3_loop.trips) : k0_off17 t 256#32 = ![0, 128 * (4 * t.val + 2)] :=
  off_blk (k0_off17_eq t 2) (by have : (2 : Fin 4).val = 2 := rfl; omega)
theorem p17_3 (t : Fin k0_t3_loop.trips) : k0_off17 t 384#32 = ![0, 128 * (4 * t.val + 3)] :=
  off_blk (k0_off17_eq t 3) (by have : (3 : Fin 4).val = 3 := rfl; omega)
theorem p25_0 (t : Fin k0_t4_loop.trips) : k0_off25 t 0#32 = ![0, 128 * (4 * t.val)] :=
  off_blk (k0_off25_eq t 0) (by have : (0 : Fin 4).val = 0 := rfl; omega)
theorem p25_1 (t : Fin k0_t4_loop.trips) : k0_off25 t 128#32 = ![0, 128 * (4 * t.val + 1)] :=
  off_blk (k0_off25_eq t 1) (by have : (1 : Fin 4).val = 1 := rfl; omega)
theorem p25_2 (t : Fin k0_t4_loop.trips) : k0_off25 t 256#32 = ![0, 128 * (4 * t.val + 2)] :=
  off_blk (k0_off25_eq t 2) (by have : (2 : Fin 4).val = 2 := rfl; omega)
theorem p25_3 (t : Fin k0_t4_loop.trips) : k0_off25 t 384#32 = ![0, 128 * (4 * t.val + 3)] :=
  off_blk (k0_off25_eq t 3) (by have : (3 : Fin 4).val = 3 := rfl; omega)
theorem p26_0 (t : Fin k0_t4_loop.trips) : k0_off26 t 0#32 = ![0, 128 * (4 * t.val)] :=
  off_blk (k0_off26_eq t 0) (by have : (0 : Fin 4).val = 0 := rfl; omega)
theorem p26_1 (t : Fin k0_t4_loop.trips) : k0_off26 t 128#32 = ![0, 128 * (4 * t.val + 1)] :=
  off_blk (k0_off26_eq t 1) (by have : (1 : Fin 4).val = 1 := rfl; omega)
theorem p26_2 (t : Fin k0_t4_loop.trips) : k0_off26 t 256#32 = ![0, 128 * (4 * t.val + 2)] :=
  off_blk (k0_off26_eq t 2) (by have : (2 : Fin 4).val = 2 := rfl; omega)
theorem p26_3 (t : Fin k0_t4_loop.trips) : k0_off26 t 384#32 = ![0, 128 * (4 * t.val + 3)] :=
  off_blk (k0_off26_eq t 3) (by have : (3 : Fin 4).val = 3 := rfl; omega)
theorem t1_lt (t : Fin k0_t1_loop.trips) : t.val < 32 := Nat.lt_of_lt_of_le t.isLt k0_t1_abs.2.1
theorem t3_lt (t : Fin k0_t3_loop.trips) : t.val < 32 := Nat.lt_of_lt_of_le t.isLt k0_t3_abs.2.1
theorem t4_lt (t : Fin k0_t4_loop.trips) : t.val < 32 := Nat.lt_of_lt_of_le t.isLt k0_t4_abs.2.1

end Cert.Kernel.Hand

end
-- ==== Proof.KT4.lean ====
/-
  The update loop of one chunk.
-/
module

public import proofs.«01_k».proof.Proof.KNames
public import proofs.«01_k».proof.Proof.Mix

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

/-- One updated 64 by 128 block, from the codes and the row scales of `y`, the codes and the column scales of `v`. -/
def updB (yq : FVec F S64x96 .fp8e4m3) (ysb : FVec F S64x128 .f32) (VQ : S96x16384.Idx → F .fp8e4m3) (VS : S1x16384.Idx → F .f32)
    (X0 : S64x16384.Idx → F .f32) (n : ℕ) : S64x128.Idx → F .f32 :=
  match n % 4 with
  | 0 => k0_pay80 yq ysb (blk 512 VQ (n / 4)) (blk 128 X0 n) (blk 128 VS n)
  | 1 => k0_pay82 (k0_pay81 yq ysb (blk 512 VQ (n / 4)) (blk 128 X0 n) (blk 128 VS n))
  | 2 => k0_pay83 ysb (k0_pay79 yq (blk 512 VQ (n / 4))) (blk 128 X0 n) (blk 128 VS n)
  | _ => k0_pay84 ysb (k0_pay79 yq (blk 512 VQ (n / 4))) (blk 128 X0 n) (blk 128 VS n)

abbrev vqP (c : Dev nD) (VQ : S96x16384.Idx → F .fp8e4m3) : sProp 𝕄 := vqM.view.loc (c : Thread nD τ) ↦{fullShare} vqM.view.rep VQ
abbrev vsrP (c : Dev nD) (VS : S1x16384.Idx → F .f32) : sProp 𝕄 := vsrM.view.loc (c : Thread nD τ) ↦{fullShare} vsrM.view.rep VS
abbrev slotP (c : Dev nD) (s : Fin 10) (X : S64x16384.Idx → F .f32) : sProp 𝕄 := (slot s).view.loc (c : Thread nD τ) ↦[(slot s).view.set]{fullShare} (slot s).view.rep X

section
variable (yq : FVec F S64x96 .fp8e4m3) (ysb : FVec F S64x128 .f32) (VQ : S96x16384.Idx → F .fp8e4m3) (VS : S1x16384.Idx → F .f32)
    (X0 : S64x16384.Idx → F .f32) (t : ℕ)
theorem updB0 : updB yq ysb VQ VS X0 (4 * t) = k0_pay80 yq ysb (blk 512 VQ t) (blk 128 X0 (4 * t)) (blk 128 VS (4 * t)) := by
  unfold updB; simp only [show 4 * t % 4 = 0 by omega, show 4 * t / 4 = t by omega]
theorem updB1 : updB yq ysb VQ VS X0 (4 * t + 1) = k0_pay82 (k0_pay81 yq ysb (blk 512 VQ t) (blk 128 X0 (4 * t + 1)) (blk 128 VS (4 * t + 1))) := by
  unfold updB; simp only [mod4 t 1 (by omega), div4 t 1 (by omega)]
theorem updB2 : updB yq ysb VQ VS X0 (4 * t + 2) = k0_pay83 ysb (k0_pay79 yq (blk 512 VQ t)) (blk 128 X0 (4 * t + 2)) (blk 128 VS (4 * t + 2)) := by
  unfold updB; simp only [mod4 t 2 (by omega), div4 t 2 (by omega)]
theorem updB3 : updB yq ysb VQ VS X0 (4 * t + 3) = k0_pay84 ysb (k0_pay79 yq (blk 512 VQ t)) (blk 128 X0 (4 * t + 3)) (blk 128 VS (4 * t + 3)) := by
  unfold updB; simp only [mod4 t 3 (by omega), div4 t 3 (by omega)]
end

set_option backward.proofsInPublic true in
theorem t4_step (c : Dev nD) (v104 : IVec S1x128 32) (v105 : FVec F S1x128 .f32) (c96 : BitVec 32) (k : Fin k0_t2_loop.trips)
    (yq : FVec F S64x96 .fp8e4m3) (ys : FVec F S64x1 .f32) (VQ VS X0) (t : Fin k0_t4_loop.trips) :
    iprop(vqP c VQ ∗ vsrP c VS ∗ slotP c (s10 k.val) (mix (4 * t.val) (updB yq (k0_pay107 ys) VQ VS X0) X0))
      ⊢ wp frame (wpE (defs₀ (F := F)) 𝒱₀ (c : Thread nD τ) none) Set.univ (k0_t4_body vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 c96 k yq ys t ())
        (fun _ => iprop(vqP c VQ ∗ vsrP c VS ∗ slotP c (s10 k.val) (mix (4 * (t.val + 1)) (updB yq (k0_pay107 ys) VQ VS X0) X0))) := by
  iintro ⟨Hvq, Hvs, Hx⟩
  sl_unfold [k0_t4_body]
  sl_exec
  sl_step
  isplitl [Hvq]; · iexact Hvq
  isplitl [Hvs]; · iexact Hvs
  have ht := t4_lt t
  have hx : ∀ {off : Fin 2 → ℕ} (n : ℕ) (h : off = ![0, 128 * n]) (inb : ∀ a, off a + S64x128.size a ≤ S64x16384.size a), 4 * t.val ≤ n → n < 128 →
      (slot (s10 k.val)).view.readAt (Elt F) (Rect.unit (s := S64x16384) off S64x128.size inb).toLoadRect
        ((slot (s10 k.val)).view.rep (mix (4 * t.val) (updB yq (k0_pay107 ys) VQ VS X0) X0)) = blk 128 X0 n := fun n h inb h1 h2 =>
    (readAt_blk _ _ _ h _).trans (blk_mix _ _ h1 h2 _ _)
  iapply (pointsTo_rep_of_read (c : Thread nD τ) (slot (s10 k.val)) _ fullShare _ ?rd) $$ Hx
  case rd =>
    rw [View.read_writes_cons_put _ _ _ _ _ (p25_3 t), View.read_writes_cons_put _ _ _ _ _ (p25_2 t), View.read_writes_cons_put _ _ _ _ _ (p25_1 t),
      View.read_writes_cons_put _ _ _ _ _ (p25_0 t), View.writes_nil, View.read_rep]
    rw [put_mix _ _ _ _ ?b0 rfl, put_mix _ _ _ _ ?b1 rfl, put_mix _ _ _ _ ?b2 rfl, put_mix _ _ _ _ ?b3 rfl]
    · rfl
    case b0 => rw [updB0]; rw [readAt_blk _ _ _ (k0_off23_eq t), hx _ (p25_0 t) _ (by omega) (by omega), readAt_blk _ _ _ (p26_0 t)]
    case b1 => rw [updB1]; delta t4_step.sl.r_1 t4_step.sl.v509; rw [readAt_blk _ _ _ (k0_off23_eq t), hx _ (p25_1 t) _ (by omega) (by omega), readAt_blk _ _ _ (p26_1 t)]
    case b2 => rw [updB2]; delta t4_step.sl.r t4_step.sl.v528; rw [readAt_blk _ _ _ (k0_off23_eq t), hx _ (p25_2 t) _ (by omega) (by omega), readAt_blk _ _ _ (p26_2 t)]
    case b3 => rw [updB3]; delta t4_step.sl.r_2 t4_step.sl.r t4_step.sl.v547; rw [readAt_blk _ _ _ (k0_off23_eq t), hx _ (p25_3 t) _ (by omega) (by omega), readAt_blk _ _ _ (p26_3 t)]

/-- The chunk before trip `t` of its update. -/
def updS (yq : FVec F S64x96 .fp8e4m3) (ys : FVec F S64x1 .f32) (VQ : S96x16384.Idx → F .fp8e4m3) (VS : S1x16384.Idx → F .f32)
    (X0 : S64x16384.Idx → F .f32) : ℕ → S64x16384.Idx → F .f32
  | 0 => X0
  | n + 1 => mix (4 * (n + 1)) (updB yq (k0_pay107 ys) VQ VS X0) X0
theorem updS_eq (yq : FVec F S64x96 .fp8e4m3) (ys : FVec F S64x1 .f32) (VQ : S96x16384.Idx → F .fp8e4m3) (VS : S1x16384.Idx → F .f32)
    (X0 : S64x16384.Idx → F .f32) (n : ℕ) : updS yq ys VQ VS X0 n = mix (4 * n) (updB yq (k0_pay107 ys) VQ VS X0) X0 := by
  cases n with
  | zero => exact (mix_zero _ _).symm
  | succ n => rfl

set_option warn.classDefReducibility false in
@[sl_loop] def loopInv4 (c : Dev nD) (v104 : IVec S1x128 32) (v105 : FVec F S1x128 .f32) (c96 : BitVec 32) (k : Fin k0_t2_loop.trips)
    (yq : FVec F S64x96 .fp8e4m3) (ys : FVec F S64x1 .f32) (VQ : S96x16384.Idx → F .fp8e4m3) (VS : S1x16384.Idx → F .f32) (X0 : S64x16384.Idx → F .f32) :
    LoopInvTy_k0_t4 (F := F) Unit ℕ (UU nD τ) ℕ 𝒱₀ c none Set.univ vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 c96 k yq ys where
  inv t _ := iprop(vqP c VQ ∗ vsrP c VS ∗ slotP c (s10 k.val) (updS yq ys VQ VS X0 t))
  step t _ := by
    rw [updS_eq]
    have h := t4_step c v104 v105 c96 k yq ys VQ VS X0 t
    simp only [← updS_eq] at h ⊢
    exact h

end Cert.Kernel.Hand

end
-- ==== Proof.KT3.lean ====
/-
  One trip of the loop that scales and quantises a chunk and accumulates its product with the panel.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.VecWindow
public import Idealize.ShloMosaic.Lib.Tactic
public import Idealize.ShloMosaic.Lib.Pointwise.Index
public import Idealize.ShloMosaic.Lib.Pipeline.Value
public import proofs.«01_k».proof.Proof.KNames
public import proofs.«01_k».proof.Proof.KT4

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ
abbrev vwP (c : Dev nD) (VW : S80x16384.Idx → F .bf16) : sProp 𝕄 := vwM.view.loc (c : Thread nD τ) ↦{fullShare} vwM.view.rep VW
abbrev wP (c : Dev nD) (W : S64x128.Idx → F .f32) : sProp 𝕄 := wM.view.loc (c : Thread nD τ) ↦{fullShare} wM.view.rep W
abbrev csbP (c : Dev nD) (C : S1152x128.Idx → F .f32) : sProp 𝕄 := csbM.view.loc (c : Thread nD τ) ↦{fullShare} csbM.view.rep C
abbrev qslotP (c : Dev nD) (s : Fin 2) (Q : S64x16384.Idx → F .fp8e4m3) : sProp 𝕄 := (qslot s).view.loc (c : Thread nD τ) ↦[(qslot s).view.set]{fullShare} (qslot s).view.rep Q

omit [FloatOps F] in
theorem q_set (s : Fin 2) : (qslot s).view.set = (Rect.unit (s := S2x64x16384) ![s.val, 0, 0] S1x64x16384.size (qslotInb s)).set :=
  (View.set_reshape _ _).trans (View.set_slice_whole _ _)

theorem q_within (s : Fin 2) (n : ℕ) (hn : n < 128) {off : Fin 3 → ℕ} (e : off = ![s.val, 0, 128 * n]) (h : ∀ a, off a + S1x64x128.size a ≤ S2x64x16384.size a) :
    (qbufM.access (Rect.unit (s := S2x64x16384) off S1x64x128.size h)).setOn Finset.univ ⊆ (qslot s).view.set := by
  subst e
  rw [View.setOn_univ, q_set]
  refine (subset_of_eq (View.set_slice_whole _ _)).trans ?_
  intro i hi
  rw [Rect.mem_set_unit] at hi ⊢
  intro a
  have := hi a
  fin_cases a
  · exact this
  · exact this
  · have h2 : 128 * n ≤ (i 2).val ∧ (i 2).val < 128 * n + 128 := this
    show 0 ≤ (i 2).val ∧ (i 2).val < 0 + 16384
    omega

theorem p19_0 (k : Fin k0_t2_loop.trips) (t : Fin k0_t3_loop.trips) : k0_off19 k t 0#32 = ![(s2 k.val).val, 0, 128 * (4 * t.val + 0)] := (k0_off19_eq k t 0).trans (by congr 3; show 512 * t.val + 128 * 0 = _; omega)
theorem p19_1 (k : Fin k0_t2_loop.trips) (t : Fin k0_t3_loop.trips) : k0_off19 k t 128#32 = ![(s2 k.val).val, 0, 128 * (4 * t.val + 1)] := (k0_off19_eq k t 1).trans (by congr 3; show 512 * t.val + 128 * 1 = _; omega)
theorem p19_2 (k : Fin k0_t2_loop.trips) (t : Fin k0_t3_loop.trips) : k0_off19 k t 256#32 = ![(s2 k.val).val, 0, 128 * (4 * t.val + 2)] := (k0_off19_eq k t 2).trans (by congr 3; show 512 * t.val + 128 * 2 = _; omega)
theorem p19_3 (k : Fin k0_t2_loop.trips) (t : Fin k0_t3_loop.trips) : k0_off19 k t 384#32 = ![(s2 k.val).val, 0, 128 * (4 * t.val + 3)] := (k0_off19_eq k t 3).trans (by congr 3; show 512 * t.val + 128 * 3 = _; omega)

omit [FloatOps F] in
theorem whole_rep [∀ e, Nonempty (Elt F e)] (c : Dev nD) {sp : Space} {s : Shape} {e : EltTy} (m : Memref sig .tc sp s e) (hm : m.view.set = Finset.univ)
    (g : Buf (Elt F) (m.view.loc (c : Thread nD τ))) (X : s.Idx → Elt F e) (h : m.view.read (Elt F) g = X) :
    (m.view.loc (c : Thread nD τ) ↦{fullShare} g : sProp 𝕄) ⊢ m.view.loc (c : Thread nD τ) ↦{fullShare} m.view.rep X := by
  have := pointsTo_rep_of_read (U := UU nD τ) (Ix := Unit) (Name := ℕ) (Lvl := ℕ) (c : Thread nD τ) m g fullShare X h
  rw [hm] at this
  exact this

omit [FloatOps F] in
theorem cast_ix3 (v : FVec F S64x128 .fp8e4m3) :
    (fun y : S64x128.Idx => shapeCast S1x64x128 (shapeCast S64x128 v shapeCasts_S64x128_S64x128) shapeCasts_S64x128_S1x64x128 (ix3 (0 : Fin 1) (y 0) (y 1))) = v := by
  rw [shapeCast_self]
  funext y
  refine (shapeCast_addUnit_apply ![64, 128] v _ _).trans (congrArg v ?_)
  funext a
  match a with
  | ⟨0, _⟩ => rfl
  | ⟨1, _⟩ => rfl

theorem q_write (s : Fin 2) (n : ℕ) {off : Fin 3 → ℕ} (e : off = ![s.val, 0, 128 * n]) (h : ∀ a, off a + S1x64x128.size a ≤ S2x64x16384.size a)
    (f : (qbufM.access (Rect.unit (s := S2x64x16384) off S1x64x128.size h)).ty.Contents (Elt F)) (w : S1x64x128.Idx → F .fp8e4m3) :
    (qslot s).view.read (Elt F) ((qbufM.access (Rect.unit (s := S2x64x16384) off S1x64x128.size h)).write (Elt F) f w Finset.univ)
      = VecWindow.put (s := Sh 64 16384) ((qslot s).view.read (Elt F) f) ![0, 128 * n] ![64, 128] (fun y => w (ix3 (0 : Fin 1) (y 0) (y 1))) := by
  subst e
  have key : ∀ g : (qbufM.view).ty.Contents (Elt F), ∀ y : S64x16384.Idx, (qslot s).view.read (Elt F) g y = qbufM.view.read (Elt F) g (ix3 s (y 0) (y 1)) := by
    intro g y
    show qbufM.view.read (Elt F) g ((Rect.unit (s := S2x64x16384) ![s.val, 0, 0] S1x64x16384.size (qslotInb s)).emb (Shape.reshapeEquiv squeezes_S1x64x16384_S64x16384.numel_eq y)) = _
    refine congrArg (qbufM.view.read (Elt F) g) ?_
    have hr : Shape.reshapeEquiv squeezes_S1x64x16384_S64x16384.numel_eq y = (Fin.cons (⟨0, Nat.one_pos⟩ : Fin 1) y : S1x64x16384.Idx) :=
      Shape.reshapeEquiv_cons_one (d := ![64, 16384]) _ y
    rw [show (Shape.reshapeEquiv squeezes_S1x64x16384_S64x16384.numel_eq y : (Rect.unit (s := S2x64x16384) ![s.val, 0, 0] S1x64x16384.size (qslotInb s)).shape.Idx) = _ from hr]
    funext a
    match a with
    | ⟨0, _⟩ => exact Fin.ext (by show s.val + 1 * 0 = s.val; omega)
    | ⟨1, _⟩ => exact Fin.ext (by show 0 + 1 * (y 0).val = (y 0).val; omega)
    | ⟨2, _⟩ => exact Fin.ext (by show 0 + 1 * (y 1).val = (y 1).val; omega)
  funext y
  refine (key _ y).trans ?_
  refine (congrFun (View.read_writes_cons_put qbufM.view f h w [] rfl) _).trans ?_
  rw [View.writes_nil]
  unfold VecWindow.put
  have h0 : (y 0).val < 64 := (y 0).isLt
  by_cases hy : 128 * n ≤ (y 1).val ∧ (y 1).val < 128 * n + 128
  · rw [dif_pos (fun a => match a with
      | ⟨0, _⟩ => ⟨le_rfl, Nat.lt_succ_self _⟩
      | ⟨1, _⟩ => ⟨Nat.zero_le _, by show (y 0).val < 0 + 64; omega⟩
      | ⟨2, _⟩ => hy), dif_pos (fun a => match a with
      | ⟨0, _⟩ => ⟨Nat.zero_le _, by show (y 0).val < 0 + 64; omega⟩
      | ⟨1, _⟩ => hy)]
    refine congrArg w ?_
    funext a
    match a with
    | ⟨0, _⟩ => exact Fin.ext (by show s.val - s.val = 0; omega)
    | ⟨1, _⟩ => rfl
    | ⟨2, _⟩ => rfl
  · rw [dif_neg (fun hh => hy (hh 2)), dif_neg (fun hh => hy (hh 1))]
    exact (key f y).symm

/-! ## What a trip computes, block by block -/

/-- The scales of one 64 by 128 block of a chunk, -/
def scB (x : S64x128.Idx → F .f32) : FVec F S64x128 .bf16 := k0_pay44 (k0_pay40 x) (k0_pay41 x) k0_pay42
/-- its codes, -/
def qB (x : S64x128.Idx → F .f32) : FVec F S64x128 .fp8e4m3 := k0_pay45 x (k0_pay40 x) (k0_pay41 x) k0_pay42
/-- and the codes times their scales. -/
def dqB (x : S64x128.Idx → F .f32) : FVec F S64x128 .bf16 := k0_pay48 (scB x) (qB x)
/-- The table of scales with lane `n` from block `n`. -/
def csUpd (n : ℕ) (x : S64x128.Idx → F .f32) (cw : S64x128.Idx → F .f32) : S64x128.Idx → F .f32 :=
  select (cmpf .oeq (k0_pay85 (F := F)) (broadcast S64x128 (Scalar.sitofp .bf16 (BitVec.ofNat 32 n)))) (extf .f32 (scB x) bitsLt_bf16_f32) cw
/-- The product of four blocks with the panel's, added. -/
def wStep (d0 d1 d2 d3 : FVec F S64x128 .bf16) (vw : S80x512.Idx → F .bf16) (w : S64x80.Idx → F .f32) : S64x80.Idx → F .f32 :=
  addf w (matmul dot_S64x512_S80x512_S64x80_1_1_0_0_n_n none
    (concatenate S64x512 1 [⟨S64x128, d0⟩, ⟨S64x128, d1⟩, ⟨S64x128, d2⟩, ⟨S64x128, d3⟩] concatenates_S64x128_S64x128_S64x128_S64x128_S64x512_d1) vw
    (constant S64x80 .f32 0x00000000#32))

theorem wInb : ∀ a, (![0, 0] : Fin 2 → ℕ) a + (![64, 80] : Fin 2 → ℕ) a ≤ S64x128.size a := inb_S64x128_S64x80_0_0
theorem rowInb (k : ℕ) (hk : k < 18) : ∀ a, (![64 * k, 0] : Fin 2 → ℕ) a + (![64, 128] : Fin 2 → ℕ) a ≤ S1152x128.size a := by
  intro a; fin_cases a
  · show 64 * k + 64 ≤ 1152; omega
  · show 0 + 128 ≤ 128; omega

/-- The columns of the product before trip `t`. -/
def wN (X : S64x16384.Idx → F .f32) (VW : S80x16384.Idx → F .bf16) (W0 : S64x80.Idx → F .f32) : ℕ → S64x80.Idx → F .f32
  | 0 => W0
  | t + 1 => wStep (dqB (blk 128 X (4 * t + 0))) (dqB (blk 128 X (4 * t + 1))) (dqB (blk 128 X (4 * t + 2))) (dqB (blk 128 X (4 * t + 3))) (blk 512 VW t) (wN X VW W0 t)
/-- The chunk's table of scales before trip `t`. -/
def csN (X : S64x16384.Idx → F .f32) (C0 : S64x128.Idx → F .f32) : ℕ → S64x128.Idx → F .f32
  | 0 => C0
  | t + 1 => csUpd (4 * t + 3) (blk 128 X (4 * t + 3)) (csUpd (4 * t + 2) (blk 128 X (4 * t + 2)) (csUpd (4 * t + 1) (blk 128 X (4 * t + 1))
      (csUpd (4 * t + 0) (blk 128 X (4 * t + 0)) (csN X C0 t))))

def wS (X : S64x16384.Idx → F .f32) (VW : S80x16384.Idx → F .bf16) (W : S64x128.Idx → F .f32) : ℕ → S64x128.Idx → F .f32
  | 0 => W
  | t + 1 => VecWindow.put (s := S64x128) W ![0, 0] ![64, 80] (wN X VW (VecWindow.window W ![0, 0] ![64, 80] wInb) (t + 1))
def csS (X : S64x16384.Idx → F .f32) (C : S1152x128.Idx → F .f32) (k : ℕ) (hk : k < 18) : ℕ → S1152x128.Idx → F .f32
  | 0 => C
  | t + 1 => VecWindow.put (s := S1152x128) C ![64 * k, 0] ![64, 128] (csN X (VecWindow.window C ![64 * k, 0] ![64, 128] (rowInb k hk)) (t + 1))
def qS (X : S64x16384.Idx → F .f32) (Q : S64x16384.Idx → F .fp8e4m3) : ℕ → S64x16384.Idx → F .fp8e4m3
  | 0 => Q
  | t + 1 => mix (4 * (t + 1)) (fun n => qB (blk 128 X n)) Q

theorem qS_eq (X : S64x16384.Idx → F .f32) (Q : S64x16384.Idx → F .fp8e4m3) (t : ℕ) : qS X Q t = mix (4 * t) (fun n => qB (blk 128 X n)) Q := by
  cases t with
  | zero => exact (mix_zero _ _).symm
  | succ t => rfl
theorem wS_window (X : S64x16384.Idx → F .f32) (VW : S80x16384.Idx → F .bf16) (W : S64x128.Idx → F .f32) (t : ℕ) :
    VecWindow.window (wS X VW W t) ![0, 0] ![64, 80] wInb = wN X VW (VecWindow.window W ![0, 0] ![64, 80] wInb) t := by
  cases t with
  | zero => rfl
  | succ t => exact VecWindow.window_put_same W _ _ _ _
theorem wS_put (X : S64x16384.Idx → F .f32) (VW : S80x16384.Idx → F .bf16) (W : S64x128.Idx → F .f32) (t : ℕ) (w : S64x80.Idx → F .f32)
    (h : w = wN X VW (VecWindow.window W ![0, 0] ![64, 80] wInb) (t + 1)) : VecWindow.put (s := S64x128) (wS X VW W t) ![0, 0] ![64, 80] w = wS X VW W (t + 1) := by
  subst h
  cases t with
  | zero => rfl
  | succ t => exact VecWindow.put_put_same W _ _ _ _
theorem csS_window (X : S64x16384.Idx → F .f32) (C : S1152x128.Idx → F .f32) (k : ℕ) (hk : k < 18) (t : ℕ) :
    VecWindow.window (csS X C k hk t) ![64 * k, 0] ![64, 128] (rowInb k hk) = csN X (VecWindow.window C ![64 * k, 0] ![64, 128] (rowInb k hk)) t := by
  cases t with
  | zero => rfl
  | succ t => exact VecWindow.window_put_same C _ _ _ _
theorem csS_put (X : S64x16384.Idx → F .f32) (C : S1152x128.Idx → F .f32) (k : ℕ) (hk : k < 18) (t : ℕ) (w : S64x128.Idx → F .f32)
    (h : w = csN X (VecWindow.window C ![64 * k, 0] ![64, 128] (rowInb k hk)) (t + 1)) : VecWindow.put (s := S1152x128) (csS X C k hk t) ![64 * k, 0] ![64, 128] w = csS X C k hk (t + 1) := by
  subst h
  cases t with
  | zero => rfl
  | succ t => exact VecWindow.put_put_same C _ _ _ _

theorem iv3 : ∀ (t : Fin k0_t3_loop.trips) (r : Fin 4), Scalar.addi (Scalar.muli (Scf.iv 0#32 1#32 t.val) 4#32) (BitVec.ofNat 32 r.val) = BitVec.ofNat 32 (4 * t.val + r.val) := by
  decide +kernel

set_option backward.proofsInPublic true in
theorem t3_step (c : Dev nD) (k : Fin k0_t2_loop.trips) (v351 : BitVec 32)
    (X : S64x16384.Idx → F .f32) (VW : S80x16384.Idx → F .bf16) (W : S64x128.Idx → F .f32) (C : S1152x128.Idx → F .f32) (Q : S64x16384.Idx → F .fp8e4m3)
    (t : Fin k0_t3_loop.trips) :
    iprop(slotP c (s10 k.val) X ∗ vwP c VW ∗ wP c (wS X VW W t.val) ∗ csbP c (csS X C k.val (k_lt k) t.val) ∗ qslotP c (s2 k.val) (qS X Q t.val))
      ⊢ wp frame (wpE (defs₀ (F := F)) 𝒱₀ (c : Thread nD τ) none) Set.univ (k0_t3_body vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 0#32 1#32 k v351 t ())
        (fun _ => iprop(slotP c (s10 k.val) X ∗ vwP c VW ∗ wP c (wS X VW W (t.val + 1)) ∗ csbP c (csS X C k.val (k_lt k) (t.val + 1)) ∗ qslotP c (s2 k.val) (qS X Q (t.val + 1)))) := by
  generalize hW : wS X VW W t.val = Wt
  generalize hC : csS X C k.val (k_lt k) t.val = Ct
  generalize hQ : qS X Q t.val = Qt
  iintro ⟨Hx, Hvw, Hw, Hcs, Hq⟩
  sl_unfold [k0_t3_body]
  have ht := t3_lt t
  have w0 := q_within (s2 k.val) (4 * t.val + 0) (by omega) (p19_0 k t) (k0_off19_inb k t 0)
  have w1 := q_within (s2 k.val) (4 * t.val + 1) (by omega) (p19_1 k t) (k0_off19_inb k t 1)
  have w2 := q_within (s2 k.val) (4 * t.val + 2) (by omega) (p19_2 k t) (k0_off19_inb k t 2)
  have w3 := q_within (s2 k.val) (4 * t.val + 3) (by omega) (p19_3 k t) (k0_off19_inb k t 3)
  sl_exec
  sl_step
  have hx : ∀ {off : Fin 2 → ℕ} (n : ℕ) (h : off = ![0, 128 * n]) (inb : ∀ a, off a + S64x128.size a ≤ S64x16384.size a),
      (slot (s10 k.val)).view.readAt (Elt F) (Rect.unit (s := S64x16384) off S64x128.size inb).toLoadRect ((slot (s10 k.val)).view.rep X) = blk 128 X n :=
    by
    intro off n h inb
    rw [readAt_blk _ _ n h]
  isplitl [Hx]
  · iexact Hx
  isplitl [Hvw]
  · iexact Hvw
  isplitl [Hw]
  · iapply (whole_rep c wM (View.set_whole _) _ _ ?rw) $$ Hw
    case rw =>
      rw [View.read_writes_cons_put _ _ _ _ _ rfl, View.writes_nil, View.read_rep, ← hW]
      refine wS_put X VW W t.val _ ?_
      rw [wN, ← wS_window, hW]
      delta t3_step.sl.Hq_w4 t3_step.sl.Hq_w3 t3_step.sl.Hq_w2 t3_step.sl.Hq_w1 t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
      rw [View.readAt_rep_unit (Val := Elt F) wM.view Wt _ rfl wInb, readAt_blk (Val := Elt F) vwM.view VW t.val (k0_off20_eq t), hx _ (p17_0 t), hx _ (p17_1 t), hx _ (p17_2 t), hx _ (p17_3 t)]
      exact shapeCast_self _ _
  isplitl [Hcs]
  · iapply (whole_rep c csbM (View.set_whole _) _ _ ?rc) $$ Hcs
    case rc =>
      rw [View.read_writes_cons_put _ _ _ _ _ (k0_off15_eq k), View.writes_nil, View.read_rep, ← hC]
      refine csS_put X C k.val (k_lt k) t.val _ ?_
      rw [csN, ← csS_window X C k.val (k_lt k) t.val, hC]
      delta t3_step.sl.Hq_w4 t3_step.sl.Hq_w3 t3_step.sl.Hq_w2 t3_step.sl.Hq_w1 t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
      rw [View.readAt_rep_unit (Val := Elt F) csbM.view Ct _ (k0_off15_eq k) (rowInb k.val (k_lt k)), hx _ (p17_0 t), hx _ (p17_1 t), hx _ (p17_2 t), hx _ (p17_3 t)]
      unfold csUpd
      rw [show BitVec.ofNat 32 (4 * t.val + 1) = _ from (iv3 t 1).symm, show BitVec.ofNat 32 (4 * t.val + 2) = _ from (iv3 t 2).symm,
        show BitVec.ofNat 32 (4 * t.val + 3) = _ from (iv3 t 3).symm, show BitVec.ofNat 32 (4 * t.val + 0) = _ from (iv3 t 0).symm]
      exact shapeCast_self _ _
  · iapply (pointsTo_rep_of_read (c : Thread nD τ) (qslot (s2 k.val)) (t3_step.sl.Hq_w4 k X t Qt) fullShare _ ?rq) $$ Hq
    case rq =>
      have e0 : (qslot (s2 k.val)).view.read (Elt F) (t3_step.sl.Hq_w1 k X t Qt) = mix (4 * t.val + 1) (fun n => qB (blk 128 X n)) Q := by
        refine (q_write (s2 k.val) (4 * t.val + 0) (p19_0 k t) (k0_off19_inb k t 0) _ _).trans ?_
        rw [show (qslot (s2 k.val)).view.read (Elt F) ((qslot (s2 k.val)).view.rep Qt) = _ from (View.read_rep _ _).trans (hQ.symm.trans (qS_eq X Q t.val))]
        refine put_mix (4 * t.val + 0) _ Q _ ?_ rfl
        delta t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
        rw [hx _ (p17_0 t)]; exact cast_ix3 (qB (blk 128 X (4 * t.val + 0)))
      have e1 : (qslot (s2 k.val)).view.read (Elt F) (t3_step.sl.Hq_w2 k X t Qt) = mix (4 * t.val + 2) (fun n => qB (blk 128 X n)) Q := by
        refine (q_write (s2 k.val) (4 * t.val + 1) (p19_1 k t) (k0_off19_inb k t 1) _ _).trans ?_
        rw [e0]
        refine put_mix (4 * t.val + 1) _ Q _ ?_ rfl
        delta t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
        rw [hx _ (p17_1 t)]; exact cast_ix3 (qB (blk 128 X (4 * t.val + 1)))
      have e2 : (qslot (s2 k.val)).view.read (Elt F) (t3_step.sl.Hq_w3 k X t Qt) = mix (4 * t.val + 3) (fun n => qB (blk 128 X n)) Q := by
        refine (q_write (s2 k.val) (4 * t.val + 2) (p19_2 k t) (k0_off19_inb k t 2) _ _).trans ?_
        rw [e1]
        refine put_mix (4 * t.val + 2) _ Q _ ?_ rfl
        delta t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
        rw [hx _ (p17_2 t)]; exact cast_ix3 (qB (blk 128 X (4 * t.val + 2)))
      have e3 : (qslot (s2 k.val)).view.read (Elt F) (t3_step.sl.Hq_w4 k X t Qt) = mix (4 * t.val + 4) (fun n => qB (blk 128 X n)) Q := by
        refine (q_write (s2 k.val) (4 * t.val + 3) (p19_3 k t) (k0_off19_inb k t 3) _ _).trans ?_
        rw [e2]
        refine put_mix (4 * t.val + 3) _ Q _ ?_ rfl
        delta t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
        rw [hx _ (p17_3 t)]; exact cast_ix3 (qB (blk 128 X (4 * t.val + 3)))
      exact e3

set_option warn.classDefReducibility false in
@[sl_loop] def loopInv3 (c : Dev nD) (k : Fin k0_t2_loop.trips) (v351 : BitVec 32)
    (X : S64x16384.Idx → F .f32) (VW : S80x16384.Idx → F .bf16) (W : S64x128.Idx → F .f32) (C : S1152x128.Idx → F .f32) (Q : S64x16384.Idx → F .fp8e4m3) :
    LoopInvTy_k0_t3 (F := F) Unit ℕ (UU nD τ) ℕ 𝒱₀ c none Set.univ vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 0#32 1#32 k v351 where
  inv t _ := iprop(slotP c (s10 k.val) X ∗ vwP c VW ∗ wP c (wS X VW W t) ∗ csbP c (csS X C k.val (k_lt k) t) ∗ qslotP c (s2 k.val) (qS X Q t))
  step t _ := t3_step c k v351 X VW W C Q t

end Cert.Kernel.Hand

end
-- ==== Proof.KT1.lean ====
/-
  One trip of the loop that scales and quantises the panel.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.VecWindow
public import Idealize.ShloMosaic.Lib.Tactic
public import Idealize.ShloMosaic.Lib.Pointwise.Index
public import Idealize.ShloMosaic.Lib.Pipeline.Value
public import proofs.«01_k».proof.Proof.KNames
public import proofs.«01_k».proof.Proof.KT4
public import proofs.«01_k».proof.Proof.KT3

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ
abbrev atP (c : Dev nD) (A : S72x16384.Idx → F .f32) : sProp 𝕄 := atM.view.loc (c : Thread nD τ) ↦{fullShare} atM.view.rep A
abbrev vqoP (c : Dev nD) (V : S72x16384.Idx → F .fp8e4m3) : sProp 𝕄 := vqoM.view.loc (c : Thread nD τ) ↦{fullShare} vqoM.view.rep V

/-- The contents before trip `t` of a buffer the loop fills in blocks of 128 columns, four a trip. -/
def mixT {α : Type} {R : ℕ} (t : ℕ) (B : ℕ → (Sh R 128).Idx → α) (X : (Sh R 16384).Idx → α) : (Sh R 16384).Idx → α :=
  match t with
  | 0 => X
  | n + 1 => mix (4 * (n + 1)) B X
omit [FloatOps F] in
theorem mixT_eq {α : Type} {R : ℕ} (t : ℕ) (B : ℕ → (Sh R 128).Idx → α) (X : (Sh R 16384).Idx → α) : mixT t B X = mix (4 * t) B X := by
  cases t with
  | zero => exact (mix_zero _ _).symm
  | succ t => rfl

/-- The scale of a block of 128 columns of the panel, on every lane, -/
def scV (x : S72x128.Idx → F .f32) : FVec F S1x128 .f32 := k0_pay4 (k0_pay1 x) (k0_pay2 x) (k0_pay3 x) (Scalar.ofBits .f32 0x43800000#32)
/-- its codes, padded to 96 rows, -/
def qV96 (x : S72x128.Idx → F .f32) : FVec F S96x128 .fp8e4m3 := k0_pay6 x (k0_pay1 x) (k0_pay2 x) (k0_pay3 x) (Scalar.ofBits .f32 0x43800000#32)
/-- its codes, -/
def qV72 (x : S72x128.Idx → F .f32) : FVec F S72x128 .fp8e4m3 := k0_pay8 x (k0_pay1 x) (k0_pay2 x) (k0_pay3 x) (Scalar.ofBits .f32 0x43800000#32)
/-- and its codes times the scale, padded to 80 rows. -/
def dqV (x : S72x128.Idx → F .f32) : FVec F S80x128 .bf16 := k0_pay10 (scV x) (qV96 x)
/-- The row of scales with lane `n` from block `n`. -/
def vsUpd (v104 : IVec S1x128 32) (n : ℕ) (x : S72x128.Idx → F .f32) (acc : FVec F S1x128 .f32) : FVec F S1x128 .f32 :=
  select (cmpi .eq v104 (broadcast S1x128 (BitVec.ofNat 32 n))) (scV x) acc
/-- The row of scales before trip `t`. -/
def vsN (v104 : IVec S1x128 32) (A : S72x16384.Idx → F .f32) (init : FVec F S1x128 .f32) : ℕ → FVec F S1x128 .f32
  | 0 => init
  | t + 1 => vsUpd v104 (4 * t + 3) (blk 128 A (4 * t + 3)) (vsUpd v104 (4 * t + 2) (blk 128 A (4 * t + 2)) (vsUpd v104 (4 * t + 1) (blk 128 A (4 * t + 1))
      (vsUpd v104 (4 * t + 0) (blk 128 A (4 * t + 0)) (vsN v104 A init t))))

/-- What the loop holds before trip `t`. -/
abbrev inv1 (c : Dev nD) (A : S72x16384.Idx → F .f32) (VQ : S96x16384.Idx → F .fp8e4m3) (VQO : S72x16384.Idx → F .fp8e4m3) (VW : S80x16384.Idx → F .bf16)
    (VS : S1x16384.Idx → F .f32) (t : ℕ) : sProp 𝕄 :=
  iprop(atP c A ∗ vqP c (mixT t (fun n => qV96 (blk 128 A n)) VQ) ∗ vqoP c (mixT t (fun n => qV72 (blk 128 A n)) VQO)
    ∗ vwP c (mixT t (fun n => dqV (blk 128 A n)) VW) ∗ vsrP c (mixT t (fun n => scV (blk 128 A n)) VS))

theorem iv1 : ∀ (t : Fin k0_t1_loop.trips) (r : Fin 4), Scalar.addi (Scalar.muli (Scf.iv 0#32 1#32 t.val) 4#32) (BitVec.ofNat 32 r.val) = BitVec.ofNat 32 (4 * t.val + r.val) := by
  decide +kernel

set_option backward.proofsInPublic true in
theorem t1_step (c : Dev nD) (v104 : IVec S1x128 32) (v105 : FVec F S1x128 .f32)
    (A : S72x16384.Idx → F .f32) (VQ : S96x16384.Idx → F .fp8e4m3) (VQO : S72x16384.Idx → F .fp8e4m3) (VW : S80x16384.Idx → F .bf16) (VS : S1x16384.Idx → F .f32)
    (init : FVec F S1x128 .f32) (t : Fin k0_t1_loop.trips) :
    inv1 c A VQ VQO VW VS t.val
      ⊢ wp frame (wpE (defs₀ (F := F)) 𝒱₀ (c : Thread nD τ) none) Set.univ (k0_t1_body vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 t (vsN v104 A init t.val))
        (fun r => iprop(inv1 c A VQ VQO VW VS (t.val + 1) ∗ ⌜r = vsN v104 A init (t.val + 1)⌝)) := by
  generalize hacc : vsN v104 A init t.val = acc
  unfold inv1
  generalize h1 : mixT t.val (fun n => qV96 (blk 128 A n)) VQ = VQt
  generalize h2 : mixT t.val (fun n => qV72 (blk 128 A n)) VQO = VQOt
  generalize h3 : mixT t.val (fun n => dqV (blk 128 A n)) VW = VWt
  generalize h4 : mixT t.val (fun n => scV (blk 128 A n)) VS = VSt
  have ht := t1_lt t
  iintro ⟨Ha, Hvq, Hvqo, Hvw, Hvs⟩
  sl_unfold [k0_t1_body]
  sl_exec
  sl_step
  have hx : ∀ {off : Fin 2 → ℕ} (n : ℕ) (h : off = ![0, 128 * n]) (inb : ∀ a, off a + S72x128.size a ≤ S72x16384.size a),
      atM.view.readAt (Elt F) (Rect.unit (s := S72x16384) off S72x128.size inb).toLoadRect (atM.view.rep A) = blk 128 A n := by
    intro off n h inb
    rw [readAt_blk _ _ n h]
  isplitl [Ha Hvq Hvqo Hvw Hvs]
  · isplitl [Ha]
    · iexact Ha
    isplitl [Hvq]
    · iapply (whole_rep c vqM (View.set_whole _) _ _ ?rHvq) $$ Hvq
      case rHvq =>
        rw [View.read_writes_cons_put _ _ _ _ _ (p5_3 t), View.read_writes_cons_put _ _ _ _ _ (p5_2 t), View.read_writes_cons_put _ _ _ _ _ (p5_1 t),
          View.read_writes_cons_put _ _ _ _ _ (p5_0 t), View.writes_nil, View.read_rep, ← h1, mixT_eq, mixT_eq]
        rw [put_mix _ _ _ _ ?b0 rfl, put_mix _ _ _ _ ?b1 rfl, put_mix _ _ _ _ ?b2 rfl, put_mix _ _ _ _ ?b3 rfl]
        · rfl
        case b0 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_0 t)]; exact shapeCast_self _ _
        case b1 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_1 t)]; exact shapeCast_self _ _
        case b2 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_2 t)]; exact shapeCast_self _ _
        case b3 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_3 t)]; exact shapeCast_self _ _
    isplitl [Hvqo]
    · iapply (whole_rep c vqoM (View.set_whole _) _ _ ?rHvqo) $$ Hvqo
      case rHvqo =>
        rw [View.read_writes_cons_put _ _ _ _ _ (p4_3 t), View.read_writes_cons_put _ _ _ _ _ (p4_2 t), View.read_writes_cons_put _ _ _ _ _ (p4_1 t),
          View.read_writes_cons_put _ _ _ _ _ (p4_0 t), View.writes_nil, View.read_rep, ← h2, mixT_eq, mixT_eq]
        rw [put_mix _ _ _ _ ?b0 rfl, put_mix _ _ _ _ ?b1 rfl, put_mix _ _ _ _ ?b2 rfl, put_mix _ _ _ _ ?b3 rfl]
        · rfl
        case b0 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_0 t)]; exact shapeCast_self _ _
        case b1 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_1 t)]; exact shapeCast_self _ _
        case b2 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_2 t)]; exact shapeCast_self _ _
        case b3 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_3 t)]; exact shapeCast_self _ _
    isplitl [Hvw]
    · iapply (whole_rep c vwM (View.set_whole _) _ _ ?rHvw) $$ Hvw
      case rHvw =>
        rw [View.read_writes_cons_put _ _ _ _ _ (p6_3 t), View.read_writes_cons_put _ _ _ _ _ (p6_2 t), View.read_writes_cons_put _ _ _ _ _ (p6_1 t),
          View.read_writes_cons_put _ _ _ _ _ (p6_0 t), View.writes_nil, View.read_rep, ← h3, mixT_eq, mixT_eq]
        rw [put_mix _ _ _ _ ?b0 rfl, put_mix _ _ _ _ ?b1 rfl, put_mix _ _ _ _ ?b2 rfl, put_mix _ _ _ _ ?b3 rfl]
        · rfl
        case b0 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_0 t)]; exact rfl
        case b1 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_1 t)]; exact rfl
        case b2 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_2 t)]; exact rfl
        case b3 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_3 t)]; exact rfl
    · iapply (whole_rep c vsrM (View.set_whole _) _ _ ?rHvs) $$ Hvs
      case rHvs =>
        rw [View.read_writes_cons_put _ _ _ _ _ (p7_3 t), View.read_writes_cons_put _ _ _ _ _ (p7_2 t), View.read_writes_cons_put _ _ _ _ _ (p7_1 t),
          View.read_writes_cons_put _ _ _ _ _ (p7_0 t), View.writes_nil, View.read_rep, ← h4, mixT_eq, mixT_eq]
        rw [put_mix _ _ _ _ ?b0 rfl, put_mix _ _ _ _ ?b1 rfl, put_mix _ _ _ _ ?b2 rfl, put_mix _ _ _ _ ?b3 rfl]
        · rfl
        case b0 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_0 t)]; exact shapeCast_self _ _
        case b1 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_1 t)]; exact shapeCast_self _ _
        case b2 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_2 t)]; exact shapeCast_self _ _
        case b3 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_3 t)]; exact shapeCast_self _ _
  · ipureintro
    rw [vsN, hacc]
    delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398 t1_step.sl.v664 t1_step.sl.v559 t1_step.sl.v454 t1_step.sl.v349 t1_step.sl.v348 t1_step.sl.arg31
    rw [hx _ (p4_0 t), hx _ (p4_1 t), hx _ (p4_2 t), hx _ (p4_3 t)]
    unfold vsUpd
    rw [show BitVec.ofNat 32 (4 * t.val + 1) = _ from (iv1 t 1).symm, show BitVec.ofNat 32 (4 * t.val + 2) = _ from (iv1 t 2).symm,
        show BitVec.ofNat 32 (4 * t.val + 3) = _ from (iv1 t 3).symm, show BitVec.ofNat 32 (4 * t.val + 0) = _ from (iv1 t 0).symm]
    rfl

set_option warn.classDefReducibility false in
@[sl_loop] def loopInv1 (c : Dev nD) (v104 : IVec S1x128 32) (v105 : FVec F S1x128 .f32)
    (A : S72x16384.Idx → F .f32) (VQ : S96x16384.Idx → F .fp8e4m3) (VQO : S72x16384.Idx → F .fp8e4m3) (VW : S80x16384.Idx → F .bf16) (VS : S1x16384.Idx → F .f32)
    (init : FVec F S1x128 .f32) :
    LoopInvTy_k0_t1 (F := F) Unit ℕ (UU nD τ) ℕ 𝒱₀ c none Set.univ vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 init where
  inv t acc := iprop(inv1 c A VQ VQO VW VS t ∗ ⌜acc = vsN v104 A init t⌝)
  step t acc := by
    iintro ⟨H, %h⟩
    subst h
    iapply (t1_step c v104 v105 A VQ VQO VW VS init t) $$ H

end Cert.Kernel.Hand

end
-- ==== Proof.KT2.lean ====
/-
  One trip of the loop over the chunks: its resources, what it computes, and the four cases of which transfers it waits for and starts.
-/
module

public import proofs.«01_k».proof.Proof.KT1
public import proofs.«01_k».proof.Proof.KT3

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

/-! ## Resources of one chunk -/

section Res
variable (c : Dev nD) (cH : Buf (Elt F) (cM.view.loc (c : Thread nD τ)))

abbrev ttP (TT : S128x128.Idx → F .f32) : sProp 𝕄 := ttM.view.loc (c : Thread nD τ) ↦{fullShare} ttM.view.rep TT
abbrev yfP (Y : S1152x128.Idx → F .f32) : sProp 𝕄 := yfM.view.loc (c : Thread nD τ) ↦{fullShare} yfM.view.rep Y
abbrev ysfP (Y : S1152x128.Idx → F .f32) : sProp 𝕄 := ysfM.view.loc (c : Thread nD τ) ↦{fullShare} ysfM.view.rep Y
/-- Chunk `j` of the trailing matrix, in HBM. -/
abbrev cblkP (j : Fin 18) : sProp 𝕄 := (cblk j).view.loc (c : Thread nD τ) ↦[(cblk j).view.set]{fullShare} cH
abbrev oblkP (j : Fin 18) (X : S64x16384.Idx → F .f32) : sProp 𝕄 := (oblk j).view.loc (c : Thread nD τ) ↦[(oblk j).view.set]{fullShare} (oblk j).view.rep X
abbrev qblkP (j : Fin 18) (X : S64x16384.Idx → F .fp8e4m3) : sProp 𝕄 := (qblk j).view.loc (c : Thread nD τ) ↦[(qblk j).view.set]{fullShare} (qblk j).view.rep X
/-- The words of chunk `j`. -/
def chunk (j : Fin 18) : S64x16384.Idx → F .f32 := (cblk j).view.read (Elt F) cH
abbrev inCellP (s : Fin 10) : sProp 𝕄 := semVal ((c : Thread nD τ), SemLoc.dma (inC s).sem) 0
abbrev outCellP (s : Fin 10) : sProp 𝕄 := semVal ((c : Thread nD τ), SemLoc.dma (outC s).sem) 0
abbrev qCellP (s : Fin 2) : sProp 𝕄 := semVal ((c : Thread nD τ), SemLoc.dma (qC s).sem) 0
abbrev flyIn (s : Fin 10) (j : Fin 18) : sProp 𝕄 :=
  Transfers.Flight countersEmb (c : Thread nD τ) (SemLoc.dma (inC s).sem) () 131072 iprop(slotP c s (chunk c cH j) ∗ cblkP c cH j)
abbrev flyOut (s : Fin 10) (j : Fin 18) (X : S64x16384.Idx → F .f32) : sProp 𝕄 :=
  Transfers.Flight countersEmb (c : Thread nD τ) (SemLoc.dma (outC s).sem) () 131072 iprop(oblkP c j X ∗ slotP c s X)
abbrev flyQ (s : Fin 2) (j : Fin 18) (X : S64x16384.Idx → F .fp8e4m3) : sProp 𝕄 :=
  Transfers.Flight countersEmb (c : Thread nD τ) (SemLoc.dma (qC s).sem) () 32768 iprop(qblkP c j X ∗ qslotP c s X)

end Res

/-! ## What a chunk computes -/

theorem t3_trips : k0_t3_loop.trips = 32 := by decide +kernel
theorem t4_trips : k0_t4_loop.trips = 32 := by decide +kernel

/-- A table with the 64 rows of chunk `k` replaced. -/
def putRow (C : S1152x128.Idx → F .f32) (k : ℕ) (x : S64x128.Idx → F .f32) : S1152x128.Idx → F .f32 :=
  VecWindow.put (s := S1152x128) C ![64 * k, 0] ![64, 128] x
/-- The chunk's product with the panel. -/
def wOf (X : S64x16384.Idx → F .f32) (VW : S80x16384.Idx → F .bf16) : S64x128.Idx → F .f32 := wS X VW (k0_pay86 (F := F)) 32
/-- The chunk's scales. -/
def csOf (X : S64x16384.Idx → F .f32) : S64x128.Idx → F .f32 := csN X (k0_pay87 (F := F)) 32
/-- The chunk's codes. -/
def qOf (X : S64x16384.Idx → F .f32) : S64x16384.Idx → F .fp8e4m3 := full (fun n => qB (blk 128 X n))
/-- The rows of `Y` as codes, in f32, and their scales, over the lanes, -/
def yfOf (w : S64x128.Idx → F .f32) (tt : S128x128.Idx → F .f32) : S64x128.Idx → F .f32 :=
  k0_pay93 (k0_pay88 w tt) (k0_pay89 w tt) (k0_pay90 w tt) (Scalar.ofBits .f32 0x41800000#32)
def ysfOf (w : S64x128.Idx → F .f32) (tt : S128x128.Idx → F .f32) : S64x128.Idx → F .f32 :=
  k0_pay94 (k0_pay89 w tt) (k0_pay90 w tt) (Scalar.ofBits .f32 0x41800000#32)
/-- and as the product takes them. -/
def yqOf (w : S64x128.Idx → F .f32) (tt : S128x128.Idx → F .f32) : FVec F S64x96 .fp8e4m3 :=
  k0_pay95 (k0_pay88 w tt) (k0_pay89 w tt) (k0_pay90 w tt) (Scalar.ofBits .f32 0x41800000#32)
def ysOf (w : S64x128.Idx → F .f32) (tt : S128x128.Idx → F .f32) : FVec F S64x1 .f32 :=
  k0_pay96 (k0_pay89 w tt) (k0_pay90 w tt) (Scalar.ofBits .f32 0x41800000#32)
/-- The chunk updated. -/
def oOf (X : S64x16384.Idx → F .f32) (VW : S80x16384.Idx → F .bf16) (tt : S128x128.Idx → F .f32)
    (VQ : S96x16384.Idx → F .fp8e4m3) (VS : S1x16384.Idx → F .f32) : S64x16384.Idx → F .f32 :=
  full (updB (yqOf (wOf X VW) tt) (k0_pay107 (ysOf (wOf X VW) tt)) VQ VS X)

theorem cs_put (X : S64x16384.Idx → F .f32) (C : S1152x128.Idx → F .f32) (k : ℕ) (hk : k < 18) :
    csS X (putRow C k (k0_pay87 (F := F))) k hk 32 = putRow C k (csOf X) := by
  have h : VecWindow.window (putRow C k (k0_pay87 (F := F))) ![64 * k, 0] ![64, 128] (rowInb k hk) = k0_pay87 (F := F) :=
    VecWindow.window_put_same C _ _ _ _
  have e : csS X (putRow C k (k0_pay87 (F := F))) k hk 32
      = VecWindow.put (s := S1152x128) (putRow C k (k0_pay87 (F := F))) ![64 * k, 0] ![64, 128] (csN X (VecWindow.window (putRow C k (k0_pay87 (F := F))) ![64 * k, 0] ![64, 128] (rowInb k hk)) 32) := rfl
  rw [e, h]; exact VecWindow.put_put_same C _ _ _ _

set_option backward.proofsInPublic true in
theorem trip_zero (c : Dev nD) (cH : Buf (Elt F) (cM.view.loc (c : Thread nD τ)))
    (v104 : IVec S1x128 32) (v105 : FVec F S1x128 .f32) (k : Fin k0_t2_loop.trips) (h0 : k.val = 0)
    (VQ : S96x16384.Idx → F .fp8e4m3) (VW : S80x16384.Idx → F .bf16) (VS : S1x16384.Idx → F .f32) (TT : S128x128.Idx → F .f32)
    (C Y YS : S1152x128.Idx → F .f32) (W : S64x128.Idx → F .f32) (Xo : S64x16384.Idx → F .f32) (Q : S64x16384.Idx → F .fp8e4m3)
    (O : Buf (Elt F) ((oblk (b18 k.val)).view.loc (c : Thread nD τ))) (QQ : Buf (Elt F) ((qblk (b18 k.val)).view.loc (c : Thread nD τ))) :
    iprop(vqP c VQ ∗ vwP c VW ∗ vsrP c VS ∗ ttP c TT ∗ csbP c C ∗ yfP c Y ∗ ysfP c YS ∗ wP c W
        ∗ (∃ w, owes (c : Thread nD τ) 0 w)
        ∗ qslotP c (s2 k.val) Q ∗ qCellP c (s2 k.val) ∗ flyIn c cH (s10 k.val) (b18 k.val)
        ∗ ((qblk (b18 k.val)).view.loc (c : Thread nD τ) ↦[(qblk (b18 k.val)).view.set]{fullShare} QQ) ∗ outCellP c (s10 k.val)
        ∗ ((oblk (b18 k.val)).view.loc (c : Thread nD τ) ↦[(oblk (b18 k.val)).view.set]{fullShare} O))
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => iprop(vqP c VQ ∗ vwP c VW ∗ vsrP c VS ∗ ttP c TT ∗ csbP c (putRow C k.val (csOf (chunk c cH (b18 k.val))))
            ∗ yfP c (putRow Y k.val (yfOf (wOf (chunk c cH (b18 k.val)) VW) TT)) ∗ ysfP c (putRow YS k.val (ysfOf (wOf (chunk c cH (b18 k.val)) VW) TT))
            ∗ (∃ W, wP c W) ∗ (∃ w, owes (c : Thread nD τ) 0 w)
            ∗ flyQ c (s2 k.val) (b18 k.val) (qOf (chunk c cH (b18 k.val))) ∗ cblkP c cH (b18 k.val) ∗ inCellP c (s10 k.val)
            ∗ flyOut c (s10 k.val) (b18 k.val) (oOf (chunk c cH (b18 k.val)) VW TT VQ VS))) := by
  have hc1 : ¬ k0_cond1 k = 1#1 := fun h => by have := (cond1_iff k).1 h; omega
  have hc2 : ¬ k0_cond2 k = 1#1 := fun h => by have := (cond2_iff k).1 h; omega
  iintro ⟨Hvq, Hvw, Hvs, Htt, Hcs, Hy, Hys, Hw, ⟨%ow, HO⟩, Hqs, Hqc, Hfi, Hqb, Hoc, Hob⟩
  sl_unfold [k0_t2_body]
  sl_exec
  ihave Hw := (whole_rep c wM (View.set_whole _) _ (k0_pay86 (F := F)) ?hw0) $$ Hw
  case hw0 => exact View.read_writes_full _ _ _ _ _
  ihave Hcs := (whole_rep c csbM (View.set_whole _) _ (putRow C k.val (k0_pay87 (F := F))) ?hc0) $$ Hcs
  case hc0 => rw [View.read_writes_cons_put _ _ _ _ _ (k0_off14_eq k), View.writes_nil, View.read_rep]; rfl
  sl_exec
  have hk18 := k_lt k
  have et3 : Scf.trips k0_t3_loop.lb k0_t3_loop.ub k0_t3_loop.st = 32 := t3_trips
  have et4 : Scf.trips k0_t4_loop.lb k0_t4_loop.ub k0_t4_loop.st = 32 := t4_trips
  have hw : wS (chunk c cH (b18 k.val)) VW (shapeCast S64x128 (broadcast S64x128 (FloatOps.ofBits FTy.f32 0#32)) shapeCasts_S64x128_S64x128)
        (Scf.trips k0_t3_loop.lb k0_t3_loop.ub k0_t3_loop.st) = wOf (chunk c cH (b18 k.val)) VW := by
    rw [et3]; rfl
  have e0 : trip_zero.sl.r c cH k VW TT = k0_pay88 (wOf (chunk c cH (b18 k.val)) VW) TT := by
    delta trip_zero.sl.r trip_zero.sl.v381; rw [View.readAt_rep_full, View.readAt_rep_full, ← hw]
  have e1 : trip_zero.sl.r_1 c cH k VW TT = k0_pay89 (wOf (chunk c cH (b18 k.val)) VW) TT := by
    delta trip_zero.sl.r_1 trip_zero.sl.v381; rw [View.readAt_rep_full, View.readAt_rep_full, ← hw]
  have e2 : trip_zero.sl.r_2 c cH k VW TT = k0_pay90 (wOf (chunk c cH (b18 k.val)) VW) TT := by
    delta trip_zero.sl.r_2 trip_zero.sl.v381; rw [View.readAt_rep_full, View.readAt_rep_full, ← hw]
  have e3 : trip_zero.sl.r_3 c cH k VW TT = yqOf (wOf (chunk c cH (b18 k.val)) VW) TT := by
    delta trip_zero.sl.r_3; rw [e0, e1, e2]; rfl
  have e4 : trip_zero.sl.r_4 c cH k VW TT = ysOf (wOf (chunk c cH (b18 k.val)) VW) TT := by
    delta trip_zero.sl.r_4; rw [e1, e2]; rfl
  have eq : qS (chunk c cH (b18 k.val)) Q (Scf.trips k0_t3_loop.lb k0_t3_loop.ub k0_t3_loop.st) = qOf (chunk c cH (b18 k.val)) := by
    rw [et3, qS_eq]; exact mix_full _ _
  have eo : updS (trip_zero.sl.r_3 c cH k VW TT) (trip_zero.sl.r_4 c cH k VW TT) VQ VS (View.read (Elt F) (cblk (b18 k.val)).view cH)
      (Scf.trips k0_t4_loop.lb k0_t4_loop.ub k0_t4_loop.st) = oOf (chunk c cH (b18 k.val)) VW TT VQ VS := by
    rw [et4, updS_eq, e3, e4]; exact mix_full _ _
  sl_step
  isplitl [Hvq]; · iexact Hvq
  isplitl [Hvw]; · iexact Hvw
  isplitl [Hvs]; · iexact Hvs
  isplitl [Htt]; · iexact Htt
  isplitl [Hcs]
  · iapply (entails_of_eq (congrArg (csbP c) (show csS (chunk c cH (b18 k.val)) (VecWindow.put (s := S1152x128) C ![64 * k.val, 0] ![64, 128] (k0_pay87 (F := F))) k.val (k_lt k) (Scf.trips k0_t3_loop.lb k0_t3_loop.ub k0_t3_loop.st) = _ from by
      rw [et3]; exact cs_put _ _ _ _))) $$ Hcs
  isplitl [Hy]
  · iapply (whole_rep c yfM (View.set_whole _) _ _ ?hy) $$ Hy
    case hy => rw [View.read_writes_cons_put _ _ _ _ _ (k0_off14_eq k), View.writes_nil, View.read_rep, e0, e1, e2]; rfl
  isplitl [Hys]
  · iapply (whole_rep c ysfM (View.set_whole _) _ _ ?hy) $$ Hys
    case hy => rw [View.read_writes_cons_put _ _ _ _ _ (k0_off14_eq k), View.writes_nil, View.read_rep, e1, e2]; rfl
  isplitl [Hw]; · iexists _; iexact Hw
  isplitl [HO]; · iexists _; iexact HO
  isplitl [Hqc]
  · iapply (Transfers.Flight_mono countersEmb (c : Thread nD τ) ?m) $$ Hqc
    case m =>
      iintro ⟨Hd, Hs⟩
      isplitl [Hd]
      · iapply (pointsTo_rep_of_read (c : Thread nD τ) (qblk (b18 k.val)) _ fullShare _ ?h) $$ Hd
        case h => rw [View.read_writes_whole]; exact (View.read_rep _ _).trans eq
      · iapply (entails_of_eq (congrArg (qslotP c (s2 k.val)) eq)) $$ Hs
  isplitl [Hfi_src]; · iexact Hfi_src
  isplitl [Hfi]; · iexact Hfi
  iapply (Transfers.Flight_mono countersEmb (c : Thread nD τ) ?m) $$ Hoc
  case m =>
      iintro ⟨Hd, Hs⟩
      isplitl [Hd]
      · iapply (pointsTo_rep_of_read (c : Thread nD τ) (oblk (b18 k.val)) _ fullShare _ ?h) $$ Hd
        case h => rw [View.read_writes_whole]; exact (View.read_rep _ _).trans eo
      · iapply (entails_of_eq (congrArg (slotP c (s10 k.val)) eo)) $$ Hs

set_option backward.proofsInPublic true in
theorem trip_one (c : Dev nD) (cH : Buf (Elt F) (cM.view.loc (c : Thread nD τ)))
    (v104 : IVec S1x128 32) (v105 : FVec F S1x128 .f32) (k : Fin k0_t2_loop.trips) (h0 : k.val = 1) (h1 : 1 ≤ k.val)
    (VQ : S96x16384.Idx → F .fp8e4m3) (VW : S80x16384.Idx → F .bf16) (VS : S1x16384.Idx → F .f32) (TT : S128x128.Idx → F .f32)
    (C Y YS : S1152x128.Idx → F .f32) (W : S64x128.Idx → F .f32) (Xo : S64x16384.Idx → F .f32) (Q : S64x16384.Idx → F .fp8e4m3)
    (O : Buf (Elt F) ((oblk (b18 k.val)).view.loc (c : Thread nD τ))) (QQ : Buf (Elt F) ((qblk (b18 k.val)).view.loc (c : Thread nD τ))) :
    iprop(vqP c VQ ∗ vwP c VW ∗ vsrP c VS ∗ ttP c TT ∗ csbP c C ∗ yfP c Y ∗ ysfP c YS ∗ wP c W
        ∗ (∃ w, owes (c : Thread nD τ) 0 w)
        ∗ qslotP c (s2 k.val) Q ∗ qCellP c (s2 k.val) ∗ flyIn c cH (s10 k.val) (b18 k.val)
        ∗ ((qblk (b18 k.val)).view.loc (c : Thread nD τ) ↦[(qblk (b18 k.val)).view.set]{fullShare} QQ) ∗ outCellP c (s10 k.val)
        ∗ ((oblk (b18 k.val)).view.loc (c : Thread nD τ) ↦[(oblk (b18 k.val)).view.set]{fullShare} O) ∗ flyOut c (s10 (k.val + 9)) (b18 (k.val - 1)) Xo ∗ inCellP c (s10 (k.val + 9)) ∗ cblkP c cH (b18 (k.val + 9)))
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => iprop(vqP c VQ ∗ vwP c VW ∗ vsrP c VS ∗ ttP c TT ∗ csbP c (putRow C k.val (csOf (chunk c cH (b18 k.val))))
            ∗ yfP c (putRow Y k.val (yfOf (wOf (chunk c cH (b18 k.val)) VW) TT)) ∗ ysfP c (putRow YS k.val (ysfOf (wOf (chunk c cH (b18 k.val)) VW) TT))
            ∗ (∃ W, wP c W) ∗ (∃ w, owes (c : Thread nD τ) 0 w)
            ∗ flyQ c (s2 k.val) (b18 k.val) (qOf (chunk c cH (b18 k.val))) ∗ cblkP c cH (b18 k.val) ∗ inCellP c (s10 k.val)
            ∗ flyOut c (s10 k.val) (b18 k.val) (oOf (chunk c cH (b18 k.val)) VW TT VQ VS) ∗ oblkP c (b18 (k.val - 1)) Xo ∗ flyIn c cH (s10 (k.val + 9)) (b18 (k.val + 9)) ∗ outCellP c (s10 (k.val + 9)))) := by
  have hc1 : ¬ k0_cond1 k = 1#1 := fun h => by have := (cond1_iff k).1 h; omega
  have h8 : k.val ≤ 8 := by omega
  have hc2 : k0_cond2 k = 1#1 := (cond2_iff k).2 ⟨h1, by omega⟩
  iintro ⟨Hvq, Hvw, Hvs, Htt, Hcs, Hy, Hys, Hw, ⟨%ow, HO⟩, Hqs, Hqc, Hfi, Hqb, Hoc, Hob, Hfo, Hic, Hcb⟩
  sl_unfold [k0_t2_body]
  sl_exec
  ihave Hw := (whole_rep c wM (View.set_whole _) _ (k0_pay86 (F := F)) ?hw0) $$ Hw
  case hw0 => exact View.read_writes_full _ _ _ _ _
  ihave Hcs := (whole_rep c csbM (View.set_whole _) _ (putRow C k.val (k0_pay87 (F := F))) ?hc0) $$ Hcs
  case hc0 => rw [View.read_writes_cons_put _ _ _ _ _ (k0_off14_eq k), View.writes_nil, View.read_rep]; rfl
  sl_exec
  have hk18 := k_lt k
  have et3 : Scf.trips k0_t3_loop.lb k0_t3_loop.ub k0_t3_loop.st = 32 := t3_trips
  have et4 : Scf.trips k0_t4_loop.lb k0_t4_loop.ub k0_t4_loop.st = 32 := t4_trips
  have hw : wS (chunk c cH (b18 k.val)) VW (shapeCast S64x128 (broadcast S64x128 (FloatOps.ofBits FTy.f32 0#32)) shapeCasts_S64x128_S64x128)
        (Scf.trips k0_t3_loop.lb k0_t3_loop.ub k0_t3_loop.st) = wOf (chunk c cH (b18 k.val)) VW := by
    rw [et3]; rfl
  have e0 : trip_one.sl.r c cH k VW TT = k0_pay88 (wOf (chunk c cH (b18 k.val)) VW) TT := by
    delta trip_one.sl.r trip_one.sl.v381; rw [View.readAt_rep_full, View.readAt_rep_full, ← hw]
  have e1 : trip_one.sl.r_1 c cH k VW TT = k0_pay89 (wOf (chunk c cH (b18 k.val)) VW) TT := by
    delta trip_one.sl.r_1 trip_one.sl.v381; rw [View.readAt_rep_full, View.readAt_rep_full, ← hw]
  have e2 : trip_one.sl.r_2 c cH k VW TT = k0_pay90 (wOf (chunk c cH (b18 k.val)) VW) TT := by
    delta trip_one.sl.r_2 trip_one.sl.v381; rw [View.readAt_rep_full, View.readAt_rep_full, ← hw]
  have e3 : trip_one.sl.r_3 c cH k VW TT = yqOf (wOf (chunk c cH (b18 k.val)) VW) TT := by
    delta trip_one.sl.r_3; rw [e0, e1, e2]; rfl
  have e4 : trip_one.sl.r_4 c cH k VW TT = ysOf (wOf (chunk c cH (b18 k.val)) VW) TT := by
    delta trip_one.sl.r_4; rw [e1, e2]; rfl
  have eq : qS (chunk c cH (b18 k.val)) Q (Scf.trips k0_t3_loop.lb k0_t3_loop.ub k0_t3_loop.st) = qOf (chunk c cH (b18 k.val)) := by
    rw [et3, qS_eq]; exact mix_full _ _
  have eo : updS (trip_one.sl.r_3 c cH k VW TT) (trip_one.sl.r_4 c cH k VW TT) VQ VS (View.read (Elt F) (cblk (b18 k.val)).view cH)
      (Scf.trips k0_t4_loop.lb k0_t4_loop.ub k0_t4_loop.st) = oOf (chunk c cH (b18 k.val)) VW TT VQ VS := by
    rw [et4, updS_eq, e3, e4]; exact mix_full _ _
  sl_step
  isplitl [Hvq]; · iexact Hvq
  isplitl [Hvw]; · iexact Hvw
  isplitl [Hvs]; · iexact Hvs
  isplitl [Htt]; · iexact Htt
  isplitl [Hcs]
  · iapply (entails_of_eq (congrArg (csbP c) (show csS (chunk c cH (b18 k.val)) (VecWindow.put (s := S1152x128) C ![64 * k.val, 0] ![64, 128] (k0_pay87 (F := F))) k.val (k_lt k) (Scf.trips k0_t3_loop.lb k0_t3_loop.ub k0_t3_loop.st) = _ from by
      rw [et3]; exact cs_put _ _ _ _))) $$ Hcs
  isplitl [Hy]
  · iapply (whole_rep c yfM (View.set_whole _) _ _ ?hy) $$ Hy
    case hy => rw [View.read_writes_cons_put _ _ _ _ _ (k0_off14_eq k), View.writes_nil, View.read_rep, e0, e1, e2]; rfl
  isplitl [Hys]
  · iapply (whole_rep c ysfM (View.set_whole _) _ _ ?hy) $$ Hys
    case hy => rw [View.read_writes_cons_put _ _ _ _ _ (k0_off14_eq k), View.writes_nil, View.read_rep, e1, e2]; rfl
  isplitl [Hw]; · iexists _; iexact Hw
  isplitl [HO]; · iexists _; iexact HO
  isplitl [Hqc]
  · iapply (Transfers.Flight_mono countersEmb (c : Thread nD τ) ?m) $$ Hqc
    case m =>
      iintro ⟨Hd, Hs⟩
      isplitl [Hd]
      · iapply (pointsTo_rep_of_read (c : Thread nD τ) (qblk (b18 k.val)) _ fullShare _ ?h) $$ Hd
        case h => rw [View.read_writes_whole]; exact (View.read_rep _ _).trans eq
      · iapply (entails_of_eq (congrArg (qslotP c (s2 k.val)) eq)) $$ Hs
  isplitl [Hfi_src]; · iexact Hfi_src
  isplitl [Hfi]; · iexact Hfi
  isplitl [Hoc]
  · iapply (Transfers.Flight_mono countersEmb (c : Thread nD τ) ?m) $$ Hoc
    case m =>
      iintro ⟨Hd, Hs⟩
      isplitl [Hd]
      · iapply (pointsTo_rep_of_read (c : Thread nD τ) (oblk (b18 k.val)) _ fullShare _ ?h) $$ Hd
        case h => rw [View.read_writes_whole]; exact (View.read_rep _ _).trans eo
      · iapply (entails_of_eq (congrArg (slotP c (s10 k.val)) eo)) $$ Hs
  isplitl [Hfo_dst]; · iexact Hfo_dst
  isplitl [Hic]
  · iapply (Transfers.Flight_mono countersEmb (c : Thread nD τ) ?m) $$ Hic
    case m =>
      iintro ⟨Hd, Hs⟩
      isplitl [Hd]
      · iapply (pointsTo_rep_of_read (c : Thread nD τ) (slot (s10 (k.val + 9))) _ fullShare _ ?h) $$ Hd
        case h => rw [View.read_writes_whole]; rfl
      · iexact Hs
  iexact Hfo

set_option backward.proofsInPublic true in
theorem trip_mid (c : Dev nD) (cH : Buf (Elt F) (cM.view.loc (c : Thread nD τ)))
    (v104 : IVec S1x128 32) (v105 : FVec F S1x128 .f32) (k : Fin k0_t2_loop.trips) (h1 : 1 ≤ k.val) (h2 : 2 ≤ k.val) (h8 : k.val ≤ 8)
    (VQ : S96x16384.Idx → F .fp8e4m3) (VW : S80x16384.Idx → F .bf16) (VS : S1x16384.Idx → F .f32) (TT : S128x128.Idx → F .f32)
    (C Y YS : S1152x128.Idx → F .f32) (W : S64x128.Idx → F .f32) (Xo : S64x16384.Idx → F .f32) (Q : S64x16384.Idx → F .fp8e4m3)
    (O : Buf (Elt F) ((oblk (b18 k.val)).view.loc (c : Thread nD τ))) (QQ : Buf (Elt F) ((qblk (b18 k.val)).view.loc (c : Thread nD τ))) :
    iprop(vqP c VQ ∗ vwP c VW ∗ vsrP c VS ∗ ttP c TT ∗ csbP c C ∗ yfP c Y ∗ ysfP c YS ∗ wP c W
        ∗ (∃ w, owes (c : Thread nD τ) 0 w)
        ∗ flyQ c (s2 k.val) (b18 (k.val - 2)) Q ∗ flyIn c cH (s10 k.val) (b18 k.val)
        ∗ ((qblk (b18 k.val)).view.loc (c : Thread nD τ) ↦[(qblk (b18 k.val)).view.set]{fullShare} QQ) ∗ outCellP c (s10 k.val)
        ∗ ((oblk (b18 k.val)).view.loc (c : Thread nD τ) ↦[(oblk (b18 k.val)).view.set]{fullShare} O) ∗ flyOut c (s10 (k.val + 9)) (b18 (k.val - 1)) Xo ∗ inCellP c (s10 (k.val + 9)) ∗ cblkP c cH (b18 (k.val + 9)))
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => iprop(vqP c VQ ∗ vwP c VW ∗ vsrP c VS ∗ ttP c TT ∗ csbP c (putRow C k.val (csOf (chunk c cH (b18 k.val))))
            ∗ yfP c (putRow Y k.val (yfOf (wOf (chunk c cH (b18 k.val)) VW) TT)) ∗ ysfP c (putRow YS k.val (ysfOf (wOf (chunk c cH (b18 k.val)) VW) TT))
            ∗ (∃ W, wP c W) ∗ (∃ w, owes (c : Thread nD τ) 0 w)
            ∗ qblkP c (b18 (k.val - 2)) Q ∗ flyQ c (s2 k.val) (b18 k.val) (qOf (chunk c cH (b18 k.val))) ∗ cblkP c cH (b18 k.val) ∗ inCellP c (s10 k.val)
            ∗ flyOut c (s10 k.val) (b18 k.val) (oOf (chunk c cH (b18 k.val)) VW TT VQ VS) ∗ oblkP c (b18 (k.val - 1)) Xo ∗ flyIn c cH (s10 (k.val + 9)) (b18 (k.val + 9)) ∗ outCellP c (s10 (k.val + 9)))) := by
  have hc1 : k0_cond1 k = 1#1 := (cond1_iff k).2 h2
  have hc2 : k0_cond2 k = 1#1 := (cond2_iff k).2 ⟨h1, by omega⟩
  iintro ⟨Hvq, Hvw, Hvs, Htt, Hcs, Hy, Hys, Hw, ⟨%ow, HO⟩, Hfq, Hfi, Hqb, Hoc, Hob, Hfo, Hic, Hcb⟩
  sl_unfold [k0_t2_body]
  sl_exec
  ihave Hw := (whole_rep c wM (View.set_whole _) _ (k0_pay86 (F := F)) ?hw0) $$ Hw
  case hw0 => exact View.read_writes_full _ _ _ _ _
  ihave Hcs := (whole_rep c csbM (View.set_whole _) _ (putRow C k.val (k0_pay87 (F := F))) ?hc0) $$ Hcs
  case hc0 => rw [View.read_writes_cons_put _ _ _ _ _ (k0_off14_eq k), View.writes_nil, View.read_rep]; rfl
  sl_exec
  have hk18 := k_lt k
  have et3 : Scf.trips k0_t3_loop.lb k0_t3_loop.ub k0_t3_loop.st = 32 := t3_trips
  have et4 : Scf.trips k0_t4_loop.lb k0_t4_loop.ub k0_t4_loop.st = 32 := t4_trips
  have hw : wS (chunk c cH (b18 k.val)) VW (shapeCast S64x128 (broadcast S64x128 (FloatOps.ofBits FTy.f32 0#32)) shapeCasts_S64x128_S64x128)
        (Scf.trips k0_t3_loop.lb k0_t3_loop.ub k0_t3_loop.st) = wOf (chunk c cH (b18 k.val)) VW := by
    rw [et3]; rfl
  have e0 : trip_mid.sl.r c cH k VW TT = k0_pay88 (wOf (chunk c cH (b18 k.val)) VW) TT := by
    delta trip_mid.sl.r trip_mid.sl.v381; rw [View.readAt_rep_full, View.readAt_rep_full, ← hw]
  have e1 : trip_mid.sl.r_1 c cH k VW TT = k0_pay89 (wOf (chunk c cH (b18 k.val)) VW) TT := by
    delta trip_mid.sl.r_1 trip_mid.sl.v381; rw [View.readAt_rep_full, View.readAt_rep_full, ← hw]
  have e2 : trip_mid.sl.r_2 c cH k VW TT = k0_pay90 (wOf (chunk c cH (b18 k.val)) VW) TT := by
    delta trip_mid.sl.r_2 trip_mid.sl.v381; rw [View.readAt_rep_full, View.readAt_rep_full, ← hw]
  have e3 : trip_mid.sl.r_3 c cH k VW TT = yqOf (wOf (chunk c cH (b18 k.val)) VW) TT := by
    delta trip_mid.sl.r_3; rw [e0, e1, e2]; rfl
  have e4 : trip_mid.sl.r_4 c cH k VW TT = ysOf (wOf (chunk c cH (b18 k.val)) VW) TT := by
    delta trip_mid.sl.r_4; rw [e1, e2]; rfl
  have eq : qS (chunk c cH (b18 k.val)) Q (Scf.trips k0_t3_loop.lb k0_t3_loop.ub k0_t3_loop.st) = qOf (chunk c cH (b18 k.val)) := by
    rw [et3, qS_eq]; exact mix_full _ _
  have eo : updS (trip_mid.sl.r_3 c cH k VW TT) (trip_mid.sl.r_4 c cH k VW TT) VQ VS (View.read (Elt F) (cblk (b18 k.val)).view cH)
      (Scf.trips k0_t4_loop.lb k0_t4_loop.ub k0_t4_loop.st) = oOf (chunk c cH (b18 k.val)) VW TT VQ VS := by
    rw [et4, updS_eq, e3, e4]; exact mix_full _ _
  sl_step
  isplitl [Hvq]; · iexact Hvq
  isplitl [Hvw]; · iexact Hvw
  isplitl [Hvs]; · iexact Hvs
  isplitl [Htt]; · iexact Htt
  isplitl [Hcs]
  · iapply (entails_of_eq (congrArg (csbP c) (show csS (chunk c cH (b18 k.val)) (VecWindow.put (s := S1152x128) C ![64 * k.val, 0] ![64, 128] (k0_pay87 (F := F))) k.val (k_lt k) (Scf.trips k0_t3_loop.lb k0_t3_loop.ub k0_t3_loop.st) = _ from by
      rw [et3]; exact cs_put _ _ _ _))) $$ Hcs
  isplitl [Hy]
  · iapply (whole_rep c yfM (View.set_whole _) _ _ ?hy) $$ Hy
    case hy => rw [View.read_writes_cons_put _ _ _ _ _ (k0_off14_eq k), View.writes_nil, View.read_rep, e0, e1, e2]; rfl
  isplitl [Hys]
  · iapply (whole_rep c ysfM (View.set_whole _) _ _ ?hy) $$ Hys
    case hy => rw [View.read_writes_cons_put _ _ _ _ _ (k0_off14_eq k), View.writes_nil, View.read_rep, e1, e2]; rfl
  isplitl [Hw]; · iexists _; iexact Hw
  isplitl [HO]; · iexists _; iexact HO
  isplitl [Hfq_dst]; · iexact Hfq_dst
  isplitl [Hfq]
  · iapply (Transfers.Flight_mono countersEmb (c : Thread nD τ) ?m) $$ Hfq
    case m =>
      iintro ⟨Hd, Hs⟩
      isplitl [Hd]
      · iapply (pointsTo_rep_of_read (c : Thread nD τ) (qblk (b18 k.val)) _ fullShare _ ?h) $$ Hd
        case h => rw [View.read_writes_whole]; exact (View.read_rep _ _).trans eq
      · iapply (entails_of_eq (congrArg (qslotP c (s2 k.val)) eq)) $$ Hs
  isplitl [Hfi_src]; · iexact Hfi_src
  isplitl [Hfi]; · iexact Hfi
  isplitl [Hoc]
  · iapply (Transfers.Flight_mono countersEmb (c : Thread nD τ) ?m) $$ Hoc
    case m =>
      iintro ⟨Hd, Hs⟩
      isplitl [Hd]
      · iapply (pointsTo_rep_of_read (c : Thread nD τ) (oblk (b18 k.val)) _ fullShare _ ?h) $$ Hd
        case h => rw [View.read_writes_whole]; exact (View.read_rep _ _).trans eo
      · iapply (entails_of_eq (congrArg (slotP c (s10 k.val)) eo)) $$ Hs
  isplitl [Hfo_dst]; · iexact Hfo_dst
  isplitl [Hic]
  · iapply (Transfers.Flight_mono countersEmb (c : Thread nD τ) ?m) $$ Hic
    case m =>
      iintro ⟨Hd, Hs⟩
      isplitl [Hd]
      · iapply (pointsTo_rep_of_read (c : Thread nD τ) (slot (s10 (k.val + 9))) _ fullShare _ ?h) $$ Hd
        case h => rw [View.read_writes_whole]; rfl
      · iexact Hs
  iexact Hfo

set_option backward.proofsInPublic true in
theorem trip_last (c : Dev nD) (cH : Buf (Elt F) (cM.view.loc (c : Thread nD τ)))
    (v104 : IVec S1x128 32) (v105 : FVec F S1x128 .f32) (k : Fin k0_t2_loop.trips) (h1 : 1 ≤ k.val) (h2 : 2 ≤ k.val) (h9 : 9 ≤ k.val)
    (VQ : S96x16384.Idx → F .fp8e4m3) (VW : S80x16384.Idx → F .bf16) (VS : S1x16384.Idx → F .f32) (TT : S128x128.Idx → F .f32)
    (C Y YS : S1152x128.Idx → F .f32) (W : S64x128.Idx → F .f32) (Xo : S64x16384.Idx → F .f32) (Q : S64x16384.Idx → F .fp8e4m3)
    (O : Buf (Elt F) ((oblk (b18 k.val)).view.loc (c : Thread nD τ))) (QQ : Buf (Elt F) ((qblk (b18 k.val)).view.loc (c : Thread nD τ))) :
    iprop(vqP c VQ ∗ vwP c VW ∗ vsrP c VS ∗ ttP c TT ∗ csbP c C ∗ yfP c Y ∗ ysfP c YS ∗ wP c W
        ∗ (∃ w, owes (c : Thread nD τ) 0 w)
        ∗ flyQ c (s2 k.val) (b18 (k.val - 2)) Q ∗ flyIn c cH (s10 k.val) (b18 k.val)
        ∗ ((qblk (b18 k.val)).view.loc (c : Thread nD τ) ↦[(qblk (b18 k.val)).view.set]{fullShare} QQ) ∗ outCellP c (s10 k.val)
        ∗ ((oblk (b18 k.val)).view.loc (c : Thread nD τ) ↦[(oblk (b18 k.val)).view.set]{fullShare} O))
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => iprop(vqP c VQ ∗ vwP c VW ∗ vsrP c VS ∗ ttP c TT ∗ csbP c (putRow C k.val (csOf (chunk c cH (b18 k.val))))
            ∗ yfP c (putRow Y k.val (yfOf (wOf (chunk c cH (b18 k.val)) VW) TT)) ∗ ysfP c (putRow YS k.val (ysfOf (wOf (chunk c cH (b18 k.val)) VW) TT))
            ∗ (∃ W, wP c W) ∗ (∃ w, owes (c : Thread nD τ) 0 w)
            ∗ qblkP c (b18 (k.val - 2)) Q ∗ flyQ c (s2 k.val) (b18 k.val) (qOf (chunk c cH (b18 k.val))) ∗ cblkP c cH (b18 k.val) ∗ inCellP c (s10 k.val)
            ∗ flyOut c (s10 k.val) (b18 k.val) (oOf (chunk c cH (b18 k.val)) VW TT VQ VS))) := by
  have hc1 : k0_cond1 k = 1#1 := (cond1_iff k).2 h2
  have hc2 : ¬ k0_cond2 k = 1#1 := fun h => by have := (cond2_iff k).1 h; omega
  iintro ⟨Hvq, Hvw, Hvs, Htt, Hcs, Hy, Hys, Hw, ⟨%ow, HO⟩, Hfq, Hfi, Hqb, Hoc, Hob⟩
  sl_unfold [k0_t2_body]
  sl_exec
  ihave Hw := (whole_rep c wM (View.set_whole _) _ (k0_pay86 (F := F)) ?hw0) $$ Hw
  case hw0 => exact View.read_writes_full _ _ _ _ _
  ihave Hcs := (whole_rep c csbM (View.set_whole _) _ (putRow C k.val (k0_pay87 (F := F))) ?hc0) $$ Hcs
  case hc0 => rw [View.read_writes_cons_put _ _ _ _ _ (k0_off14_eq k), View.writes_nil, View.read_rep]; rfl
  sl_exec
  have hk18 := k_lt k
  have et3 : Scf.trips k0_t3_loop.lb k0_t3_loop.ub k0_t3_loop.st = 32 := t3_trips
  have et4 : Scf.trips k0_t4_loop.lb k0_t4_loop.ub k0_t4_loop.st = 32 := t4_trips
  have hw : wS (chunk c cH (b18 k.val)) VW (shapeCast S64x128 (broadcast S64x128 (FloatOps.ofBits FTy.f32 0#32)) shapeCasts_S64x128_S64x128)
        (Scf.trips k0_t3_loop.lb k0_t3_loop.ub k0_t3_loop.st) = wOf (chunk c cH (b18 k.val)) VW := by
    rw [et3]; rfl
  have e0 : trip_last.sl.r c cH k VW TT = k0_pay88 (wOf (chunk c cH (b18 k.val)) VW) TT := by
    delta trip_last.sl.r trip_last.sl.v381; rw [View.readAt_rep_full, View.readAt_rep_full, ← hw]
  have e1 : trip_last.sl.r_1 c cH k VW TT = k0_pay89 (wOf (chunk c cH (b18 k.val)) VW) TT := by
    delta trip_last.sl.r_1 trip_last.sl.v381; rw [View.readAt_rep_full, View.readAt_rep_full, ← hw]
  have e2 : trip_last.sl.r_2 c cH k VW TT = k0_pay90 (wOf (chunk c cH (b18 k.val)) VW) TT := by
    delta trip_last.sl.r_2 trip_last.sl.v381; rw [View.readAt_rep_full, View.readAt_rep_full, ← hw]
  have e3 : trip_last.sl.r_3 c cH k VW TT = yqOf (wOf (chunk c cH (b18 k.val)) VW) TT := by
    delta trip_last.sl.r_3; rw [e0, e1, e2]; rfl
  have e4 : trip_last.sl.r_4 c cH k VW TT = ysOf (wOf (chunk c cH (b18 k.val)) VW) TT := by
    delta trip_last.sl.r_4; rw [e1, e2]; rfl
  have eq : qS (chunk c cH (b18 k.val)) Q (Scf.trips k0_t3_loop.lb k0_t3_loop.ub k0_t3_loop.st) = qOf (chunk c cH (b18 k.val)) := by
    rw [et3, qS_eq]; exact mix_full _ _
  have eo : updS (trip_last.sl.r_3 c cH k VW TT) (trip_last.sl.r_4 c cH k VW TT) VQ VS (View.read (Elt F) (cblk (b18 k.val)).view cH)
      (Scf.trips k0_t4_loop.lb k0_t4_loop.ub k0_t4_loop.st) = oOf (chunk c cH (b18 k.val)) VW TT VQ VS := by
    rw [et4, updS_eq, e3, e4]; exact mix_full _ _
  sl_step
  isplitl [Hvq]; · iexact Hvq
  isplitl [Hvw]; · iexact Hvw
  isplitl [Hvs]; · iexact Hvs
  isplitl [Htt]; · iexact Htt
  isplitl [Hcs]
  · iapply (entails_of_eq (congrArg (csbP c) (show csS (chunk c cH (b18 k.val)) (VecWindow.put (s := S1152x128) C ![64 * k.val, 0] ![64, 128] (k0_pay87 (F := F))) k.val (k_lt k) (Scf.trips k0_t3_loop.lb k0_t3_loop.ub k0_t3_loop.st) = _ from by
      rw [et3]; exact cs_put _ _ _ _))) $$ Hcs
  isplitl [Hy]
  · iapply (whole_rep c yfM (View.set_whole _) _ _ ?hy) $$ Hy
    case hy => rw [View.read_writes_cons_put _ _ _ _ _ (k0_off14_eq k), View.writes_nil, View.read_rep, e0, e1, e2]; rfl
  isplitl [Hys]
  · iapply (whole_rep c ysfM (View.set_whole _) _ _ ?hy) $$ Hys
    case hy => rw [View.read_writes_cons_put _ _ _ _ _ (k0_off14_eq k), View.writes_nil, View.read_rep, e1, e2]; rfl
  isplitl [Hw]; · iexists _; iexact Hw
  isplitl [HO]; · iexists _; iexact HO
  isplitl [Hfq_dst]; · iexact Hfq_dst
  isplitl [Hfq]
  · iapply (Transfers.Flight_mono countersEmb (c : Thread nD τ) ?m) $$ Hfq
    case m =>
      iintro ⟨Hd, Hs⟩
      isplitl [Hd]
      · iapply (pointsTo_rep_of_read (c : Thread nD τ) (qblk (b18 k.val)) _ fullShare _ ?h) $$ Hd
        case h => rw [View.read_writes_whole]; exact (View.read_rep _ _).trans eq
      · iapply (entails_of_eq (congrArg (qslotP c (s2 k.val)) eq)) $$ Hs
  isplitl [Hfi_src]; · iexact Hfi_src
  isplitl [Hfi]; · iexact Hfi
  iapply (Transfers.Flight_mono countersEmb (c : Thread nD τ) ?m) $$ Hoc
  case m =>
      iintro ⟨Hd, Hs⟩
      isplitl [Hd]
      · iapply (pointsTo_rep_of_read (c : Thread nD τ) (oblk (b18 k.val)) _ fullShare _ ?h) $$ Hd
        case h => rw [View.read_writes_whole]; exact (View.read_rep _ _).trans eo
      · iapply (entails_of_eq (congrArg (slotP c (s10 k.val)) eo)) $$ Hs

end Cert.Kernel.Hand

end
-- ==== Proof.KL2.lean ====
/-
  The loop over the chunks: which chunks are home, on their way in, on their way out or written back before each trip, and that a trip keeps this.
-/
module

public import proofs.«01_k».proof.Proof.KT2

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

section Inv
variable (c : Dev nD) (cH : Buf (Elt F) (cM.view.loc (c : Thread nD τ)))
  (VQ : S96x16384.Idx → F .fp8e4m3) (VW : S80x16384.Idx → F .bf16) (VS : S1x16384.Idx → F .f32) (TT : S128x128.Idx → F .f32)

/-- Chunks below this one are back in HBM before trip `k`, -/
def outLo (k : ℕ) : ℕ := min (k - 1) 8
/-- and chunks below this one have been fetched. -/
def inTop (k : ℕ) : ℕ := min (max k 1 + 9) 18

def oJ (j : Fin 18) : S64x16384.Idx → F .f32 := oOf (chunk c cH j) VW TT VQ VS
def qJ (j : Fin 18) : S64x16384.Idx → F .fp8e4m3 := qOf (chunk c cH j)

def oAny (j : Fin 18) : sProp 𝕄 := iprop(∃ f : Buf (Elt F) ((oblk j).view.loc (c : Thread nD τ)), (oblk j).view.loc (c : Thread nD τ) ↦[(oblk j).view.set]{fullShare} f)
def qAny (j : Fin 18) : sProp 𝕄 := iprop(∃ f : Buf (Elt F) ((qblk j).view.loc (c : Thread nD τ)), (qblk j).view.loc (c : Thread nD τ) ↦[(qblk j).view.set]{fullShare} f)
/-- Chunk `j` written back, -/
def stDone (j : Fin 18) : sProp 𝕄 := iprop(cblkP c cH j ∗ oblkP c j (oJ c cH VQ VW VS TT j))
/-- on its way out, -/
def stOut (j : Fin 18) : sProp 𝕄 := iprop(flyOut c (s10 j.val) j (oJ c cH VQ VW VS TT j) ∗ inCellP c (s10 j.val) ∗ cblkP c cH j)
/-- on its way in, -/
def stIn (j : Fin 18) : sProp 𝕄 := iprop(flyIn c cH (s10 j.val) j ∗ outCellP c (s10 j.val) ∗ oAny c j)
/-- not yet asked for. -/
def stHome (j : Fin 18) : sProp 𝕄 := iprop(cblkP c cH j ∗ oAny c j)

/-- Chunk `j` before trip `k`. -/
def chunkRes (k : ℕ) (j : Fin 18) : sProp 𝕄 :=
  if j.val < outLo k then stDone c cH VQ VW VS TT j else if j.val < k then stOut c cH VQ VW VS TT j
  else if j.val < inTop k then stIn c cH j else stHome c cH j
/-- The codes of chunk `j` before trip `k`. -/
def qRes (k : ℕ) (j : Fin 18) : sProp 𝕄 :=
  if j.val + 2 < k then qblkP c j (qJ c cH j) else if j.val < k then flyQ c (s2 j.val) j (qJ c cH j) else qAny c j
def qSlotFree (s : Fin 2) : sProp 𝕄 := iprop((∃ Q, qslotP c s Q) ∗ qCellP c s)
/-- The slots of codes no trip has used yet. -/
def qFree (k : ℕ) : sProp 𝕄 := iprop((if k = 0 then qSlotFree c 0 else emp) ∗ (if k ≤ 1 then qSlotFree c 1 else emp))

def csT (C : S1152x128.Idx → F .f32) : ℕ → S1152x128.Idx → F .f32
  | 0 => C
  | k + 1 => putRow (csT C k) k (csOf (chunk c cH (b18 k)))
def yfT (C : S1152x128.Idx → F .f32) : ℕ → S1152x128.Idx → F .f32
  | 0 => C
  | k + 1 => putRow (yfT C k) k (yfOf (wOf (chunk c cH (b18 k)) VW) TT)
def ysfT (C : S1152x128.Idx → F .f32) : ℕ → S1152x128.Idx → F .f32
  | 0 => C
  | k + 1 => putRow (ysfT C k) k (ysfOf (wOf (chunk c cH (b18 k)) VW) TT)

/-- Before trip `k`. -/
def inv2 (C Y YS : S1152x128.Idx → F .f32) (k : ℕ) : sProp 𝕄 :=
  iprop(vqP c VQ ∗ vwP c VW ∗ vsrP c VS ∗ ttP c TT ∗ csbP c (csT c cH C k) ∗ yfP c (yfT c cH VW TT Y k) ∗ ysfP c (ysfT c cH VW TT YS k)
    ∗ (∃ W, wP c W) ∗ (∃ w, owes (c : Thread nD τ) 0 w)
    ∗ bigSep Finset.univ (chunkRes c cH VQ VW VS TT k) ∗ bigSep Finset.univ (qRes c cH k) ∗ qFree (F := F) c k)

omit [FloatOps F] in
theorem split_at (f : Fin 18 → sProp 𝕄) {S : Finset (Fin 18)} {a : Fin 18} (h : a ∈ S) : bigSep S f = iprop(f a ∗ bigSep (S.erase a) f) := by
  conv_lhs => rw [← Finset.insert_erase h, bigSep_insert (Finset.notMem_erase a S)]
  rfl
theorem b18v {k : ℕ} (h : k < 18) : (b18 k).val = k := Nat.mod_eq_of_lt h
theorem b18ne {k l : ℕ} (h : k < 18) (h' : l < 18) (hn : k ≠ l) : b18 k ≠ b18 l := fun e => hn (by rw [← b18v h, e, b18v h'])
theorem s10_back {k : ℕ} (h : 1 ≤ k) : s10 (k - 1) = s10 (k + 9) := Fin.ext (by show (k - 1) % 10 = (k + 9) % 10; omega)
theorem s2_back {k : ℕ} (h : 2 ≤ k) : s2 (k - 2) = s2 k := Fin.ext (by show (k - 2) % 2 = k % 2; omega)

theorem cr_done {k : ℕ} {j : Fin 18} (h : j.val < outLo k) : chunkRes c cH VQ VW VS TT k j = stDone c cH VQ VW VS TT j := if_pos h
theorem cr_out {k : ℕ} {j : Fin 18} (h : ¬ j.val < outLo k) (h' : j.val < k) : chunkRes c cH VQ VW VS TT k j = stOut c cH VQ VW VS TT j := by
  unfold chunkRes; rw [if_neg h, if_pos h']
theorem cr_in {k : ℕ} {j : Fin 18} (h : ¬ j.val < outLo k) (h' : ¬ j.val < k) (h'' : j.val < inTop k) : chunkRes c cH VQ VW VS TT k j = stIn c cH j := by
  unfold chunkRes; rw [if_neg h, if_neg h', if_pos h'']
theorem cr_home {k : ℕ} {j : Fin 18} (h : ¬ j.val < outLo k) (h' : ¬ j.val < k) (h'' : ¬ j.val < inTop k) : chunkRes c cH VQ VW VS TT k j = stHome c cH j := by
  unfold chunkRes; rw [if_neg h, if_neg h', if_neg h'']
theorem cr_same {k : ℕ} {j : Fin 18} (h0 : j.val ≠ k) (h1 : j.val + 1 ≠ k ∨ 9 ≤ k) (h2 : j.val ≠ k + 9 ∨ k = 0) :
    chunkRes c cH VQ VW VS TT k j = chunkRes c cH VQ VW VS TT (k + 1) j := by
  have hj := j.isLt
  unfold chunkRes outLo inTop
  split_ifs <;> first | rfl | (exfalso; omega)
theorem qr_same {k : ℕ} {j : Fin 18} (h0 : j.val ≠ k) (h1 : j.val + 2 ≠ k) : qRes (F := F) c cH k j = qRes c cH (k + 1) j := by
  unfold qRes
  split_ifs <;> first | rfl | (exfalso; omega)
theorem qr_done {k : ℕ} {j : Fin 18} (h : j.val + 2 < k) : qRes (F := F) c cH k j = qblkP c j (qJ c cH j) := if_pos h
theorem qr_fly {k : ℕ} {j : Fin 18} (h : ¬ j.val + 2 < k) (h' : j.val < k) : qRes (F := F) c cH k j = flyQ c (s2 j.val) j (qJ c cH j) := by
  unfold qRes; rw [if_neg h, if_pos h']
theorem qr_any {k : ℕ} {j : Fin 18} (h : ¬ j.val + 2 < k) (h' : ¬ j.val < k) : qRes (F := F) c cH k j = qAny c j := by
  unfold qRes; rw [if_neg h, if_neg h']

theorem step_zero (v104 : IVec S1x128 32) (v105 : FVec F S1x128 .f32) (k : Fin k0_t2_loop.trips) (h0 : k.val = 0) (C Y YS : S1152x128.Idx → F .f32) :
    inv2 c cH VQ VW VS TT C Y YS k.val
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => inv2 c cH VQ VW VS TT C Y YS (k.val + 1)) := by
  have hk := k_lt k
  have ek := b18v hk
  have ca : chunkRes c cH VQ VW VS TT k.val (b18 k.val) = stIn c cH (b18 k.val) := cr_in _ _ _ _ _ _ (by rw [ek]; unfold outLo; omega) (by omega) (by rw [ek]; unfold inTop; omega)
  have cb : chunkRes c cH VQ VW VS TT (k.val + 1) (b18 k.val) = stOut c cH VQ VW VS TT (b18 k.val) := cr_out _ _ _ _ _ _ (by rw [ek]; unfold outLo; omega) (by omega)
  have rest : bigSep (Finset.univ.erase (b18 k.val)) (chunkRes c cH VQ VW VS TT k.val)
      = bigSep (Finset.univ.erase (b18 k.val)) (chunkRes c cH VQ VW VS TT (k.val + 1)) :=
    bigSep_congr fun j hj => cr_same _ _ _ _ _ _ (fun e => by simp [Fin.ext_iff, ek] at hj; omega) (by have := j.isLt; omega) (by have := j.isLt; omega)
  have qa : qRes (F := F) c cH k.val (b18 k.val) = qAny c (b18 k.val) := qr_any _ _ (by omega) (by omega)
  have qb : qRes (F := F) c cH (k.val + 1) (b18 k.val) = flyQ c (s2 (b18 k.val).val) (b18 k.val) (qJ c cH (b18 k.val)) := qr_fly _ _ (by omega) (by omega)
  have qrest : bigSep (Finset.univ.erase (b18 k.val)) (qRes (F := F) c cH k.val) = bigSep (Finset.univ.erase (b18 k.val)) (qRes c cH (k.val + 1)) :=
    bigSep_congr fun j hj => qr_same _ _ (fun e => by simp [Fin.ext_iff, ek] at hj; omega) (by omega)
  have qf : qFree (F := F) c k.val = iprop(qSlotFree c (s2 k.val) ∗ qSlotFree c 1) := by
    have e : s2 k.val = 0 := Fin.ext (by show k.val % 2 = 0; omega)
    unfold qFree; rw [if_pos h0, if_pos (by omega), e]
  have qf' : qFree (F := F) c (k.val + 1) = iprop(emp ∗ qSlotFree c 1) := by unfold qFree; rw [if_neg (by omega), if_pos (by omega)]
  unfold inv2
  rw [split_at _ (Finset.mem_univ (b18 k.val)), split_at (chunkRes c cH VQ VW VS TT (k.val + 1)) (Finset.mem_univ (b18 k.val)), ca, cb, rest]
  rw [split_at (qRes c cH k.val) (Finset.mem_univ (b18 k.val)), split_at (qRes c cH (k.val + 1)) (Finset.mem_univ (b18 k.val)), qa, qb, qrest, qf, qf']
  unfold stIn stOut oAny qAny
  unfold qSlotFree
  rw [ek]
  iintro ⟨Hvq, Hvw, Hvs, Htt, Hcs, Hy, Hys, ⟨%W, Hw⟩, HO, ⟨⟨Hfi, Hoc, ⟨%O, Hob⟩⟩, Hr⟩, Hq⟩
  icases Hq with ⟨⟨⟨%QQ, Hqb⟩, Hqr⟩, ⟨⟨%Q, Hqs⟩, Hqc⟩, Hqf⟩
  iapply (wp_wand_r Idealize.ShloMosaic.frame (wpE (defs₀ (F := F)) 𝒱₀ (c : Thread nD τ) none) Set.univ)
  isplitl [Hvq Hvw Hvs Htt Hcs Hy Hys Hw HO Hfi Hoc Hob Hqb Hqs Hqc ]
  · iapply (trip_zero c cH v104 v105 k h0 VQ VW VS TT (csT c cH C k.val) (yfT c cH VW TT Y k.val) (ysfT c cH VW TT YS k.val) W (oJ c cH VQ VW VS TT (b18 (k.val - 1))) Q O QQ)
    isplitl [Hvq]; · iexact Hvq
    isplitl [Hvw]; · iexact Hvw
    isplitl [Hvs]; · iexact Hvs
    isplitl [Htt]; · iexact Htt
    isplitl [Hcs]; · iexact Hcs
    isplitl [Hy]; · iexact Hy
    isplitl [Hys]; · iexact Hys
    isplitl [Hw]; · iexact Hw
    isplitl [HO]; · iexact HO
    isplitl [Hqs]; · iexact Hqs
    isplitl [Hqc]; · iexact Hqc
    isplitl [Hfi]; · iexact Hfi
    isplitl [Hqb]; · iexact Hqb
    isplitl [Hoc]; · iexact Hoc
    iexact Hob
  iintro %_ ⟨Hvq, Hvw, Hvs, Htt, Hcs, Hy, Hys, Hw, HO, Hfq, Hck, Hick, Hfok⟩
  isplitl [Hvq]; · iexact Hvq
  isplitl [Hvw]; · iexact Hvw
  isplitl [Hvs]; · iexact Hvs
  isplitl [Htt]; · iexact Htt
  isplitl [Hcs]; · iexact Hcs
  isplitl [Hy]; · iexact Hy
  isplitl [Hys]; · iexact Hys
  isplitl [Hw]; · iexact Hw
  isplitl [HO]; · iexact HO
  isplitl [Hck Hick Hfok Hr]
  · isplitl [Hck Hick Hfok]
    · isplitl [Hfok]; · iexact Hfok
      isplitl [Hick]; · iexact Hick
      iexact Hck
    iexact Hr
  isplitl [Hfq Hqr]
  · isplitl [Hfq]; · iexact Hfq
    iexact Hqr
  isplitr; · iempintro
  iexact Hqf

theorem step_one (v104 : IVec S1x128 32) (v105 : FVec F S1x128 .f32) (k : Fin k0_t2_loop.trips) (h0 : k.val = 1) (h1 : 1 ≤ k.val) (C Y YS : S1152x128.Idx → F .f32) :
    inv2 c cH VQ VW VS TT C Y YS k.val
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => inv2 c cH VQ VW VS TT C Y YS (k.val + 1)) := by
  have hk := k_lt k
  have ek := b18v hk
  have em := b18v (k := k.val - 1) (by omega)
  have ep := b18v (k := k.val + 9) (by omega)
  have nm : b18 (k.val - 1) ∈ (Finset.univ.erase (b18 k.val)) := Finset.mem_erase.2 ⟨b18ne (by omega) (by omega) (by omega), Finset.mem_univ _⟩
  have np : b18 (k.val + 9) ∈ (Finset.univ.erase (b18 k.val)).erase (b18 (k.val - 1)) :=
    Finset.mem_erase.2 ⟨b18ne (by omega) (by omega) (by omega), Finset.mem_erase.2 ⟨b18ne (by omega) (by omega) (by omega), Finset.mem_univ _⟩⟩
  have ca : chunkRes c cH VQ VW VS TT k.val (b18 k.val) = stIn c cH (b18 k.val) := cr_in _ _ _ _ _ _ (by rw [ek]; unfold outLo; omega) (by omega) (by rw [ek]; unfold inTop; omega)
  have cb : chunkRes c cH VQ VW VS TT (k.val + 1) (b18 k.val) = stOut c cH VQ VW VS TT (b18 k.val) := cr_out _ _ _ _ _ _ (by rw [ek]; unfold outLo; omega) (by omega)
  have ma : chunkRes c cH VQ VW VS TT k.val (b18 (k.val - 1)) = stOut c cH VQ VW VS TT (b18 (k.val - 1)) := cr_out _ _ _ _ _ _ (by rw [em]; unfold outLo; omega) (by omega)
  have mb : chunkRes c cH VQ VW VS TT (k.val + 1) (b18 (k.val - 1)) = stDone c cH VQ VW VS TT (b18 (k.val - 1)) := cr_done _ _ _ _ _ _ (by rw [em]; unfold outLo; omega)
  have pa : chunkRes c cH VQ VW VS TT k.val (b18 (k.val + 9)) = stHome c cH (b18 (k.val + 9)) := cr_home _ _ _ _ _ _ (by rw [ep]; unfold outLo; omega) (by omega) (by rw [ep]; unfold inTop; omega)
  have pb : chunkRes c cH VQ VW VS TT (k.val + 1) (b18 (k.val + 9)) = stIn c cH (b18 (k.val + 9)) := cr_in _ _ _ _ _ _ (by rw [ep]; unfold outLo; omega) (by omega) (by rw [ep]; unfold inTop; omega)
  have rest : bigSep (((Finset.univ.erase (b18 k.val)).erase (b18 (k.val - 1))).erase (b18 (k.val + 9))) (chunkRes c cH VQ VW VS TT k.val)
      = bigSep (((Finset.univ.erase (b18 k.val)).erase (b18 (k.val - 1))).erase (b18 (k.val + 9))) (chunkRes c cH VQ VW VS TT (k.val + 1)) :=
    bigSep_congr fun j hj => cr_same _ _ _ _ _ _ (fun e => by simp [Fin.ext_iff, ek, em, ep] at hj; omega) (Or.inl fun e => by simp [Fin.ext_iff, ek, em, ep] at hj; omega) (Or.inl fun e => by simp [Fin.ext_iff, ek, em, ep] at hj; omega)
  have qa : qRes (F := F) c cH k.val (b18 k.val) = qAny c (b18 k.val) := qr_any _ _ (by omega) (by omega)
  have qb : qRes (F := F) c cH (k.val + 1) (b18 k.val) = flyQ c (s2 (b18 k.val).val) (b18 k.val) (qJ c cH (b18 k.val)) := qr_fly _ _ (by omega) (by omega)
  have qrest : bigSep (Finset.univ.erase (b18 k.val)) (qRes (F := F) c cH k.val) = bigSep (Finset.univ.erase (b18 k.val)) (qRes c cH (k.val + 1)) :=
    bigSep_congr fun j hj => qr_same _ _ (fun e => by simp [Fin.ext_iff, ek] at hj; omega) (by omega)
  have qf : qFree (F := F) c k.val = iprop(emp ∗ qSlotFree c (s2 k.val)) := by
    have e : s2 k.val = 1 := Fin.ext (by show k.val % 2 = 1; omega)
    unfold qFree; rw [if_neg (by omega), if_pos (by omega), e]
  have qf' : qFree (F := F) c (k.val + 1) = iprop(emp ∗ emp) := by unfold qFree; rw [if_neg (by omega), if_neg (by omega)]
  unfold inv2
  rw [split_at _ (Finset.mem_univ (b18 k.val)), split_at _ nm, split_at _ np, split_at (chunkRes c cH VQ VW VS TT (k.val + 1)) (Finset.mem_univ (b18 k.val)),
    split_at (chunkRes c cH VQ VW VS TT (k.val + 1)) nm, split_at (chunkRes c cH VQ VW VS TT (k.val + 1)) np, ca, cb, ma, mb, pa, pb, rest]
  rw [split_at (qRes c cH k.val) (Finset.mem_univ (b18 k.val)), split_at (qRes c cH (k.val + 1)) (Finset.mem_univ (b18 k.val)), qa, qb, qrest, qf, qf']
  unfold stIn stOut oAny qAny
  unfold stHome stDone oAny
  unfold qSlotFree
  rw [ek]
  rw [em, ep, s10_back (by omega)]
  iintro ⟨Hvq, Hvw, Hvs, Htt, Hcs, Hy, Hys, ⟨%W, Hw⟩, HO, ⟨⟨Hfi, Hoc, ⟨%O, Hob⟩⟩, ⟨Hfo, Hic, Hcm⟩, ⟨Hcp, Hop⟩, Hr⟩, Hq⟩
  icases Hq with ⟨⟨⟨%QQ, Hqb⟩, Hqr⟩, Hqf, ⟨%Q, Hqs⟩, Hqc⟩
  iapply (wp_wand_r Idealize.ShloMosaic.frame (wpE (defs₀ (F := F)) 𝒱₀ (c : Thread nD τ) none) Set.univ)
  isplitl [Hvq Hvw Hvs Htt Hcs Hy Hys Hw HO Hfi Hoc Hob Hqb Hqs Hqc Hfo Hic Hcp]
  · iapply (trip_one c cH v104 v105 k h0 h1 VQ VW VS TT (csT c cH C k.val) (yfT c cH VW TT Y k.val) (ysfT c cH VW TT YS k.val) W (oJ c cH VQ VW VS TT (b18 (k.val - 1))) Q O QQ)
    isplitl [Hvq]; · iexact Hvq
    isplitl [Hvw]; · iexact Hvw
    isplitl [Hvs]; · iexact Hvs
    isplitl [Htt]; · iexact Htt
    isplitl [Hcs]; · iexact Hcs
    isplitl [Hy]; · iexact Hy
    isplitl [Hys]; · iexact Hys
    isplitl [Hw]; · iexact Hw
    isplitl [HO]; · iexact HO
    isplitl [Hqs]; · iexact Hqs
    isplitl [Hqc]; · iexact Hqc
    isplitl [Hfi]; · iexact Hfi
    isplitl [Hqb]; · iexact Hqb
    isplitl [Hoc]; · iexact Hoc
    isplitl [Hob]; · iexact Hob
    isplitl [Hfo]; · iexact Hfo
    isplitl [Hic]; · iexact Hic
    iexact Hcp
  iintro %_ ⟨Hvq, Hvw, Hvs, Htt, Hcs, Hy, Hys, Hw, HO, Hfq, Hck, Hick, Hfok, Hx⟩
  isplitl [Hvq]; · iexact Hvq
  isplitl [Hvw]; · iexact Hvw
  isplitl [Hvs]; · iexact Hvs
  isplitl [Htt]; · iexact Htt
  isplitl [Hcs]; · iexact Hcs
  isplitl [Hy]; · iexact Hy
  isplitl [Hys]; · iexact Hys
  isplitl [Hw]; · iexact Hw
  isplitl [HO]; · iexact HO
  icases Hx with ⟨Hod, Hfip, Hocp⟩
  isplitl [Hck Hick Hfok Hod Hcm Hfip Hocp Hop Hr]
  · isplitl [Hck Hick Hfok]
    · isplitl [Hfok]; · iexact Hfok
      isplitl [Hick]; · iexact Hick
      iexact Hck
    isplitl [Hod Hcm]
    · isplitl [Hcm]; · iexact Hcm
      iexact Hod
    isplitl [Hfip Hocp Hop]
    · isplitl [Hfip]; · iexact Hfip
      isplitl [Hocp]; · iexact Hocp
      iexact Hop
    iexact Hr
  isplitl [Hfq Hqr]
  · isplitl [Hfq]; · iexact Hfq
    iexact Hqr
  isplitl; · iempintro
  iempintro

theorem step_mid (v104 : IVec S1x128 32) (v105 : FVec F S1x128 .f32) (k : Fin k0_t2_loop.trips) (h1 : 1 ≤ k.val) (h2 : 2 ≤ k.val) (h8 : k.val ≤ 8) (C Y YS : S1152x128.Idx → F .f32) :
    inv2 c cH VQ VW VS TT C Y YS k.val
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => inv2 c cH VQ VW VS TT C Y YS (k.val + 1)) := by
  have hk := k_lt k
  have ek := b18v hk
  have em := b18v (k := k.val - 1) (by omega)
  have ep := b18v (k := k.val + 9) (by omega)
  have nm : b18 (k.val - 1) ∈ (Finset.univ.erase (b18 k.val)) := Finset.mem_erase.2 ⟨b18ne (by omega) (by omega) (by omega), Finset.mem_univ _⟩
  have np : b18 (k.val + 9) ∈ (Finset.univ.erase (b18 k.val)).erase (b18 (k.val - 1)) :=
    Finset.mem_erase.2 ⟨b18ne (by omega) (by omega) (by omega), Finset.mem_erase.2 ⟨b18ne (by omega) (by omega) (by omega), Finset.mem_univ _⟩⟩
  have eq := b18v (k := k.val - 2) (by omega)
  have nq : b18 (k.val - 2) ∈ (Finset.univ.erase (b18 k.val)) := Finset.mem_erase.2 ⟨b18ne (by omega) (by omega) (by omega), Finset.mem_univ _⟩
  have ca : chunkRes c cH VQ VW VS TT k.val (b18 k.val) = stIn c cH (b18 k.val) := cr_in _ _ _ _ _ _ (by rw [ek]; unfold outLo; omega) (by omega) (by rw [ek]; unfold inTop; omega)
  have cb : chunkRes c cH VQ VW VS TT (k.val + 1) (b18 k.val) = stOut c cH VQ VW VS TT (b18 k.val) := cr_out _ _ _ _ _ _ (by rw [ek]; unfold outLo; omega) (by omega)
  have ma : chunkRes c cH VQ VW VS TT k.val (b18 (k.val - 1)) = stOut c cH VQ VW VS TT (b18 (k.val - 1)) := cr_out _ _ _ _ _ _ (by rw [em]; unfold outLo; omega) (by omega)
  have mb : chunkRes c cH VQ VW VS TT (k.val + 1) (b18 (k.val - 1)) = stDone c cH VQ VW VS TT (b18 (k.val - 1)) := cr_done _ _ _ _ _ _ (by rw [em]; unfold outLo; omega)
  have pa : chunkRes c cH VQ VW VS TT k.val (b18 (k.val + 9)) = stHome c cH (b18 (k.val + 9)) := cr_home _ _ _ _ _ _ (by rw [ep]; unfold outLo; omega) (by omega) (by rw [ep]; unfold inTop; omega)
  have pb : chunkRes c cH VQ VW VS TT (k.val + 1) (b18 (k.val + 9)) = stIn c cH (b18 (k.val + 9)) := cr_in _ _ _ _ _ _ (by rw [ep]; unfold outLo; omega) (by omega) (by rw [ep]; unfold inTop; omega)
  have rest : bigSep (((Finset.univ.erase (b18 k.val)).erase (b18 (k.val - 1))).erase (b18 (k.val + 9))) (chunkRes c cH VQ VW VS TT k.val)
      = bigSep (((Finset.univ.erase (b18 k.val)).erase (b18 (k.val - 1))).erase (b18 (k.val + 9))) (chunkRes c cH VQ VW VS TT (k.val + 1)) :=
    bigSep_congr fun j hj => cr_same _ _ _ _ _ _ (fun e => by simp [Fin.ext_iff, ek, em, ep] at hj; omega) (Or.inl fun e => by simp [Fin.ext_iff, ek, em, ep] at hj; omega) (Or.inl fun e => by simp [Fin.ext_iff, ek, em, ep] at hj; omega)
  have qa : qRes (F := F) c cH k.val (b18 k.val) = qAny c (b18 k.val) := qr_any _ _ (by omega) (by omega)
  have qb : qRes (F := F) c cH (k.val + 1) (b18 k.val) = flyQ c (s2 (b18 k.val).val) (b18 k.val) (qJ c cH (b18 k.val)) := qr_fly _ _ (by omega) (by omega)
  have qc : qRes (F := F) c cH k.val (b18 (k.val - 2)) = flyQ c (s2 (b18 (k.val - 2)).val) (b18 (k.val - 2)) (qJ c cH (b18 (k.val - 2))) := qr_fly _ _ (by omega) (by omega)
  have qd : qRes (F := F) c cH (k.val + 1) (b18 (k.val - 2)) = qblkP c (b18 (k.val - 2)) (qJ c cH (b18 (k.val - 2))) := qr_done _ _ (by omega)
  have qrest : bigSep ((Finset.univ.erase (b18 k.val)).erase (b18 (k.val - 2))) (qRes (F := F) c cH k.val)
      = bigSep ((Finset.univ.erase (b18 k.val)).erase (b18 (k.val - 2))) (qRes c cH (k.val + 1)) :=
    bigSep_congr fun j hj => qr_same _ _ (fun e => by simp [Fin.ext_iff, ek, eq] at hj; omega) (fun e => by simp [Fin.ext_iff, ek, eq] at hj; omega)
  have qf : qFree (F := F) c k.val = qFree c (k.val + 1) := by unfold qFree; rw [if_neg (by omega), if_neg (by omega), if_neg (by omega), if_neg (by omega)]
  unfold inv2
  rw [split_at _ (Finset.mem_univ (b18 k.val)), split_at _ nm, split_at _ np, split_at (chunkRes c cH VQ VW VS TT (k.val + 1)) (Finset.mem_univ (b18 k.val)),
    split_at (chunkRes c cH VQ VW VS TT (k.val + 1)) nm, split_at (chunkRes c cH VQ VW VS TT (k.val + 1)) np, ca, cb, ma, mb, pa, pb, rest]
  rw [split_at (qRes c cH k.val) (Finset.mem_univ (b18 k.val)), split_at (qRes c cH k.val) nq, split_at (qRes c cH (k.val + 1)) (Finset.mem_univ (b18 k.val)),
    split_at (qRes c cH (k.val + 1)) nq, qa, qb, qc, qd, qrest, qf]
  unfold stIn stOut oAny qAny
  unfold stHome stDone oAny
  rw [ek]
  rw [em, ep, s10_back (by omega)]
  rw [eq, s2_back h2]
  iintro ⟨Hvq, Hvw, Hvs, Htt, Hcs, Hy, Hys, ⟨%W, Hw⟩, HO, ⟨⟨Hfi, Hoc, ⟨%O, Hob⟩⟩, ⟨Hfo, Hic, Hcm⟩, ⟨Hcp, Hop⟩, Hr⟩, Hq⟩
  icases Hq with ⟨⟨⟨%QQ, Hqb⟩, Hfq, Hqr⟩, Hqf⟩
  iapply (wp_wand_r Idealize.ShloMosaic.frame (wpE (defs₀ (F := F)) 𝒱₀ (c : Thread nD τ) none) Set.univ)
  isplitl [Hvq Hvw Hvs Htt Hcs Hy Hys Hw HO Hfi Hoc Hob Hqb Hfq Hfo Hic Hcp]
  · iapply (trip_mid c cH v104 v105 k h1 h2 h8 VQ VW VS TT (csT c cH C k.val) (yfT c cH VW TT Y k.val) (ysfT c cH VW TT YS k.val) W (oJ c cH VQ VW VS TT (b18 (k.val - 1))) (qJ c cH (b18 (k.val - 2))) O QQ)
    isplitl [Hvq]; · iexact Hvq
    isplitl [Hvw]; · iexact Hvw
    isplitl [Hvs]; · iexact Hvs
    isplitl [Htt]; · iexact Htt
    isplitl [Hcs]; · iexact Hcs
    isplitl [Hy]; · iexact Hy
    isplitl [Hys]; · iexact Hys
    isplitl [Hw]; · iexact Hw
    isplitl [HO]; · iexact HO
    isplitl [Hfq]; · iexact Hfq
    isplitl [Hfi]; · iexact Hfi
    isplitl [Hqb]; · iexact Hqb
    isplitl [Hoc]; · iexact Hoc
    isplitl [Hob]; · iexact Hob
    isplitl [Hfo]; · iexact Hfo
    isplitl [Hic]; · iexact Hic
    iexact Hcp
  iintro %_ ⟨Hvq, Hvw, Hvs, Htt, Hcs, Hy, Hys, Hw, HO, Hqd, Hfq, Hck, Hick, Hfok, Hx⟩
  isplitl [Hvq]; · iexact Hvq
  isplitl [Hvw]; · iexact Hvw
  isplitl [Hvs]; · iexact Hvs
  isplitl [Htt]; · iexact Htt
  isplitl [Hcs]; · iexact Hcs
  isplitl [Hy]; · iexact Hy
  isplitl [Hys]; · iexact Hys
  isplitl [Hw]; · iexact Hw
  isplitl [HO]; · iexact HO
  icases Hx with ⟨Hod, Hfip, Hocp⟩
  isplitl [Hck Hick Hfok Hod Hcm Hfip Hocp Hop Hr]
  · isplitl [Hck Hick Hfok]
    · isplitl [Hfok]; · iexact Hfok
      isplitl [Hick]; · iexact Hick
      iexact Hck
    isplitl [Hod Hcm]
    · isplitl [Hcm]; · iexact Hcm
      iexact Hod
    isplitl [Hfip Hocp Hop]
    · isplitl [Hfip]; · iexact Hfip
      isplitl [Hocp]; · iexact Hocp
      iexact Hop
    iexact Hr
  isplitl [Hqd Hfq Hqr]
  · isplitl [Hfq]; · iexact Hfq
    isplitl [Hqd]; · iexact Hqd
    iexact Hqr
  iexact Hqf

theorem step_last (v104 : IVec S1x128 32) (v105 : FVec F S1x128 .f32) (k : Fin k0_t2_loop.trips) (h1 : 1 ≤ k.val) (h2 : 2 ≤ k.val) (h9 : 9 ≤ k.val) (C Y YS : S1152x128.Idx → F .f32) :
    inv2 c cH VQ VW VS TT C Y YS k.val
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => inv2 c cH VQ VW VS TT C Y YS (k.val + 1)) := by
  have hk := k_lt k
  have ek := b18v hk
  have eq := b18v (k := k.val - 2) (by omega)
  have nq : b18 (k.val - 2) ∈ (Finset.univ.erase (b18 k.val)) := Finset.mem_erase.2 ⟨b18ne (by omega) (by omega) (by omega), Finset.mem_univ _⟩
  have ca : chunkRes c cH VQ VW VS TT k.val (b18 k.val) = stIn c cH (b18 k.val) := cr_in _ _ _ _ _ _ (by rw [ek]; unfold outLo; omega) (by omega) (by rw [ek]; unfold inTop; omega)
  have cb : chunkRes c cH VQ VW VS TT (k.val + 1) (b18 k.val) = stOut c cH VQ VW VS TT (b18 k.val) := cr_out _ _ _ _ _ _ (by rw [ek]; unfold outLo; omega) (by omega)
  have rest : bigSep (Finset.univ.erase (b18 k.val)) (chunkRes c cH VQ VW VS TT k.val)
      = bigSep (Finset.univ.erase (b18 k.val)) (chunkRes c cH VQ VW VS TT (k.val + 1)) :=
    bigSep_congr fun j hj => cr_same _ _ _ _ _ _ (fun e => by simp [Fin.ext_iff, ek] at hj; omega) (by have := j.isLt; omega) (by have := j.isLt; omega)
  have qa : qRes (F := F) c cH k.val (b18 k.val) = qAny c (b18 k.val) := qr_any _ _ (by omega) (by omega)
  have qb : qRes (F := F) c cH (k.val + 1) (b18 k.val) = flyQ c (s2 (b18 k.val).val) (b18 k.val) (qJ c cH (b18 k.val)) := qr_fly _ _ (by omega) (by omega)
  have qc : qRes (F := F) c cH k.val (b18 (k.val - 2)) = flyQ c (s2 (b18 (k.val - 2)).val) (b18 (k.val - 2)) (qJ c cH (b18 (k.val - 2))) := qr_fly _ _ (by omega) (by omega)
  have qd : qRes (F := F) c cH (k.val + 1) (b18 (k.val - 2)) = qblkP c (b18 (k.val - 2)) (qJ c cH (b18 (k.val - 2))) := qr_done _ _ (by omega)
  have qrest : bigSep ((Finset.univ.erase (b18 k.val)).erase (b18 (k.val - 2))) (qRes (F := F) c cH k.val)
      = bigSep ((Finset.univ.erase (b18 k.val)).erase (b18 (k.val - 2))) (qRes c cH (k.val + 1)) :=
    bigSep_congr fun j hj => qr_same _ _ (fun e => by simp [Fin.ext_iff, ek, eq] at hj; omega) (fun e => by simp [Fin.ext_iff, ek, eq] at hj; omega)
  have qf : qFree (F := F) c k.val = qFree c (k.val + 1) := by unfold qFree; rw [if_neg (by omega), if_neg (by omega), if_neg (by omega), if_neg (by omega)]
  unfold inv2
  rw [split_at _ (Finset.mem_univ (b18 k.val)), split_at (chunkRes c cH VQ VW VS TT (k.val + 1)) (Finset.mem_univ (b18 k.val)), ca, cb, rest]
  rw [split_at (qRes c cH k.val) (Finset.mem_univ (b18 k.val)), split_at (qRes c cH k.val) nq, split_at (qRes c cH (k.val + 1)) (Finset.mem_univ (b18 k.val)),
    split_at (qRes c cH (k.val + 1)) nq, qa, qb, qc, qd, qrest, qf]
  unfold stIn stOut oAny qAny
  rw [ek]
  rw [eq, s2_back h2]
  iintro ⟨Hvq, Hvw, Hvs, Htt, Hcs, Hy, Hys, ⟨%W, Hw⟩, HO, ⟨⟨Hfi, Hoc, ⟨%O, Hob⟩⟩, Hr⟩, Hq⟩
  icases Hq with ⟨⟨⟨%QQ, Hqb⟩, Hfq, Hqr⟩, Hqf⟩
  iapply (wp_wand_r Idealize.ShloMosaic.frame (wpE (defs₀ (F := F)) 𝒱₀ (c : Thread nD τ) none) Set.univ)
  isplitl [Hvq Hvw Hvs Htt Hcs Hy Hys Hw HO Hfi Hoc Hob Hqb Hfq ]
  · iapply (trip_last c cH v104 v105 k h1 h2 h9 VQ VW VS TT (csT c cH C k.val) (yfT c cH VW TT Y k.val) (ysfT c cH VW TT YS k.val) W (oJ c cH VQ VW VS TT (b18 (k.val - 1))) (qJ c cH (b18 (k.val - 2))) O QQ)
    isplitl [Hvq]; · iexact Hvq
    isplitl [Hvw]; · iexact Hvw
    isplitl [Hvs]; · iexact Hvs
    isplitl [Htt]; · iexact Htt
    isplitl [Hcs]; · iexact Hcs
    isplitl [Hy]; · iexact Hy
    isplitl [Hys]; · iexact Hys
    isplitl [Hw]; · iexact Hw
    isplitl [HO]; · iexact HO
    isplitl [Hfq]; · iexact Hfq
    isplitl [Hfi]; · iexact Hfi
    isplitl [Hqb]; · iexact Hqb
    isplitl [Hoc]; · iexact Hoc
    iexact Hob
  iintro %_ ⟨Hvq, Hvw, Hvs, Htt, Hcs, Hy, Hys, Hw, HO, Hqd, Hfq, Hck, Hick, Hfok⟩
  isplitl [Hvq]; · iexact Hvq
  isplitl [Hvw]; · iexact Hvw
  isplitl [Hvs]; · iexact Hvs
  isplitl [Htt]; · iexact Htt
  isplitl [Hcs]; · iexact Hcs
  isplitl [Hy]; · iexact Hy
  isplitl [Hys]; · iexact Hys
  isplitl [Hw]; · iexact Hw
  isplitl [HO]; · iexact HO
  isplitl [Hck Hick Hfok Hr]
  · isplitl [Hck Hick Hfok]
    · isplitl [Hfok]; · iexact Hfok
      isplitl [Hick]; · iexact Hick
      iexact Hck
    iexact Hr
  isplitl [Hqd Hfq Hqr]
  · isplitl [Hfq]; · iexact Hfq
    isplitl [Hqd]; · iexact Hqd
    iexact Hqr
  iexact Hqf

end Inv

set_option warn.classDefReducibility false in
@[sl_loop] def loopInv2 (c : Dev nD) (v104 : IVec S1x128 32) (v105 : FVec F S1x128 .f32) (cH : Buf (Elt F) (cM.view.loc (c : Thread nD τ)))
    (VQ : S96x16384.Idx → F .fp8e4m3) (VW : S80x16384.Idx → F .bf16) (VS : S1x16384.Idx → F .f32) (TT : S128x128.Idx → F .f32)
    (C Y YS : S1152x128.Idx → F .f32) :
    LoopInvTy_k0_t2 (F := F) Unit ℕ (UU nD τ) ℕ 𝒱₀ c none Set.univ vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 where
  inv k _ := inv2 c cH VQ VW VS TT C Y YS k
  step k _ := by
    by_cases h9 : 9 ≤ k.val
    · exact step_last c cH VQ VW VS TT v104 v105 k (by omega) (by omega) h9 C Y YS
    by_cases h2 : 2 ≤ k.val
    · exact step_mid c cH VQ VW VS TT v104 v105 k (by omega) h2 (by omega) C Y YS
    by_cases h1 : k.val = 1
    · exact step_one c cH VQ VW VS TT v104 v105 k h1 (by omega) C Y YS
    · exact step_zero c cH VQ VW VS TT v104 v105 k (by omega) C Y YS

end Cert.Kernel.Hand

end
-- ==== Proof.KGeo.lean ====
/-
  The buffers' parts: disjoint, covering, and put back together.
-/
module

public import proofs.«01_k».proof.Proof.KL2

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 400000
open Cert.Hand
local notation "𝕄" => MT nD τ sig Unit (Elt F) ℕ (UU nD τ) ℕ

theorem splitF {n : ℕ} (f : Fin n → sProp 𝕄) {S : Finset (Fin n)} {a : Fin n} (h : a ∈ S) : bigSep S f = iprop(f a ∗ bigSep (S.erase a) f) := by
  conv_lhs => rw [← Finset.insert_erase h, bigSep_insert (Finset.notMem_erase a S)]
  rfl
/-- Held at contents that read the same, a memref's elements are held at either. -/
theorem pts_read (c : Dev nD) {sp : Space} {s : Shape} {e : EltTy} (m : Memref sig .tc sp s e) (f g : Buf (Elt F) (m.view.loc (c : Thread nD τ)))
    (h : m.view.read (Elt F) f = m.view.read (Elt F) g) :
    (m.view.loc (c : Thread nD τ) ↦[m.view.set]{fullShare} f : sProp 𝕄) = m.view.loc (c : Thread nD τ) ↦[m.view.set]{fullShare} g := by
  rw [pointsTo_rep (Ix := Unit) (Name := ℕ) (U := UU nD τ) (Lvl := ℕ) (c : Thread nD τ) m f, pointsTo_rep (Ix := Unit) (Name := ℕ) (U := UU nD τ) (Lvl := ℕ) (c : Thread nD τ) m g, h]

/-! ### The panel's columns in VMEM -/
def acolG (b : Fin 4) : Finset S72x16384.Idx := (Rect.unit (s := S72x16384) ![0, 4096 * b.val] S72x4096.size (colInb b)).set
theorem acol_set (b : Fin 4) : (acol b).view.set = acolG b := View.set_slice_whole _ _
theorem acol_off (b : Fin 4) (a : Fin S72x16384.rank) (h : a ≠ 1) : (![0, 4096 * b.val] : Fin _ → ℕ) a = 0 := by
  fin_cases a <;> first | rfl | exact absurd rfl h
theorem acol_sz (a : Fin S72x16384.rank) (h : a ≠ 1) : S72x4096.size a = S72x16384.size a := by
  fin_cases a <;> first | rfl | exact absurd rfl h
theorem acol_off₀ (b : Fin 4) : (![0, 4096 * b.val] : Fin S72x16384.rank → ℕ) 1 = 4096 * b.val := by first | rfl | (show b.val = 1 * b.val; omega)
theorem acol_disj (b b' : Fin 4) (h : b ≠ b') : Disjoint (acolG b) (acolG b') :=
  Ring.lead_disjoint (s := S72x16384) 1 4096 (fun b => ![0, 4096 * b.val]) S72x4096.size colInb acol_off₀ rfl b b' h
theorem acol_cover : (Finset.univ : Finset (Fin 4)).biUnion acolG = Finset.univ :=
  Ring.lead_cover (s := S72x16384) 1 4096 (fun b => ![0, 4096 * b.val]) S72x4096.size colInb acol_off₀ acol_off rfl acol_sz rfl
theorem acol_pt (c : Dev nD) (b : Fin 4) (f : Buf (Elt F) ((c : Thread nD τ).loc cc0_scratch1)) :
    ((acol b).view.loc (c : Thread nD τ) ↦[(acol b).view.set]{fullShare} f : sProp 𝕄) = (((c : Thread nD τ).loc cc0_scratch1) ↦[acolG b]{fullShare} f : sProp 𝕄) :=
  congrArg (fun S => (_ ↦[S]{fullShare} f : sProp 𝕄)) (acol_set b)
theorem acol_blocks (c : Dev nD) (f : Buf (Elt F) ((c : Thread nD τ).loc cc0_scratch1)) :
    (((c : Thread nD τ).loc cc0_scratch1) ↦{fullShare} f : sProp 𝕄) = bigSep Finset.univ fun b => ((acol b).view.loc (c : Thread nD τ) ↦[(acol b).view.set]{fullShare} f : sProp 𝕄) := by
  rw [Ring.pointsTo_blocks (ℓ := (c : Thread nD τ).loc cc0_scratch1) acolG acol_disj acol_cover]
  exact bigSep_congr fun b _ => (acol_pt c b f).symm
abbrev acolAny (c : Dev nD) (b : Fin 4) : sProp 𝕄 := iprop(∃ f : Buf (Elt F) ((acol b).view.loc (c : Thread nD τ)), (acol b).view.loc (c : Thread nD τ) ↦[(acol b).view.set]{fullShare} f)
theorem acol_give (c : Dev nD) :
    (iprop(∃ f : Buf (Elt F) ((c : Thread nD τ).loc cc0_scratch1), ((c : Thread nD τ).loc cc0_scratch1) ↦{fullShare} f) : sProp 𝕄)
      ⊢ bigSep Finset.univ (acolAny (F := F) c) := by
  iintro ⟨%f, H⟩
  ihave H' := (entails_of_eq (acol_blocks c f)) $$ H
  have hm : bigSep Finset.univ (fun b => ((acol b).view.loc (c : Thread nD τ) ↦[(acol b).view.set]{fullShare} f : sProp 𝕄)) ⊢ bigSep Finset.univ (acolAny (F := F) c) :=
    bigSep_mono fun b _ => (by iintro H; iexists f; iexact H : (_ : sProp 𝕄) ⊢ acolAny (F := F) c b)
  iapply hm $$ H'
/-! ### and in HBM -/
def vcolG (b : Fin 4) : Finset S72x16384.Idx := (Rect.unit (s := S72x16384) ![0, 4096 * b.val] S72x4096.size (colInb b)).set
theorem vcol_set (b : Fin 4) : (vcol b).view.set = vcolG b := View.set_slice_whole _ _
theorem vcol_off (b : Fin 4) (a : Fin S72x16384.rank) (h : a ≠ 1) : (![0, 4096 * b.val] : Fin _ → ℕ) a = 0 := by
  fin_cases a <;> first | rfl | exact absurd rfl h
theorem vcol_sz (a : Fin S72x16384.rank) (h : a ≠ 1) : S72x4096.size a = S72x16384.size a := by
  fin_cases a <;> first | rfl | exact absurd rfl h
theorem vcol_off₀ (b : Fin 4) : (![0, 4096 * b.val] : Fin S72x16384.rank → ℕ) 1 = 4096 * b.val := by first | rfl | (show b.val = 1 * b.val; omega)
theorem vcol_disj (b b' : Fin 4) (h : b ≠ b') : Disjoint (vcolG b) (vcolG b') :=
  Ring.lead_disjoint (s := S72x16384) 1 4096 (fun b => ![0, 4096 * b.val]) S72x4096.size colInb vcol_off₀ rfl b b' h
theorem vcol_cover : (Finset.univ : Finset (Fin 4)).biUnion vcolG = Finset.univ :=
  Ring.lead_cover (s := S72x16384) 1 4096 (fun b => ![0, 4096 * b.val]) S72x4096.size colInb vcol_off₀ vcol_off rfl vcol_sz rfl
theorem vcol_pt (c : Dev nD) (b : Fin 4) (f : Buf (Elt F) ((c : Thread nD τ).loc main_v1)) :
    ((vcol b).view.loc (c : Thread nD τ) ↦[(vcol b).view.set]{fullShare} f : sProp 𝕄) = (((c : Thread nD τ).loc main_v1) ↦[vcolG b]{fullShare} f : sProp 𝕄) :=
  congrArg (fun S => (_ ↦[S]{fullShare} f : sProp 𝕄)) (vcol_set b)
theorem vcol_blocks (c : Dev nD) (f : Buf (Elt F) ((c : Thread nD τ).loc main_v1)) :
    (((c : Thread nD τ).loc main_v1) ↦{fullShare} f : sProp 𝕄) = bigSep Finset.univ fun b => ((vcol b).view.loc (c : Thread nD τ) ↦[(vcol b).view.set]{fullShare} f : sProp 𝕄) := by
  rw [Ring.pointsTo_blocks (ℓ := (c : Thread nD τ).loc main_v1) vcolG vcol_disj vcol_cover]
  exact bigSep_congr fun b _ => (vcol_pt c b f).symm
abbrev vcolAny (c : Dev nD) (b : Fin 4) : sProp 𝕄 := iprop(∃ f : Buf (Elt F) ((vcol b).view.loc (c : Thread nD τ)), (vcol b).view.loc (c : Thread nD τ) ↦[(vcol b).view.set]{fullShare} f)
/-! ### The chunks of the trailing matrix -/
def cblkG (b : Fin 18) : Finset S1152x16384.Idx := (Rect.unit (s := S1152x16384) ![64 * b.val, 0] S64x16384.size (blkInb b)).set
theorem cblk_set (b : Fin 18) : (cblk b).view.set = cblkG b := View.set_slice_whole _ _
theorem cblk_off (b : Fin 18) (a : Fin S1152x16384.rank) (h : a ≠ 0) : (![64 * b.val, 0] : Fin _ → ℕ) a = 0 := by
  fin_cases a <;> first | rfl | exact absurd rfl h
theorem cblk_sz (a : Fin S1152x16384.rank) (h : a ≠ 0) : S64x16384.size a = S1152x16384.size a := by
  fin_cases a <;> first | rfl | exact absurd rfl h
theorem cblk_off₀ (b : Fin 18) : (![64 * b.val, 0] : Fin S1152x16384.rank → ℕ) 0 = 64 * b.val := by first | rfl | (show b.val = 1 * b.val; omega)
theorem cblk_disj (b b' : Fin 18) (h : b ≠ b') : Disjoint (cblkG b) (cblkG b') :=
  Ring.lead_disjoint (s := S1152x16384) 0 64 (fun b => ![64 * b.val, 0]) S64x16384.size blkInb cblk_off₀ rfl b b' h
theorem cblk_cover : (Finset.univ : Finset (Fin 18)).biUnion cblkG = Finset.univ :=
  Ring.lead_cover (s := S1152x16384) 0 64 (fun b => ![64 * b.val, 0]) S64x16384.size blkInb cblk_off₀ cblk_off rfl cblk_sz rfl
theorem cblk_pt (c : Dev nD) (b : Fin 18) (f : Buf (Elt F) ((c : Thread nD τ).loc main_v3)) :
    ((cblk b).view.loc (c : Thread nD τ) ↦[(cblk b).view.set]{fullShare} f : sProp 𝕄) = (((c : Thread nD τ).loc main_v3) ↦[cblkG b]{fullShare} f : sProp 𝕄) :=
  congrArg (fun S => (_ ↦[S]{fullShare} f : sProp 𝕄)) (cblk_set b)
theorem cblk_blocks (c : Dev nD) (f : Buf (Elt F) ((c : Thread nD τ).loc main_v3)) :
    (((c : Thread nD τ).loc main_v3) ↦{fullShare} f : sProp 𝕄) = bigSep Finset.univ fun b => ((cblk b).view.loc (c : Thread nD τ) ↦[(cblk b).view.set]{fullShare} f : sProp 𝕄) := by
  rw [Ring.pointsTo_blocks (ℓ := (c : Thread nD τ).loc main_v3) cblkG cblk_disj cblk_cover]
  exact bigSep_congr fun b _ => (cblk_pt c b f).symm
abbrev cblkAny (c : Dev nD) (b : Fin 18) : sProp 𝕄 := iprop(∃ f : Buf (Elt F) ((cblk b).view.loc (c : Thread nD τ)), (cblk b).view.loc (c : Thread nD τ) ↦[(cblk b).view.set]{fullShare} f)
/-! ### of the result -/
def oblkG (b : Fin 18) : Finset S1152x16384.Idx := (Rect.unit (s := S1152x16384) ![64 * b.val, 0] S64x16384.size (blkInb b)).set
theorem oblk_set (b : Fin 18) : (oblk b).view.set = oblkG b := View.set_slice_whole _ _
theorem oblk_off (b : Fin 18) (a : Fin S1152x16384.rank) (h : a ≠ 0) : (![64 * b.val, 0] : Fin _ → ℕ) a = 0 := by
  fin_cases a <;> first | rfl | exact absurd rfl h
theorem oblk_sz (a : Fin S1152x16384.rank) (h : a ≠ 0) : S64x16384.size a = S1152x16384.size a := by
  fin_cases a <;> first | rfl | exact absurd rfl h
theorem oblk_off₀ (b : Fin 18) : (![64 * b.val, 0] : Fin S1152x16384.rank → ℕ) 0 = 64 * b.val := by first | rfl | (show b.val = 1 * b.val; omega)
theorem oblk_disj (b b' : Fin 18) (h : b ≠ b') : Disjoint (oblkG b) (oblkG b') :=
  Ring.lead_disjoint (s := S1152x16384) 0 64 (fun b => ![64 * b.val, 0]) S64x16384.size blkInb oblk_off₀ rfl b b' h
theorem oblk_cover : (Finset.univ : Finset (Fin 18)).biUnion oblkG = Finset.univ :=
  Ring.lead_cover (s := S1152x16384) 0 64 (fun b => ![64 * b.val, 0]) S64x16384.size blkInb oblk_off₀ oblk_off rfl oblk_sz rfl
theorem oblk_pt (c : Dev nD) (b : Fin 18) (f : Buf (Elt F) ((c : Thread nD τ).loc main_v4_0)) :
    ((oblk b).view.loc (c : Thread nD τ) ↦[(oblk b).view.set]{fullShare} f : sProp 𝕄) = (((c : Thread nD τ).loc main_v4_0) ↦[oblkG b]{fullShare} f : sProp 𝕄) :=
  congrArg (fun S => (_ ↦[S]{fullShare} f : sProp 𝕄)) (oblk_set b)
theorem oblk_blocks (c : Dev nD) (f : Buf (Elt F) ((c : Thread nD τ).loc main_v4_0)) :
    (((c : Thread nD τ).loc main_v4_0) ↦{fullShare} f : sProp 𝕄) = bigSep Finset.univ fun b => ((oblk b).view.loc (c : Thread nD τ) ↦[(oblk b).view.set]{fullShare} f : sProp 𝕄) := by
  rw [Ring.pointsTo_blocks (ℓ := (c : Thread nD τ).loc main_v4_0) oblkG oblk_disj oblk_cover]
  exact bigSep_congr fun b _ => (oblk_pt c b f).symm
abbrev oblkAny (c : Dev nD) (b : Fin 18) : sProp 𝕄 := iprop(∃ f : Buf (Elt F) ((oblk b).view.loc (c : Thread nD τ)), (oblk b).view.loc (c : Thread nD τ) ↦[(oblk b).view.set]{fullShare} f)
theorem oblk_give (c : Dev nD) :
    (iprop(∃ f : Buf (Elt F) ((c : Thread nD τ).loc main_v4_0), ((c : Thread nD τ).loc main_v4_0) ↦{fullShare} f) : sProp 𝕄)
      ⊢ bigSep Finset.univ (oblkAny (F := F) c) := by
  iintro ⟨%f, H⟩
  ihave H' := (entails_of_eq (oblk_blocks c f)) $$ H
  have hm : bigSep Finset.univ (fun b => ((oblk b).view.loc (c : Thread nD τ) ↦[(oblk b).view.set]{fullShare} f : sProp 𝕄)) ⊢ bigSep Finset.univ (oblkAny (F := F) c) :=
    bigSep_mono fun b _ => (by iintro H; iexists f; iexact H : (_ : sProp 𝕄) ⊢ oblkAny (F := F) c b)
  iapply hm $$ H'
theorem oblk_join (c : Dev nD) (X : Fin 18 → Buf (Elt F) ((c : Thread nD τ).loc main_v4_0)) :
    bigSep Finset.univ (fun b => ((oblk b).view.loc (c : Thread nD τ) ↦[(oblk b).view.set]{fullShare} X b : sProp 𝕄))
      ⊢ (iprop(∃ g : Buf (Elt F) ((c : Thread nD τ).loc main_v4_0), ⌜∀ b, ∀ i ∈ oblkG b, g i = X b i⌝ ∗ ((c : Thread nD τ).loc main_v4_0) ↦{fullShare} g) : sProp 𝕄) := by
  refine (entails_of_eq (bigSep_congr fun b _ => oblk_pt c b (X b))).trans ?_
  refine (pointsTo_biUnion_join (ℓ := (c : Thread nD τ).loc main_v4_0) Finset.univ oblkG X coutM.view.junk (fun b _ b' _ h => oblk_disj b b' h)).trans ?_
  rw [oblk_cover]
  iintro ⟨%g, %h, H⟩
  iexists g
  isplitr
  · ipureintro; intro b i hi; exact h b (Finset.mem_univ b) i hi
  · iexact H

/-! ### and of its codes -/
def qblkG (b : Fin 18) : Finset S1152x16384.Idx := (Rect.unit (s := S1152x16384) ![64 * b.val, 0] S64x16384.size (blkInb b)).set
theorem qblk_set (b : Fin 18) : (qblk b).view.set = qblkG b := View.set_slice_whole _ _
theorem qblk_off (b : Fin 18) (a : Fin S1152x16384.rank) (h : a ≠ 0) : (![64 * b.val, 0] : Fin _ → ℕ) a = 0 := by
  fin_cases a <;> first | rfl | exact absurd rfl h
theorem qblk_sz (a : Fin S1152x16384.rank) (h : a ≠ 0) : S64x16384.size a = S1152x16384.size a := by
  fin_cases a <;> first | rfl | exact absurd rfl h
theorem qblk_off₀ (b : Fin 18) : (![64 * b.val, 0] : Fin S1152x16384.rank → ℕ) 0 = 64 * b.val := by first | rfl | (show b.val = 1 * b.val; omega)
theorem qblk_disj (b b' : Fin 18) (h : b ≠ b') : Disjoint (qblkG b) (qblkG b') :=
  Ring.lead_disjoint (s := S1152x16384) 0 64 (fun b => ![64 * b.val, 0]) S64x16384.size blkInb qblk_off₀ rfl b b' h
theorem qblk_cover : (Finset.univ : Finset (Fin 18)).biUnion qblkG = Finset.univ :=
  Ring.lead_cover (s := S1152x16384) 0 64 (fun b => ![64 * b.val, 0]) S64x16384.size blkInb qblk_off₀ qblk_off rfl qblk_sz rfl
theorem qblk_pt (c : Dev nD) (b : Fin 18) (f : Buf (Elt F) ((c : Thread nD τ).loc main_v4_3)) :
    ((qblk b).view.loc (c : Thread nD τ) ↦[(qblk b).view.set]{fullShare} f : sProp 𝕄) = (((c : Thread nD τ).loc main_v4_3) ↦[qblkG b]{fullShare} f : sProp 𝕄) :=
  congrArg (fun S => (_ ↦[S]{fullShare} f : sProp 𝕄)) (qblk_set b)
theorem qblk_blocks (c : Dev nD) (f : Buf (Elt F) ((c : Thread nD τ).loc main_v4_3)) :
    (((c : Thread nD τ).loc main_v4_3) ↦{fullShare} f : sProp 𝕄) = bigSep Finset.univ fun b => ((qblk b).view.loc (c : Thread nD τ) ↦[(qblk b).view.set]{fullShare} f : sProp 𝕄) := by
  rw [Ring.pointsTo_blocks (ℓ := (c : Thread nD τ).loc main_v4_3) qblkG qblk_disj qblk_cover]
  exact bigSep_congr fun b _ => (qblk_pt c b f).symm
abbrev qblkAny (c : Dev nD) (b : Fin 18) : sProp 𝕄 := iprop(∃ f : Buf (Elt F) ((qblk b).view.loc (c : Thread nD τ)), (qblk b).view.loc (c : Thread nD τ) ↦[(qblk b).view.set]{fullShare} f)
theorem qblk_give (c : Dev nD) :
    (iprop(∃ f : Buf (Elt F) ((c : Thread nD τ).loc main_v4_3), ((c : Thread nD τ).loc main_v4_3) ↦{fullShare} f) : sProp 𝕄)
      ⊢ bigSep Finset.univ (qblkAny (F := F) c) := by
  iintro ⟨%f, H⟩
  ihave H' := (entails_of_eq (qblk_blocks c f)) $$ H
  have hm : bigSep Finset.univ (fun b => ((qblk b).view.loc (c : Thread nD τ) ↦[(qblk b).view.set]{fullShare} f : sProp 𝕄)) ⊢ bigSep Finset.univ (qblkAny (F := F) c) :=
    bigSep_mono fun b _ => (by iintro H; iexists f; iexact H : (_ : sProp 𝕄) ⊢ qblkAny (F := F) c b)
  iapply hm $$ H'
theorem qblk_join (c : Dev nD) (X : Fin 18 → Buf (Elt F) ((c : Thread nD τ).loc main_v4_3)) :
    bigSep Finset.univ (fun b => ((qblk b).view.loc (c : Thread nD τ) ↦[(qblk b).view.set]{fullShare} X b : sProp 𝕄))
      ⊢ (iprop(∃ g : Buf (Elt F) ((c : Thread nD τ).loc main_v4_3), ⌜∀ b, ∀ i ∈ qblkG b, g i = X b i⌝ ∗ ((c : Thread nD τ).loc main_v4_3) ↦{fullShare} g) : sProp 𝕄) := by
  refine (entails_of_eq (bigSep_congr fun b _ => qblk_pt c b (X b))).trans ?_
  refine (pointsTo_biUnion_join (ℓ := (c : Thread nD τ).loc main_v4_3) Finset.univ qblkG X cqM.view.junk (fun b _ b' _ h => qblk_disj b b' h)).trans ?_
  rw [qblk_cover]
  iintro ⟨%g, %h, H⟩
  iexists g
  isplitr
  · ipureintro; intro b i hi; exact h b (Finset.mem_univ b) i hi
  · iexact H

/-! ### The ring of chunks -/
def slotG (b : Fin 10) : Finset S10x64x16384.Idx := (Rect.unit (s := S10x64x16384) ![b.val, 0, 0] S1x64x16384.size (slotInb b)).set
theorem slot_set (b : Fin 10) : (slot b).view.set = slotG b := (View.set_reshape _ _).trans (View.set_slice_whole _ _)
theorem slot_off (b : Fin 10) (a : Fin S10x64x16384.rank) (h : a ≠ 0) : (![b.val, 0, 0] : Fin _ → ℕ) a = 0 := by
  fin_cases a <;> first | rfl | exact absurd rfl h
theorem slot_sz (a : Fin S10x64x16384.rank) (h : a ≠ 0) : S1x64x16384.size a = S10x64x16384.size a := by
  fin_cases a <;> first | rfl | exact absurd rfl h
theorem slot_off₀ (b : Fin 10) : (![b.val, 0, 0] : Fin S10x64x16384.rank → ℕ) 0 = 1 * b.val := by first | rfl | (show b.val = 1 * b.val; omega)
theorem slot_disj (b b' : Fin 10) (h : b ≠ b') : Disjoint (slotG b) (slotG b') :=
  Ring.lead_disjoint (s := S10x64x16384) 0 1 (fun b => ![b.val, 0, 0]) S1x64x16384.size slotInb slot_off₀ rfl b b' h
theorem slot_cover : (Finset.univ : Finset (Fin 10)).biUnion slotG = Finset.univ :=
  Ring.lead_cover (s := S10x64x16384) 0 1 (fun b => ![b.val, 0, 0]) S1x64x16384.size slotInb slot_off₀ slot_off rfl slot_sz rfl
theorem slot_pt (c : Dev nD) (b : Fin 10) (f : Buf (Elt F) ((c : Thread nD τ).loc cc0_scratch0)) :
    ((slot b).view.loc (c : Thread nD τ) ↦[(slot b).view.set]{fullShare} f : sProp 𝕄) = (((c : Thread nD τ).loc cc0_scratch0) ↦[slotG b]{fullShare} f : sProp 𝕄) :=
  congrArg (fun S => (_ ↦[S]{fullShare} f : sProp 𝕄)) (slot_set b)
theorem slot_blocks (c : Dev nD) (f : Buf (Elt F) ((c : Thread nD τ).loc cc0_scratch0)) :
    (((c : Thread nD τ).loc cc0_scratch0) ↦{fullShare} f : sProp 𝕄) = bigSep Finset.univ fun b => ((slot b).view.loc (c : Thread nD τ) ↦[(slot b).view.set]{fullShare} f : sProp 𝕄) := by
  rw [Ring.pointsTo_blocks (ℓ := (c : Thread nD τ).loc cc0_scratch0) slotG slot_disj slot_cover]
  exact bigSep_congr fun b _ => (slot_pt c b f).symm
abbrev slotAny (c : Dev nD) (b : Fin 10) : sProp 𝕄 := iprop(∃ f : Buf (Elt F) ((slot b).view.loc (c : Thread nD τ)), (slot b).view.loc (c : Thread nD τ) ↦[(slot b).view.set]{fullShare} f)
theorem slot_any (c : Dev nD) :
    bigSep Finset.univ (slotAny (F := F) c)
      ⊢ (iprop(∃ f : Buf (Elt F) ((c : Thread nD τ).loc cc0_scratch0), ((c : Thread nD τ).loc cc0_scratch0) ↦{fullShare} f) : sProp 𝕄) := by
  refine (entails_of_eq (bigSep_congr (Ψ := fun b => iprop(∃ f : Buf (Elt F) ((c : Thread nD τ).loc cc0_scratch0), ((c : Thread nD τ).loc cc0_scratch0) ↦[slotG b]{fullShare} f)) fun b _ => ?_)).trans
    (Ring.pointsTo_blocks_join_exists (ℓ := (c : Thread nD τ).loc cc0_scratch0) slotG slot_disj slot_cover cbufM.view.junk)
  exact congrArg BIBase.exists (funext fun f => slot_pt c b f)
theorem slot_give (c : Dev nD) :
    (iprop(∃ f : Buf (Elt F) ((c : Thread nD τ).loc cc0_scratch0), ((c : Thread nD τ).loc cc0_scratch0) ↦{fullShare} f) : sProp 𝕄)
      ⊢ bigSep Finset.univ (slotAny (F := F) c) := by
  iintro ⟨%f, H⟩
  ihave H' := (entails_of_eq (slot_blocks c f)) $$ H
  have hm : bigSep Finset.univ (fun b => ((slot b).view.loc (c : Thread nD τ) ↦[(slot b).view.set]{fullShare} f : sProp 𝕄)) ⊢ bigSep Finset.univ (slotAny (F := F) c) :=
    bigSep_mono fun b _ => (by iintro H; iexists f; iexact H : (_ : sProp 𝕄) ⊢ slotAny (F := F) c b)
  iapply hm $$ H'
/-! ### and of codes -/
def qslotG (b : Fin 2) : Finset S2x64x16384.Idx := (Rect.unit (s := S2x64x16384) ![b.val, 0, 0] S1x64x16384.size (qslotInb b)).set
theorem qslot_set (b : Fin 2) : (qslot b).view.set = qslotG b := (View.set_reshape _ _).trans (View.set_slice_whole _ _)
theorem qslot_off (b : Fin 2) (a : Fin S2x64x16384.rank) (h : a ≠ 0) : (![b.val, 0, 0] : Fin _ → ℕ) a = 0 := by
  fin_cases a <;> first | rfl | exact absurd rfl h
theorem qslot_sz (a : Fin S2x64x16384.rank) (h : a ≠ 0) : S1x64x16384.size a = S2x64x16384.size a := by
  fin_cases a <;> first | rfl | exact absurd rfl h
theorem qslot_off₀ (b : Fin 2) : (![b.val, 0, 0] : Fin S2x64x16384.rank → ℕ) 0 = 1 * b.val := by first | rfl | (show b.val = 1 * b.val; omega)
theorem qslot_disj (b b' : Fin 2) (h : b ≠ b') : Disjoint (qslotG b) (qslotG b') :=
  Ring.lead_disjoint (s := S2x64x16384) 0 1 (fun b => ![b.val, 0, 0]) S1x64x16384.size qslotInb qslot_off₀ rfl b b' h
theorem qslot_cover : (Finset.univ : Finset (Fin 2)).biUnion qslotG = Finset.univ :=
  Ring.lead_cover (s := S2x64x16384) 0 1 (fun b => ![b.val, 0, 0]) S1x64x16384.size qslotInb qslot_off₀ qslot_off rfl qslot_sz rfl
theorem qslot_pt (c : Dev nD) (b : Fin 2) (f : Buf (Elt F) ((c : Thread nD τ).loc cc0_scratch5)) :
    ((qslot b).view.loc (c : Thread nD τ) ↦[(qslot b).view.set]{fullShare} f : sProp 𝕄) = (((c : Thread nD τ).loc cc0_scratch5) ↦[qslotG b]{fullShare} f : sProp 𝕄) :=
  congrArg (fun S => (_ ↦[S]{fullShare} f : sProp 𝕄)) (qslot_set b)
theorem qslot_blocks (c : Dev nD) (f : Buf (Elt F) ((c : Thread nD τ).loc cc0_scratch5)) :
    (((c : Thread nD τ).loc cc0_scratch5) ↦{fullShare} f : sProp 𝕄) = bigSep Finset.univ fun b => ((qslot b).view.loc (c : Thread nD τ) ↦[(qslot b).view.set]{fullShare} f : sProp 𝕄) := by
  rw [Ring.pointsTo_blocks (ℓ := (c : Thread nD τ).loc cc0_scratch5) qslotG qslot_disj qslot_cover]
  exact bigSep_congr fun b _ => (qslot_pt c b f).symm
abbrev qslotAny (c : Dev nD) (b : Fin 2) : sProp 𝕄 := iprop(∃ f : Buf (Elt F) ((qslot b).view.loc (c : Thread nD τ)), (qslot b).view.loc (c : Thread nD τ) ↦[(qslot b).view.set]{fullShare} f)
theorem qslot_any (c : Dev nD) :
    bigSep Finset.univ (qslotAny (F := F) c)
      ⊢ (iprop(∃ f : Buf (Elt F) ((c : Thread nD τ).loc cc0_scratch5), ((c : Thread nD τ).loc cc0_scratch5) ↦{fullShare} f) : sProp 𝕄) := by
  refine (entails_of_eq (bigSep_congr (Ψ := fun b => iprop(∃ f : Buf (Elt F) ((c : Thread nD τ).loc cc0_scratch5), ((c : Thread nD τ).loc cc0_scratch5) ↦[qslotG b]{fullShare} f)) fun b _ => ?_)).trans
    (Ring.pointsTo_blocks_join_exists (ℓ := (c : Thread nD τ).loc cc0_scratch5) qslotG qslot_disj qslot_cover qbufM.view.junk)
  exact congrArg BIBase.exists (funext fun f => qslot_pt c b f)
theorem qslot_give (c : Dev nD) :
    (iprop(∃ f : Buf (Elt F) ((c : Thread nD τ).loc cc0_scratch5), ((c : Thread nD τ).loc cc0_scratch5) ↦{fullShare} f) : sProp 𝕄)
      ⊢ bigSep Finset.univ (qslotAny (F := F) c) := by
  iintro ⟨%f, H⟩
  ihave H' := (entails_of_eq (qslot_blocks c f)) $$ H
  have hm : bigSep Finset.univ (fun b => ((qslot b).view.loc (c : Thread nD τ) ↦[(qslot b).view.set]{fullShare} f : sProp 𝕄)) ⊢ bigSep Finset.univ (qslotAny (F := F) c) :=
    bigSep_mono fun b _ => (by iintro H; iexists f; iexact H : (_ : sProp 𝕄) ⊢ qslotAny (F := F) c b)
  iapply hm $$ H'
theorem big4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem acol_rep (c : Dev nD) (vH : Buf (Elt F) (vtM.view.loc (c : Thread nD τ))) (i : Fin 4) (f : Buf (Elt F) ((acol i).view.loc (c : Thread nD τ)))
    (h : (acol i).view.read (Elt F) f = (vcol i).view.read (Elt F) vH) :
    ((acol i).view.loc (c : Thread nD τ) ↦[(acol i).view.set]{fullShare} f : sProp 𝕄)
      ⊢ ((acol i).view.loc (c : Thread nD τ) ↦[(acol i).view.set]{fullShare} atM.view.rep (vtM.view.read (Elt F) vH) : sProp 𝕄) := by
  refine entails_of_eq (pts_read c (acol i) _ _ ?_)
  rw [h]
  funext x
  have e := congrFun (View.read_rep (Val := Elt F) atM.view (vtM.view.read (Elt F) vH)) ((Rect.unit (s := S72x16384) ![0, 4096 * i.val] S72x4096.size (colInb i)).emb x)
  exact e.symm
theorem at_join4 (c : Dev nD) (A : S72x16384.Idx → F .f32) :
    iprop(((acol 0).view.loc (c : Thread nD τ) ↦[(acol 0).view.set]{fullShare} atM.view.rep A : sProp 𝕄) ∗ ((acol 1).view.loc (c : Thread nD τ) ↦[(acol 1).view.set]{fullShare} atM.view.rep A)
      ∗ ((acol 2).view.loc (c : Thread nD τ) ↦[(acol 2).view.set]{fullShare} atM.view.rep A) ∗ ((acol 3).view.loc (c : Thread nD τ) ↦[(acol 3).view.set]{fullShare} atM.view.rep A))
      ⊢ (atP c A : sProp 𝕄) :=
  entails_of_eq ((acol_blocks c (atM.view.rep A)).trans (big4 _)).symm

end Cert.Kernel.Hand

end
-- ==== Proof.KPre.lean ====
/-
  What the body is handed, and the chunk loop entered and left.
-/
module

public import proofs.«01_k».proof.Proof.KGeo

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

section Body
variable (c : Dev nD) (vH : Buf (Elt F) (vtM.view.loc (c : Thread nD τ))) (tH : Buf (Elt F) (tM.view.loc (c : Thread nD τ))) (cH : Buf (Elt F) (cM.view.loc (c : Thread nD τ)))

abbrev aCellP (s : Fin 4) : sProp 𝕄 := semVal ((c : Thread nD τ), SemLoc.dma (aC s).sem) 0
abbrev mCellP (s : Fin 8) : sProp 𝕄 := semVal ((c : Thread nD τ), SemLoc.dma (mC s).sem) 0
abbrev vcolP (i : Fin 4) : sProp 𝕄 := (vcol i).view.loc (c : Thread nD τ) ↦[(vcol i).view.set]{fullShare} vH
abbrev anyP {sp : Space} {s : Shape} {e : EltTy} (m : Memref sig .tc sp s e) : sProp 𝕄 :=
  iprop(∃ f : Buf (Elt F) (m.view.loc (c : Thread nD τ)), m.view.loc (c : Thread nD τ) ↦[m.view.set]{fullShare} f)
abbrev anyW {sp : Space} {s : Shape} {e : EltTy} (m : Memref sig .tc sp s e) : sProp 𝕄 :=
  iprop(∃ f : Buf (Elt F) (m.view.loc (c : Thread nD τ)), m.view.loc (c : Thread nD τ) ↦{fullShare} f)

/-- What the body is handed. -/
def PRE : sProp 𝕄 :=
  iprop(vcolP c vH 0 ∗ anyP c (acol 0) ∗ aCellP c 0 ∗ vcolP c vH 1 ∗ anyP c (acol 1) ∗ aCellP c 1 ∗ vcolP c vH 2 ∗ anyP c (acol 2) ∗ aCellP c 2 ∗ vcolP c vH 3 ∗ anyP c (acol 3) ∗ aCellP c 3
    ∗ (tM.view.loc (c : Thread nD τ) ↦{fullShare} tH) ∗ anyW c toM
    ∗ anyW c vqM ∗ anyW c vqoM ∗ anyW c vwM ∗ anyW c vsrM ∗ anyW c vsvM ∗ anyW c wM ∗ anyW c ttM
    ∗ anyW c csbM ∗ anyW c yfM ∗ anyW c ysfM ∗ anyW c yqbM ∗ anyW c ysbM
    ∗ anyW c vqtM ∗ anyW c vsM ∗ anyW c csM ∗ anyW c yqtM ∗ anyW c ysM
    ∗ mCellP c 0 ∗ mCellP c 1 ∗ mCellP c 2 ∗ mCellP c 3 ∗ mCellP c 4 ∗ mCellP c 5 ∗ mCellP c 6 ∗ mCellP c 7
    ∗ anyP c (slot 0) ∗ anyP c (slot 1) ∗ anyP c (slot 2) ∗ anyP c (slot 3) ∗ anyP c (slot 4) ∗ anyP c (slot 5) ∗ anyP c (slot 6) ∗ anyP c (slot 7) ∗ anyP c (slot 8) ∗ anyP c (slot 9)
    ∗ inCellP c 0 ∗ outCellP c 0 ∗ inCellP c 1 ∗ outCellP c 1 ∗ inCellP c 2 ∗ outCellP c 2 ∗ inCellP c 3 ∗ outCellP c 3 ∗ inCellP c 4 ∗ outCellP c 4 ∗ inCellP c 5 ∗ outCellP c 5 ∗ inCellP c 6 ∗ outCellP c 6 ∗ inCellP c 7 ∗ outCellP c 7 ∗ inCellP c 8 ∗ outCellP c 8 ∗ inCellP c 9 ∗ outCellP c 9
    ∗ bigSep Finset.univ (stHome c cH) ∗ bigSep Finset.univ (qAny (F := F) c) ∗ qSlotFree c 0 ∗ qSlotFree c 1
    ∗ (∃ w, owes (c : Thread nD τ) 0 w))

abbrev R10 : Finset (Fin 18) := ((((((((((Finset.univ.erase 0).erase 1).erase 2).erase 3).erase 4).erase 5).erase 6).erase 7).erase 8).erase 9)
theorem R10_ge : ∀ j ∈ R10, 10 ≤ j.val := by decide
theorem split10 (f : Fin 18 → sProp 𝕄) : bigSep Finset.univ f = iprop(f 0 ∗ f 1 ∗ f 2 ∗ f 3 ∗ f 4 ∗ f 5 ∗ f 6 ∗ f 7 ∗ f 8 ∗ f 9 ∗ bigSep R10 f) := by
  rw [splitF f (S := Finset.univ) (a := 0) (by decide), splitF f (S := (Finset.univ.erase 0)) (a := 1) (by decide), splitF f (S := ((Finset.univ.erase 0).erase 1)) (a := 2) (by decide), splitF f (S := (((Finset.univ.erase 0).erase 1).erase 2)) (a := 3) (by decide), splitF f (S := ((((Finset.univ.erase 0).erase 1).erase 2).erase 3)) (a := 4) (by decide), splitF f (S := (((((Finset.univ.erase 0).erase 1).erase 2).erase 3).erase 4)) (a := 5) (by decide), splitF f (S := ((((((Finset.univ.erase 0).erase 1).erase 2).erase 3).erase 4).erase 5)) (a := 6) (by decide), splitF f (S := (((((((Finset.univ.erase 0).erase 1).erase 2).erase 3).erase 4).erase 5).erase 6)) (a := 7) (by decide), splitF f (S := ((((((((Finset.univ.erase 0).erase 1).erase 2).erase 3).erase 4).erase 5).erase 6).erase 7)) (a := 8) (by decide), splitF f (S := (((((((((Finset.univ.erase 0).erase 1).erase 2).erase 3).erase 4).erase 5).erase 6).erase 7).erase 8)) (a := 9) (by decide)]

/-- A fetch under way delivers its chunk. -/
theorem fly_in (s : Fin 10) (j : Fin 18) (f : Buf (Elt F) ((slot s).view.loc (c : Thread nD τ))) (sm : SemLoc sig) (hs : sm = SemLoc.dma (inC s).sem)
    (X : S64x16384.Idx → F .f32) (hX : X = (cblk j).view.read (Elt F) cH) :
    (Transfers.Flight countersEmb (c : Thread nD τ) sm default 131072
      iprop(((slot s).view.loc (c : Thread nD τ) ↦[(slot s).view.set]{fullShare} (slot s).view.writes (Elt F) f [⟨Rect.whole S64x16384, X⟩]) ∗ cblkP c cH j) : sProp 𝕄)
      ⊢ flyIn c cH s j := by
  subst hs hX
  iintro H
  iapply (Transfers.Flight_mono countersEmb (c : Thread nD τ) ?m) $$ H
  case m =>
    iintro ⟨Hd, Hs⟩
    isplitl [Hd]
    · iapply (pointsTo_rep_of_read (c : Thread nD τ) (slot s) _ fullShare (chunk c cH j) ?h) $$ Hd
      case h => exact View.read_writes_whole _ _ _
    · iexact Hs
theorem inv2_zero (VQ : S96x16384.Idx → F .fp8e4m3) (VW : S80x16384.Idx → F .bf16) (VS : S1x16384.Idx → F .f32) (TT : S128x128.Idx → F .f32) (C Y YS : S1152x128.Idx → F .f32) :
    iprop(vqP c VQ ∗ vwP c VW ∗ vsrP c VS ∗ ttP c TT ∗ csbP c C ∗ yfP c Y ∗ ysfP c YS ∗ (∃ W, wP c W) ∗ (∃ w, owes (c : Thread nD τ) 0 w)
      ∗ ((flyIn c cH 0 0 ∗ outCellP c 0 ∗ oAny c 0) ∗ (flyIn c cH 1 1 ∗ outCellP c 1 ∗ oAny c 1) ∗ (flyIn c cH 2 2 ∗ outCellP c 2 ∗ oAny c 2) ∗ (flyIn c cH 3 3 ∗ outCellP c 3 ∗ oAny c 3) ∗ (flyIn c cH 4 4 ∗ outCellP c 4 ∗ oAny c 4) ∗ (flyIn c cH 5 5 ∗ outCellP c 5 ∗ oAny c 5) ∗ (flyIn c cH 6 6 ∗ outCellP c 6 ∗ oAny c 6) ∗ (flyIn c cH 7 7 ∗ outCellP c 7 ∗ oAny c 7) ∗ (flyIn c cH 8 8 ∗ outCellP c 8 ∗ oAny c 8) ∗ (flyIn c cH 9 9 ∗ outCellP c 9 ∗ oAny c 9) ∗ bigSep R10 (stHome c cH)) ∗ bigSep Finset.univ (qAny (F := F) c) ∗ qSlotFree c 0 ∗ qSlotFree c 1)
      ⊢ (inv2 c cH VQ VW VS TT C Y YS 0 : sProp 𝕄) := by
  refine entails_of_eq ?_
  unfold inv2 qFree
  rw [split10 (chunkRes c cH VQ VW VS TT 0)]
  rw [bigSep_congr (s := R10) (Φ := chunkRes c cH VQ VW VS TT 0) (Ψ := stHome c cH) (fun j hj => cr_home c cH VQ VW VS TT (by have := R10_ge j hj; unfold outLo; omega) (by omega) (by have := R10_ge j hj; unfold inTop; omega))]
  rfl
theorem mixT_t1 {α : Type} {R : ℕ} (B : ℕ → (Sh R 128).Idx → α) (X : (Sh R 16384).Idx → α) :
    mixT (Scf.trips k0_t1_loop.lb k0_t1_loop.ub k0_t1_loop.st) B X = full B := by
  have e : Scf.trips k0_t1_loop.lb k0_t1_loop.ub k0_t1_loop.st = 32 := by decide +kernel
  rw [e]; exact mix_full B X

abbrev R8 : Finset (Fin 18) := ((((((((((Finset.univ.erase 8).erase 9).erase 10).erase 11).erase 12).erase 13).erase 14).erase 15).erase 16).erase 17)
theorem R8_lt : ∀ j ∈ R8, j.val < 8 := by decide
theorem split8 (f : Fin 18 → sProp 𝕄) : bigSep Finset.univ f = iprop(f 8 ∗ f 9 ∗ f 10 ∗ f 11 ∗ f 12 ∗ f 13 ∗ f 14 ∗ f 15 ∗ f 16 ∗ f 17 ∗ bigSep R8 f) := by
  rw [splitF f (S := Finset.univ) (a := 8) (by decide), splitF f (S := (Finset.univ.erase 8)) (a := 9) (by decide), splitF f (S := ((Finset.univ.erase 8).erase 9)) (a := 10) (by decide), splitF f (S := (((Finset.univ.erase 8).erase 9).erase 10)) (a := 11) (by decide), splitF f (S := ((((Finset.univ.erase 8).erase 9).erase 10).erase 11)) (a := 12) (by decide), splitF f (S := (((((Finset.univ.erase 8).erase 9).erase 10).erase 11).erase 12)) (a := 13) (by decide), splitF f (S := ((((((Finset.univ.erase 8).erase 9).erase 10).erase 11).erase 12).erase 13)) (a := 14) (by decide), splitF f (S := (((((((Finset.univ.erase 8).erase 9).erase 10).erase 11).erase 12).erase 13).erase 14)) (a := 15) (by decide), splitF f (S := ((((((((Finset.univ.erase 8).erase 9).erase 10).erase 11).erase 12).erase 13).erase 14).erase 15)) (a := 16) (by decide), splitF f (S := (((((((((Finset.univ.erase 8).erase 9).erase 10).erase 11).erase 12).erase 13).erase 14).erase 15).erase 16)) (a := 17) (by decide)]
abbrev R16 : Finset (Fin 18) := (Finset.univ.erase 16).erase 17
theorem R16_lt : ∀ j ∈ R16, j.val < 16 := by decide
theorem split16 (f : Fin 18 → sProp 𝕄) : bigSep Finset.univ f = iprop(f 16 ∗ f 17 ∗ bigSep R16 f) := by
  rw [splitF f (S := Finset.univ) (a := 16) (by decide), splitF f (S := Finset.univ.erase 16) (a := 17) (by decide)]

theorem qr_out_lit (s : Fin 2) (j : Fin 18) (h : s2 j.val = s) (h1 : ¬ j.val + 2 < 18) (h2 : j.val < 18) : qRes c cH 18 j = flyQ c s j (qJ c cH j) := by
  subst h; unfold qRes; rw [if_neg h1, if_pos h2]
theorem t2_trips : Scf.trips k0_t2_loop.lb k0_t2_loop.ub k0_t2_loop.st = 18 := by decide +kernel
theorem inv2_exit (VQ : S96x16384.Idx → F .fp8e4m3) (VW : S80x16384.Idx → F .bf16) (VS : S1x16384.Idx → F .f32) (TT : S128x128.Idx → F .f32) (C Y YS : S1152x128.Idx → F .f32) :
    (inv2 c cH VQ VW VS TT C Y YS (Scf.trips k0_t2_loop.lb k0_t2_loop.ub k0_t2_loop.st) : sProp 𝕄)
      ⊢ iprop(vqP c VQ ∗ vwP c VW ∗ vsrP c VS ∗ ttP c TT ∗ csbP c (csT c cH C 18) ∗ yfP c (yfT c cH VW TT Y 18) ∗ ysfP c (ysfT c cH VW TT YS 18)
        ∗ (∃ W, wP c W) ∗ (∃ w, owes (c : Thread nD τ) 0 w)
        ∗ bigSep R8 (stDone c cH VQ VW VS TT)
        ∗ flyOut c 8 8 (oJ c cH VQ VW VS TT 8) ∗ inCellP c 8 ∗ cblkP c cH 8 ∗ flyOut c 9 9 (oJ c cH VQ VW VS TT 9) ∗ inCellP c 9 ∗ cblkP c cH 9 ∗ flyOut c 0 10 (oJ c cH VQ VW VS TT 10) ∗ inCellP c 0 ∗ cblkP c cH 10 ∗ flyOut c 1 11 (oJ c cH VQ VW VS TT 11) ∗ inCellP c 1 ∗ cblkP c cH 11 ∗ flyOut c 2 12 (oJ c cH VQ VW VS TT 12) ∗ inCellP c 2 ∗ cblkP c cH 12 ∗ flyOut c 3 13 (oJ c cH VQ VW VS TT 13) ∗ inCellP c 3 ∗ cblkP c cH 13 ∗ flyOut c 4 14 (oJ c cH VQ VW VS TT 14) ∗ inCellP c 4 ∗ cblkP c cH 14 ∗ flyOut c 5 15 (oJ c cH VQ VW VS TT 15) ∗ inCellP c 5 ∗ cblkP c cH 15 ∗ flyOut c 6 16 (oJ c cH VQ VW VS TT 16) ∗ inCellP c 6 ∗ cblkP c cH 16 ∗ flyOut c 7 17 (oJ c cH VQ VW VS TT 17) ∗ inCellP c 7 ∗ cblkP c cH 17
        ∗ bigSep R16 (fun j => qblkP c j (qJ c cH j)) ∗ flyQ c 0 16 (qJ c cH 16) ∗ flyQ c 1 17 (qJ c cH 17) ∗ emp ∗ emp) := by
  rw [t2_trips]
  unfold inv2
  rw [split8 (chunkRes c cH VQ VW VS TT 18), split16 (qRes c cH 18),
    bigSep_congr (s := R8) (Φ := chunkRes c cH VQ VW VS TT 18) (Ψ := stDone c cH VQ VW VS TT) (fun j hj => cr_done c cH VQ VW VS TT (by have := R8_lt j hj; unfold outLo; omega)),
    bigSep_congr (s := R16) (Φ := qRes c cH 18) (Ψ := fun j => qblkP c j (qJ c cH j)) (fun j hj => by unfold qRes; rw [if_pos (by have := R16_lt j hj; omega)]),
    show qFree (F := F) c 18 = iprop(emp ∗ emp) by unfold qFree; rw [if_neg (by omega), if_neg (by omega)],
    cr_out c cH VQ VW VS TT (k := 18) (j := 8) (by unfold outLo; decide) (by decide), cr_out c cH VQ VW VS TT (k := 18) (j := 9) (by unfold outLo; decide) (by decide), cr_out c cH VQ VW VS TT (k := 18) (j := 10) (by unfold outLo; decide) (by decide), cr_out c cH VQ VW VS TT (k := 18) (j := 11) (by unfold outLo; decide) (by decide), cr_out c cH VQ VW VS TT (k := 18) (j := 12) (by unfold outLo; decide) (by decide), cr_out c cH VQ VW VS TT (k := 18) (j := 13) (by unfold outLo; decide) (by decide), cr_out c cH VQ VW VS TT (k := 18) (j := 14) (by unfold outLo; decide) (by decide), cr_out c cH VQ VW VS TT (k := 18) (j := 15) (by unfold outLo; decide) (by decide), cr_out c cH VQ VW VS TT (k := 18) (j := 16) (by unfold outLo; decide) (by decide), cr_out c cH VQ VW VS TT (k := 18) (j := 17) (by unfold outLo; decide) (by decide)]
  unfold stOut
  iintro ⟨H1, H2, H3, H4, H5, H6, H7, H8, H9, ⟨⟨Ho8, Hci8, Hcb8⟩, ⟨Ho9, Hci9, Hcb9⟩, ⟨Ho10, Hci10, Hcb10⟩, ⟨Ho11, Hci11, Hcb11⟩, ⟨Ho12, Hci12, Hcb12⟩, ⟨Ho13, Hci13, Hcb13⟩, ⟨Ho14, Hci14, Hcb14⟩, ⟨Ho15, Hci15, Hcb15⟩, ⟨Ho16, Hci16, Hcb16⟩, ⟨Ho17, Hci17, Hcb17⟩, Hd⟩, ⟨Hq16, Hq17, Hqd⟩, He, He'⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hd]; · iexact Hd
  isplitl [Ho8]; · iexact Ho8
  isplitl [Hci8]; · iexact Hci8
  isplitl [Hcb8]; · iexact Hcb8
  isplitl [Ho9]; · iexact Ho9
  isplitl [Hci9]; · iexact Hci9
  isplitl [Hcb9]; · iexact Hcb9
  isplitl [Ho10]; · iexact Ho10
  isplitl [Hci10]; · iexact Hci10
  isplitl [Hcb10]; · iexact Hcb10
  isplitl [Ho11]; · iexact Ho11
  isplitl [Hci11]; · iexact Hci11
  isplitl [Hcb11]; · iexact Hcb11
  isplitl [Ho12]; · iexact Ho12
  isplitl [Hci12]; · iexact Hci12
  isplitl [Hcb12]; · iexact Hcb12
  isplitl [Ho13]; · iexact Ho13
  isplitl [Hci13]; · iexact Hci13
  isplitl [Hcb13]; · iexact Hcb13
  isplitl [Ho14]; · iexact Ho14
  isplitl [Hci14]; · iexact Hci14
  isplitl [Hcb14]; · iexact Hcb14
  isplitl [Ho15]; · iexact Ho15
  isplitl [Hci15]; · iexact Hci15
  isplitl [Hcb15]; · iexact Hcb15
  isplitl [Ho16]; · iexact Ho16
  isplitl [Hci16]; · iexact Hci16
  isplitl [Hcb16]; · iexact Hcb16
  isplitl [Ho17]; · iexact Ho17
  isplitl [Hci17]; · iexact Hci17
  isplitl [Hcb17]; · iexact Hcb17
  isplitl [Hqd]; · iexact Hqd
  isplitl [Hq16]; · iapply (entails_of_eq (qr_out_lit c cH 0 16 rfl (by decide) (by decide))) $$ Hq16
  isplitl [Hq17]; · iapply (entails_of_eq (qr_out_lit c cH 1 17 rfl (by decide) (by decide))) $$ Hq17
  isplitl [He]; · iexact He
  iexact He'

end Body

end Cert.Kernel.Hand

end
-- ==== Proof.KPost.lean ====
/-
  What the launch hands the body and what it is handed back.
-/
module

public import proofs.«01_k».proof.Proof.KPre

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

section Body
variable (c : Dev nD) (vH : Buf (Elt F) (vtM.view.loc (c : Thread nD τ))) (tH : Buf (Elt F) (tM.view.loc (c : Thread nD τ))) (cH : Buf (Elt F) (cM.view.loc (c : Thread nD τ)))

theorem big10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ
theorem big2 (Φ : Fin 2 → sProp 𝕄) : bigSep Finset.univ Φ = iprop(Φ 0 ∗ Φ 1) :=
  bigSep_univ_eq_bigSepL [(0 : Fin 2), 1] (by decide) (by decide) Φ

/-- The arguments' arrays, -/
def ARGS_ : sProp 𝕄 := iprop((((c : Thread nD τ).loc main_v1) ↦{fullShare} vH) ∗ (((c : Thread nD τ).loc main_v2) ↦{fullShare} tH) ∗ (((c : Thread nD τ).loc main_v3) ↦{fullShare} cH))
/-- the results' arrays at anything, -/
def OUTS_ : sProp 𝕄 := iprop((∃ f : Buf (Elt F) ((c : Thread nD τ).loc main_v4_0), ((c : Thread nD τ).loc main_v4_0) ↦{fullShare} f) ∗ (∃ f : Buf (Elt F) ((c : Thread nD τ).loc main_v4_1), ((c : Thread nD τ).loc main_v4_1) ↦{fullShare} f) ∗ (∃ f : Buf (Elt F) ((c : Thread nD τ).loc main_v4_2), ((c : Thread nD τ).loc main_v4_2) ↦{fullShare} f) ∗ (∃ f : Buf (Elt F) ((c : Thread nD τ).loc main_v4_3), ((c : Thread nD τ).loc main_v4_3) ↦{fullShare} f) ∗ (∃ f : Buf (Elt F) ((c : Thread nD τ).loc main_v4_4), ((c : Thread nD τ).loc main_v4_4) ↦{fullShare} f) ∗ (∃ f : Buf (Elt F) ((c : Thread nD τ).loc main_v4_5), ((c : Thread nD τ).loc main_v4_5) ↦{fullShare} f) ∗ (∃ f : Buf (Elt F) ((c : Thread nD τ).loc main_v4_6), ((c : Thread nD τ).loc main_v4_6) ↦{fullShare} f))
/-- the scratch buffers at anything, -/
def SCR_ : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f) ∗ (∃ f : Buf (Elt F) ((c : Thread nD τ).loc cc0_scratch14), ((c : Thread nD τ).loc cc0_scratch14) ↦{fullShare} f) ∗ (∃ f : Buf (Elt F) ((c : Thread nD τ).loc cc0_scratch15), ((c : Thread nD τ).loc cc0_scratch15) ↦{fullShare} f))
/-- the kernel's counters at zero. -/
def CELLS_ : sProp 𝕄 := iprop(aCellP c 0 ∗ aCellP c 1 ∗ aCellP c 2 ∗ aCellP c 3 ∗ inCellP c 0 ∗ inCellP c 1 ∗ inCellP c 2 ∗ inCellP c 3 ∗ inCellP c 4 ∗ inCellP c 5 ∗ inCellP c 6 ∗ inCellP c 7 ∗ inCellP c 8 ∗ inCellP c 9 ∗ outCellP c 0 ∗ outCellP c 1 ∗ outCellP c 2 ∗ outCellP c 3 ∗ outCellP c 4 ∗ outCellP c 5 ∗ outCellP c 6 ∗ outCellP c 7 ∗ outCellP c 8 ∗ outCellP c 9 ∗ qCellP c 0 ∗ qCellP c 1 ∗ mCellP c 0 ∗ mCellP c 1 ∗ mCellP c 2 ∗ mCellP c 3 ∗ mCellP c 4 ∗ mCellP c 5 ∗ mCellP c 6 ∗ mCellP c 7)

/-- What the launch hands the body. -/
def PREW : sProp 𝕄 := iprop(ARGS_ c vH tH cH ∗ OUTS_ (F := F) c ∗ SCR_ (F := F) c ∗ CELLS_ (F := F) c ∗ (∃ w, owes (c : Thread nD τ) 0 w))

theorem pre_give : (PREW c vH tH cH : sProp 𝕄) ⊢ PRE c vH tH cH := by
  unfold PREW PRE ARGS_ OUTS_ SCR_ CELLS_ stHome qSlotFree
  iintro ⟨⟨Hv, Ht, Hc⟩, ⟨Hout, Hvqt, Hvs, Hcq, Hcs, Hyqt, Hys⟩, ⟨Hcbuf, Hat, Hvq, Hvqo, Hvw, Hqbuf, Hcsb, Hyf, Hysf, Hyqb, Hysb, Hvsr, Hvsv, Hw, Htt, Hto⟩, ⟨Hac0, Hac1, Hac2, Hac3, Hic0, Hic1, Hic2, Hic3, Hic4, Hic5, Hic6, Hic7, Hic8, Hic9, Hoc0, Hoc1, Hoc2, Hoc3, Hoc4, Hoc5, Hoc6, Hoc7, Hoc8, Hoc9, Hqc0, Hqc1, Hm0, Hm1, Hm2, Hm3, Hm4, Hm5, Hm6, Hm7⟩, HO⟩
  ihave Hv4 := (entails_of_eq ((vcol_blocks c vH).trans (big4 _))) $$ Hv
  icases Hv4 with ⟨Hv0, Hv1, Hv2, Hv3⟩
  ihave Ha4 := ((acol_give c).trans (entails_of_eq (big4 _))) $$ Hat
  icases Ha4 with ⟨Ha0, Ha1, Ha2, Ha3⟩
  ihave Hs := ((slot_give c).trans (entails_of_eq (big10 _))) $$ Hcbuf
  icases Hs with ⟨Hs0, Hs1, Hs2, Hs3, Hs4, Hs5, Hs6, Hs7, Hs8, Hs9⟩
  ihave Hq := ((qslot_give c).trans (entails_of_eq (big2 _))) $$ Hqbuf
  icases Hq with ⟨⟨%fq0, Hq0⟩, ⟨%fq1, Hq1⟩⟩
  ihave Hcb := (entails_of_eq (cblk_blocks c cH)) $$ Hc
  ihave Hob := (oblk_give c) $$ Hout
  ihave Hqb := (qblk_give c) $$ Hcq
  isplitl [Hv0]; · iexact Hv0
  isplitl [Ha0]; · iexact Ha0
  isplitl [Hac0]; · iexact Hac0
  isplitl [Hv1]; · iexact Hv1
  isplitl [Ha1]; · iexact Ha1
  isplitl [Hac1]; · iexact Hac1
  isplitl [Hv2]; · iexact Hv2
  isplitl [Ha2]; · iexact Ha2
  isplitl [Hac2]; · iexact Hac2
  isplitl [Hv3]; · iexact Hv3
  isplitl [Ha3]; · iexact Ha3
  isplitl [Hac3]; · iexact Hac3
  isplitl [Ht]; · iexact Ht
  isplitl [Hto]; · iexact Hto
  isplitl [Hvq]; · iexact Hvq
  isplitl [Hvqo]; · iexact Hvqo
  isplitl [Hvw]; · iexact Hvw
  isplitl [Hvsr]; · iexact Hvsr
  isplitl [Hvsv]; · iexact Hvsv
  isplitl [Hw]; · iexact Hw
  isplitl [Htt]; · iexact Htt
  isplitl [Hcsb]; · iexact Hcsb
  isplitl [Hyf]; · iexact Hyf
  isplitl [Hysf]; · iexact Hysf
  isplitl [Hyqb]; · iexact Hyqb
  isplitl [Hysb]; · iexact Hysb
  isplitl [Hvqt]; · iexact Hvqt
  isplitl [Hvs]; · iexact Hvs
  isplitl [Hcs]; · iexact Hcs
  isplitl [Hyqt]; · iexact Hyqt
  isplitl [Hys]; · iexact Hys
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hic0]; · iexact Hic0
  isplitl [Hoc0]; · iexact Hoc0
  isplitl [Hic1]; · iexact Hic1
  isplitl [Hoc1]; · iexact Hoc1
  isplitl [Hic2]; · iexact Hic2
  isplitl [Hoc2]; · iexact Hoc2
  isplitl [Hic3]; · iexact Hic3
  isplitl [Hoc3]; · iexact Hoc3
  isplitl [Hic4]; · iexact Hic4
  isplitl [Hoc4]; · iexact Hoc4
  isplitl [Hic5]; · iexact Hic5
  isplitl [Hoc5]; · iexact Hoc5
  isplitl [Hic6]; · iexact Hic6
  isplitl [Hoc6]; · iexact Hoc6
  isplitl [Hic7]; · iexact Hic7
  isplitl [Hoc7]; · iexact Hoc7
  isplitl [Hic8]; · iexact Hic8
  isplitl [Hoc8]; · iexact Hoc8
  isplitl [Hic9]; · iexact Hic9
  isplitl [Hoc9]; · iexact Hoc9
  isplitl [Hcb Hob]
  · iapply (entails_of_eq (bigSep_sep' Finset.univ (fun j => cblkP c cH j) (oAny (F := F) c)).symm)
    isplitl [Hcb]; · iexact Hcb
    iexact Hob
  isplitl [Hqb]; · iexact Hqb
  isplitl [Hq0 Hqc0]
  · isplitl [Hq0]
    · iexists ((qslot 0).view.read (Elt F) fq0)
      iapply (pointsTo_rep_entails (c : Thread nD τ) (qslot 0) fq0 fullShare) $$ Hq0
    iexact Hqc0
  isplitl [Hq1 Hqc1]
  · isplitl [Hq1]
    · iexists ((qslot 1).view.read (Elt F) fq1)
      iapply (pointsTo_rep_entails (c : Thread nD τ) (qslot 1) fq1 fullShare) $$ Hq1
    iexact Hqc1
  iexact HO

/-- The lane blocks below `n` put from `B`. -/
def colPut {α : Type} {R : ℕ} (B : ℕ → (Sh R 128).Idx → α) (X : (Sh R 1152).Idx → α) : ℕ → (Sh R 1152).Idx → α
  | 0 => X
  | n + 1 => VecWindow.put (colPut B X n) ![0, 128 * n] (Sh R 128).size (B n)
/-- Rows `128 n` on. -/
def rblk {α : Type} (X : S1152x128.Idx → α) (n : ℕ) : S128x128.Idx → α :=
  fun y => X (ix2 ⟨(128 * n + (y 0).val) % 1152, Nat.mod_lt _ (by decide)⟩ (y 1))
theorem rblk_load (m : Memref sig .tc .vmem S1152x128 .f32) (X : S1152x128.Idx → F .f32) (n : ℕ) (hn : n < 9) (off : Fin 2 → ℕ) (h : off = ![128 * n, 0]) (inb) :
    m.view.readAt (Elt F) (Rect.unit (s := S1152x128) off S128x128.size inb).toLoadRect (m.view.rep X) = rblk X n := by
  subst h
  refine (View.readAt_rep_unit (Val := Elt F) m.view X inb rfl inb).trans ?_
  funext y
  unfold VecWindow.window rblk
  refine congrArg X ?_
  have hy : (y 0).val < 128 := (y 0).isLt
  funext a
  match a with
  | 0 => refine Fin.ext ?_; show 128 * n + 1 * (y 0).val = (128 * n + (y 0).val) % 1152; omega
  | 1 => refine Fin.ext ?_; show 0 + 1 * (y 1).val = (y 1).val; omega

abbrev VQ_ : S96x16384.Idx → F .fp8e4m3 := full (fun n => qV96 (blk 128 (vtM.view.read (Elt F) vH) n))
abbrev VW_ : S80x16384.Idx → F .bf16 := full (fun n => dqV (blk 128 (vtM.view.read (Elt F) vH) n))
abbrev VS_ : S1x16384.Idx → F .f32 := full (fun n => scV (blk 128 (vtM.view.read (Elt F) vH) n))
abbrev TT_ : S128x128.Idx → F .f32 := k0_pay105 (tM.view.read (Elt F) tH)

/-- What the seven results hold. -/
structure Facts (g0 : Buf (Elt F) ((c : Thread nD τ).loc main_v4_0)) (g1 : Buf (Elt F) ((c : Thread nD τ).loc main_v4_1)) (g2 : Buf (Elt F) ((c : Thread nD τ).loc main_v4_2)) (g3 : Buf (Elt F) ((c : Thread nD τ).loc main_v4_3)) (g4 : Buf (Elt F) ((c : Thread nD τ).loc main_v4_4)) (g5 : Buf (Elt F) ((c : Thread nD τ).loc main_v4_5)) (g6 : Buf (Elt F) ((c : Thread nD τ).loc main_v4_6)) : Prop where
  h0 : ∀ j, (oblk j).view.read (Elt F) g0 = oJ c cH (VQ_ c vH) (VW_ c vH) (VS_ c vH) (TT_ c tH) j
  h1 : vqtM.view.read (Elt F) g1 = full (fun n => qV72 (blk 128 (vtM.view.read (Elt F) vH) n))
  h2 : vsM.view.read (Elt F) g2 = k0_pay104 (vsN (iota .tc S1x128 32 [1] iota_S1x128_d1_w32) (vtM.view.read (Elt F) vH) k0_pay97 32)
  h3 : ∀ j, (qblk j).view.read (Elt F) g3 = qJ c cH j
  h4 : ∃ C, csM.view.read (Elt F) g4 = csT c cH C 18
  h5 : ∃ Y Z, yqtM.view.read (Elt F) g5 = colPut (fun n => k0_pay111 (rblk (yfT c cH (VW_ c vH) (TT_ c tH) Y 18) n)) Z 9
  h6 : ∃ Y Z, ysM.view.read (Elt F) g6 = colPut (fun n => k0_pay110 (rblk (ysfT c cH (VW_ c vH) (TT_ c tH) Y 18) n)) Z 9
theorem t1_trips : Scf.trips k0_t1_loop.lb k0_t1_loop.ub k0_t1_loop.st = 32 := by decide +kernel
theorem yqb_step (f : Buf (Elt F) (yqbM.view.loc (c : Thread nD τ))) (B : ℕ → S72x128.Idx → F .fp8e4m3) (X : S72x1152.Idx → F .fp8e4m3) (n : ℕ) (off : Fin 2 → ℕ) (h : off = ![0, 128 * n]) (inb)
    (w : S72x128.Idx → F .fp8e4m3) (L) (hw : w = B n) (hL : yqbM.view.read (Elt F) (yqbM.view.writes (Elt F) f L) = colPut B X n) :
    yqbM.view.read (Elt F) (yqbM.view.writes (Elt F) f (⟨Rect.unit (s := S72x1152) off S72x128.size inb, w⟩ :: L)) = colPut B X (n + 1) := by
  subst hw
  refine (View.read_writes_cons_put yqbM.view f inb (B n) L h).trans ?_
  rw [hL]
  rfl
/-- The nine stores, read. -/
theorem yqb_cols (B : ℕ → S72x128.Idx → F .fp8e4m3) (f : Buf (Elt F) (yqbM.view.loc (c : Thread nD τ))) (w0 w1 w2 w3 w4 w5 w6 w7 w8 : S72x128.Idx → F .fp8e4m3)
    (h8 : w8 = B 8) (h7 : w7 = B 7) (h6 : w6 = B 6) (h5 : w5 = B 5) (h4 : w4 = B 4) (h3 : w3 = B 3) (h2 : w2 = B 2) (h1 : w1 = B 1) (h0 : w0 = B 0) :
    yqbM.view.read (Elt F) (yqbM.view.writes (Elt F) f [⟨Rect.unit (s := S72x1152) ![0, 1024] S72x128.size inb_S72x1152_S72x128_0_1024, w8⟩, ⟨Rect.unit (s := S72x1152) ![0, 896] S72x128.size inb_S72x1152_S72x128_0_896, w7⟩, ⟨Rect.unit (s := S72x1152) ![0, 768] S72x128.size inb_S72x1152_S72x128_0_768, w6⟩, ⟨Rect.unit (s := S72x1152) ![0, 640] S72x128.size inb_S72x1152_S72x128_0_640, w5⟩, ⟨Rect.unit (s := S72x1152) ![0, 512] S72x128.size inb_S72x1152_S72x128_0_512, w4⟩, ⟨Rect.unit (s := S72x1152) ![0, 384] S72x128.size inb_S72x1152_S72x128_0_384, w3⟩, ⟨Rect.unit (s := S72x1152) ![0, 256] S72x128.size inb_S72x1152_S72x128_0_256, w2⟩, ⟨Rect.unit (s := S72x1152) ![0, 128] S72x128.size inb_S72x1152_S72x128_0_128, w1⟩, ⟨Rect.unit (s := S72x1152) ![0, 0] S72x128.size inb_S72x1152_S72x128_0_0, w0⟩]) = colPut B (yqbM.view.read (Elt F) f) 9 := by
  exact yqb_step c f B _ 8 _ rfl _ _ _ h8 (yqb_step c f B _ 7 _ rfl _ _ _ h7 (yqb_step c f B _ 6 _ rfl _ _ _ h6 (yqb_step c f B _ 5 _ rfl _ _ _ h5 (yqb_step c f B _ 4 _ rfl _ _ _ h4 (yqb_step c f B _ 3 _ rfl _ _ _ h3 (yqb_step c f B _ 2 _ rfl _ _ _ h2 (yqb_step c f B _ 1 _ rfl _ _ _ h1 (yqb_step c f B _ 0 _ rfl _ _ _ h0 (rfl)))))))))
theorem ysb_step (f : Buf (Elt F) (ysbM.view.loc (c : Thread nD τ))) (B : ℕ → S1x128.Idx → F .f32) (X : S1x1152.Idx → F .f32) (n : ℕ) (off : Fin 2 → ℕ) (h : off = ![0, 128 * n]) (inb)
    (w : S1x128.Idx → F .f32) (L) (hw : w = B n) (hL : ysbM.view.read (Elt F) (ysbM.view.writes (Elt F) f L) = colPut B X n) :
    ysbM.view.read (Elt F) (ysbM.view.writes (Elt F) f (⟨Rect.unit (s := S1x1152) off S1x128.size inb, w⟩ :: L)) = colPut B X (n + 1) := by
  subst hw
  refine (View.read_writes_cons_put ysbM.view f inb (B n) L h).trans ?_
  rw [hL]
  rfl
/-- The nine stores, read. -/
theorem ysb_cols (B : ℕ → S1x128.Idx → F .f32) (f : Buf (Elt F) (ysbM.view.loc (c : Thread nD τ))) (w0 w1 w2 w3 w4 w5 w6 w7 w8 : S1x128.Idx → F .f32)
    (h8 : w8 = B 8) (h7 : w7 = B 7) (h6 : w6 = B 6) (h5 : w5 = B 5) (h4 : w4 = B 4) (h3 : w3 = B 3) (h2 : w2 = B 2) (h1 : w1 = B 1) (h0 : w0 = B 0) :
    ysbM.view.read (Elt F) (ysbM.view.writes (Elt F) f [⟨Rect.unit (s := S1x1152) ![0, 1024] S1x128.size inb_S1x1152_S1x128_0_1024, w8⟩, ⟨Rect.unit (s := S1x1152) ![0, 896] S1x128.size inb_S1x1152_S1x128_0_896, w7⟩, ⟨Rect.unit (s := S1x1152) ![0, 768] S1x128.size inb_S1x1152_S1x128_0_768, w6⟩, ⟨Rect.unit (s := S1x1152) ![0, 640] S1x128.size inb_S1x1152_S1x128_0_640, w5⟩, ⟨Rect.unit (s := S1x1152) ![0, 512] S1x128.size inb_S1x1152_S1x128_0_512, w4⟩, ⟨Rect.unit (s := S1x1152) ![0, 384] S1x128.size inb_S1x1152_S1x128_0_384, w3⟩, ⟨Rect.unit (s := S1x1152) ![0, 256] S1x128.size inb_S1x1152_S1x128_0_256, w2⟩, ⟨Rect.unit (s := S1x1152) ![0, 128] S1x128.size inb_S1x1152_S1x128_0_128, w1⟩, ⟨Rect.unit (s := S1x1152) ![0, 0] S1x128.size inb_S1x1152_S1x128_0_0, w0⟩]) = colPut B (ysbM.view.read (Elt F) f) 9 := by
  exact ysb_step c f B _ 8 _ rfl _ _ _ h8 (ysb_step c f B _ 7 _ rfl _ _ _ h7 (ysb_step c f B _ 6 _ rfl _ _ _ h6 (ysb_step c f B _ 5 _ rfl _ _ _ h5 (ysb_step c f B _ 4 _ rfl _ _ _ h4 (ysb_step c f B _ 3 _ rfl _ _ _ h3 (ysb_step c f B _ 2 _ rfl _ _ _ h2 (ysb_step c f B _ 1 _ rfl _ _ _ h1 (ysb_step c f B _ 0 _ rfl _ _ _ h0 (rfl)))))))))

/-- What the body hands back. -/
def POSTW : sProp 𝕄 :=
  iprop(∃ (g0 : Buf (Elt F) ((c : Thread nD τ).loc main_v4_0)) (g1 : Buf (Elt F) ((c : Thread nD τ).loc main_v4_1)) (g2 : Buf (Elt F) ((c : Thread nD τ).loc main_v4_2)) (g3 : Buf (Elt F) ((c : Thread nD τ).loc main_v4_3)) (g4 : Buf (Elt F) ((c : Thread nD τ).loc main_v4_4)) (g5 : Buf (Elt F) ((c : Thread nD τ).loc main_v4_5)) (g6 : Buf (Elt F) ((c : Thread nD τ).loc main_v4_6)), ⌜Facts c vH tH cH g0 g1 g2 g3 g4 g5 g6⌝ ∗ ARGS_ c vH tH cH
    ∗ ((((c : Thread nD τ).loc main_v4_0) ↦{fullShare} g0) ∗ (((c : Thread nD τ).loc main_v4_1) ↦{fullShare} g1) ∗ (((c : Thread nD τ).loc main_v4_2) ↦{fullShare} g2) ∗ (((c : Thread nD τ).loc main_v4_3) ↦{fullShare} g3) ∗ (((c : Thread nD τ).loc main_v4_4) ↦{fullShare} g4) ∗ (((c : Thread nD τ).loc main_v4_5) ↦{fullShare} g5) ∗ (((c : Thread nD τ).loc main_v4_6) ↦{fullShare} g6)) ∗ SCR_ (F := F) c ∗ CELLS_ (F := F) c ∗ (∃ w, owes (c : Thread nD τ) 0 w))

/-- The same, piece by piece as the run leaves it. -/
def POST (g1 : Buf (Elt F) ((c : Thread nD τ).loc main_v4_1)) (g2 : Buf (Elt F) ((c : Thread nD τ).loc main_v4_2)) (g4 : Buf (Elt F) ((c : Thread nD τ).loc main_v4_4)) (g5 : Buf (Elt F) ((c : Thread nD τ).loc main_v4_5)) (g6 : Buf (Elt F) ((c : Thread nD τ).loc main_v4_6)) : sProp 𝕄 :=
  iprop(vcolP c vH 0 ∗ vcolP c vH 1 ∗ vcolP c vH 2 ∗ vcolP c vH 3 ∗ (tM.view.loc (c : Thread nD τ) ↦{fullShare} tH) ∗ bigSep R8 (stDone c cH (VQ_ c vH) (VW_ c vH) (VS_ c vH) (TT_ c tH)) ∗ cblkP c cH 8 ∗ oblkP c 8 (oJ c cH (VQ_ c vH) (VW_ c vH) (VS_ c vH) (TT_ c tH) 8) ∗ cblkP c cH 9 ∗ oblkP c 9 (oJ c cH (VQ_ c vH) (VW_ c vH) (VS_ c vH) (TT_ c tH) 9) ∗ cblkP c cH 10 ∗ oblkP c 10 (oJ c cH (VQ_ c vH) (VW_ c vH) (VS_ c vH) (TT_ c tH) 10) ∗ cblkP c cH 11 ∗ oblkP c 11 (oJ c cH (VQ_ c vH) (VW_ c vH) (VS_ c vH) (TT_ c tH) 11) ∗ cblkP c cH 12 ∗ oblkP c 12 (oJ c cH (VQ_ c vH) (VW_ c vH) (VS_ c vH) (TT_ c tH) 12) ∗ cblkP c cH 13 ∗ oblkP c 13 (oJ c cH (VQ_ c vH) (VW_ c vH) (VS_ c vH) (TT_ c tH) 13) ∗ cblkP c cH 14 ∗ oblkP c 14 (oJ c cH (VQ_ c vH) (VW_ c vH) (VS_ c vH) (TT_ c tH) 14) ∗ cblkP c cH 15 ∗ oblkP c 15 (oJ c cH (VQ_ c vH) (VW_ c vH) (VS_ c vH) (TT_ c tH) 15) ∗ cblkP c cH 16 ∗ oblkP c 16 (oJ c cH (VQ_ c vH) (VW_ c vH) (VS_ c vH) (TT_ c tH) 16) ∗ cblkP c cH 17 ∗ oblkP c 17 (oJ c cH (VQ_ c vH) (VW_ c vH) (VS_ c vH) (TT_ c tH) 17) ∗ bigSep R16 (fun j => qblkP c j (qJ c cH j)) ∗ qblkP c 16 (qJ c cH 16) ∗ qblkP c 17 (qJ c cH 17) ∗ (((c : Thread nD τ).loc main_v4_1) ↦{fullShare} g1) ∗ (((c : Thread nD τ).loc main_v4_2) ↦{fullShare} g2) ∗ (((c : Thread nD τ).loc main_v4_4) ↦{fullShare} g4) ∗ (((c : Thread nD τ).loc main_v4_5) ↦{fullShare} g5) ∗ (((c : Thread nD τ).loc main_v4_6) ↦{fullShare} g6) ∗ anyP c (slot 0) ∗ anyP c (slot 1) ∗ anyP c (slot 2) ∗ anyP c (slot 3) ∗ anyP c (slot 4) ∗ anyP c (slot 5) ∗ anyP c (slot 6) ∗ anyP c (slot 7) ∗ anyP c (slot 8) ∗ anyP c (slot 9) ∗ anyP c (qslot 0) ∗ anyP c (qslot 1) ∗ anyW c atM ∗ anyW c vqM ∗ anyW c vqoM ∗ anyW c vwM ∗ anyW c csbM ∗ anyW c yfM ∗ anyW c ysfM ∗ anyW c yqbM ∗ anyW c ysbM ∗ anyW c vsrM ∗ anyW c vsvM ∗ anyW c wM ∗ anyW c ttM ∗ anyW c toM ∗ aCellP c 0 ∗ aCellP c 1 ∗ aCellP c 2 ∗ aCellP c 3 ∗ inCellP c 0 ∗ inCellP c 1 ∗ inCellP c 2 ∗ inCellP c 3 ∗ inCellP c 4 ∗ inCellP c 5 ∗ inCellP c 6 ∗ inCellP c 7 ∗ inCellP c 8 ∗ inCellP c 9 ∗ outCellP c 0 ∗ outCellP c 1 ∗ outCellP c 2 ∗ outCellP c 3 ∗ outCellP c 4 ∗ outCellP c 5 ∗ outCellP c 6 ∗ outCellP c 7 ∗ outCellP c 8 ∗ outCellP c 9 ∗ qCellP c 0 ∗ qCellP c 1 ∗ mCellP c 0 ∗ mCellP c 1 ∗ mCellP c 2 ∗ mCellP c 3 ∗ mCellP c 4 ∗ mCellP c 5 ∗ mCellP c 6 ∗ mCellP c 7 ∗ (∃ w, owes (c : Thread nD τ) 0 w))

theorem oblk_read (g X : Buf (Elt F) ((c : Thread nD τ).loc main_v4_0)) (b : Fin 18) (h : ∀ i ∈ oblkG b, g i = X i) : (oblk b).view.read (Elt F) g = (oblk b).view.read (Elt F) X :=
  View.read_congr (fun i hi => h i ((congrArg (fun S => i ∈ S) (oblk_set b)).mp hi))
theorem qblk_read (g X : Buf (Elt F) ((c : Thread nD τ).loc main_v4_3)) (b : Fin 18) (h : ∀ i ∈ qblkG b, g i = X i) : (qblk b).view.read (Elt F) g = (qblk b).view.read (Elt F) X :=
  View.read_congr (fun i hi => h i ((congrArg (fun S => i ∈ S) (qblk_set b)).mp hi))

theorem bigSep_eta : bigSep Finset.univ (stDone c cH (VQ_ c vH) (VW_ c vH) (VS_ c vH) (TT_ c tH))
    = (bigSep Finset.univ (fun j => iprop(cblkP c cH j ∗ oblkP c j (oJ c cH (VQ_ c vH) (VW_ c vH) (VS_ c vH) (TT_ c tH) j))) : sProp 𝕄) := rfl
theorem post_take (g1 : Buf (Elt F) ((c : Thread nD τ).loc main_v4_1)) (g2 : Buf (Elt F) ((c : Thread nD τ).loc main_v4_2)) (g4 : Buf (Elt F) ((c : Thread nD τ).loc main_v4_4)) (g5 : Buf (Elt F) ((c : Thread nD τ).loc main_v4_5)) (g6 : Buf (Elt F) ((c : Thread nD τ).loc main_v4_6))
    (h1 : vqtM.view.read (Elt F) g1 = full (fun n => qV72 (blk 128 (vtM.view.read (Elt F) vH) n)))
    (h2 : vsM.view.read (Elt F) g2 = k0_pay104 (vsN (iota .tc S1x128 32 [1] iota_S1x128_d1_w32) (vtM.view.read (Elt F) vH) k0_pay97 32))
    (h4 : ∃ C, csM.view.read (Elt F) g4 = csT c cH C 18)
    (h5 : ∃ Y Z, yqtM.view.read (Elt F) g5 = colPut (fun n => k0_pay111 (rblk (yfT c cH (VW_ c vH) (TT_ c tH) Y 18) n)) Z 9)
    (h6 : ∃ Y Z, ysM.view.read (Elt F) g6 = colPut (fun n => k0_pay110 (rblk (ysfT c cH (VW_ c vH) (TT_ c tH) Y 18) n)) Z 9) :
    (POST c vH tH cH g1 g2 g4 g5 g6 : sProp 𝕄) ⊢ POSTW c vH tH cH := by
  unfold POST POSTW ARGS_ SCR_ CELLS_
  iintro ⟨Hv0, Hv1, Hv2, Hv3, Ht, Hdone, Hcb8, Hob8, Hcb9, Hob9, Hcb10, Hob10, Hcb11, Hob11, Hcb12, Hob12, Hcb13, Hob13, Hcb14, Hob14, Hcb15, Hob15, Hcb16, Hob16, Hcb17, Hob17, Hqd, Hqb16, Hqb17, Hg1, Hg2, Hg4, Hg5, Hg6, Hs0, Hs1, Hs2, Hs3, Hs4, Hs5, Hs6, Hs7, Hs8, Hs9, Hq0, Hq1, Hat, Hvq, Hvqo, Hvw, Hcsb, Hyf, Hysf, Hyqb, Hysb, Hvsr, Hvsv, Hw, Htt, Hto, Hac0, Hac1, Hac2, Hac3, Hic0, Hic1, Hic2, Hic3, Hic4, Hic5, Hic6, Hic7, Hic8, Hic9, Hoc0, Hoc1, Hoc2, Hoc3, Hoc4, Hoc5, Hoc6, Hoc7, Hoc8, Hoc9, Hqc0, Hqc1, Hm0, Hm1, Hm2, Hm3, Hm4, Hm5, Hm6, Hm7, HO⟩
  ihave Hst := (entails_of_eq ((split8 (stDone c cH (VQ_ c vH) (VW_ c vH) (VS_ c vH) (TT_ c tH))).symm.trans (bigSep_eta c vH tH cH))) $$ [Hcb8 Hob8 Hcb9 Hob9 Hcb10 Hob10 Hcb11 Hob11 Hcb12 Hob12 Hcb13 Hob13 Hcb14 Hob14 Hcb15 Hob15 Hcb16 Hob16 Hcb17 Hob17 Hdone]
  · unfold stDone
    isplitl [Hcb8 Hob8]
    · isplitl [Hcb8]; · iexact Hcb8
      iexact Hob8
    isplitl [Hcb9 Hob9]
    · isplitl [Hcb9]; · iexact Hcb9
      iexact Hob9
    isplitl [Hcb10 Hob10]
    · isplitl [Hcb10]; · iexact Hcb10
      iexact Hob10
    isplitl [Hcb11 Hob11]
    · isplitl [Hcb11]; · iexact Hcb11
      iexact Hob11
    isplitl [Hcb12 Hob12]
    · isplitl [Hcb12]; · iexact Hcb12
      iexact Hob12
    isplitl [Hcb13 Hob13]
    · isplitl [Hcb13]; · iexact Hcb13
      iexact Hob13
    isplitl [Hcb14 Hob14]
    · isplitl [Hcb14]; · iexact Hcb14
      iexact Hob14
    isplitl [Hcb15 Hob15]
    · isplitl [Hcb15]; · iexact Hcb15
      iexact Hob15
    isplitl [Hcb16 Hob16]
    · isplitl [Hcb16]; · iexact Hcb16
      iexact Hob16
    isplitl [Hcb17 Hob17]
    · isplitl [Hcb17]; · iexact Hcb17
      iexact Hob17
    iexact Hdone
  ihave Hqq := (entails_of_eq (split16 (fun j => qblkP c j (qJ c cH j))).symm) $$ [Hqb16 Hqb17 Hqd]
  · isplitl [Hqb16]; · iexact Hqb16
    isplitl [Hqb17]; · iexact Hqb17
    iexact Hqd
  ihave Hst2 := (entails_of_eq (bigSep_sep' Finset.univ (fun j => cblkP c cH j) (fun j => oblkP c j (oJ c cH (VQ_ c vH) (VW_ c vH) (VS_ c vH) (TT_ c tH) j)))) $$ Hst
  icases Hst2 with ⟨Hcb, Hob⟩
  ihave Hc := (entails_of_eq (cblk_blocks c cH).symm) $$ Hcb
  ihave Hg := (oblk_join c (fun j => (oblk j).view.rep (oJ c cH (VQ_ c vH) (VW_ c vH) (VS_ c vH) (TT_ c tH) j))) $$ Hob
  icases Hg with ⟨%g0, %hg0, Hg0⟩
  ihave Hg := (qblk_join c (fun j => (qblk j).view.rep (qJ c cH j))) $$ Hqq
  icases Hg with ⟨%g3, %hg3, Hg3⟩
  ihave Hv := (entails_of_eq ((vcol_blocks c vH).trans (big4 _)).symm) $$ [Hv0 Hv1 Hv2 Hv3]
  · isplitl [Hv0]; · iexact Hv0
    isplitl [Hv1]; · iexact Hv1
    isplitl [Hv2]; · iexact Hv2
    iexact Hv3
  ihave Hs := ((entails_of_eq (big10 (slotAny (F := F) c)).symm).trans (slot_any c)) $$ [Hs0 Hs1 Hs2 Hs3 Hs4 Hs5 Hs6 Hs7 Hs8 Hs9]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hs9
  ihave Hq := ((entails_of_eq (big2 (qslotAny (F := F) c)).symm).trans (qslot_any c)) $$ [Hq0 Hq1]
  · isplitl [Hq0]; · iexact Hq0
    iexact Hq1
  iexists g0, g1, g2, g3, g4, g5, g6
  isplitr
  · ipureintro
    exact ⟨fun j => (oblk_read c _ _ j (hg0 j)).trans (View.read_rep _ _), h1, h2, fun j => (qblk_read c _ _ j (hg3 j)).trans (View.read_rep _ _), h4, h5, h6⟩
  isplitl [Hv Ht Hc]
  · isplitl [Hv]; · iexact Hv
    isplitl [Ht]; · iexact Ht
    iexact Hc
  isplitl [Hg0 Hg1 Hg2 Hg3 Hg4 Hg5 Hg6]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  isplitl [Hs Hat Hvq Hvqo Hvw Hq Hcsb Hyf Hysf Hyqb Hysb Hvsr Hvsv Hw Htt Hto]
  · isplitl [Hs]; · iexact Hs
    isplitl [Hat]; · iexact Hat
    isplitl [Hvq]; · iexact Hvq
    isplitl [Hvqo]; · iexact Hvqo
    isplitl [Hvw]; · iexact Hvw
    isplitl [Hq]; · iexact Hq
    isplitl [Hcsb]; · iexact Hcsb
    isplitl [Hyf]; · iexact Hyf
    isplitl [Hysf]; · iexact Hysf
    isplitl [Hyqb]; · iexact Hyqb
    isplitl [Hysb]; · iexact Hysb
    isplitl [Hvsr]; · iexact Hvsr
    isplitl [Hvsv]; · iexact Hvsv
    isplitl [Hw]; · iexact Hw
    isplitl [Htt]; · iexact Htt
    iexact Hto
  isplitl [Hac0 Hac1 Hac2 Hac3 Hic0 Hic1 Hic2 Hic3 Hic4 Hic5 Hic6 Hic7 Hic8 Hic9 Hoc0 Hoc1 Hoc2 Hoc3 Hoc4 Hoc5 Hoc6 Hoc7 Hoc8 Hoc9 Hqc0 Hqc1 Hm0 Hm1 Hm2 Hm3 Hm4 Hm5 Hm6 Hm7]
  · isplitl [Hac0]; · iexact Hac0
    isplitl [Hac1]; · iexact Hac1
    isplitl [Hac2]; · iexact Hac2
    isplitl [Hac3]; · iexact Hac3
    isplitl [Hic0]; · iexact Hic0
    isplitl [Hic1]; · iexact Hic1
    isplitl [Hic2]; · iexact Hic2
    isplitl [Hic3]; · iexact Hic3
    isplitl [Hic4]; · iexact Hic4
    isplitl [Hic5]; · iexact Hic5
    isplitl [Hic6]; · iexact Hic6
    isplitl [Hic7]; · iexact Hic7
    isplitl [Hic8]; · iexact Hic8
    isplitl [Hic9]; · iexact Hic9
    isplitl [Hoc0]; · iexact Hoc0
    isplitl [Hoc1]; · iexact Hoc1
    isplitl [Hoc2]; · iexact Hoc2
    isplitl [Hoc3]; · iexact Hoc3
    isplitl [Hoc4]; · iexact Hoc4
    isplitl [Hoc5]; · iexact Hoc5
    isplitl [Hoc6]; · iexact Hoc6
    isplitl [Hoc7]; · iexact Hoc7
    isplitl [Hoc8]; · iexact Hoc8
    isplitl [Hoc9]; · iexact Hoc9
    isplitl [Hqc0]; · iexact Hqc0
    isplitl [Hqc1]; · iexact Hqc1
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    iexact Hm7
  iexact HO

end Body

end Cert.Kernel.Hand

end
-- ==== Proof.KBody.lean ====
/-
  The kernel body: what it is handed, and what it hands back.
-/
module

public import proofs.«01_k».proof.Proof.KPost

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

section Body
variable (c : Dev nD) (vH : Buf (Elt F) (vtM.view.loc (c : Thread nD τ))) (tH : Buf (Elt F) (tM.view.loc (c : Thread nD τ))) (cH : Buf (Elt F) (cM.view.loc (c : Thread nD τ)))

set_option backward.proofsInPublic true in
theorem body_run : PREW c vH tH cH
      ⊢ wp frame (wpE (defs₀ (F := F)) 𝒱₀ (c : Thread nD τ) none) Set.univ
          (cc0_qr_trailing (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20)
          (fun _ => POSTW c vH tH cH) := by
  refine (pre_give c vH tH cH).trans ?_
  unfold PRE
  rw [split10 (stHome c cH)]
  unfold stHome
  iintro ⟨Hv0, ⟨%fa0, Ha0⟩, Hac0, Hv1, ⟨%fa1, Ha1⟩, Hac1, Hv2, ⟨%fa2, Ha2⟩, Hac2, Hv3, ⟨%fa3, Ha3⟩, Hac3, Ht, ⟨%fto, Hto⟩, ⟨%fvq, Hvq⟩, ⟨%fvqo, Hvqo⟩, ⟨%fvw, Hvw⟩, ⟨%fvsr, Hvsr⟩, ⟨%fvsv, Hvsv⟩, ⟨%fw, Hw⟩, ⟨%ftt, Htt⟩, ⟨%fcsb, Hcsb⟩, ⟨%fyf, Hyf⟩, ⟨%fysf, Hysf⟩, ⟨%fyqb, Hyqb⟩, ⟨%fysb, Hysb⟩, ⟨%fvqt, Hvqt⟩, ⟨%fvs, Hvs⟩, ⟨%fcs, Hcs⟩, ⟨%fyqt, Hyqt⟩, ⟨%fys, Hys⟩, Hm0, Hm1, Hm2, Hm3, Hm4, Hm5, Hm6, Hm7, ⟨%fs0, Hs0⟩, ⟨%fs1, Hs1⟩, ⟨%fs2, Hs2⟩, ⟨%fs3, Hs3⟩, ⟨%fs4, Hs4⟩, ⟨%fs5, Hs5⟩, ⟨%fs6, Hs6⟩, ⟨%fs7, Hs7⟩, ⟨%fs8, Hs8⟩, ⟨%fs9, Hs9⟩, Hic0, Hoc0, Hic1, Hoc1, Hic2, Hoc2, Hic3, Hoc3, Hic4, Hoc4, Hic5, Hoc5, Hic6, Hoc6, Hic7, Hoc7, Hic8, Hoc8, Hic9, Hoc9, Hch, Hqa, Hq0, Hq1, ⟨%ow, HO⟩⟩
  icases Hch with ⟨⟨Hc0, Hob0⟩, ⟨Hc1, Hob1⟩, ⟨Hc2, Hob2⟩, ⟨Hc3, Hob3⟩, ⟨Hc4, Hob4⟩, ⟨Hc5, Hob5⟩, ⟨Hc6, Hob6⟩, ⟨Hc7, Hob7⟩, ⟨Hc8, Hob8⟩, ⟨Hc9, Hob9⟩, Hrest⟩
  sl_unfold [cc0_qr_trailing]
  sl_exec
  ihave Ha0' := (acol_rep c vH 0 _ ?h0) $$ Ha0
  case h0 => exact (View.read_writes_whole _ _ _).trans rfl
  ihave Ha1' := (acol_rep c vH 1 _ ?h1) $$ Ha1
  case h1 => exact (View.read_writes_whole _ _ _).trans rfl
  ihave Ha2' := (acol_rep c vH 2 _ ?h2) $$ Ha2
  case h2 => exact (View.read_writes_whole _ _ _).trans rfl
  ihave Ha3' := (acol_rep c vH 3 _ ?h3) $$ Ha3
  case h3 => exact (View.read_writes_whole _ _ _).trans rfl
  ihave HA := (at_join4 c (vtM.view.read (Elt F) vH)) $$ [Ha0' Ha1' Ha2' Ha3']
  · isplitl [Ha0']; · iexact Ha0'
    isplitl [Ha1']; · iexact Ha1'
    isplitl [Ha2']; · iexact Ha2'
    iexact Ha3'
  ihave Hvq' := (whole_rep c vqM (View.set_whole _) _ (vqM.view.read (Elt F) fvq) rfl) $$ Hvq
  ihave Hvqo' := (whole_rep c vqoM (View.set_whole _) _ (vqoM.view.read (Elt F) fvqo) rfl) $$ Hvqo
  ihave Hvw' := (whole_rep c vwM (View.set_whole _) _ (vwM.view.read (Elt F) fvw) rfl) $$ Hvw
  ihave Hvsr' := (whole_rep c vsrM (View.set_whole _) _ (vsrM.view.read (Elt F) fvsr) rfl) $$ Hvsr
  sl_exec
  ihave Hvq2 := (entails_of_eq (congrArg (fun X => (vqP c X : sProp 𝕄)) (mixT_t1 _ _))) $$ Hvq'
  ihave Hvw2 := (entails_of_eq (congrArg (fun X => (vwP c X : sProp 𝕄)) (mixT_t1 _ _))) $$ Hvw'
  ihave Hvsr2 := (entails_of_eq (congrArg (fun X => (vsrP c X : sProp 𝕄)) (mixT_t1 _ _))) $$ Hvsr'
  ihave Htt2 := (whole_rep c ttM (View.set_whole _) _ (k0_pay105 (tM.view.read (Elt F) tH)) ?htt) $$ Htt
  case htt =>
    refine (View.read_writes_full _ _ _ _ _).trans (congrArg k0_pay105 ?_)
    rw [View.readAt_full]
    exact View.read_write_univ _ _
  ihave Hw2 := (whole_rep c wM (View.set_whole _) _ (k0_pay106 (F := F)) ?hw) $$ Hw
  case hw => exact View.read_writes_full _ _ _ _ _
  ihave Hcsb2 := (whole_rep c csbM (View.set_whole _) _ (csbM.view.read (Elt F) fcsb) rfl) $$ Hcsb
  ihave Hyf2 := (whole_rep c yfM (View.set_whole _) _ (yfM.view.read (Elt F) fyf) rfl) $$ Hyf
  ihave Hysf2 := (whole_rep c ysfM (View.set_whole _) _ (ysfM.view.read (Elt F) fysf) rfl) $$ Hysf
  sl_for (fun k _ => inv2 c cH (full (fun n => qV96 (blk 128 (vtM.view.read (Elt F) vH) n))) (full (fun n => dqV (blk 128 (vtM.view.read (Elt F) vH) n)))
      (full (fun n => scV (blk 128 (vtM.view.read (Elt F) vH) n))) (k0_pay105 (tM.view.read (Elt F) tH)) (csbM.view.read (Elt F) fcsb) (yfM.view.read (Elt F) fyf) (ysfM.view.read (Elt F) fysf) k) $$ [Hvq2 Hvw2 Hvsr2 Htt2 Hcsb2 Hyf2 Hysf2 Hw2 HO Hic0 Hoc0 Hob0 Hic1 Hoc1 Hob1 Hic2 Hoc2 Hob2 Hic3 Hoc3 Hob3 Hic4 Hoc4 Hob4 Hic5 Hoc5 Hob5 Hic6 Hoc6 Hob6 Hic7 Hoc7 Hob7 Hic8 Hoc8 Hob8 Hic9 Hoc9 Hob9 Hrest Hqa Hq0 Hq1]
  case region =>
    intro k acc
    exact (loopInv2 c _ _ cH _ _ _ _ _ _ _).step k acc
  · iapply (inv2_zero c cH _ _ _ _ _ _ _)
    isplitl [Hvq2]; · iexact Hvq2
    isplitl [Hvw2]; · iexact Hvw2
    isplitl [Hvsr2]; · iexact Hvsr2
    isplitl [Htt2]; · iexact Htt2
    isplitl [Hcsb2]; · iexact Hcsb2
    isplitl [Hyf2]; · iexact Hyf2
    isplitl [Hysf2]; · iexact Hysf2
    isplitl [Hw2]; · iexists _; iexact Hw2
    isplitl [HO]; · iexists _; iexact HO
    isplitl [Hic0 Hoc0 Hob0 Hic1 Hoc1 Hob1 Hic2 Hoc2 Hob2 Hic3 Hoc3 Hob3 Hic4 Hoc4 Hob4 Hic5 Hoc5 Hob5 Hic6 Hoc6 Hob6 Hic7 Hoc7 Hob7 Hic8 Hoc8 Hob8 Hic9 Hoc9 Hob9 Hrest]
    · isplitl [Hic0 Hoc0 Hob0]
      · isplitl [Hic0]
        · iapply (fly_in c cH 0 0 _ _ ?hs _ ?hX) $$ Hic0
          case hs => rfl
          case hX => rfl
        isplitl [Hoc0]; · iexact Hoc0
        iexact Hob0
      isplitl [Hic1 Hoc1 Hob1]
      · isplitl [Hic1]
        · iapply (fly_in c cH 1 1 _ _ ?hs _ ?hX) $$ Hic1
          case hs => rfl
          case hX => rfl
        isplitl [Hoc1]; · iexact Hoc1
        iexact Hob1
      isplitl [Hic2 Hoc2 Hob2]
      · isplitl [Hic2]
        · iapply (fly_in c cH 2 2 _ _ ?hs _ ?hX) $$ Hic2
          case hs => rfl
          case hX => rfl
        isplitl [Hoc2]; · iexact Hoc2
        iexact Hob2
      isplitl [Hic3 Hoc3 Hob3]
      · isplitl [Hic3]
        · iapply (fly_in c cH 3 3 _ _ ?hs _ ?hX) $$ Hic3
          case hs => rfl
          case hX => rfl
        isplitl [Hoc3]; · iexact Hoc3
        iexact Hob3
      isplitl [Hic4 Hoc4 Hob4]
      · isplitl [Hic4]
        · iapply (fly_in c cH 4 4 _ _ ?hs _ ?hX) $$ Hic4
          case hs => rfl
          case hX => rfl
        isplitl [Hoc4]; · iexact Hoc4
        iexact Hob4
      isplitl [Hic5 Hoc5 Hob5]
      · isplitl [Hic5]
        · iapply (fly_in c cH 5 5 _ _ ?hs _ ?hX) $$ Hic5
          case hs => rfl
          case hX => rfl
        isplitl [Hoc5]; · iexact Hoc5
        iexact Hob5
      isplitl [Hic6 Hoc6 Hob6]
      · isplitl [Hic6]
        · iapply (fly_in c cH 6 6 _ _ ?hs _ ?hX) $$ Hic6
          case hs => rfl
          case hX => rfl
        isplitl [Hoc6]; · iexact Hoc6
        iexact Hob6
      isplitl [Hic7 Hoc7 Hob7]
      · isplitl [Hic7]
        · iapply (fly_in c cH 7 7 _ _ ?hs _ ?hX) $$ Hic7
          case hs => rfl
          case hX => rfl
        isplitl [Hoc7]; · iexact Hoc7
        iexact Hob7
      isplitl [Hic8 Hoc8 Hob8]
      · isplitl [Hic8]
        · iapply (fly_in c cH 8 8 _ _ ?hs _ ?hX) $$ Hic8
          case hs => rfl
          case hX => rfl
        isplitl [Hoc8]; · iexact Hoc8
        iexact Hob8
      isplitl [Hic9 Hoc9 Hob9]
      · isplitl [Hic9]
        · iapply (fly_in c cH 9 9 _ _ ?hs _ ?hX) $$ Hic9
          case hs => rfl
          case hX => rfl
        isplitl [Hoc9]; · iexact Hoc9
        iexact Hob9
      iexact Hrest
    isplitl [Hqa]; · iexact Hqa
    isplitl [Hq0]; · iexact Hq0
    iexact Hq1
  iintro %acc HI
  ihave HE := (inv2_exit c cH _ _ _ _ _ _ _) $$ HI
  icases HE with ⟨Hvq3, Hvw3, Hvsr3, Htt3, Hcsb3, Hyf3, Hysf3, ⟨%W3, Hw3⟩, ⟨%ow3, HO⟩, Hdone, Hfo8, Hci8, Hcb8, Hfo9, Hci9, Hcb9, Hfo10, Hci10, Hcb10, Hfo11, Hci11, Hcb11, Hfo12, Hci12, Hcb12, Hfo13, Hci13, Hcb13, Hfo14, Hci14, Hcb14, Hfo15, Hci15, Hcb15, Hfo16, Hci16, Hcb16, Hfo17, Hci17, Hcb17, Hqdone, Hfq16, Hfq17, -, -⟩
  sl_exec
  sl_step
  iapply (post_take c vH tH cH (View.write (Elt F) vqtM.view fvqt (body_run.sl.dma5 c vH fvqo) Finset.univ) (View.write (Elt F) vsM.view fvs (body_run.sl.dma5_1 c vH fvsv) Finset.univ) (View.write (Elt F) csM.view fcs (body_run.sl.dma54 c cH fcsb) Finset.univ) (View.write (Elt F) yqtM.view fyqt (body_run.sl.dma54_1 c vH tH cH fyf fyqb) Finset.univ) (View.write (Elt F) ysM.view fys (body_run.sl.dma54_2 c vH tH cH fysf fysb) Finset.univ) ?h1 ?h2 ?h4 ?h5 ?h6)
  case h1 =>
    refine (View.read_write_univ _ _).trans ?_
    delta body_run.sl.dma5
    exact (View.read_rep _ _).trans (mixT_t1 _ _)
  case h2 =>
    refine (View.read_write_univ _ _).trans ?_
    delta body_run.sl.dma5_1
    refine (View.read_writes_full _ _ _ _ _).trans ?_
    rw [t1_trips]
    rfl
  case h4 =>
    exact ⟨_, (View.read_write_univ _ _).trans (View.read_rep _ _)⟩
  case h5 =>
    refine ⟨yfM.view.read (Elt F) fyf, yqbM.view.read (Elt F) fyqb, (View.read_write_univ _ _).trans ?_⟩
    delta body_run.sl.dma54_1
    refine (yqb_cols c (fun n => k0_pay111 (rblk (yfT c cH (VW_ c vH) (TT_ c tH) (yfM.view.read (Elt F) fyf) 18) n)) fyqb _ _ _ _ _ _ _ _ _ ?_ ?_ ?_ ?_ ?_ ?_ ?_ ?_ ?_)
    · have e := congrArg k0_pay111 (rblk_load yfM (yfT c cH (VW_ c vH) (TT_ c tH) (yfM.view.read (Elt F) fyf) 18) 8 (by decide) ![1024, 0] rfl inb_S1152x128_S128x128_1024_0); exact e
    · have e := congrArg k0_pay111 (rblk_load yfM (yfT c cH (VW_ c vH) (TT_ c tH) (yfM.view.read (Elt F) fyf) 18) 7 (by decide) ![896, 0] rfl inb_S1152x128_S128x128_896_0); exact e
    · have e := congrArg k0_pay111 (rblk_load yfM (yfT c cH (VW_ c vH) (TT_ c tH) (yfM.view.read (Elt F) fyf) 18) 6 (by decide) ![768, 0] rfl inb_S1152x128_S128x128_768_0); exact e
    · have e := congrArg k0_pay111 (rblk_load yfM (yfT c cH (VW_ c vH) (TT_ c tH) (yfM.view.read (Elt F) fyf) 18) 5 (by decide) ![640, 0] rfl inb_S1152x128_S128x128_640_0); exact e
    · have e := congrArg k0_pay111 (rblk_load yfM (yfT c cH (VW_ c vH) (TT_ c tH) (yfM.view.read (Elt F) fyf) 18) 4 (by decide) ![512, 0] rfl inb_S1152x128_S128x128_512_0); exact e
    · have e := congrArg k0_pay111 (rblk_load yfM (yfT c cH (VW_ c vH) (TT_ c tH) (yfM.view.read (Elt F) fyf) 18) 3 (by decide) ![384, 0] rfl inb_S1152x128_S128x128_384_0); exact e
    · have e := congrArg k0_pay111 (rblk_load yfM (yfT c cH (VW_ c vH) (TT_ c tH) (yfM.view.read (Elt F) fyf) 18) 2 (by decide) ![256, 0] rfl inb_S1152x128_S128x128_256_0); exact e
    · have e := congrArg k0_pay111 (rblk_load yfM (yfT c cH (VW_ c vH) (TT_ c tH) (yfM.view.read (Elt F) fyf) 18) 1 (by decide) ![128, 0] rfl inb_S1152x128_S128x128_128_0); exact e
    · have e := congrArg k0_pay111 (rblk_load yfM (yfT c cH (VW_ c vH) (TT_ c tH) (yfM.view.read (Elt F) fyf) 18) 0 (by decide) ![0, 0] rfl inb_S1152x128_S128x128_0_0); exact e
  case h6 =>
    refine ⟨ysfM.view.read (Elt F) fysf, ysbM.view.read (Elt F) fysb, (View.read_write_univ _ _).trans ?_⟩
    delta body_run.sl.dma54_2
    refine (ysb_cols c (fun n => k0_pay110 (rblk (ysfT c cH (VW_ c vH) (TT_ c tH) (ysfM.view.read (Elt F) fysf) 18) n)) fysb _ _ _ _ _ _ _ _ _ ?_ ?_ ?_ ?_ ?_ ?_ ?_ ?_ ?_)
    · have e := congrArg k0_pay110 (rblk_load ysfM (ysfT c cH (VW_ c vH) (TT_ c tH) (ysfM.view.read (Elt F) fysf) 18) 8 (by decide) ![1024, 0] rfl inb_S1152x128_S128x128_1024_0); exact e
    · have e := congrArg k0_pay110 (rblk_load ysfM (ysfT c cH (VW_ c vH) (TT_ c tH) (ysfM.view.read (Elt F) fysf) 18) 7 (by decide) ![896, 0] rfl inb_S1152x128_S128x128_896_0); exact e
    · have e := congrArg k0_pay110 (rblk_load ysfM (ysfT c cH (VW_ c vH) (TT_ c tH) (ysfM.view.read (Elt F) fysf) 18) 6 (by decide) ![768, 0] rfl inb_S1152x128_S128x128_768_0); exact e
    · have e := congrArg k0_pay110 (rblk_load ysfM (ysfT c cH (VW_ c vH) (TT_ c tH) (ysfM.view.read (Elt F) fysf) 18) 5 (by decide) ![640, 0] rfl inb_S1152x128_S128x128_640_0); exact e
    · have e := congrArg k0_pay110 (rblk_load ysfM (ysfT c cH (VW_ c vH) (TT_ c tH) (ysfM.view.read (Elt F) fysf) 18) 4 (by decide) ![512, 0] rfl inb_S1152x128_S128x128_512_0); exact e
    · have e := congrArg k0_pay110 (rblk_load ysfM (ysfT c cH (VW_ c vH) (TT_ c tH) (ysfM.view.read (Elt F) fysf) 18) 3 (by decide) ![384, 0] rfl inb_S1152x128_S128x128_384_0); exact e
    · have e := congrArg k0_pay110 (rblk_load ysfM (ysfT c cH (VW_ c vH) (TT_ c tH) (ysfM.view.read (Elt F) fysf) 18) 2 (by decide) ![256, 0] rfl inb_S1152x128_S128x128_256_0); exact e
    · have e := congrArg k0_pay110 (rblk_load ysfM (ysfT c cH (VW_ c vH) (TT_ c tH) (ysfM.view.read (Elt F) fysf) 18) 1 (by decide) ![128, 0] rfl inb_S1152x128_S128x128_128_0); exact e
    · have e := congrArg k0_pay110 (rblk_load ysfM (ysfT c cH (VW_ c vH) (TT_ c tH) (ysfM.view.read (Elt F) fysf) 18) 0 (by decide) ![0, 0] rfl inb_S1152x128_S128x128_0_0); exact e
  unfold POST
  isplitl [Hv0]; · iexact Hv0
  isplitl [Hv1]; · iexact Hv1
  isplitl [Hv2]; · iexact Hv2
  isplitl [Hv3]; · iexact Hv3
  isplitl [Ht]; · iexact Ht
  isplitl [Hdone]; · iexact Hdone
  isplitl [Hcb8]; · iexact Hcb8
  isplitl [Hfo8_dst]; · iexact Hfo8_dst
  isplitl [Hcb9]; · iexact Hcb9
  isplitl [Hfo9_dst]; · iexact Hfo9_dst
  isplitl [Hcb10]; · iexact Hcb10
  isplitl [Hfo10_dst]; · iexact Hfo10_dst
  isplitl [Hcb11]; · iexact Hcb11
  isplitl [Hfo11_dst]; · iexact Hfo11_dst
  isplitl [Hcb12]; · iexact Hcb12
  isplitl [Hfo12_dst]; · iexact Hfo12_dst
  isplitl [Hcb13]; · iexact Hcb13
  isplitl [Hfo13_dst]; · iexact Hfo13_dst
  isplitl [Hcb14]; · iexact Hcb14
  isplitl [Hfo14_dst]; · iexact Hfo14_dst
  isplitl [Hcb15]; · iexact Hcb15
  isplitl [Hfo15_dst]; · iexact Hfo15_dst
  isplitl [Hcb16]; · iexact Hcb16
  isplitl [Hfo16_dst]; · iexact Hfo16_dst
  isplitl [Hcb17]; · iexact Hcb17
  isplitl [Hfo17_dst]; · iexact Hfo17_dst
  isplitl [Hqdone]; · iexact Hqdone
  isplitl [Hfq16_dst]; · iexact Hfq16_dst
  isplitl [Hfq17_dst]; · iexact Hfq17_dst
  isplitl [Hvqt]; · iexact Hvqt
  isplitl [Hvs]; · iexact Hvs
  isplitl [Hcs]; · iexact Hcs
  isplitl [Hyqt]; · iexact Hyqt
  isplitl [Hys]; · iexact Hys
  isplitl [Hfo10_src]; · iexists _; iexact Hfo10_src
  isplitl [Hfo11_src]; · iexists _; iexact Hfo11_src
  isplitl [Hfo12_src]; · iexists _; iexact Hfo12_src
  isplitl [Hfo13_src]; · iexists _; iexact Hfo13_src
  isplitl [Hfo14_src]; · iexists _; iexact Hfo14_src
  isplitl [Hfo15_src]; · iexists _; iexact Hfo15_src
  isplitl [Hfo16_src]; · iexists _; iexact Hfo16_src
  isplitl [Hfo17_src]; · iexists _; iexact Hfo17_src
  isplitl [Hfo8_src]; · iexists _; iexact Hfo8_src
  isplitl [Hfo9_src]; · iexists _; iexact Hfo9_src
  isplitl [Hfq16_src]; · iexists _; iexact Hfq16_src
  isplitl [Hfq17_src]; · iexists _; iexact Hfq17_src
  isplitl [HA]; · iexists _; iexact HA
  isplitl [Hvq3]; · iexists _; iexact Hvq3
  isplitl [Hvqo']; · iexists _; iexact Hvqo'
  isplitl [Hvw3]; · iexists _; iexact Hvw3
  isplitl [Hcsb3]; · iexists _; iexact Hcsb3
  isplitl [Hyf3]; · iexists _; iexact Hyf3
  isplitl [Hysf3]; · iexists _; iexact Hysf3
  isplitl [Hyqb]; · iexists _; iexact Hyqb
  isplitl [Hysb]; · iexists _; iexact Hysb
  isplitl [Hvsr3]; · iexists _; iexact Hvsr3
  isplitl [Hvsv]; · iexists _; iexact Hvsv
  isplitl [Hw3]; · iexists _; iexact Hw3
  isplitl [Htt3]; · iexists _; iexact Htt3
  isplitl [Hto]; · iexists _; iexact Hto
  isplitl [Hac0]; · iexact Hac0
  isplitl [Hac1]; · iexact Hac1
  isplitl [Hac2]; · iexact Hac2
  isplitl [Hac3]; · iexact Hac3
  isplitl [Hci10]; · iexact Hci10
  isplitl [Hci11]; · iexact Hci11
  isplitl [Hci12]; · iexact Hci12
  isplitl [Hci13]; · iexact Hci13
  isplitl [Hci14]; · iexact Hci14
  isplitl [Hci15]; · iexact Hci15
  isplitl [Hci16]; · iexact Hci16
  isplitl [Hci17]; · iexact Hci17
  isplitl [Hci8]; · iexact Hci8
  isplitl [Hci9]; · iexact Hci9
  isplitl [Hfo10]; · iexact Hfo10
  isplitl [Hfo11]; · iexact Hfo11
  isplitl [Hfo12]; · iexact Hfo12
  isplitl [Hfo13]; · iexact Hfo13
  isplitl [Hfo14]; · iexact Hfo14
  isplitl [Hfo15]; · iexact Hfo15
  isplitl [Hfo16]; · iexact Hfo16
  isplitl [Hfo17]; · iexact Hfo17
  isplitl [Hfo8]; · iexact Hfo8
  isplitl [Hfo9]; · iexact Hfo9
  isplitl [Hfq16]; · iexact Hfq16
  isplitl [Hfq17]; · iexact Hfq17
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  iexists _; iexact HO

end Body

end Cert.Kernel.Hand

end
-- ==== Proof.KLaunch.lean ====
/-
  The launch: the whole run of the program.
-/
module

public import proofs.«01_k».proof.Proof.KBody
public import proofs.«01_k».proof.Proof.Gen.Kernel.Launch
public import proofs.«01_k».proof.Proof.Gen.Kernel.Points
public import proofs.«01_k».proof.Proof.Gen.Kernel.Frame
public import Idealize.ShloMosaic.Lib.Pipeline.KitQuiescent

@[expose] public section

set_option maxRecDepth 16384
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

section Launch
variable (m : (ℓ : Loc nD τ sig) → Buf (Elt F) ℓ) (ρ : Dev nD → PrngReg)

/-- The kernel's own counters. -/
def osem : Fin 34 → SemLoc sig := fun s => .dma s
theorem ownSemFacts : Pipeline.OwnSemFacts cfg0.spec osem := by decide

theorem big34 (Φ : Fin 34 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33) :=
  bigSep_univ_eq_bigSepL [(0 : Fin 34), 1, 2, 3, 4, 5, 6, 7, 8, 9, 10, 11, 12, 13, 14, 15, 16, 17, 18, 19, 20, 21, 22, 23, 24, 25, 26, 27, 28, 29, 30, 31, 32, 33] (by decide) (by decide) Φ
theorem ownSems0_eq (c : Dev nD) : (Pipeline.ownSems0 (Ix := Unit) (Name := ℕ) (U := UU nD τ) (Lvl := ℕ) (Val := Elt F) (τ := τ) osem c : sProp 𝕄) = CELLS_ c := by
  unfold Pipeline.ownSems0 CELLS_; rw [big34]; rfl

/-- What the body is handed, less the ledger, -/
def ΦI (c : Dev nD) : sProp 𝕄 := iprop(ARGS_ c (V m c main_v1) (V m c main_v2) (V m c main_v3) ∗ OUTS_ (F := F) c ∗ SCR_ (F := F) c ∗ CELLS_ (F := F) c)
/-- and what it hands back. -/
def ΦO (c : Dev nD) : sProp 𝕄 :=
  iprop(∃ (g0 : Buf (Elt F) ((c : Thread nD τ).loc main_v4_0)) (g1 : Buf (Elt F) ((c : Thread nD τ).loc main_v4_1)) (g2 : Buf (Elt F) ((c : Thread nD τ).loc main_v4_2)) (g3 : Buf (Elt F) ((c : Thread nD τ).loc main_v4_3)) (g4 : Buf (Elt F) ((c : Thread nD τ).loc main_v4_4)) (g5 : Buf (Elt F) ((c : Thread nD τ).loc main_v4_5)) (g6 : Buf (Elt F) ((c : Thread nD τ).loc main_v4_6)), ⌜Facts c (V m c main_v1) (V m c main_v2) (V m c main_v3) g0 g1 g2 g3 g4 g5 g6⌝ ∗ ARGS_ c (V m c main_v1) (V m c main_v2) (V m c main_v3)
    ∗ ((((c : Thread nD τ).loc main_v4_0) ↦{fullShare} g0) ∗ (((c : Thread nD τ).loc main_v4_1) ↦{fullShare} g1) ∗ (((c : Thread nD τ).loc main_v4_2) ↦{fullShare} g2) ∗ (((c : Thread nD τ).loc main_v4_3) ↦{fullShare} g3) ∗ (((c : Thread nD τ).loc main_v4_4) ↦{fullShare} g4) ∗ (((c : Thread nD τ).loc main_v4_5) ↦{fullShare} g5) ∗ (((c : Thread nD τ).loc main_v4_6) ↦{fullShare} g6)) ∗ SCR_ (F := F) c ∗ CELLS_ (F := F) c)

def dats (_ : Fin 1) (c : Dev nD) : Dat τ (Elt F) Unit ℕ (UU nD τ) ℕ cfg0 c where
  A w := w.elim0
  after w _ := w.elim0
  Φ t := if t.val = 0 then ΦI m c else ΦO m c
  q _ := fullShare
  owed _ := 0

theorem defs_tc : (defs₀ (F := F)) .tc cfg0.body = fun _ => bodyAt0 t0_0 := rfl
theorem prog_eq (t : Fin cfg0.N) : (defs₀ (F := F)) .tc cfg0.body (cfg0.bodyArgs t (cfg0.slots t)) = bodyAt0 t0_0 :=
  (congrFun defs_tc _).trans rfl
theorem Φ_eq (c : Dev nD) (t : Fin (cfg0.N + 1)) : (dats m 0 c).Φ t = if t.val = 0 then ΦI m c else ΦO m c := rfl
theorem Φ_first (c : Dev nD) (t : Fin cfg0.N) : (dats m 0 c).Φ t.castSucc = ΦI m c := by
  rw [Φ_eq]; rw [fin_N0 t]; exact if_pos rfl
theorem Φ_after (c : Dev nD) (t : Fin cfg0.N) : (dats m 0 c).Φ t.succ = ΦO m c := by
  rw [Φ_eq]; exact if_neg (Nat.succ_ne_zero _)
theorem Φ_last (c : Dev nD) : (dats m 0 c).Φ (Fin.last cfg0.N) = ΦO m c := by
  rw [Φ_eq]; exact if_neg (Nat.succ_ne_zero 0)

set_option backward.isDefEq.respectTransparency.types false in
theorem body_obligation (c : Dev nD) : BodyObligation (dats (F := F) m 0 c) (defs₀ (F := F)) 𝒱₀ () Set.univ := fun t => by
  rw [prog_eq t, Φ_first, Φ_after]
  unfold Dat.owesAt Pipeline.owesWithin
  rw [show (dats m 0 c).owed t.castSucc = 0 from rfl, show (dats m 0 c).owed t.succ = 0 from rfl]
  rw [show (Finset.univ : Finset (Fin cfg0.W)) = ∅ from rfl, BI.bigSep_empty, BI.bigSep_empty]
  refine BIBase.Entails.trans ?_ ((body_run c (V m c main_v1) (V m c main_v2) (V m c main_v3)).trans (wp_mono _ _ _ fun _ => ?_))
  · unfold ΦI PREW
    iintro ⟨⟨HA, Ho, Hs, Hc⟩, ⟨%W, -, HW⟩, -⟩
    isplitl [HA]; · iexact HA
    isplitl [Ho]; · iexact Ho
    isplitl [Hs]; · iexact Hs
    isplitl [Hc]; · iexact Hc
    iexists W; iexact HW
  · unfold ΦO POSTW
    iintro ⟨%g0, %g1, %g2, %g3, %g4, %g5, %g6, %hF, HA, Hg, Hs, Hc, ⟨%W, HW⟩⟩
    isplitl [HA Hg Hs Hc]
    · iexists g0, g1, g2, g3, g4, g5, g6
      isplitr; · ipureintro; exact hF
      isplitl [HA]; · iexact HA
      isplitl [Hg]; · iexact Hg
      isplitl [Hs]; · iexact Hs
      iexact Hc
    isplitl [HW]
    · iexists W; isplitr; · ipureintro; exact fun _ _ => Or.inl trivial
      iexact HW
    iempintro

/-! ## The run -/

def intoΦ (c : Dev nD) : sProp 𝕄 := iprop(ARGS_ c (V m c main_v1) (V m c main_v2) (V m c main_v3) ∗ OUTS_ (F := F) c ∗ CELLS_ (F := F) c)
def outOfΦ (c : Dev nD) : sProp 𝕄 :=
  iprop(∃ (g0 : Buf (Elt F) ((c : Thread nD τ).loc main_v4_0)) (g1 : Buf (Elt F) ((c : Thread nD τ).loc main_v4_1)) (g2 : Buf (Elt F) ((c : Thread nD τ).loc main_v4_2)) (g3 : Buf (Elt F) ((c : Thread nD τ).loc main_v4_3)) (g4 : Buf (Elt F) ((c : Thread nD τ).loc main_v4_4)) (g5 : Buf (Elt F) ((c : Thread nD τ).loc main_v4_5)) (g6 : Buf (Elt F) ((c : Thread nD τ).loc main_v4_6)), ⌜Facts c (V m c main_v1) (V m c main_v2) (V m c main_v3) g0 g1 g2 g3 g4 g5 g6⌝ ∗ (((c : Thread nD τ).loc main_v4_0) ↦{fullShare} g0) ∗ (((c : Thread nD τ).loc main_v4_1) ↦{fullShare} g1) ∗ (((c : Thread nD τ).loc main_v4_2) ↦{fullShare} g2) ∗ (((c : Thread nD τ).loc main_v4_3) ↦{fullShare} g3) ∗ (((c : Thread nD τ).loc main_v4_4) ↦{fullShare} g4) ∗ (((c : Thread nD τ).loc main_v4_5) ↦{fullShare} g5) ∗ (((c : Thread nD τ).loc main_v4_6) ↦{fullShare} g6))
def aside (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2))
def u₀ : UU nD τ := (initOf (Pipeline.cells cfgs cellOf_inj) (Pipeline.launchToks cfgs cellOf_inj), 1)
structure QY (c : Dev nD) (s : MemSt nD τ sig (Elt F)) : Prop where
  facts : Facts c (V m c main_v1) (V m c main_v2) (V m c main_v3) (s.mem ((c : Thread nD τ).loc main_v4_0)) (s.mem ((c : Thread nD τ).loc main_v4_1)) (s.mem ((c : Thread nD τ).loc main_v4_2)) (s.mem ((c : Thread nD τ).loc main_v4_3)) (s.mem ((c : Thread nD τ).loc main_v4_4)) (s.mem ((c : Thread nD τ).loc main_v4_5)) (s.mem ((c : Thread nD τ).loc main_v4_6))
  a0 : s.mem ((c : Thread nD τ).loc main_arg0) = V m c main_arg0
  a1 : s.mem ((c : Thread nD τ).loc main_arg1) = V m c main_arg1
  a2 : s.mem ((c : Thread nD τ).loc main_arg2) = V m c main_arg2

set_option backward.isDefEq.respectTransparency.types false in
/-- From any memory with zero counters, every weakly fair execution of @main terminates with the seven results as the
    run computes them, the arguments unchanged, every counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := intoΦ m) (Y := outOfΦ m) (Z := aside m)
    (hX := fun c => by
      rw [unscopedRest0_eq, ownSems0_eq]
      unfold intoΦ aside ARGS_ OUTS_
      iintro ⟨⟨H0, H1, H2, -, Hv1, Hv2, Hv3, Ho0, Ho1, Ho2, Ho3, Ho4, Ho5, Ho6⟩, HS, -, -, -⟩; imodintro
      isplitl [Hv1 Hv2 Hv3 Ho0 Ho1 Ho2 Ho3 Ho4 Ho5 Ho6 HS]
      · isplitl [Hv1 Hv2 Hv3]
        · isplitl [Hv1]; · iexact Hv1
          isplitl [Hv2]; · iexact Hv2
          iexact Hv3
        isplitl [Ho0 Ho1 Ho2 Ho3 Ho4 Ho5 Ho6]
        · isplitl [Ho0]; · iexists _; iexact Ho0
          isplitl [Ho1]; · iexists _; iexact Ho1
          isplitl [Ho2]; · iexists _; iexact Ho2
          isplitl [Ho3]; · iexists _; iexact Ho3
          isplitl [Ho4]; · iexists _; iexact Ho4
          isplitl [Ho5]; · iexists _; iexact Ho5
          iexists _; iexact Ho6
        iexact HS
      isplitl [H0]; · iexact H0
      isplitl [H1]; · iexact H1
      iexact H2)
    (hin := fun c => by
      rw [scopedRest0_eq, show (dats m 0 c).Φ 0 = ΦI m c from rfl]
      unfold intoΦ ΦI SCR_
      iintro ⟨⟨HA, Ho, Hc⟩, Hb⟩
      isplitl [HA]; · iexact HA
      isplitl [Ho]; · iexact Ho
      isplitl [Hb]; · iexact Hb
      iexact Hc)
    (hout := fun c => by
      rw [scopedRest0_eq, Φ_last, ownSems0_eq]
      unfold ΦO outOfΦ SCR_
      iintro ⟨%g0, %g1, %g2, %g3, %g4, %g5, %g6, %hF, HA, Hg, Hs, Hc⟩
      isplitl [Hg]
      · iexists g0, g1, g2, g3, g4, g5, g6
        isplitr; · ipureintro; exact hF
        iexact Hg
      isplitl [Hc]; · iexact Hc
      iexact Hs)
    (QY := QY m)
    (hY := fun c s' => by
      unfold outOfΦ aside
      iintro ⟨⟨%g0, %g1, %g2, %g3, %g4, %g5, %g6, %hF, Ho0, Ho1, Ho2, Ho3, Ho4, Ho5, Ho6⟩, ⟨A0, A1, A2⟩, HSI⟩
      icombine HSI Ho0 gives %h0
      icombine HSI Ho1 gives %h1
      icombine HSI Ho2 gives %h2
      icombine HSI Ho3 gives %h3
      icombine HSI Ho4 gives %h4
      icombine HSI Ho5 gives %h5
      icombine HSI Ho6 gives %h6
      icombine HSI A0 gives %a0
      icombine HSI A1 gives %a1
      icombine HSI A2 gives %a2
      imodintro
      isplitr
      · ipureintro
        have e0 := Buf.eq_of_forall_mem_univ h0
        have e1 := Buf.eq_of_forall_mem_univ h1
        have e2 := Buf.eq_of_forall_mem_univ h2
        have e3 := Buf.eq_of_forall_mem_univ h3
        have e4 := Buf.eq_of_forall_mem_univ h4
        have e5 := Buf.eq_of_forall_mem_univ h5
        have e6 := Buf.eq_of_forall_mem_univ h6
        subst e0 e1 e2 e3 e4 e5 e6
        exact ⟨hF, Buf.eq_of_forall_mem_univ a0, Buf.eq_of_forall_mem_univ a1, Buf.eq_of_forall_mem_univ a2⟩
      iexact HSI)
    (hQ := fun _ hh hz => ⟨fun c => (hh c).2, hz⟩)

end Launch

end Cert.Kernel.Hand

end
-- ==== Proof.INames.lean ====
/-
  Names for the buffers, ring slots, row blocks and semaphores of the kernel, and the lemmas that bring the
  memory references the program prints to these names.
-/
module

public import proofs.«01_k».proof.Proof.KLaunch
public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.VecWindow
public import Idealize.ShloMosaic.Lib.Tactic
public import proofs.«01_k».proof.Proof.Mix

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand

/-! ## The resource algebra -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The buffers -/

abbrev vtM : Memref sig .tc .hbm S72x16384 .f32 := Memref.whole main_v1
abbrev tM : Memref sig .tc .hbm S72x72 .f32 := Memref.whole main_v2
abbrev cM : Memref sig .tc .hbm S1152x16384 .f32 := Memref.whole main_v3
abbrev coutM : Memref sig .tc .hbm S1152x16384 .f32 := Memref.whole main_v4_0
abbrev vqtM : Memref sig .tc .hbm S72x16384 .fp8e4m3 := Memref.whole main_v4_1
abbrev vsM : Memref sig .tc .hbm S1x128 .f32 := Memref.whole main_v4_2
abbrev cqM : Memref sig .tc .hbm S1152x16384 .fp8e4m3 := Memref.whole main_v4_3
abbrev csM : Memref sig .tc .hbm S1152x128 .f32 := Memref.whole main_v4_4
abbrev yqtM : Memref sig .tc .hbm S72x1152 .fp8e4m3 := Memref.whole main_v4_5
abbrev ysM : Memref sig .tc .hbm S1x1152 .f32 := Memref.whole main_v4_6
abbrev cbufM : Memref sig .tc .vmem S10x64x16384 .f32 := Memref.whole cc0_scratch0
abbrev atM : Memref sig .tc .vmem S72x16384 .f32 := Memref.whole cc0_scratch1
abbrev vqM : Memref sig .tc .vmem S96x16384 .fp8e4m3 := Memref.whole cc0_scratch2
abbrev vqoM : Memref sig .tc .vmem S72x16384 .fp8e4m3 := Memref.whole cc0_scratch3
abbrev vwM : Memref sig .tc .vmem S80x16384 .bf16 := Memref.whole cc0_scratch4
abbrev qbufM : Memref sig .tc .vmem S2x64x16384 .fp8e4m3 := Memref.whole cc0_scratch5
abbrev csbM : Memref sig .tc .vmem S1152x128 .f32 := Memref.whole cc0_scratch6
abbrev yfM : Memref sig .tc .vmem S1152x128 .f32 := Memref.whole cc0_scratch7
abbrev ysfM : Memref sig .tc .vmem S1152x128 .f32 := Memref.whole cc0_scratch8
abbrev yqbM : Memref sig .tc .vmem S72x1152 .fp8e4m3 := Memref.whole cc0_scratch9
abbrev ysbM : Memref sig .tc .vmem S1x1152 .f32 := Memref.whole cc0_scratch10
abbrev vsrM : Memref sig .tc .vmem S1x16384 .f32 := Memref.whole cc0_scratch11
abbrev vsvM : Memref sig .tc .vmem S1x128 .f32 := Memref.whole cc0_scratch12
abbrev wM : Memref sig .tc .vmem S64x128 .f32 := Memref.whole cc0_scratch13
abbrev ttM : Memref sig .tc .vmem S128x128 .f32 := Memref.whole cc0_scratch14
abbrev toM : Memref sig .tc .vmem S72x72 .f32 := Memref.whole cc0_scratch15

/-! ## Slots, row blocks and cells -/

abbrev s10 (n : ℕ) : Fin 10 := ⟨n % 10, Nat.mod_lt _ (by decide)⟩
abbrev s2 (n : ℕ) : Fin 2 := ⟨n % 2, Nat.mod_lt _ (by decide)⟩
abbrev b18 (n : ℕ) : Fin 18 := ⟨n % 18, Nat.mod_lt _ (by decide)⟩

theorem slotInb (s : Fin 10) : ∀ a, (![s.val, 0, 0] : Fin 3 → Nat) a + S1x64x16384.size a ≤ S10x64x16384.size a := by
  have := s.isLt; intro a; fin_cases a
  · show s.val + 1 ≤ 10; omega
  · show 0 + 64 ≤ 64; omega
  · show 0 + 16384 ≤ 16384; omega
theorem qslotInb (s : Fin 2) : ∀ a, (![s.val, 0, 0] : Fin 3 → Nat) a + S1x64x16384.size a ≤ S2x64x16384.size a := by
  have := s.isLt; intro a; fin_cases a
  · show s.val + 1 ≤ 2; omega
  · show 0 + 64 ≤ 64; omega
  · show 0 + 16384 ≤ 16384; omega
theorem blkInb (j : Fin 18) : ∀ a, (![64 * j.val, 0] : Fin 2 → Nat) a + S64x16384.size a ≤ S1152x16384.size a := by
  have := j.isLt; intro a; fin_cases a
  · show 64 * j.val + 64 ≤ 1152; omega
  · show 0 + 16384 ≤ 16384; omega
theorem colInb (i : Fin 4) : ∀ a, (![0, 4096 * i.val] : Fin 2 → Nat) a + S72x4096.size a ≤ S72x16384.size a := by
  have := i.isLt; intro a; fin_cases a
  · show 0 + 72 ≤ 72; omega
  · show 4096 * i.val + 4096 ≤ 16384; omega
theorem cellInb {n : ℕ} (s : Fin n) : ∀ a, (![s.val] : Fin 1 → Nat) a + (Shape.size ⟨1, ![1]⟩ a) ≤ Shape.size ⟨1, ![n]⟩ a := by
  have := s.isLt; intro a; fin_cases a; show s.val + 1 ≤ n; omega

/-- Semaphore `s` of `cc0_scratch16`. -/
def aC (s : Fin 4) : DmaSems sig S_ := (cc0_scratch16.slice (Rect.unit (s := S4) ![s.val] S1.size (cellInb s))).squeeze S_ squeezes_S1_S_

/-- Semaphore `s` of `cc0_scratch17`. -/
def inC (s : Fin 10) : DmaSems sig S_ := (cc0_scratch17.slice (Rect.unit (s := S10) ![s.val] S1.size (cellInb s))).squeeze S_ squeezes_S1_S_

/-- Semaphore `s` of `cc0_scratch18`. -/
def outC (s : Fin 10) : DmaSems sig S_ := (cc0_scratch18.slice (Rect.unit (s := S10) ![s.val] S1.size (cellInb s))).squeeze S_ squeezes_S1_S_

/-- Semaphore `s` of `cc0_scratch19`. -/
def qC (s : Fin 2) : DmaSems sig S_ := (cc0_scratch19.slice (Rect.unit (s := S2) ![s.val] S1.size (cellInb s))).squeeze S_ squeezes_S1_S_

/-- Semaphore `s` of `cc0_scratch20`. -/
def mC (s : Fin 8) : DmaSems sig S_ := (cc0_scratch20.slice (Rect.unit (s := S8) ![s.val] S1.size (cellInb s))).squeeze S_ squeezes_S1_S_

/-- Slot `s` of the ring of chunks. -/
def slot (s : Fin 10) : Memref sig .tc .vmem S64x16384 .f32 :=
  (cbufM.slice (Rect.unit (s := S10x64x16384) ![s.val, 0, 0] S1x64x16384.size (slotInb s)) (fun _ => rfl)).squeeze S64x16384 squeezes_S1x64x16384_S64x16384
/-- Slot `s` of the ring of codes. -/
def qslot (s : Fin 2) : Memref sig .tc .vmem S64x16384 .fp8e4m3 :=
  (qbufM.slice (Rect.unit (s := S2x64x16384) ![s.val, 0, 0] S1x64x16384.size (qslotInb s)) (fun _ => rfl)).squeeze S64x16384 squeezes_S1x64x16384_S64x16384
/-- Chunk `j` of the trailing matrix, -/
def cblk (j : Fin 18) : Memref sig .tc .hbm S64x16384 .f32 := cM.slice (Rect.unit (s := S1152x16384) ![64 * j.val, 0] S64x16384.size (blkInb j)) (fun _ => rfl)
/-- of the updated one, -/
def oblk (j : Fin 18) : Memref sig .tc .hbm S64x16384 .f32 := coutM.slice (Rect.unit (s := S1152x16384) ![64 * j.val, 0] S64x16384.size (blkInb j)) (fun _ => rfl)
/-- of its codes. -/
def qblk (j : Fin 18) : Memref sig .tc .hbm S64x16384 .fp8e4m3 := cqM.slice (Rect.unit (s := S1152x16384) ![64 * j.val, 0] S64x16384.size (blkInb j)) (fun _ => rfl)
/-- Quarter `i` of the columns of the panel in HBM, -/
def vcol (i : Fin 4) : Memref sig .tc .hbm S72x4096 .f32 := vtM.slice (Rect.unit (s := S72x16384) ![0, 4096 * i.val] S72x4096.size (colInb i)) (fun _ => rfl)
/-- and in VMEM. -/
def acol (i : Fin 4) : Memref sig .tc .vmem S72x4096 .f32 := atM.slice (Rect.unit (s := S72x16384) ![0, 4096 * i.val] S72x4096.size (colInb i)) (fun _ => rfl)

instance (n : ℕ) : ClosedOff (![n] : Fin 1 → ℕ) := ⟨_, rfl⟩
instance (n p : ℕ) : ClosedOff (![n, p] : Fin 2 → ℕ) := ⟨_, rfl⟩
instance (n p r : ℕ) : ClosedOff (![n, p, r] : Fin 3 → ℕ) := ⟨_, rfl⟩

/-! ## The names the program prints are these -/

theorem slot_of {off : Fin 3 → Nat} (s : Fin 10) (e : off = ![s.val, 0, 0]) (h : ∀ a, off a + S1x64x16384.size a ≤ S10x64x16384.size a) (h') :
    (cbufM.slice (Rect.unit (s := S10x64x16384) off S1x64x16384.size h) h').squeeze S64x16384 squeezes_S1x64x16384_S64x16384 = slot s :=
  by subst e; rfl
theorem qslot_of {off : Fin 3 → Nat} (s : Fin 2) (e : off = ![s.val, 0, 0]) (h : ∀ a, off a + S1x64x16384.size a ≤ S2x64x16384.size a) (h') :
    (qbufM.slice (Rect.unit (s := S2x64x16384) off S1x64x16384.size h) h').squeeze S64x16384 squeezes_S1x64x16384_S64x16384 = qslot s :=
  by subst e; rfl
theorem cblk_of {off : Fin 2 → Nat} (j : Fin 18) (e : off = ![64 * j.val, 0]) (h : ∀ a, off a + S64x16384.size a ≤ S1152x16384.size a) (h') :
    cM.slice (Rect.unit (s := S1152x16384) off S64x16384.size h) h' = cblk j := by subst e; rfl
theorem oblk_of {off : Fin 2 → Nat} (j : Fin 18) (e : off = ![64 * j.val, 0]) (h : ∀ a, off a + S64x16384.size a ≤ S1152x16384.size a) (h') :
    coutM.slice (Rect.unit (s := S1152x16384) off S64x16384.size h) h' = oblk j := by subst e; rfl
theorem qblk_of {off : Fin 2 → Nat} (j : Fin 18) (e : off = ![64 * j.val, 0]) (h : ∀ a, off a + S64x16384.size a ≤ S1152x16384.size a) (h') :
    cqM.slice (Rect.unit (s := S1152x16384) off S64x16384.size h) h' = qblk j := by subst e; rfl
theorem inC_of {off : Fin 1 → Nat} (s : Fin 10) (e : off = ![s.val]) (h : ∀ a, off a + S1.size a ≤ S10.size a) :
    (cc0_scratch17.slice (Rect.unit (s := S10) off S1.size h)).squeeze S_ squeezes_S1_S_ = inC s :=
  congrArg (fun M => SemArray.squeeze M S_ squeezes_S1_S_) (SemArray.slice_unit_congr _ e _ _)
theorem outC_of {off : Fin 1 → Nat} (s : Fin 10) (e : off = ![s.val]) (h : ∀ a, off a + S1.size a ≤ S10.size a) :
    (cc0_scratch18.slice (Rect.unit (s := S10) off S1.size h)).squeeze S_ squeezes_S1_S_ = outC s :=
  congrArg (fun M => SemArray.squeeze M S_ squeezes_S1_S_) (SemArray.slice_unit_congr _ e _ _)
theorem qC_of {off : Fin 1 → Nat} (s : Fin 2) (e : off = ![s.val]) (h : ∀ a, off a + S1.size a ≤ S2.size a) :
    (cc0_scratch19.slice (Rect.unit (s := S2) off S1.size h)).squeeze S_ squeezes_S1_S_ = qC s :=
  congrArg (fun M => SemArray.squeeze M S_ squeezes_S1_S_) (SemArray.slice_unit_congr _ e _ _)

section Trip
variable (k : Fin k0_t2_loop.trips)
theorem k_lt : k.val < 18 := Nat.lt_of_lt_of_le k.isLt k0_t2_abs.2.1
theorem off8_eq : ∀ k : Fin k0_t2_loop.trips, 2 ≤ k.val → k0_off8 k = ![k.val % 2] := by decide +kernel
theorem off9_eq : ∀ k : Fin k0_t2_loop.trips, 2 ≤ k.val → k0_off9 k = ![64 * ((k.val - 2) % 18), 0] := by decide +kernel
theorem off10_eq : ∀ k : Fin k0_t2_loop.trips, 2 ≤ k.val → k0_off10 k = ![k.val % 2, 0, 0] := by decide +kernel
theorem off13_eq : ∀ k : Fin k0_t2_loop.trips, k0_off13 k = ![64 * (k.val % 18), 0] := by decide +kernel
theorem off27_eq : ∀ k : Fin k0_t2_loop.trips, 1 ≤ k.val → k0_off27 k = ![(k.val + 9) % 10] := by decide +kernel
theorem off28_eq : ∀ k : Fin k0_t2_loop.trips, 1 ≤ k.val → k0_off28 k = ![64 * ((k.val - 1) % 18), 0] := by decide +kernel
theorem off29_eq : ∀ k : Fin k0_t2_loop.trips, 1 ≤ k.val → k0_off29 k = ![(k.val + 9) % 10, 0, 0] := by decide +kernel
theorem off32_eq : ∀ k : Fin k0_t2_loop.trips, k.val ≤ 8 → k0_off32 k = ![64 * ((k.val + 9) % 18), 0] := by decide +kernel
theorem cond1_iff : ∀ k : Fin k0_t2_loop.trips, k0_cond1 k = 1#1 ↔ 2 ≤ k.val := by decide +kernel
theorem cond2_iff : ∀ k : Fin k0_t2_loop.trips, k0_cond2 k = 1#1 ↔ (1 ≤ k.val ∧ k.val ≤ 8) := by decide +kernel

@[sl_canon] theorem cn_slot12 (h h') : (cbufM.slice (Rect.unit (s := S10x64x16384) (k0_off12 k) S1x64x16384.size h) h').squeeze S64x16384 squeezes_S1x64x16384_S64x16384 = slot (s10 k.val) := slot_of _ (k0_off12_eq k) _ _
@[sl_canon] theorem cn_slot16 (h h') : (cbufM.slice (Rect.unit (s := S10x64x16384) (k0_off16 k) S1x64x16384.size h) h').squeeze S64x16384 squeezes_S1x64x16384_S64x16384 = slot (s10 k.val) := slot_of _ (k0_off16_eq k) _ _
@[sl_canon] theorem cn_slot24 (h h') : (cbufM.slice (Rect.unit (s := S10x64x16384) (k0_off24 k) S1x64x16384.size h) h').squeeze S64x16384 squeezes_S1x64x16384_S64x16384 = slot (s10 k.val) := slot_of _ (k0_off24_eq k) _ _
@[sl_canon] theorem cn_slot31 (h h') : (cbufM.slice (Rect.unit (s := S10x64x16384) (k0_off31 k) S1x64x16384.size h) h').squeeze S64x16384 squeezes_S1x64x16384_S64x16384 = slot (s10 (k.val + 9)) := slot_of _ (k0_off31_eq k) _ _
@[sl_canon] theorem cn_slot29 (hk : 1 ≤ k.val) (h h') : (cbufM.slice (Rect.unit (s := S10x64x16384) (k0_off29 k) S1x64x16384.size h) h').squeeze S64x16384 squeezes_S1x64x16384_S64x16384 = slot (s10 (k.val + 9)) := slot_of _ (off29_eq k hk) _ _
@[sl_canon] theorem cn_qslot18 (h h') : (qbufM.slice (Rect.unit (s := S2x64x16384) (k0_off18 k) S1x64x16384.size h) h').squeeze S64x16384 squeezes_S1x64x16384_S64x16384 = qslot (s2 k.val) := qslot_of _ (k0_off18_eq k) _ _
@[sl_canon] theorem cn_qslot22 (h h') : (qbufM.slice (Rect.unit (s := S2x64x16384) (k0_off22 k) S1x64x16384.size h) h').squeeze S64x16384 squeezes_S1x64x16384_S64x16384 = qslot (s2 k.val) := qslot_of _ (k0_off22_eq k) _ _
@[sl_canon] theorem cn_qslot10 (hk : 2 ≤ k.val) (h h') : (qbufM.slice (Rect.unit (s := S2x64x16384) (k0_off10 k) S1x64x16384.size h) h').squeeze S64x16384 squeezes_S1x64x16384_S64x16384 = qslot (s2 k.val) := qslot_of _ (off10_eq k hk) _ _
@[sl_canon] theorem cn_cblk13 (h h') : cM.slice (Rect.unit (s := S1152x16384) (k0_off13 k) S64x16384.size h) h' = cblk (b18 k.val) := cblk_of _ (off13_eq k) _ _
@[sl_canon] theorem cn_oblk13 (h h') : coutM.slice (Rect.unit (s := S1152x16384) (k0_off13 k) S64x16384.size h) h' = oblk (b18 k.val) := oblk_of _ (off13_eq k) _ _
@[sl_canon] theorem cn_qblk13 (h h') : cqM.slice (Rect.unit (s := S1152x16384) (k0_off13 k) S64x16384.size h) h' = qblk (b18 k.val) := qblk_of _ (off13_eq k) _ _
@[sl_canon] theorem cn_qblk9 (hk : 2 ≤ k.val) (h h') : cqM.slice (Rect.unit (s := S1152x16384) (k0_off9 k) S64x16384.size h) h' = qblk (b18 (k.val - 2)) := qblk_of _ (off9_eq k hk) _ _
@[sl_canon] theorem cn_oblk28 (hk : 1 ≤ k.val) (h h') : coutM.slice (Rect.unit (s := S1152x16384) (k0_off28 k) S64x16384.size h) h' = oblk (b18 (k.val - 1)) := oblk_of _ (off28_eq k hk) _ _
@[sl_canon] theorem cn_cblk32 (hk : k.val ≤ 8) (h h') : cM.slice (Rect.unit (s := S1152x16384) (k0_off32 k) S64x16384.size h) h' = cblk (b18 (k.val + 9)) := cblk_of _ (off32_eq k hk) _ _
@[sl_canon] theorem cn_inC11 (h) : (cc0_scratch17.slice (Rect.unit (s := S10) (k0_off11 k) S1.size h)).squeeze S_ squeezes_S1_S_ = inC (s10 k.val) := inC_of _ (k0_off11_eq k) _
@[sl_canon] theorem cn_outC11 (h) : (cc0_scratch18.slice (Rect.unit (s := S10) (k0_off11 k) S1.size h)).squeeze S_ squeezes_S1_S_ = outC (s10 k.val) := outC_of _ (k0_off11_eq k) _
@[sl_canon] theorem cn_inC30 (h) : (cc0_scratch17.slice (Rect.unit (s := S10) (k0_off30 k) S1.size h)).squeeze S_ squeezes_S1_S_ = inC (s10 (k.val + 9)) := inC_of _ (k0_off30_eq k) _
@[sl_canon] theorem cn_outC27 (hk : 1 ≤ k.val) (h) : (cc0_scratch18.slice (Rect.unit (s := S10) (k0_off27 k) S1.size h)).squeeze S_ squeezes_S1_S_ = outC (s10 (k.val + 9)) := outC_of _ (off27_eq k hk) _
@[sl_canon] theorem cn_qC21 (h) : (cc0_scratch19.slice (Rect.unit (s := S2) (k0_off21 k) S1.size h)).squeeze S_ squeezes_S1_S_ = qC (s2 k.val) := qC_of _ (k0_off21_eq k) _
@[sl_canon] theorem cn_qC8 (hk : 2 ≤ k.val) (h) : (cc0_scratch19.slice (Rect.unit (s := S2) (k0_off8 k) S1.size h)).squeeze S_ squeezes_S1_S_ = qC (s2 k.val) := qC_of _ (off8_eq k hk) _

end Trip

/-! The prologue's and the tail's literal names. -/
@[sl_canon] theorem cl_inC0 (h) : (cc0_scratch17.slice (Rect.unit (s := S10) (k0_off1 0#32) S1.size h)).squeeze S_ squeezes_S1_S_ = inC 0 := inC_of 0 (k0_off1_eq 0) _
@[sl_canon] theorem cl_cblk0 (h h') : cM.slice (Rect.unit (s := S1152x16384) (k0_off3 0#32) S64x16384.size h) h' = cblk 0 := cblk_of 0 (k0_off3_eq 0) _ _
@[sl_canon] theorem cl_slot0 (h h') : (cbufM.slice (Rect.unit (s := S10x64x16384) (k0_off2 0#32) S1x64x16384.size h) h').squeeze S64x16384 squeezes_S1x64x16384_S64x16384 = slot 0 := slot_of 0 (k0_off2_eq 0) _ _
@[sl_canon] theorem cl_inC1 (h) : (cc0_scratch17.slice (Rect.unit (s := S10) (k0_off1 1#32) S1.size h)).squeeze S_ squeezes_S1_S_ = inC 1 := inC_of 1 (k0_off1_eq 1) _
@[sl_canon] theorem cl_cblk1 (h h') : cM.slice (Rect.unit (s := S1152x16384) (k0_off3 1#32) S64x16384.size h) h' = cblk 1 := cblk_of 1 (k0_off3_eq 1) _ _
@[sl_canon] theorem cl_slot1 (h h') : (cbufM.slice (Rect.unit (s := S10x64x16384) (k0_off2 1#32) S1x64x16384.size h) h').squeeze S64x16384 squeezes_S1x64x16384_S64x16384 = slot 1 := slot_of 1 (k0_off2_eq 1) _ _
@[sl_canon] theorem cl_inC2 (h) : (cc0_scratch17.slice (Rect.unit (s := S10) (k0_off1 2#32) S1.size h)).squeeze S_ squeezes_S1_S_ = inC 2 := inC_of 2 (k0_off1_eq 2) _
@[sl_canon] theorem cl_cblk2 (h h') : cM.slice (Rect.unit (s := S1152x16384) (k0_off3 2#32) S64x16384.size h) h' = cblk 2 := cblk_of 2 (k0_off3_eq 2) _ _
@[sl_canon] theorem cl_slot2 (h h') : (cbufM.slice (Rect.unit (s := S10x64x16384) (k0_off2 2#32) S1x64x16384.size h) h').squeeze S64x16384 squeezes_S1x64x16384_S64x16384 = slot 2 := slot_of 2 (k0_off2_eq 2) _ _
@[sl_canon] theorem cl_inC3 (h) : (cc0_scratch17.slice (Rect.unit (s := S10) (k0_off1 3#32) S1.size h)).squeeze S_ squeezes_S1_S_ = inC 3 := inC_of 3 (k0_off1_eq 3) _
@[sl_canon] theorem cl_cblk3 (h h') : cM.slice (Rect.unit (s := S1152x16384) (k0_off3 3#32) S64x16384.size h) h' = cblk 3 := cblk_of 3 (k0_off3_eq 3) _ _
@[sl_canon] theorem cl_slot3 (h h') : (cbufM.slice (Rect.unit (s := S10x64x16384) (k0_off2 3#32) S1x64x16384.size h) h').squeeze S64x16384 squeezes_S1x64x16384_S64x16384 = slot 3 := slot_of 3 (k0_off2_eq 3) _ _
@[sl_canon] theorem cl_inC4 (h) : (cc0_scratch17.slice (Rect.unit (s := S10) (k0_off1 4#32) S1.size h)).squeeze S_ squeezes_S1_S_ = inC 4 := inC_of 4 (k0_off1_eq 4) _
@[sl_canon] theorem cl_cblk4 (h h') : cM.slice (Rect.unit (s := S1152x16384) (k0_off3 4#32) S64x16384.size h) h' = cblk 4 := cblk_of 4 (k0_off3_eq 4) _ _
@[sl_canon] theorem cl_slot4 (h h') : (cbufM.slice (Rect.unit (s := S10x64x16384) (k0_off2 4#32) S1x64x16384.size h) h').squeeze S64x16384 squeezes_S1x64x16384_S64x16384 = slot 4 := slot_of 4 (k0_off2_eq 4) _ _
@[sl_canon] theorem cl_inC5 (h) : (cc0_scratch17.slice (Rect.unit (s := S10) (k0_off1 5#32) S1.size h)).squeeze S_ squeezes_S1_S_ = inC 5 := inC_of 5 (k0_off1_eq 5) _
@[sl_canon] theorem cl_cblk5 (h h') : cM.slice (Rect.unit (s := S1152x16384) (k0_off3 5#32) S64x16384.size h) h' = cblk 5 := cblk_of 5 (k0_off3_eq 5) _ _
@[sl_canon] theorem cl_slot5 (h h') : (cbufM.slice (Rect.unit (s := S10x64x16384) (k0_off2 5#32) S1x64x16384.size h) h').squeeze S64x16384 squeezes_S1x64x16384_S64x16384 = slot 5 := slot_of 5 (k0_off2_eq 5) _ _
@[sl_canon] theorem cl_inC6 (h) : (cc0_scratch17.slice (Rect.unit (s := S10) (k0_off1 6#32) S1.size h)).squeeze S_ squeezes_S1_S_ = inC 6 := inC_of 6 (k0_off1_eq 6) _
@[sl_canon] theorem cl_cblk6 (h h') : cM.slice (Rect.unit (s := S1152x16384) (k0_off3 6#32) S64x16384.size h) h' = cblk 6 := cblk_of 6 (k0_off3_eq 6) _ _
@[sl_canon] theorem cl_slot6 (h h') : (cbufM.slice (Rect.unit (s := S10x64x16384) (k0_off2 6#32) S1x64x16384.size h) h').squeeze S64x16384 squeezes_S1x64x16384_S64x16384 = slot 6 := slot_of 6 (k0_off2_eq 6) _ _
@[sl_canon] theorem cl_inC7 (h) : (cc0_scratch17.slice (Rect.unit (s := S10) (k0_off1 7#32) S1.size h)).squeeze S_ squeezes_S1_S_ = inC 7 := inC_of 7 (k0_off1_eq 7) _
@[sl_canon] theorem cl_cblk7 (h h') : cM.slice (Rect.unit (s := S1152x16384) (k0_off3 7#32) S64x16384.size h) h' = cblk 7 := cblk_of 7 (k0_off3_eq 7) _ _
@[sl_canon] theorem cl_slot7 (h h') : (cbufM.slice (Rect.unit (s := S10x64x16384) (k0_off2 7#32) S1x64x16384.size h) h').squeeze S64x16384 squeezes_S1x64x16384_S64x16384 = slot 7 := slot_of 7 (k0_off2_eq 7) _ _
@[sl_canon] theorem cl_inC8 (h) : (cc0_scratch17.slice (Rect.unit (s := S10) (k0_off1 8#32) S1.size h)).squeeze S_ squeezes_S1_S_ = inC 8 := inC_of 8 (k0_off1_eq 8) _
@[sl_canon] theorem cl_cblk8 (h h') : cM.slice (Rect.unit (s := S1152x16384) (k0_off3 8#32) S64x16384.size h) h' = cblk 8 := cblk_of 8 (k0_off3_eq 8) _ _
@[sl_canon] theorem cl_outC8 (h) : (cc0_scratch18.slice (Rect.unit (s := S10) (k0_off1 8#32) S1.size h)).squeeze S_ squeezes_S1_S_ = outC 8 := outC_of 8 (k0_off1_eq 8) _
@[sl_canon] theorem cl_oblk8 (h h') : coutM.slice (Rect.unit (s := S1152x16384) (k0_off3 8#32) S64x16384.size h) h' = oblk 8 := oblk_of 8 (k0_off3_eq 8) _ _
@[sl_canon] theorem cl_slot8 (h h') : (cbufM.slice (Rect.unit (s := S10x64x16384) (k0_off2 8#32) S1x64x16384.size h) h').squeeze S64x16384 squeezes_S1x64x16384_S64x16384 = slot 8 := slot_of 8 (k0_off2_eq 8) _ _
@[sl_canon] theorem cl_inC9 (h) : (cc0_scratch17.slice (Rect.unit (s := S10) (k0_off1 9#32) S1.size h)).squeeze S_ squeezes_S1_S_ = inC 9 := inC_of 9 (k0_off1_eq 9) _
@[sl_canon] theorem cl_cblk9 (h h') : cM.slice (Rect.unit (s := S1152x16384) (k0_off3 9#32) S64x16384.size h) h' = cblk 9 := cblk_of 9 (k0_off3_eq 9) _ _
@[sl_canon] theorem cl_outC9 (h) : (cc0_scratch18.slice (Rect.unit (s := S10) (k0_off1 9#32) S1.size h)).squeeze S_ squeezes_S1_S_ = outC 9 := outC_of 9 (k0_off1_eq 9) _
@[sl_canon] theorem cl_oblk9 (h h') : coutM.slice (Rect.unit (s := S1152x16384) (k0_off3 9#32) S64x16384.size h) h' = oblk 9 := oblk_of 9 (k0_off3_eq 9) _ _
@[sl_canon] theorem cl_slot9 (h h') : (cbufM.slice (Rect.unit (s := S10x64x16384) (k0_off2 9#32) S1x64x16384.size h) h').squeeze S64x16384 squeezes_S1x64x16384_S64x16384 = slot 9 := slot_of 9 (k0_off2_eq 9) _ _
@[sl_canon] theorem cl_outC10 (h) : (cc0_scratch18.slice (Rect.unit (s := S10) (k0_off1 10#32) S1.size h)).squeeze S_ squeezes_S1_S_ = outC 0 := outC_of 0 (k0_off1_eq 10) _
@[sl_canon] theorem cl_oblk10 (h h') : coutM.slice (Rect.unit (s := S1152x16384) (k0_off3 10#32) S64x16384.size h) h' = oblk 10 := oblk_of 10 (k0_off3_eq 10) _ _
@[sl_canon] theorem cl_slot10 (h h') : (cbufM.slice (Rect.unit (s := S10x64x16384) (k0_off2 10#32) S1x64x16384.size h) h').squeeze S64x16384 squeezes_S1x64x16384_S64x16384 = slot 0 := slot_of 0 (k0_off2_eq 10) _ _
@[sl_canon] theorem cl_outC11 (h) : (cc0_scratch18.slice (Rect.unit (s := S10) (k0_off1 11#32) S1.size h)).squeeze S_ squeezes_S1_S_ = outC 1 := outC_of 1 (k0_off1_eq 11) _
@[sl_canon] theorem cl_oblk11 (h h') : coutM.slice (Rect.unit (s := S1152x16384) (k0_off3 11#32) S64x16384.size h) h' = oblk 11 := oblk_of 11 (k0_off3_eq 11) _ _
@[sl_canon] theorem cl_slot11 (h h') : (cbufM.slice (Rect.unit (s := S10x64x16384) (k0_off2 11#32) S1x64x16384.size h) h').squeeze S64x16384 squeezes_S1x64x16384_S64x16384 = slot 1 := slot_of 1 (k0_off2_eq 11) _ _
@[sl_canon] theorem cl_outC12 (h) : (cc0_scratch18.slice (Rect.unit (s := S10) (k0_off1 12#32) S1.size h)).squeeze S_ squeezes_S1_S_ = outC 2 := outC_of 2 (k0_off1_eq 12) _
@[sl_canon] theorem cl_oblk12 (h h') : coutM.slice (Rect.unit (s := S1152x16384) (k0_off3 12#32) S64x16384.size h) h' = oblk 12 := oblk_of 12 (k0_off3_eq 12) _ _
@[sl_canon] theorem cl_slot12 (h h') : (cbufM.slice (Rect.unit (s := S10x64x16384) (k0_off2 12#32) S1x64x16384.size h) h').squeeze S64x16384 squeezes_S1x64x16384_S64x16384 = slot 2 := slot_of 2 (k0_off2_eq 12) _ _
@[sl_canon] theorem cl_outC13 (h) : (cc0_scratch18.slice (Rect.unit (s := S10) (k0_off1 13#32) S1.size h)).squeeze S_ squeezes_S1_S_ = outC 3 := outC_of 3 (k0_off1_eq 13) _
@[sl_canon] theorem cl_oblk13 (h h') : coutM.slice (Rect.unit (s := S1152x16384) (k0_off3 13#32) S64x16384.size h) h' = oblk 13 := oblk_of 13 (k0_off3_eq 13) _ _
@[sl_canon] theorem cl_slot13 (h h') : (cbufM.slice (Rect.unit (s := S10x64x16384) (k0_off2 13#32) S1x64x16384.size h) h').squeeze S64x16384 squeezes_S1x64x16384_S64x16384 = slot 3 := slot_of 3 (k0_off2_eq 13) _ _
@[sl_canon] theorem cl_outC14 (h) : (cc0_scratch18.slice (Rect.unit (s := S10) (k0_off1 14#32) S1.size h)).squeeze S_ squeezes_S1_S_ = outC 4 := outC_of 4 (k0_off1_eq 14) _
@[sl_canon] theorem cl_oblk14 (h h') : coutM.slice (Rect.unit (s := S1152x16384) (k0_off3 14#32) S64x16384.size h) h' = oblk 14 := oblk_of 14 (k0_off3_eq 14) _ _
@[sl_canon] theorem cl_slot14 (h h') : (cbufM.slice (Rect.unit (s := S10x64x16384) (k0_off2 14#32) S1x64x16384.size h) h').squeeze S64x16384 squeezes_S1x64x16384_S64x16384 = slot 4 := slot_of 4 (k0_off2_eq 14) _ _
@[sl_canon] theorem cl_outC15 (h) : (cc0_scratch18.slice (Rect.unit (s := S10) (k0_off1 15#32) S1.size h)).squeeze S_ squeezes_S1_S_ = outC 5 := outC_of 5 (k0_off1_eq 15) _
@[sl_canon] theorem cl_oblk15 (h h') : coutM.slice (Rect.unit (s := S1152x16384) (k0_off3 15#32) S64x16384.size h) h' = oblk 15 := oblk_of 15 (k0_off3_eq 15) _ _
@[sl_canon] theorem cl_slot15 (h h') : (cbufM.slice (Rect.unit (s := S10x64x16384) (k0_off2 15#32) S1x64x16384.size h) h').squeeze S64x16384 squeezes_S1x64x16384_S64x16384 = slot 5 := slot_of 5 (k0_off2_eq 15) _ _
@[sl_canon] theorem cl_outC16 (h) : (cc0_scratch18.slice (Rect.unit (s := S10) (k0_off1 16#32) S1.size h)).squeeze S_ squeezes_S1_S_ = outC 6 := outC_of 6 (k0_off1_eq 16) _
@[sl_canon] theorem cl_oblk16 (h h') : coutM.slice (Rect.unit (s := S1152x16384) (k0_off3 16#32) S64x16384.size h) h' = oblk 16 := oblk_of 16 (k0_off3_eq 16) _ _
@[sl_canon] theorem cl_slot16 (h h') : (cbufM.slice (Rect.unit (s := S10x64x16384) (k0_off2 16#32) S1x64x16384.size h) h').squeeze S64x16384 squeezes_S1x64x16384_S64x16384 = slot 6 := slot_of 6 (k0_off2_eq 16) _ _
@[sl_canon] theorem cl_qC16 (h) : (cc0_scratch19.slice (Rect.unit (s := S2) (k0_off33 16#32) S1.size h)).squeeze S_ squeezes_S1_S_ = qC 0 := qC_of 0 (k0_off33_eq 0) _
@[sl_canon] theorem cl_qslot16 (h h') : (qbufM.slice (Rect.unit (s := S2x64x16384) (k0_off34 16#32) S1x64x16384.size h) h').squeeze S64x16384 squeezes_S1x64x16384_S64x16384 = qslot 0 := qslot_of 0 (k0_off34_eq 0) _ _
@[sl_canon] theorem cl_qblk16 (h h') : cqM.slice (Rect.unit (s := S1152x16384) (k0_off3 16#32) S64x16384.size h) h' = qblk 16 := qblk_of 16 (k0_off3_eq 16) _ _
@[sl_canon] theorem cl_outC17 (h) : (cc0_scratch18.slice (Rect.unit (s := S10) (k0_off1 17#32) S1.size h)).squeeze S_ squeezes_S1_S_ = outC 7 := outC_of 7 (k0_off1_eq 17) _
@[sl_canon] theorem cl_oblk17 (h h') : coutM.slice (Rect.unit (s := S1152x16384) (k0_off3 17#32) S64x16384.size h) h' = oblk 17 := oblk_of 17 (k0_off3_eq 17) _ _
@[sl_canon] theorem cl_slot17 (h h') : (cbufM.slice (Rect.unit (s := S10x64x16384) (k0_off2 17#32) S1x64x16384.size h) h').squeeze S64x16384 squeezes_S1x64x16384_S64x16384 = slot 7 := slot_of 7 (k0_off2_eq 17) _ _
@[sl_canon] theorem cl_qC17 (h) : (cc0_scratch19.slice (Rect.unit (s := S2) (k0_off33 17#32) S1.size h)).squeeze S_ squeezes_S1_S_ = qC 1 := qC_of 1 (k0_off33_eq 1) _
@[sl_canon] theorem cl_qslot17 (h h') : (qbufM.slice (Rect.unit (s := S2x64x16384) (k0_off34 17#32) S1x64x16384.size h) h').squeeze S64x16384 squeezes_S1x64x16384_S64x16384 = qslot 1 := qslot_of 1 (k0_off34_eq 1) _ _
@[sl_canon] theorem cl_qblk17 (h h') : cqM.slice (Rect.unit (s := S1152x16384) (k0_off3 17#32) S64x16384.size h) h' = qblk 17 := qblk_of 17 (k0_off3_eq 17) _ _
@[sl_canon] theorem cl_aC0 (h) : (cc0_scratch16.slice (Rect.unit (s := S4) (![0]) S1.size h)).squeeze S_ squeezes_S1_S_ = aC 0 := rfl
@[sl_canon] theorem cl_vcol0 (h h') : vtM.slice (Rect.unit (s := S72x16384) ![0, 0] S72x4096.size h) h' = vcol 0 := rfl
@[sl_canon] theorem cl_acol0 (h h') : atM.slice (Rect.unit (s := S72x16384) ![0, 0] S72x4096.size h) h' = acol 0 := rfl
@[sl_canon] theorem cl_aC1 (h) : (cc0_scratch16.slice (Rect.unit (s := S4) (![1]) S1.size h)).squeeze S_ squeezes_S1_S_ = aC 1 := rfl
@[sl_canon] theorem cl_vcol1 (h h') : vtM.slice (Rect.unit (s := S72x16384) ![0, 4096] S72x4096.size h) h' = vcol 1 := rfl
@[sl_canon] theorem cl_acol1 (h h') : atM.slice (Rect.unit (s := S72x16384) ![0, 4096] S72x4096.size h) h' = acol 1 := rfl
@[sl_canon] theorem cl_aC2 (h) : (cc0_scratch16.slice (Rect.unit (s := S4) (![2]) S1.size h)).squeeze S_ squeezes_S1_S_ = aC 2 := rfl
@[sl_canon] theorem cl_vcol2 (h h') : vtM.slice (Rect.unit (s := S72x16384) ![0, 8192] S72x4096.size h) h' = vcol 2 := rfl
@[sl_canon] theorem cl_acol2 (h h') : atM.slice (Rect.unit (s := S72x16384) ![0, 8192] S72x4096.size h) h' = acol 2 := rfl
@[sl_canon] theorem cl_aC3 (h) : (cc0_scratch16.slice (Rect.unit (s := S4) (![3]) S1.size h)).squeeze S_ squeezes_S1_S_ = aC 3 := rfl
@[sl_canon] theorem cl_vcol3 (h h') : vtM.slice (Rect.unit (s := S72x16384) ![0, 12288] S72x4096.size h) h' = vcol 3 := rfl
@[sl_canon] theorem cl_acol3 (h h') : atM.slice (Rect.unit (s := S72x16384) ![0, 12288] S72x4096.size h) h' = acol 3 := rfl
@[sl_canon] theorem cl_mC0 (h) : (cc0_scratch20.slice (Rect.unit (s := S8) (![0]) S1.size h)).squeeze S_ squeezes_S1_S_ = mC 0 := rfl
@[sl_canon] theorem cl_mC1 (h) : (cc0_scratch20.slice (Rect.unit (s := S8) (![1]) S1.size h)).squeeze S_ squeezes_S1_S_ = mC 1 := rfl
@[sl_canon] theorem cl_mC2 (h) : (cc0_scratch20.slice (Rect.unit (s := S8) (![2]) S1.size h)).squeeze S_ squeezes_S1_S_ = mC 2 := rfl
@[sl_canon] theorem cl_mC3 (h) : (cc0_scratch20.slice (Rect.unit (s := S8) (![3]) S1.size h)).squeeze S_ squeezes_S1_S_ = mC 3 := rfl
@[sl_canon] theorem cl_mC4 (h) : (cc0_scratch20.slice (Rect.unit (s := S8) (![4]) S1.size h)).squeeze S_ squeezes_S1_S_ = mC 4 := rfl
@[sl_canon] theorem cl_mC5 (h) : (cc0_scratch20.slice (Rect.unit (s := S8) (![5]) S1.size h)).squeeze S_ squeezes_S1_S_ = mC 5 := rfl
@[sl_canon] theorem cl_mC6 (h) : (cc0_scratch20.slice (Rect.unit (s := S8) (![6]) S1.size h)).squeeze S_ squeezes_S1_S_ = mC 6 := rfl
@[sl_canon] theorem cl_mC7 (h) : (cc0_scratch20.slice (Rect.unit (s := S8) (![7]) S1.size h)).squeeze S_ squeezes_S1_S_ = mC 7 := rfl

/-! ## The columns a trip of the column loops touches -/

theorem p4_0 (t : Fin k0_t1_loop.trips) : k0_off4 t 0#32 = ![0, 128 * (4 * t.val)] :=
  off_blk (k0_off4_eq t 0) (by have : (0 : Fin 4).val = 0 := rfl; omega)
theorem p4_1 (t : Fin k0_t1_loop.trips) : k0_off4 t 1#32 = ![0, 128 * (4 * t.val + 1)] :=
  off_blk (k0_off4_eq t 1) (by have : (1 : Fin 4).val = 1 := rfl; omega)
theorem p4_2 (t : Fin k0_t1_loop.trips) : k0_off4 t 2#32 = ![0, 128 * (4 * t.val + 2)] :=
  off_blk (k0_off4_eq t 2) (by have : (2 : Fin 4).val = 2 := rfl; omega)
theorem p4_3 (t : Fin k0_t1_loop.trips) : k0_off4 t 3#32 = ![0, 128 * (4 * t.val + 3)] :=
  off_blk (k0_off4_eq t 3) (by have : (3 : Fin 4).val = 3 := rfl; omega)
theorem p5_0 (t : Fin k0_t1_loop.trips) : k0_off5 t 0#32 = ![0, 128 * (4 * t.val)] :=
  off_blk (k0_off5_eq t 0) (by have : (0 : Fin 4).val = 0 := rfl; omega)
theorem p5_1 (t : Fin k0_t1_loop.trips) : k0_off5 t 1#32 = ![0, 128 * (4 * t.val + 1)] :=
  off_blk (k0_off5_eq t 1) (by have : (1 : Fin 4).val = 1 := rfl; omega)
theorem p5_2 (t : Fin k0_t1_loop.trips) : k0_off5 t 2#32 = ![0, 128 * (4 * t.val + 2)] :=
  off_blk (k0_off5_eq t 2) (by have : (2 : Fin 4).val = 2 := rfl; omega)
theorem p5_3 (t : Fin k0_t1_loop.trips) : k0_off5 t 3#32 = ![0, 128 * (4 * t.val + 3)] :=
  off_blk (k0_off5_eq t 3) (by have : (3 : Fin 4).val = 3 := rfl; omega)
theorem p6_0 (t : Fin k0_t1_loop.trips) : k0_off6 t 0#32 = ![0, 128 * (4 * t.val)] :=
  off_blk (k0_off6_eq t 0) (by have : (0 : Fin 4).val = 0 := rfl; omega)
theorem p6_1 (t : Fin k0_t1_loop.trips) : k0_off6 t 1#32 = ![0, 128 * (4 * t.val + 1)] :=
  off_blk (k0_off6_eq t 1) (by have : (1 : Fin 4).val = 1 := rfl; omega)
theorem p6_2 (t : Fin k0_t1_loop.trips) : k0_off6 t 2#32 = ![0, 128 * (4 * t.val + 2)] :=
  off_blk (k0_off6_eq t 2) (by have : (2 : Fin 4).val = 2 := rfl; omega)
theorem p6_3 (t : Fin k0_t1_loop.trips) : k0_off6 t 3#32 = ![0, 128 * (4 * t.val + 3)] :=
  off_blk (k0_off6_eq t 3) (by have : (3 : Fin 4).val = 3 := rfl; omega)
theorem p7_0 (t : Fin k0_t1_loop.trips) : k0_off7 t 0#32 = ![0, 128 * (4 * t.val)] :=
  off_blk (k0_off7_eq t 0) (by have : (0 : Fin 4).val = 0 := rfl; omega)
theorem p7_1 (t : Fin k0_t1_loop.trips) : k0_off7 t 1#32 = ![0, 128 * (4 * t.val + 1)] :=
  off_blk (k0_off7_eq t 1) (by have : (1 : Fin 4).val = 1 := rfl; omega)
theorem p7_2 (t : Fin k0_t1_loop.trips) : k0_off7 t 2#32 = ![0, 128 * (4 * t.val + 2)] :=
  off_blk (k0_off7_eq t 2) (by have : (2 : Fin 4).val = 2 := rfl; omega)
theorem p7_3 (t : Fin k0_t1_loop.trips) : k0_off7 t 3#32 = ![0, 128 * (4 * t.val + 3)] :=
  off_blk (k0_off7_eq t 3) (by have : (3 : Fin 4).val = 3 := rfl; omega)
theorem p17_0 (t : Fin k0_t3_loop.trips) : k0_off17 t 0#32 = ![0, 128 * (4 * t.val)] :=
  off_blk (k0_off17_eq t 0) (by have : (0 : Fin 4).val = 0 := rfl; omega)
theorem p17_1 (t : Fin k0_t3_loop.trips) : k0_off17 t 128#32 = ![0, 128 * (4 * t.val + 1)] :=
  off_blk (k0_off17_eq t 1) (by have : (1 : Fin 4).val = 1 := rfl; omega)
theorem p17_2 (t : Fin k0_t3_loop.trips) : k0_off17 t 256#32 = ![0, 128 * (4 * t.val + 2)] :=
  off_blk (k0_off17_eq t 2) (by have : (2 : Fin 4).val = 2 := rfl; omega)
theorem p17_3 (t : Fin k0_t3_loop.trips) : k0_off17 t 384#32 = ![0, 128 * (4 * t.val + 3)] :=
  off_blk (k0_off17_eq t 3) (by have : (3 : Fin 4).val = 3 := rfl; omega)
theorem p25_0 (t : Fin k0_t4_loop.trips) : k0_off25 t 0#32 = ![0, 128 * (4 * t.val)] :=
  off_blk (k0_off25_eq t 0) (by have : (0 : Fin 4).val = 0 := rfl; omega)
theorem p25_1 (t : Fin k0_t4_loop.trips) : k0_off25 t 128#32 = ![0, 128 * (4 * t.val + 1)] :=
  off_blk (k0_off25_eq t 1) (by have : (1 : Fin 4).val = 1 := rfl; omega)
theorem p25_2 (t : Fin k0_t4_loop.trips) : k0_off25 t 256#32 = ![0, 128 * (4 * t.val + 2)] :=
  off_blk (k0_off25_eq t 2) (by have : (2 : Fin 4).val = 2 := rfl; omega)
theorem p25_3 (t : Fin k0_t4_loop.trips) : k0_off25 t 384#32 = ![0, 128 * (4 * t.val + 3)] :=
  off_blk (k0_off25_eq t 3) (by have : (3 : Fin 4).val = 3 := rfl; omega)
theorem p26_0 (t : Fin k0_t4_loop.trips) : k0_off26 t 0#32 = ![0, 128 * (4 * t.val)] :=
  off_blk (k0_off26_eq t 0) (by have : (0 : Fin 4).val = 0 := rfl; omega)
theorem p26_1 (t : Fin k0_t4_loop.trips) : k0_off26 t 128#32 = ![0, 128 * (4 * t.val + 1)] :=
  off_blk (k0_off26_eq t 1) (by have : (1 : Fin 4).val = 1 := rfl; omega)
theorem p26_2 (t : Fin k0_t4_loop.trips) : k0_off26 t 256#32 = ![0, 128 * (4 * t.val + 2)] :=
  off_blk (k0_off26_eq t 2) (by have : (2 : Fin 4).val = 2 := rfl; omega)
theorem p26_3 (t : Fin k0_t4_loop.trips) : k0_off26 t 384#32 = ![0, 128 * (4 * t.val + 3)] :=
  off_blk (k0_off26_eq t 3) (by have : (3 : Fin 4).val = 3 := rfl; omega)
theorem t1_lt (t : Fin k0_t1_loop.trips) : t.val < 32 := Nat.lt_of_lt_of_le t.isLt k0_t1_abs.2.1
theorem t3_lt (t : Fin k0_t3_loop.trips) : t.val < 32 := Nat.lt_of_lt_of_le t.isLt k0_t3_abs.2.1
theorem t4_lt (t : Fin k0_t4_loop.trips) : t.val < 32 := Nat.lt_of_lt_of_le t.isLt k0_t4_abs.2.1

end Cert.KernelIdeal.Hand

end
-- ==== Proof.IT4.lean ====
/-
  The update loop of one chunk.
-/
module

public import proofs.«01_k».proof.Proof.INames
public import proofs.«01_k».proof.Proof.Mix

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

/-- One updated 64 by 128 block, from the codes and the row scales of `y`, the codes and the column scales of `v`. -/
def updB (yq : FVec F S64x96 .fp8e4m3) (ysb : FVec F S64x128 .f32) (VQ : S96x16384.Idx → F .fp8e4m3) (VS : S1x16384.Idx → F .f32)
    (X0 : S64x16384.Idx → F .f32) (n : ℕ) : S64x128.Idx → F .f32 :=
  match n % 4 with
  | 0 => k0_pay80 yq ysb (blk 512 VQ (n / 4)) (blk 128 X0 n) (blk 128 VS n)
  | 1 => k0_pay82 (k0_pay81 yq ysb (blk 512 VQ (n / 4)) (blk 128 X0 n) (blk 128 VS n))
  | 2 => k0_pay83 ysb (k0_pay79 yq (blk 512 VQ (n / 4))) (blk 128 X0 n) (blk 128 VS n)
  | _ => k0_pay84 ysb (k0_pay79 yq (blk 512 VQ (n / 4))) (blk 128 X0 n) (blk 128 VS n)

abbrev vqP (c : Dev nD) (VQ : S96x16384.Idx → F .fp8e4m3) : sProp 𝕄 := vqM.view.loc (c : Thread nD τ) ↦{fullShare} vqM.view.rep VQ
abbrev vsrP (c : Dev nD) (VS : S1x16384.Idx → F .f32) : sProp 𝕄 := vsrM.view.loc (c : Thread nD τ) ↦{fullShare} vsrM.view.rep VS
abbrev slotP (c : Dev nD) (s : Fin 10) (X : S64x16384.Idx → F .f32) : sProp 𝕄 := (slot s).view.loc (c : Thread nD τ) ↦[(slot s).view.set]{fullShare} (slot s).view.rep X

section
variable (yq : FVec F S64x96 .fp8e4m3) (ysb : FVec F S64x128 .f32) (VQ : S96x16384.Idx → F .fp8e4m3) (VS : S1x16384.Idx → F .f32)
    (X0 : S64x16384.Idx → F .f32) (t : ℕ)
theorem updB0 : updB yq ysb VQ VS X0 (4 * t) = k0_pay80 yq ysb (blk 512 VQ t) (blk 128 X0 (4 * t)) (blk 128 VS (4 * t)) := by
  unfold updB; simp only [show 4 * t % 4 = 0 by omega, show 4 * t / 4 = t by omega]
theorem updB1 : updB yq ysb VQ VS X0 (4 * t + 1) = k0_pay82 (k0_pay81 yq ysb (blk 512 VQ t) (blk 128 X0 (4 * t + 1)) (blk 128 VS (4 * t + 1))) := by
  unfold updB; simp only [mod4 t 1 (by omega), div4 t 1 (by omega)]
theorem updB2 : updB yq ysb VQ VS X0 (4 * t + 2) = k0_pay83 ysb (k0_pay79 yq (blk 512 VQ t)) (blk 128 X0 (4 * t + 2)) (blk 128 VS (4 * t + 2)) := by
  unfold updB; simp only [mod4 t 2 (by omega), div4 t 2 (by omega)]
theorem updB3 : updB yq ysb VQ VS X0 (4 * t + 3) = k0_pay84 ysb (k0_pay79 yq (blk 512 VQ t)) (blk 128 X0 (4 * t + 3)) (blk 128 VS (4 * t + 3)) := by
  unfold updB; simp only [mod4 t 3 (by omega), div4 t 3 (by omega)]
end

set_option backward.proofsInPublic true in
theorem t4_step (c : Dev nD) (v104 : IVec S1x128 32) (v105 : FVec F S1x128 .f32) (c96 : BitVec 32) (k : Fin k0_t2_loop.trips)
    (yq : FVec F S64x96 .fp8e4m3) (ys : FVec F S64x1 .f32) (VQ VS X0) (t : Fin k0_t4_loop.trips) :
    iprop(vqP c VQ ∗ vsrP c VS ∗ slotP c (s10 k.val) (mix (4 * t.val) (updB yq (k0_pay107 ys) VQ VS X0) X0))
      ⊢ wp frame (wpE (defs₀ (F := F)) 𝒱₀ (c : Thread nD τ) none) Set.univ (k0_t4_body vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 c96 k yq ys t ())
        (fun _ => iprop(vqP c VQ ∗ vsrP c VS ∗ slotP c (s10 k.val) (mix (4 * (t.val + 1)) (updB yq (k0_pay107 ys) VQ VS X0) X0))) := by
  iintro ⟨Hvq, Hvs, Hx⟩
  sl_unfold [k0_t4_body]
  sl_exec
  sl_step
  isplitl [Hvq]; · iexact Hvq
  isplitl [Hvs]; · iexact Hvs
  have ht := t4_lt t
  have hx : ∀ {off : Fin 2 → ℕ} (n : ℕ) (h : off = ![0, 128 * n]) (inb : ∀ a, off a + S64x128.size a ≤ S64x16384.size a), 4 * t.val ≤ n → n < 128 →
      (slot (s10 k.val)).view.readAt (Elt F) (Rect.unit (s := S64x16384) off S64x128.size inb).toLoadRect
        ((slot (s10 k.val)).view.rep (mix (4 * t.val) (updB yq (k0_pay107 ys) VQ VS X0) X0)) = blk 128 X0 n := fun n h inb h1 h2 =>
    (readAt_blk _ _ _ h _).trans (blk_mix _ _ h1 h2 _ _)
  iapply (pointsTo_rep_of_read (c : Thread nD τ) (slot (s10 k.val)) _ fullShare _ ?rd) $$ Hx
  case rd =>
    rw [View.read_writes_cons_put _ _ _ _ _ (p25_3 t), View.read_writes_cons_put _ _ _ _ _ (p25_2 t), View.read_writes_cons_put _ _ _ _ _ (p25_1 t),
      View.read_writes_cons_put _ _ _ _ _ (p25_0 t), View.writes_nil, View.read_rep]
    rw [put_mix _ _ _ _ ?b0 rfl, put_mix _ _ _ _ ?b1 rfl, put_mix _ _ _ _ ?b2 rfl, put_mix _ _ _ _ ?b3 rfl]
    · rfl
    case b0 => rw [updB0]; rw [readAt_blk _ _ _ (k0_off23_eq t), hx _ (p25_0 t) _ (by omega) (by omega), readAt_blk _ _ _ (p26_0 t)]
    case b1 => rw [updB1]; delta t4_step.sl.r_1 t4_step.sl.v509; rw [readAt_blk _ _ _ (k0_off23_eq t), hx _ (p25_1 t) _ (by omega) (by omega), readAt_blk _ _ _ (p26_1 t)]
    case b2 => rw [updB2]; delta t4_step.sl.r t4_step.sl.v528; rw [readAt_blk _ _ _ (k0_off23_eq t), hx _ (p25_2 t) _ (by omega) (by omega), readAt_blk _ _ _ (p26_2 t)]
    case b3 => rw [updB3]; delta t4_step.sl.r_2 t4_step.sl.r t4_step.sl.v547; rw [readAt_blk _ _ _ (k0_off23_eq t), hx _ (p25_3 t) _ (by omega) (by omega), readAt_blk _ _ _ (p26_3 t)]

/-- The chunk before trip `t` of its update. -/
def updS (yq : FVec F S64x96 .fp8e4m3) (ys : FVec F S64x1 .f32) (VQ : S96x16384.Idx → F .fp8e4m3) (VS : S1x16384.Idx → F .f32)
    (X0 : S64x16384.Idx → F .f32) : ℕ → S64x16384.Idx → F .f32
  | 0 => X0
  | n + 1 => mix (4 * (n + 1)) (updB yq (k0_pay107 ys) VQ VS X0) X0
theorem updS_eq (yq : FVec F S64x96 .fp8e4m3) (ys : FVec F S64x1 .f32) (VQ : S96x16384.Idx → F .fp8e4m3) (VS : S1x16384.Idx → F .f32)
    (X0 : S64x16384.Idx → F .f32) (n : ℕ) : updS yq ys VQ VS X0 n = mix (4 * n) (updB yq (k0_pay107 ys) VQ VS X0) X0 := by
  cases n with
  | zero => exact (mix_zero _ _).symm
  | succ n => rfl

set_option warn.classDefReducibility false in
@[sl_loop] def loopInv4 (c : Dev nD) (v104 : IVec S1x128 32) (v105 : FVec F S1x128 .f32) (c96 : BitVec 32) (k : Fin k0_t2_loop.trips)
    (yq : FVec F S64x96 .fp8e4m3) (ys : FVec F S64x1 .f32) (VQ : S96x16384.Idx → F .fp8e4m3) (VS : S1x16384.Idx → F .f32) (X0 : S64x16384.Idx → F .f32) :
    LoopInvTy_k0_t4 (F := F) Unit ℕ (UU nD τ) ℕ 𝒱₀ c none Set.univ vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 c96 k yq ys where
  inv t _ := iprop(vqP c VQ ∗ vsrP c VS ∗ slotP c (s10 k.val) (updS yq ys VQ VS X0 t))
  step t _ := by
    rw [updS_eq]
    have h := t4_step c v104 v105 c96 k yq ys VQ VS X0 t
    simp only [← updS_eq] at h ⊢
    exact h

end Cert.KernelIdeal.Hand

end
-- ==== Proof.IT3.lean ====
/-
  One trip of the loop that scales and quantises a chunk and accumulates its product with the panel.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.VecWindow
public import Idealize.ShloMosaic.Lib.Tactic
public import Idealize.ShloMosaic.Lib.Pointwise.Index
public import Idealize.ShloMosaic.Lib.Pipeline.Value
public import proofs.«01_k».proof.Proof.INames
public import proofs.«01_k».proof.Proof.IT4

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ
abbrev vwP (c : Dev nD) (VW : S80x16384.Idx → F .bf16) : sProp 𝕄 := vwM.view.loc (c : Thread nD τ) ↦{fullShare} vwM.view.rep VW
abbrev wP (c : Dev nD) (W : S64x128.Idx → F .f32) : sProp 𝕄 := wM.view.loc (c : Thread nD τ) ↦{fullShare} wM.view.rep W
abbrev csbP (c : Dev nD) (C : S1152x128.Idx → F .f32) : sProp 𝕄 := csbM.view.loc (c : Thread nD τ) ↦{fullShare} csbM.view.rep C
abbrev qslotP (c : Dev nD) (s : Fin 2) (Q : S64x16384.Idx → F .fp8e4m3) : sProp 𝕄 := (qslot s).view.loc (c : Thread nD τ) ↦[(qslot s).view.set]{fullShare} (qslot s).view.rep Q

omit [FloatOps F] in
theorem q_set (s : Fin 2) : (qslot s).view.set = (Rect.unit (s := S2x64x16384) ![s.val, 0, 0] S1x64x16384.size (qslotInb s)).set :=
  (View.set_reshape _ _).trans (View.set_slice_whole _ _)

theorem q_within (s : Fin 2) (n : ℕ) (hn : n < 128) {off : Fin 3 → ℕ} (e : off = ![s.val, 0, 128 * n]) (h : ∀ a, off a + S1x64x128.size a ≤ S2x64x16384.size a) :
    (qbufM.access (Rect.unit (s := S2x64x16384) off S1x64x128.size h)).setOn Finset.univ ⊆ (qslot s).view.set := by
  subst e
  rw [View.setOn_univ, q_set]
  refine (subset_of_eq (View.set_slice_whole _ _)).trans ?_
  intro i hi
  rw [Rect.mem_set_unit] at hi ⊢
  intro a
  have := hi a
  fin_cases a
  · exact this
  · exact this
  · have h2 : 128 * n ≤ (i 2).val ∧ (i 2).val < 128 * n + 128 := this
    show 0 ≤ (i 2).val ∧ (i 2).val < 0 + 16384
    omega

theorem p19_0 (k : Fin k0_t2_loop.trips) (t : Fin k0_t3_loop.trips) : k0_off19 k t 0#32 = ![(s2 k.val).val, 0, 128 * (4 * t.val + 0)] := (k0_off19_eq k t 0).trans (by congr 3; show 512 * t.val + 128 * 0 = _; omega)
theorem p19_1 (k : Fin k0_t2_loop.trips) (t : Fin k0_t3_loop.trips) : k0_off19 k t 128#32 = ![(s2 k.val).val, 0, 128 * (4 * t.val + 1)] := (k0_off19_eq k t 1).trans (by congr 3; show 512 * t.val + 128 * 1 = _; omega)
theorem p19_2 (k : Fin k0_t2_loop.trips) (t : Fin k0_t3_loop.trips) : k0_off19 k t 256#32 = ![(s2 k.val).val, 0, 128 * (4 * t.val + 2)] := (k0_off19_eq k t 2).trans (by congr 3; show 512 * t.val + 128 * 2 = _; omega)
theorem p19_3 (k : Fin k0_t2_loop.trips) (t : Fin k0_t3_loop.trips) : k0_off19 k t 384#32 = ![(s2 k.val).val, 0, 128 * (4 * t.val + 3)] := (k0_off19_eq k t 3).trans (by congr 3; show 512 * t.val + 128 * 3 = _; omega)

omit [FloatOps F] in
theorem whole_rep [∀ e, Nonempty (Elt F e)] (c : Dev nD) {sp : Space} {s : Shape} {e : EltTy} (m : Memref sig .tc sp s e) (hm : m.view.set = Finset.univ)
    (g : Buf (Elt F) (m.view.loc (c : Thread nD τ))) (X : s.Idx → Elt F e) (h : m.view.read (Elt F) g = X) :
    (m.view.loc (c : Thread nD τ) ↦{fullShare} g : sProp 𝕄) ⊢ m.view.loc (c : Thread nD τ) ↦{fullShare} m.view.rep X := by
  have := pointsTo_rep_of_read (U := UU nD τ) (Ix := Unit) (Name := ℕ) (Lvl := ℕ) (c : Thread nD τ) m g fullShare X h
  rw [hm] at this
  exact this

omit [FloatOps F] in
theorem cast_ix3 (v : FVec F S64x128 .fp8e4m3) :
    (fun y : S64x128.Idx => shapeCast S1x64x128 (shapeCast S64x128 v shapeCasts_S64x128_S64x128) shapeCasts_S64x128_S1x64x128 (ix3 (0 : Fin 1) (y 0) (y 1))) = v := by
  rw [shapeCast_self]
  funext y
  refine (shapeCast_addUnit_apply ![64, 128] v _ _).trans (congrArg v ?_)
  funext a
  match a with
  | ⟨0, _⟩ => rfl
  | ⟨1, _⟩ => rfl

theorem q_write (s : Fin 2) (n : ℕ) {off : Fin 3 → ℕ} (e : off = ![s.val, 0, 128 * n]) (h : ∀ a, off a + S1x64x128.size a ≤ S2x64x16384.size a)
    (f : (qbufM.access (Rect.unit (s := S2x64x16384) off S1x64x128.size h)).ty.Contents (Elt F)) (w : S1x64x128.Idx → F .fp8e4m3) :
    (qslot s).view.read (Elt F) ((qbufM.access (Rect.unit (s := S2x64x16384) off S1x64x128.size h)).write (Elt F) f w Finset.univ)
      = VecWindow.put (s := Sh 64 16384) ((qslot s).view.read (Elt F) f) ![0, 128 * n] ![64, 128] (fun y => w (ix3 (0 : Fin 1) (y 0) (y 1))) := by
  subst e
  have key : ∀ g : (qbufM.view).ty.Contents (Elt F), ∀ y : S64x16384.Idx, (qslot s).view.read (Elt F) g y = qbufM.view.read (Elt F) g (ix3 s (y 0) (y 1)) := by
    intro g y
    show qbufM.view.read (Elt F) g ((Rect.unit (s := S2x64x16384) ![s.val, 0, 0] S1x64x16384.size (qslotInb s)).emb (Shape.reshapeEquiv squeezes_S1x64x16384_S64x16384.numel_eq y)) = _
    refine congrArg (qbufM.view.read (Elt F) g) ?_
    have hr : Shape.reshapeEquiv squeezes_S1x64x16384_S64x16384.numel_eq y = (Fin.cons (⟨0, Nat.one_pos⟩ : Fin 1) y : S1x64x16384.Idx) :=
      Shape.reshapeEquiv_cons_one (d := ![64, 16384]) _ y
    rw [show (Shape.reshapeEquiv squeezes_S1x64x16384_S64x16384.numel_eq y : (Rect.unit (s := S2x64x16384) ![s.val, 0, 0] S1x64x16384.size (qslotInb s)).shape.Idx) = _ from hr]
    funext a
    match a with
    | ⟨0, _⟩ => exact Fin.ext (by show s.val + 1 * 0 = s.val; omega)
    | ⟨1, _⟩ => exact Fin.ext (by show 0 + 1 * (y 0).val = (y 0).val; omega)
    | ⟨2, _⟩ => exact Fin.ext (by show 0 + 1 * (y 1).val = (y 1).val; omega)
  funext y
  refine (key _ y).trans ?_
  refine (congrFun (View.read_writes_cons_put qbufM.view f h w [] rfl) _).trans ?_
  rw [View.writes_nil]
  unfold VecWindow.put
  have h0 : (y 0).val < 64 := (y 0).isLt
  by_cases hy : 128 * n ≤ (y 1).val ∧ (y 1).val < 128 * n + 128
  · rw [dif_pos (fun a => match a with
      | ⟨0, _⟩ => ⟨le_rfl, Nat.lt_succ_self _⟩
      | ⟨1, _⟩ => ⟨Nat.zero_le _, by show (y 0).val < 0 + 64; omega⟩
      | ⟨2, _⟩ => hy), dif_pos (fun a => match a with
      | ⟨0, _⟩ => ⟨Nat.zero_le _, by show (y 0).val < 0 + 64; omega⟩
      | ⟨1, _⟩ => hy)]
    refine congrArg w ?_
    funext a
    match a with
    | ⟨0, _⟩ => exact Fin.ext (by show s.val - s.val = 0; omega)
    | ⟨1, _⟩ => rfl
    | ⟨2, _⟩ => rfl
  · rw [dif_neg (fun hh => hy (hh 2)), dif_neg (fun hh => hy (hh 1))]
    exact (key f y).symm

/-! ## What a trip computes, block by block -/

/-- The scales of one 64 by 128 block of a chunk, -/
def scB (x : S64x128.Idx → F .f32) : FVec F S64x128 .bf16 := k0_pay44 (k0_pay40 x) (k0_pay41 x) k0_pay42
/-- its codes, -/
def qB (x : S64x128.Idx → F .f32) : FVec F S64x128 .fp8e4m3 := k0_pay45 x (k0_pay40 x) (k0_pay41 x) k0_pay42
/-- and the codes times their scales. -/
def dqB (x : S64x128.Idx → F .f32) : FVec F S64x128 .bf16 := k0_pay48 (scB x) (qB x)
/-- The table of scales with lane `n` from block `n`. -/
def csUpd (n : ℕ) (x : S64x128.Idx → F .f32) (cw : S64x128.Idx → F .f32) : S64x128.Idx → F .f32 :=
  select (cmpf .oeq (k0_pay85 (F := F)) (broadcast S64x128 (Scalar.sitofp .bf16 (BitVec.ofNat 32 n)))) (extf .f32 (scB x) bitsLt_bf16_f32) cw
/-- The product of four blocks with the panel's, added. -/
def wStep (d0 d1 d2 d3 : FVec F S64x128 .bf16) (vw : S80x512.Idx → F .bf16) (w : S64x80.Idx → F .f32) : S64x80.Idx → F .f32 :=
  addf w (matmul dot_S64x512_S80x512_S64x80_1_1_0_0_n_n none
    (concatenate S64x512 1 [⟨S64x128, d0⟩, ⟨S64x128, d1⟩, ⟨S64x128, d2⟩, ⟨S64x128, d3⟩] concatenates_S64x128_S64x128_S64x128_S64x128_S64x512_d1) vw
    (constant S64x80 .f32 0x00000000#32))

theorem wInb : ∀ a, (![0, 0] : Fin 2 → ℕ) a + (![64, 80] : Fin 2 → ℕ) a ≤ S64x128.size a := inb_S64x128_S64x80_0_0
theorem rowInb (k : ℕ) (hk : k < 18) : ∀ a, (![64 * k, 0] : Fin 2 → ℕ) a + (![64, 128] : Fin 2 → ℕ) a ≤ S1152x128.size a := by
  intro a; fin_cases a
  · show 64 * k + 64 ≤ 1152; omega
  · show 0 + 128 ≤ 128; omega

/-- The columns of the product before trip `t`. -/
def wN (X : S64x16384.Idx → F .f32) (VW : S80x16384.Idx → F .bf16) (W0 : S64x80.Idx → F .f32) : ℕ → S64x80.Idx → F .f32
  | 0 => W0
  | t + 1 => wStep (dqB (blk 128 X (4 * t + 0))) (dqB (blk 128 X (4 * t + 1))) (dqB (blk 128 X (4 * t + 2))) (dqB (blk 128 X (4 * t + 3))) (blk 512 VW t) (wN X VW W0 t)
/-- The chunk's table of scales before trip `t`. -/
def csN (X : S64x16384.Idx → F .f32) (C0 : S64x128.Idx → F .f32) : ℕ → S64x128.Idx → F .f32
  | 0 => C0
  | t + 1 => csUpd (4 * t + 3) (blk 128 X (4 * t + 3)) (csUpd (4 * t + 2) (blk 128 X (4 * t + 2)) (csUpd (4 * t + 1) (blk 128 X (4 * t + 1))
      (csUpd (4 * t + 0) (blk 128 X (4 * t + 0)) (csN X C0 t))))

def wS (X : S64x16384.Idx → F .f32) (VW : S80x16384.Idx → F .bf16) (W : S64x128.Idx → F .f32) : ℕ → S64x128.Idx → F .f32
  | 0 => W
  | t + 1 => VecWindow.put (s := S64x128) W ![0, 0] ![64, 80] (wN X VW (VecWindow.window W ![0, 0] ![64, 80] wInb) (t + 1))
def csS (X : S64x16384.Idx → F .f32) (C : S1152x128.Idx → F .f32) (k : ℕ) (hk : k < 18) : ℕ → S1152x128.Idx → F .f32
  | 0 => C
  | t + 1 => VecWindow.put (s := S1152x128) C ![64 * k, 0] ![64, 128] (csN X (VecWindow.window C ![64 * k, 0] ![64, 128] (rowInb k hk)) (t + 1))
def qS (X : S64x16384.Idx → F .f32) (Q : S64x16384.Idx → F .fp8e4m3) : ℕ → S64x16384.Idx → F .fp8e4m3
  | 0 => Q
  | t + 1 => mix (4 * (t + 1)) (fun n => qB (blk 128 X n)) Q

theorem qS_eq (X : S64x16384.Idx → F .f32) (Q : S64x16384.Idx → F .fp8e4m3) (t : ℕ) : qS X Q t = mix (4 * t) (fun n => qB (blk 128 X n)) Q := by
  cases t with
  | zero => exact (mix_zero _ _).symm
  | succ t => rfl
theorem wS_window (X : S64x16384.Idx → F .f32) (VW : S80x16384.Idx → F .bf16) (W : S64x128.Idx → F .f32) (t : ℕ) :
    VecWindow.window (wS X VW W t) ![0, 0] ![64, 80] wInb = wN X VW (VecWindow.window W ![0, 0] ![64, 80] wInb) t := by
  cases t with
  | zero => rfl
  | succ t => exact VecWindow.window_put_same W _ _ _ _
theorem wS_put (X : S64x16384.Idx → F .f32) (VW : S80x16384.Idx → F .bf16) (W : S64x128.Idx → F .f32) (t : ℕ) (w : S64x80.Idx → F .f32)
    (h : w = wN X VW (VecWindow.window W ![0, 0] ![64, 80] wInb) (t + 1)) : VecWindow.put (s := S64x128) (wS X VW W t) ![0, 0] ![64, 80] w = wS X VW W (t + 1) := by
  subst h
  cases t with
  | zero => rfl
  | succ t => exact VecWindow.put_put_same W _ _ _ _
theorem csS_window (X : S64x16384.Idx → F .f32) (C : S1152x128.Idx → F .f32) (k : ℕ) (hk : k < 18) (t : ℕ) :
    VecWindow.window (csS X C k hk t) ![64 * k, 0] ![64, 128] (rowInb k hk) = csN X (VecWindow.window C ![64 * k, 0] ![64, 128] (rowInb k hk)) t := by
  cases t with
  | zero => rfl
  | succ t => exact VecWindow.window_put_same C _ _ _ _
theorem csS_put (X : S64x16384.Idx → F .f32) (C : S1152x128.Idx → F .f32) (k : ℕ) (hk : k < 18) (t : ℕ) (w : S64x128.Idx → F .f32)
    (h : w = csN X (VecWindow.window C ![64 * k, 0] ![64, 128] (rowInb k hk)) (t + 1)) : VecWindow.put (s := S1152x128) (csS X C k hk t) ![64 * k, 0] ![64, 128] w = csS X C k hk (t + 1) := by
  subst h
  cases t with
  | zero => rfl
  | succ t => exact VecWindow.put_put_same C _ _ _ _

theorem iv3 : ∀ (t : Fin k0_t3_loop.trips) (r : Fin 4), Scalar.addi (Scalar.muli (Scf.iv 0#32 1#32 t.val) 4#32) (BitVec.ofNat 32 r.val) = BitVec.ofNat 32 (4 * t.val + r.val) := by
  decide +kernel

set_option backward.proofsInPublic true in
theorem t3_step (c : Dev nD) (k : Fin k0_t2_loop.trips) (v351 : BitVec 32)
    (X : S64x16384.Idx → F .f32) (VW : S80x16384.Idx → F .bf16) (W : S64x128.Idx → F .f32) (C : S1152x128.Idx → F .f32) (Q : S64x16384.Idx → F .fp8e4m3)
    (t : Fin k0_t3_loop.trips) :
    iprop(slotP c (s10 k.val) X ∗ vwP c VW ∗ wP c (wS X VW W t.val) ∗ csbP c (csS X C k.val (k_lt k) t.val) ∗ qslotP c (s2 k.val) (qS X Q t.val))
      ⊢ wp frame (wpE (defs₀ (F := F)) 𝒱₀ (c : Thread nD τ) none) Set.univ (k0_t3_body vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 0#32 1#32 k v351 t ())
        (fun _ => iprop(slotP c (s10 k.val) X ∗ vwP c VW ∗ wP c (wS X VW W (t.val + 1)) ∗ csbP c (csS X C k.val (k_lt k) (t.val + 1)) ∗ qslotP c (s2 k.val) (qS X Q (t.val + 1)))) := by
  generalize hW : wS X VW W t.val = Wt
  generalize hC : csS X C k.val (k_lt k) t.val = Ct
  generalize hQ : qS X Q t.val = Qt
  iintro ⟨Hx, Hvw, Hw, Hcs, Hq⟩
  sl_unfold [k0_t3_body]
  have ht := t3_lt t
  have w0 := q_within (s2 k.val) (4 * t.val + 0) (by omega) (p19_0 k t) (k0_off19_inb k t 0)
  have w1 := q_within (s2 k.val) (4 * t.val + 1) (by omega) (p19_1 k t) (k0_off19_inb k t 1)
  have w2 := q_within (s2 k.val) (4 * t.val + 2) (by omega) (p19_2 k t) (k0_off19_inb k t 2)
  have w3 := q_within (s2 k.val) (4 * t.val + 3) (by omega) (p19_3 k t) (k0_off19_inb k t 3)
  sl_exec
  sl_step
  have hx : ∀ {off : Fin 2 → ℕ} (n : ℕ) (h : off = ![0, 128 * n]) (inb : ∀ a, off a + S64x128.size a ≤ S64x16384.size a),
      (slot (s10 k.val)).view.readAt (Elt F) (Rect.unit (s := S64x16384) off S64x128.size inb).toLoadRect ((slot (s10 k.val)).view.rep X) = blk 128 X n :=
    by
    intro off n h inb
    rw [readAt_blk _ _ n h]
  isplitl [Hx]
  · iexact Hx
  isplitl [Hvw]
  · iexact Hvw
  isplitl [Hw]
  · iapply (whole_rep c wM (View.set_whole _) _ _ ?rw) $$ Hw
    case rw =>
      rw [View.read_writes_cons_put _ _ _ _ _ rfl, View.writes_nil, View.read_rep, ← hW]
      refine wS_put X VW W t.val _ ?_
      rw [wN, ← wS_window, hW]
      delta t3_step.sl.Hq_w4 t3_step.sl.Hq_w3 t3_step.sl.Hq_w2 t3_step.sl.Hq_w1 t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
      rw [View.readAt_rep_unit (Val := Elt F) wM.view Wt _ rfl wInb, readAt_blk (Val := Elt F) vwM.view VW t.val (k0_off20_eq t), hx _ (p17_0 t), hx _ (p17_1 t), hx _ (p17_2 t), hx _ (p17_3 t)]
      exact shapeCast_self _ _
  isplitl [Hcs]
  · iapply (whole_rep c csbM (View.set_whole _) _ _ ?rc) $$ Hcs
    case rc =>
      rw [View.read_writes_cons_put _ _ _ _ _ (k0_off15_eq k), View.writes_nil, View.read_rep, ← hC]
      refine csS_put X C k.val (k_lt k) t.val _ ?_
      rw [csN, ← csS_window X C k.val (k_lt k) t.val, hC]
      delta t3_step.sl.Hq_w4 t3_step.sl.Hq_w3 t3_step.sl.Hq_w2 t3_step.sl.Hq_w1 t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
      rw [View.readAt_rep_unit (Val := Elt F) csbM.view Ct _ (k0_off15_eq k) (rowInb k.val (k_lt k)), hx _ (p17_0 t), hx _ (p17_1 t), hx _ (p17_2 t), hx _ (p17_3 t)]
      unfold csUpd
      rw [show BitVec.ofNat 32 (4 * t.val + 1) = _ from (iv3 t 1).symm, show BitVec.ofNat 32 (4 * t.val + 2) = _ from (iv3 t 2).symm,
        show BitVec.ofNat 32 (4 * t.val + 3) = _ from (iv3 t 3).symm, show BitVec.ofNat 32 (4 * t.val + 0) = _ from (iv3 t 0).symm]
      exact shapeCast_self _ _
  · iapply (pointsTo_rep_of_read (c : Thread nD τ) (qslot (s2 k.val)) (t3_step.sl.Hq_w4 k X t Qt) fullShare _ ?rq) $$ Hq
    case rq =>
      have e0 : (qslot (s2 k.val)).view.read (Elt F) (t3_step.sl.Hq_w1 k X t Qt) = mix (4 * t.val + 1) (fun n => qB (blk 128 X n)) Q := by
        refine (q_write (s2 k.val) (4 * t.val + 0) (p19_0 k t) (k0_off19_inb k t 0) _ _).trans ?_
        rw [show (qslot (s2 k.val)).view.read (Elt F) ((qslot (s2 k.val)).view.rep Qt) = _ from (View.read_rep _ _).trans (hQ.symm.trans (qS_eq X Q t.val))]
        refine put_mix (4 * t.val + 0) _ Q _ ?_ rfl
        delta t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
        rw [hx _ (p17_0 t)]; exact cast_ix3 (qB (blk 128 X (4 * t.val + 0)))
      have e1 : (qslot (s2 k.val)).view.read (Elt F) (t3_step.sl.Hq_w2 k X t Qt) = mix (4 * t.val + 2) (fun n => qB (blk 128 X n)) Q := by
        refine (q_write (s2 k.val) (4 * t.val + 1) (p19_1 k t) (k0_off19_inb k t 1) _ _).trans ?_
        rw [e0]
        refine put_mix (4 * t.val + 1) _ Q _ ?_ rfl
        delta t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
        rw [hx _ (p17_1 t)]; exact cast_ix3 (qB (blk 128 X (4 * t.val + 1)))
      have e2 : (qslot (s2 k.val)).view.read (Elt F) (t3_step.sl.Hq_w3 k X t Qt) = mix (4 * t.val + 3) (fun n => qB (blk 128 X n)) Q := by
        refine (q_write (s2 k.val) (4 * t.val + 2) (p19_2 k t) (k0_off19_inb k t 2) _ _).trans ?_
        rw [e1]
        refine put_mix (4 * t.val + 2) _ Q _ ?_ rfl
        delta t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
        rw [hx _ (p17_2 t)]; exact cast_ix3 (qB (blk 128 X (4 * t.val + 2)))
      have e3 : (qslot (s2 k.val)).view.read (Elt F) (t3_step.sl.Hq_w4 k X t Qt) = mix (4 * t.val + 4) (fun n => qB (blk 128 X n)) Q := by
        refine (q_write (s2 k.val) (4 * t.val + 3) (p19_3 k t) (k0_off19_inb k t 3) _ _).trans ?_
        rw [e2]
        refine put_mix (4 * t.val + 3) _ Q _ ?_ rfl
        delta t3_step.sl.r_30 t3_step.sl.r_29 t3_step.sl.r_28 t3_step.sl.r_27 t3_step.sl.r_26 t3_step.sl.r_25 t3_step.sl.r_24 t3_step.sl.r_23 t3_step.sl.r_22 t3_step.sl.r_21 t3_step.sl.r_20 t3_step.sl.r_19 t3_step.sl.r_18 t3_step.sl.r_17 t3_step.sl.r_16 t3_step.sl.r_15 t3_step.sl.r_14 t3_step.sl.r_13 t3_step.sl.r_12 t3_step.sl.r_11 t3_step.sl.r_10 t3_step.sl.r_9 t3_step.sl.r_8 t3_step.sl.r_7 t3_step.sl.r_6 t3_step.sl.r_5 t3_step.sl.r_4 t3_step.sl.r_3 t3_step.sl.r_2 t3_step.sl.r_1 t3_step.sl.r t3_step.sl.cst_429 t3_step.sl.arg32 t3_step.sl.v479
        rw [hx _ (p17_3 t)]; exact cast_ix3 (qB (blk 128 X (4 * t.val + 3)))
      exact e3

set_option warn.classDefReducibility false in
@[sl_loop] def loopInv3 (c : Dev nD) (k : Fin k0_t2_loop.trips) (v351 : BitVec 32)
    (X : S64x16384.Idx → F .f32) (VW : S80x16384.Idx → F .bf16) (W : S64x128.Idx → F .f32) (C : S1152x128.Idx → F .f32) (Q : S64x16384.Idx → F .fp8e4m3) :
    LoopInvTy_k0_t3 (F := F) Unit ℕ (UU nD τ) ℕ 𝒱₀ c none Set.univ vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 0#32 1#32 k v351 where
  inv t _ := iprop(slotP c (s10 k.val) X ∗ vwP c VW ∗ wP c (wS X VW W t) ∗ csbP c (csS X C k.val (k_lt k) t) ∗ qslotP c (s2 k.val) (qS X Q t))
  step t _ := t3_step c k v351 X VW W C Q t

end Cert.KernelIdeal.Hand

end
-- ==== Proof.IT1.lean ====
/-
  One trip of the loop that scales and quantises the panel.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.VecWindow
public import Idealize.ShloMosaic.Lib.Tactic
public import Idealize.ShloMosaic.Lib.Pointwise.Index
public import Idealize.ShloMosaic.Lib.Pipeline.Value
public import proofs.«01_k».proof.Proof.INames
public import proofs.«01_k».proof.Proof.IT4
public import proofs.«01_k».proof.Proof.IT3

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ
abbrev atP (c : Dev nD) (A : S72x16384.Idx → F .f32) : sProp 𝕄 := atM.view.loc (c : Thread nD τ) ↦{fullShare} atM.view.rep A
abbrev vqoP (c : Dev nD) (V : S72x16384.Idx → F .fp8e4m3) : sProp 𝕄 := vqoM.view.loc (c : Thread nD τ) ↦{fullShare} vqoM.view.rep V

/-- The contents before trip `t` of a buffer the loop fills in blocks of 128 columns, four a trip. -/
def mixT {α : Type} {R : ℕ} (t : ℕ) (B : ℕ → (Sh R 128).Idx → α) (X : (Sh R 16384).Idx → α) : (Sh R 16384).Idx → α :=
  match t with
  | 0 => X
  | n + 1 => mix (4 * (n + 1)) B X
omit [FloatOps F] in
theorem mixT_eq {α : Type} {R : ℕ} (t : ℕ) (B : ℕ → (Sh R 128).Idx → α) (X : (Sh R 16384).Idx → α) : mixT t B X = mix (4 * t) B X := by
  cases t with
  | zero => exact (mix_zero _ _).symm
  | succ t => rfl

/-- The scale of a block of 128 columns of the panel, on every lane, -/
def scV (x : S72x128.Idx → F .f32) : FVec F S1x128 .f32 := k0_pay4 (k0_pay1 x) (k0_pay2 x) (k0_pay3 x) (Scalar.ofBits .f32 0x43800000#32)
/-- its codes, padded to 96 rows, -/
def qV96 (x : S72x128.Idx → F .f32) : FVec F S96x128 .fp8e4m3 := k0_pay6 x (k0_pay1 x) (k0_pay2 x) (k0_pay3 x) (Scalar.ofBits .f32 0x43800000#32)
/-- its codes, -/
def qV72 (x : S72x128.Idx → F .f32) : FVec F S72x128 .fp8e4m3 := k0_pay8 x (k0_pay1 x) (k0_pay2 x) (k0_pay3 x) (Scalar.ofBits .f32 0x43800000#32)
/-- and its codes times the scale, padded to 80 rows. -/
def dqV (x : S72x128.Idx → F .f32) : FVec F S80x128 .bf16 := k0_pay10 (scV x) (qV96 x)
/-- The row of scales with lane `n` from block `n`. -/
def vsUpd (v104 : IVec S1x128 32) (n : ℕ) (x : S72x128.Idx → F .f32) (acc : FVec F S1x128 .f32) : FVec F S1x128 .f32 :=
  select (cmpi .eq v104 (broadcast S1x128 (BitVec.ofNat 32 n))) (scV x) acc
/-- The row of scales before trip `t`. -/
def vsN (v104 : IVec S1x128 32) (A : S72x16384.Idx → F .f32) (init : FVec F S1x128 .f32) : ℕ → FVec F S1x128 .f32
  | 0 => init
  | t + 1 => vsUpd v104 (4 * t + 3) (blk 128 A (4 * t + 3)) (vsUpd v104 (4 * t + 2) (blk 128 A (4 * t + 2)) (vsUpd v104 (4 * t + 1) (blk 128 A (4 * t + 1))
      (vsUpd v104 (4 * t + 0) (blk 128 A (4 * t + 0)) (vsN v104 A init t))))

/-- What the loop holds before trip `t`. -/
abbrev inv1 (c : Dev nD) (A : S72x16384.Idx → F .f32) (VQ : S96x16384.Idx → F .fp8e4m3) (VQO : S72x16384.Idx → F .fp8e4m3) (VW : S80x16384.Idx → F .bf16)
    (VS : S1x16384.Idx → F .f32) (t : ℕ) : sProp 𝕄 :=
  iprop(atP c A ∗ vqP c (mixT t (fun n => qV96 (blk 128 A n)) VQ) ∗ vqoP c (mixT t (fun n => qV72 (blk 128 A n)) VQO)
    ∗ vwP c (mixT t (fun n => dqV (blk 128 A n)) VW) ∗ vsrP c (mixT t (fun n => scV (blk 128 A n)) VS))

theorem iv1 : ∀ (t : Fin k0_t1_loop.trips) (r : Fin 4), Scalar.addi (Scalar.muli (Scf.iv 0#32 1#32 t.val) 4#32) (BitVec.ofNat 32 r.val) = BitVec.ofNat 32 (4 * t.val + r.val) := by
  decide +kernel

set_option backward.proofsInPublic true in
theorem t1_step (c : Dev nD) (v104 : IVec S1x128 32) (v105 : FVec F S1x128 .f32)
    (A : S72x16384.Idx → F .f32) (VQ : S96x16384.Idx → F .fp8e4m3) (VQO : S72x16384.Idx → F .fp8e4m3) (VW : S80x16384.Idx → F .bf16) (VS : S1x16384.Idx → F .f32)
    (init : FVec F S1x128 .f32) (t : Fin k0_t1_loop.trips) :
    inv1 c A VQ VQO VW VS t.val
      ⊢ wp frame (wpE (defs₀ (F := F)) 𝒱₀ (c : Thread nD τ) none) Set.univ (k0_t1_body vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 t (vsN v104 A init t.val))
        (fun r => iprop(inv1 c A VQ VQO VW VS (t.val + 1) ∗ ⌜r = vsN v104 A init (t.val + 1)⌝)) := by
  generalize hacc : vsN v104 A init t.val = acc
  unfold inv1
  generalize h1 : mixT t.val (fun n => qV96 (blk 128 A n)) VQ = VQt
  generalize h2 : mixT t.val (fun n => qV72 (blk 128 A n)) VQO = VQOt
  generalize h3 : mixT t.val (fun n => dqV (blk 128 A n)) VW = VWt
  generalize h4 : mixT t.val (fun n => scV (blk 128 A n)) VS = VSt
  have ht := t1_lt t
  iintro ⟨Ha, Hvq, Hvqo, Hvw, Hvs⟩
  sl_unfold [k0_t1_body]
  sl_exec
  sl_step
  have hx : ∀ {off : Fin 2 → ℕ} (n : ℕ) (h : off = ![0, 128 * n]) (inb : ∀ a, off a + S72x128.size a ≤ S72x16384.size a),
      atM.view.readAt (Elt F) (Rect.unit (s := S72x16384) off S72x128.size inb).toLoadRect (atM.view.rep A) = blk 128 A n := by
    intro off n h inb
    rw [readAt_blk _ _ n h]
  isplitl [Ha Hvq Hvqo Hvw Hvs]
  · isplitl [Ha]
    · iexact Ha
    isplitl [Hvq]
    · iapply (whole_rep c vqM (View.set_whole _) _ _ ?rHvq) $$ Hvq
      case rHvq =>
        rw [View.read_writes_cons_put _ _ _ _ _ (p5_3 t), View.read_writes_cons_put _ _ _ _ _ (p5_2 t), View.read_writes_cons_put _ _ _ _ _ (p5_1 t),
          View.read_writes_cons_put _ _ _ _ _ (p5_0 t), View.writes_nil, View.read_rep, ← h1, mixT_eq, mixT_eq]
        rw [put_mix _ _ _ _ ?b0 rfl, put_mix _ _ _ _ ?b1 rfl, put_mix _ _ _ _ ?b2 rfl, put_mix _ _ _ _ ?b3 rfl]
        · rfl
        case b0 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_0 t)]; exact shapeCast_self _ _
        case b1 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_1 t)]; exact shapeCast_self _ _
        case b2 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_2 t)]; exact shapeCast_self _ _
        case b3 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_3 t)]; exact shapeCast_self _ _
    isplitl [Hvqo]
    · iapply (whole_rep c vqoM (View.set_whole _) _ _ ?rHvqo) $$ Hvqo
      case rHvqo =>
        rw [View.read_writes_cons_put _ _ _ _ _ (p4_3 t), View.read_writes_cons_put _ _ _ _ _ (p4_2 t), View.read_writes_cons_put _ _ _ _ _ (p4_1 t),
          View.read_writes_cons_put _ _ _ _ _ (p4_0 t), View.writes_nil, View.read_rep, ← h2, mixT_eq, mixT_eq]
        rw [put_mix _ _ _ _ ?b0 rfl, put_mix _ _ _ _ ?b1 rfl, put_mix _ _ _ _ ?b2 rfl, put_mix _ _ _ _ ?b3 rfl]
        · rfl
        case b0 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_0 t)]; exact shapeCast_self _ _
        case b1 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_1 t)]; exact shapeCast_self _ _
        case b2 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_2 t)]; exact shapeCast_self _ _
        case b3 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_3 t)]; exact shapeCast_self _ _
    isplitl [Hvw]
    · iapply (whole_rep c vwM (View.set_whole _) _ _ ?rHvw) $$ Hvw
      case rHvw =>
        rw [View.read_writes_cons_put _ _ _ _ _ (p6_3 t), View.read_writes_cons_put _ _ _ _ _ (p6_2 t), View.read_writes_cons_put _ _ _ _ _ (p6_1 t),
          View.read_writes_cons_put _ _ _ _ _ (p6_0 t), View.writes_nil, View.read_rep, ← h3, mixT_eq, mixT_eq]
        rw [put_mix _ _ _ _ ?b0 rfl, put_mix _ _ _ _ ?b1 rfl, put_mix _ _ _ _ ?b2 rfl, put_mix _ _ _ _ ?b3 rfl]
        · rfl
        case b0 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_0 t)]; exact rfl
        case b1 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_1 t)]; exact rfl
        case b2 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_2 t)]; exact rfl
        case b3 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_3 t)]; exact rfl
    · iapply (whole_rep c vsrM (View.set_whole _) _ _ ?rHvs) $$ Hvs
      case rHvs =>
        rw [View.read_writes_cons_put _ _ _ _ _ (p7_3 t), View.read_writes_cons_put _ _ _ _ _ (p7_2 t), View.read_writes_cons_put _ _ _ _ _ (p7_1 t),
          View.read_writes_cons_put _ _ _ _ _ (p7_0 t), View.writes_nil, View.read_rep, ← h4, mixT_eq, mixT_eq]
        rw [put_mix _ _ _ _ ?b0 rfl, put_mix _ _ _ _ ?b1 rfl, put_mix _ _ _ _ ?b2 rfl, put_mix _ _ _ _ ?b3 rfl]
        · rfl
        case b0 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_0 t)]; exact shapeCast_self _ _
        case b1 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_1 t)]; exact shapeCast_self _ _
        case b2 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_2 t)]; exact shapeCast_self _ _
        case b3 => delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398; rw [hx _ (p4_3 t)]; exact shapeCast_self _ _
  · ipureintro
    rw [vsN, hacc]
    delta t1_step.sl.r_25 t1_step.sl.r_24 t1_step.sl.r_23 t1_step.sl.r_22 t1_step.sl.r_21 t1_step.sl.r_20 t1_step.sl.r_19 t1_step.sl.r_18 t1_step.sl.r_17 t1_step.sl.r_16 t1_step.sl.r_15 t1_step.sl.r_14 t1_step.sl.r_13 t1_step.sl.r_12 t1_step.sl.r_11 t1_step.sl.r_10 t1_step.sl.r_9 t1_step.sl.r_8 t1_step.sl.r_7 t1_step.sl.r_6 t1_step.sl.r_5 t1_step.sl.r_4 t1_step.sl.r_3 t1_step.sl.r_2 t1_step.sl.r_1 t1_step.sl.r t1_step.sl.cst_280 t1_step.sl.cst_353 t1_step.sl.cst_398 t1_step.sl.v664 t1_step.sl.v559 t1_step.sl.v454 t1_step.sl.v349 t1_step.sl.v348 t1_step.sl.arg31
    rw [hx _ (p4_0 t), hx _ (p4_1 t), hx _ (p4_2 t), hx _ (p4_3 t)]
    unfold vsUpd
    rw [show BitVec.ofNat 32 (4 * t.val + 1) = _ from (iv1 t 1).symm, show BitVec.ofNat 32 (4 * t.val + 2) = _ from (iv1 t 2).symm,
        show BitVec.ofNat 32 (4 * t.val + 3) = _ from (iv1 t 3).symm, show BitVec.ofNat 32 (4 * t.val + 0) = _ from (iv1 t 0).symm]
    rfl

set_option warn.classDefReducibility false in
@[sl_loop] def loopInv1 (c : Dev nD) (v104 : IVec S1x128 32) (v105 : FVec F S1x128 .f32)
    (A : S72x16384.Idx → F .f32) (VQ : S96x16384.Idx → F .fp8e4m3) (VQO : S72x16384.Idx → F .fp8e4m3) (VW : S80x16384.Idx → F .bf16) (VS : S1x16384.Idx → F .f32)
    (init : FVec F S1x128 .f32) :
    LoopInvTy_k0_t1 (F := F) Unit ℕ (UU nD τ) ℕ 𝒱₀ c none Set.univ vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 init where
  inv t acc := iprop(inv1 c A VQ VQO VW VS t ∗ ⌜acc = vsN v104 A init t⌝)
  step t acc := by
    iintro ⟨H, %h⟩
    subst h
    iapply (t1_step c v104 v105 A VQ VQO VW VS init t) $$ H

end Cert.KernelIdeal.Hand

end
-- ==== Proof.IT2.lean ====
/-
  One trip of the loop over the chunks: its resources, what it computes, and the four cases of which transfers it waits for and starts.
-/
module

public import proofs.«01_k».proof.Proof.IT1
public import proofs.«01_k».proof.Proof.IT3

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

/-! ## Resources of one chunk -/

section Res
variable (c : Dev nD) (cH : Buf (Elt F) (cM.view.loc (c : Thread nD τ)))

abbrev ttP (TT : S128x128.Idx → F .f32) : sProp 𝕄 := ttM.view.loc (c : Thread nD τ) ↦{fullShare} ttM.view.rep TT
abbrev yfP (Y : S1152x128.Idx → F .f32) : sProp 𝕄 := yfM.view.loc (c : Thread nD τ) ↦{fullShare} yfM.view.rep Y
abbrev ysfP (Y : S1152x128.Idx → F .f32) : sProp 𝕄 := ysfM.view.loc (c : Thread nD τ) ↦{fullShare} ysfM.view.rep Y
/-- Chunk `j` of the trailing matrix, in HBM. -/
abbrev cblkP (j : Fin 18) : sProp 𝕄 := (cblk j).view.loc (c : Thread nD τ) ↦[(cblk j).view.set]{fullShare} cH
abbrev oblkP (j : Fin 18) (X : S64x16384.Idx → F .f32) : sProp 𝕄 := (oblk j).view.loc (c : Thread nD τ) ↦[(oblk j).view.set]{fullShare} (oblk j).view.rep X
abbrev qblkP (j : Fin 18) (X : S64x16384.Idx → F .fp8e4m3) : sProp 𝕄 := (qblk j).view.loc (c : Thread nD τ) ↦[(qblk j).view.set]{fullShare} (qblk j).view.rep X
/-- The words of chunk `j`. -/
def chunk (j : Fin 18) : S64x16384.Idx → F .f32 := (cblk j).view.read (Elt F) cH
abbrev inCellP (s : Fin 10) : sProp 𝕄 := semVal ((c : Thread nD τ), SemLoc.dma (inC s).sem) 0
abbrev outCellP (s : Fin 10) : sProp 𝕄 := semVal ((c : Thread nD τ), SemLoc.dma (outC s).sem) 0
abbrev qCellP (s : Fin 2) : sProp 𝕄 := semVal ((c : Thread nD τ), SemLoc.dma (qC s).sem) 0
abbrev flyIn (s : Fin 10) (j : Fin 18) : sProp 𝕄 :=
  Transfers.Flight countersEmb (c : Thread nD τ) (SemLoc.dma (inC s).sem) () 131072 iprop(slotP c s (chunk c cH j) ∗ cblkP c cH j)
abbrev flyOut (s : Fin 10) (j : Fin 18) (X : S64x16384.Idx → F .f32) : sProp 𝕄 :=
  Transfers.Flight countersEmb (c : Thread nD τ) (SemLoc.dma (outC s).sem) () 131072 iprop(oblkP c j X ∗ slotP c s X)
abbrev flyQ (s : Fin 2) (j : Fin 18) (X : S64x16384.Idx → F .fp8e4m3) : sProp 𝕄 :=
  Transfers.Flight countersEmb (c : Thread nD τ) (SemLoc.dma (qC s).sem) () 32768 iprop(qblkP c j X ∗ qslotP c s X)

end Res

/-! ## What a chunk computes -/

theorem t3_trips : k0_t3_loop.trips = 32 := by decide +kernel
theorem t4_trips : k0_t4_loop.trips = 32 := by decide +kernel

/-- A table with the 64 rows of chunk `k` replaced. -/
def putRow (C : S1152x128.Idx → F .f32) (k : ℕ) (x : S64x128.Idx → F .f32) : S1152x128.Idx → F .f32 :=
  VecWindow.put (s := S1152x128) C ![64 * k, 0] ![64, 128] x
/-- The chunk's product with the panel. -/
def wOf (X : S64x16384.Idx → F .f32) (VW : S80x16384.Idx → F .bf16) : S64x128.Idx → F .f32 := wS X VW (k0_pay86 (F := F)) 32
/-- The chunk's scales. -/
def csOf (X : S64x16384.Idx → F .f32) : S64x128.Idx → F .f32 := csN X (k0_pay87 (F := F)) 32
/-- The chunk's codes. -/
def qOf (X : S64x16384.Idx → F .f32) : S64x16384.Idx → F .fp8e4m3 := full (fun n => qB (blk 128 X n))
/-- The rows of `Y` as codes, in f32, and their scales, over the lanes, -/
def yfOf (w : S64x128.Idx → F .f32) (tt : S128x128.Idx → F .f32) : S64x128.Idx → F .f32 :=
  k0_pay93 (k0_pay88 w tt) (k0_pay89 w tt) (k0_pay90 w tt) (Scalar.ofBits .f32 0x41800000#32)
def ysfOf (w : S64x128.Idx → F .f32) (tt : S128x128.Idx → F .f32) : S64x128.Idx → F .f32 :=
  k0_pay94 (k0_pay89 w tt) (k0_pay90 w tt) (Scalar.ofBits .f32 0x41800000#32)
/-- and as the product takes them. -/
def yqOf (w : S64x128.Idx → F .f32) (tt : S128x128.Idx → F .f32) : FVec F S64x96 .fp8e4m3 :=
  k0_pay95 (k0_pay88 w tt) (k0_pay89 w tt) (k0_pay90 w tt) (Scalar.ofBits .f32 0x41800000#32)
def ysOf (w : S64x128.Idx → F .f32) (tt : S128x128.Idx → F .f32) : FVec F S64x1 .f32 :=
  k0_pay96 (k0_pay89 w tt) (k0_pay90 w tt) (Scalar.ofBits .f32 0x41800000#32)
/-- The chunk updated. -/
def oOf (X : S64x16384.Idx → F .f32) (VW : S80x16384.Idx → F .bf16) (tt : S128x128.Idx → F .f32)
    (VQ : S96x16384.Idx → F .fp8e4m3) (VS : S1x16384.Idx → F .f32) : S64x16384.Idx → F .f32 :=
  full (updB (yqOf (wOf X VW) tt) (k0_pay107 (ysOf (wOf X VW) tt)) VQ VS X)

theorem cs_put (X : S64x16384.Idx → F .f32) (C : S1152x128.Idx → F .f32) (k : ℕ) (hk : k < 18) :
    csS X (putRow C k (k0_pay87 (F := F))) k hk 32 = putRow C k (csOf X) := by
  have h : VecWindow.window (putRow C k (k0_pay87 (F := F))) ![64 * k, 0] ![64, 128] (rowInb k hk) = k0_pay87 (F := F) :=
    VecWindow.window_put_same C _ _ _ _
  have e : csS X (putRow C k (k0_pay87 (F := F))) k hk 32
      = VecWindow.put (s := S1152x128) (putRow C k (k0_pay87 (F := F))) ![64 * k, 0] ![64, 128] (csN X (VecWindow.window (putRow C k (k0_pay87 (F := F))) ![64 * k, 0] ![64, 128] (rowInb k hk)) 32) := rfl
  rw [e, h]; exact VecWindow.put_put_same C _ _ _ _

set_option backward.proofsInPublic true in
theorem trip_zero (c : Dev nD) (cH : Buf (Elt F) (cM.view.loc (c : Thread nD τ)))
    (v104 : IVec S1x128 32) (v105 : FVec F S1x128 .f32) (k : Fin k0_t2_loop.trips) (h0 : k.val = 0)
    (VQ : S96x16384.Idx → F .fp8e4m3) (VW : S80x16384.Idx → F .bf16) (VS : S1x16384.Idx → F .f32) (TT : S128x128.Idx → F .f32)
    (C Y YS : S1152x128.Idx → F .f32) (W : S64x128.Idx → F .f32) (Xo : S64x16384.Idx → F .f32) (Q : S64x16384.Idx → F .fp8e4m3)
    (O : Buf (Elt F) ((oblk (b18 k.val)).view.loc (c : Thread nD τ))) (QQ : Buf (Elt F) ((qblk (b18 k.val)).view.loc (c : Thread nD τ))) :
    iprop(vqP c VQ ∗ vwP c VW ∗ vsrP c VS ∗ ttP c TT ∗ csbP c C ∗ yfP c Y ∗ ysfP c YS ∗ wP c W
        ∗ (∃ w, owes (c : Thread nD τ) 0 w)
        ∗ qslotP c (s2 k.val) Q ∗ qCellP c (s2 k.val) ∗ flyIn c cH (s10 k.val) (b18 k.val)
        ∗ ((qblk (b18 k.val)).view.loc (c : Thread nD τ) ↦[(qblk (b18 k.val)).view.set]{fullShare} QQ) ∗ outCellP c (s10 k.val)
        ∗ ((oblk (b18 k.val)).view.loc (c : Thread nD τ) ↦[(oblk (b18 k.val)).view.set]{fullShare} O))
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => iprop(vqP c VQ ∗ vwP c VW ∗ vsrP c VS ∗ ttP c TT ∗ csbP c (putRow C k.val (csOf (chunk c cH (b18 k.val))))
            ∗ yfP c (putRow Y k.val (yfOf (wOf (chunk c cH (b18 k.val)) VW) TT)) ∗ ysfP c (putRow YS k.val (ysfOf (wOf (chunk c cH (b18 k.val)) VW) TT))
            ∗ (∃ W, wP c W) ∗ (∃ w, owes (c : Thread nD τ) 0 w)
            ∗ flyQ c (s2 k.val) (b18 k.val) (qOf (chunk c cH (b18 k.val))) ∗ cblkP c cH (b18 k.val) ∗ inCellP c (s10 k.val)
            ∗ flyOut c (s10 k.val) (b18 k.val) (oOf (chunk c cH (b18 k.val)) VW TT VQ VS))) := by
  have hc1 : ¬ k0_cond1 k = 1#1 := fun h => by have := (cond1_iff k).1 h; omega
  have hc2 : ¬ k0_cond2 k = 1#1 := fun h => by have := (cond2_iff k).1 h; omega
  iintro ⟨Hvq, Hvw, Hvs, Htt, Hcs, Hy, Hys, Hw, ⟨%ow, HO⟩, Hqs, Hqc, Hfi, Hqb, Hoc, Hob⟩
  sl_unfold [k0_t2_body]
  sl_exec
  ihave Hw := (whole_rep c wM (View.set_whole _) _ (k0_pay86 (F := F)) ?hw0) $$ Hw
  case hw0 => exact View.read_writes_full _ _ _ _ _
  ihave Hcs := (whole_rep c csbM (View.set_whole _) _ (putRow C k.val (k0_pay87 (F := F))) ?hc0) $$ Hcs
  case hc0 => rw [View.read_writes_cons_put _ _ _ _ _ (k0_off14_eq k), View.writes_nil, View.read_rep]; rfl
  sl_exec
  have hk18 := k_lt k
  have et3 : Scf.trips k0_t3_loop.lb k0_t3_loop.ub k0_t3_loop.st = 32 := t3_trips
  have et4 : Scf.trips k0_t4_loop.lb k0_t4_loop.ub k0_t4_loop.st = 32 := t4_trips
  have hw : wS (chunk c cH (b18 k.val)) VW (shapeCast S64x128 (broadcast S64x128 (FloatOps.ofBits FTy.f32 0#32)) shapeCasts_S64x128_S64x128)
        (Scf.trips k0_t3_loop.lb k0_t3_loop.ub k0_t3_loop.st) = wOf (chunk c cH (b18 k.val)) VW := by
    rw [et3]; rfl
  have e0 : trip_zero.sl.r c cH k VW TT = k0_pay88 (wOf (chunk c cH (b18 k.val)) VW) TT := by
    delta trip_zero.sl.r trip_zero.sl.v381; rw [View.readAt_rep_full, View.readAt_rep_full, ← hw]
  have e1 : trip_zero.sl.r_1 c cH k VW TT = k0_pay89 (wOf (chunk c cH (b18 k.val)) VW) TT := by
    delta trip_zero.sl.r_1 trip_zero.sl.v381; rw [View.readAt_rep_full, View.readAt_rep_full, ← hw]
  have e2 : trip_zero.sl.r_2 c cH k VW TT = k0_pay90 (wOf (chunk c cH (b18 k.val)) VW) TT := by
    delta trip_zero.sl.r_2 trip_zero.sl.v381; rw [View.readAt_rep_full, View.readAt_rep_full, ← hw]
  have e3 : trip_zero.sl.r_3 c cH k VW TT = yqOf (wOf (chunk c cH (b18 k.val)) VW) TT := by
    delta trip_zero.sl.r_3; rw [e0, e1, e2]; rfl
  have e4 : trip_zero.sl.r_4 c cH k VW TT = ysOf (wOf (chunk c cH (b18 k.val)) VW) TT := by
    delta trip_zero.sl.r_4; rw [e1, e2]; rfl
  have eq : qS (chunk c cH (b18 k.val)) Q (Scf.trips k0_t3_loop.lb k0_t3_loop.ub k0_t3_loop.st) = qOf (chunk c cH (b18 k.val)) := by
    rw [et3, qS_eq]; exact mix_full _ _
  have eo : updS (trip_zero.sl.r_3 c cH k VW TT) (trip_zero.sl.r_4 c cH k VW TT) VQ VS (View.read (Elt F) (cblk (b18 k.val)).view cH)
      (Scf.trips k0_t4_loop.lb k0_t4_loop.ub k0_t4_loop.st) = oOf (chunk c cH (b18 k.val)) VW TT VQ VS := by
    rw [et4, updS_eq, e3, e4]; exact mix_full _ _
  sl_step
  isplitl [Hvq]; · iexact Hvq
  isplitl [Hvw]; · iexact Hvw
  isplitl [Hvs]; · iexact Hvs
  isplitl [Htt]; · iexact Htt
  isplitl [Hcs]
  · iapply (entails_of_eq (congrArg (csbP c) (show csS (chunk c cH (b18 k.val)) (VecWindow.put (s := S1152x128) C ![64 * k.val, 0] ![64, 128] (k0_pay87 (F := F))) k.val (k_lt k) (Scf.trips k0_t3_loop.lb k0_t3_loop.ub k0_t3_loop.st) = _ from by
      rw [et3]; exact cs_put _ _ _ _))) $$ Hcs
  isplitl [Hy]
  · iapply (whole_rep c yfM (View.set_whole _) _ _ ?hy) $$ Hy
    case hy => rw [View.read_writes_cons_put _ _ _ _ _ (k0_off14_eq k), View.writes_nil, View.read_rep, e0, e1, e2]; rfl
  isplitl [Hys]
  · iapply (whole_rep c ysfM (View.set_whole _) _ _ ?hy) $$ Hys
    case hy => rw [View.read_writes_cons_put _ _ _ _ _ (k0_off14_eq k), View.writes_nil, View.read_rep, e1, e2]; rfl
  isplitl [Hw]; · iexists _; iexact Hw
  isplitl [HO]; · iexists _; iexact HO
  isplitl [Hqc]
  · iapply (Transfers.Flight_mono countersEmb (c : Thread nD τ) ?m) $$ Hqc
    case m =>
      iintro ⟨Hd, Hs⟩
      isplitl [Hd]
      · iapply (pointsTo_rep_of_read (c : Thread nD τ) (qblk (b18 k.val)) _ fullShare _ ?h) $$ Hd
        case h => rw [View.read_writes_whole]; exact (View.read_rep _ _).trans eq
      · iapply (entails_of_eq (congrArg (qslotP c (s2 k.val)) eq)) $$ Hs
  isplitl [Hfi_src]; · iexact Hfi_src
  isplitl [Hfi]; · iexact Hfi
  iapply (Transfers.Flight_mono countersEmb (c : Thread nD τ) ?m) $$ Hoc
  case m =>
      iintro ⟨Hd, Hs⟩
      isplitl [Hd]
      · iapply (pointsTo_rep_of_read (c : Thread nD τ) (oblk (b18 k.val)) _ fullShare _ ?h) $$ Hd
        case h => rw [View.read_writes_whole]; exact (View.read_rep _ _).trans eo
      · iapply (entails_of_eq (congrArg (slotP c (s10 k.val)) eo)) $$ Hs

set_option backward.proofsInPublic true in
theorem trip_one (c : Dev nD) (cH : Buf (Elt F) (cM.view.loc (c : Thread nD τ)))
    (v104 : IVec S1x128 32) (v105 : FVec F S1x128 .f32) (k : Fin k0_t2_loop.trips) (h0 : k.val = 1) (h1 : 1 ≤ k.val)
    (VQ : S96x16384.Idx → F .fp8e4m3) (VW : S80x16384.Idx → F .bf16) (VS : S1x16384.Idx → F .f32) (TT : S128x128.Idx → F .f32)
    (C Y YS : S1152x128.Idx → F .f32) (W : S64x128.Idx → F .f32) (Xo : S64x16384.Idx → F .f32) (Q : S64x16384.Idx → F .fp8e4m3)
    (O : Buf (Elt F) ((oblk (b18 k.val)).view.loc (c : Thread nD τ))) (QQ : Buf (Elt F) ((qblk (b18 k.val)).view.loc (c : Thread nD τ))) :
    iprop(vqP c VQ ∗ vwP c VW ∗ vsrP c VS ∗ ttP c TT ∗ csbP c C ∗ yfP c Y ∗ ysfP c YS ∗ wP c W
        ∗ (∃ w, owes (c : Thread nD τ) 0 w)
        ∗ qslotP c (s2 k.val) Q ∗ qCellP c (s2 k.val) ∗ flyIn c cH (s10 k.val) (b18 k.val)
        ∗ ((qblk (b18 k.val)).view.loc (c : Thread nD τ) ↦[(qblk (b18 k.val)).view.set]{fullShare} QQ) ∗ outCellP c (s10 k.val)
        ∗ ((oblk (b18 k.val)).view.loc (c : Thread nD τ) ↦[(oblk (b18 k.val)).view.set]{fullShare} O) ∗ flyOut c (s10 (k.val + 9)) (b18 (k.val - 1)) Xo ∗ inCellP c (s10 (k.val + 9)) ∗ cblkP c cH (b18 (k.val + 9)))
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => iprop(vqP c VQ ∗ vwP c VW ∗ vsrP c VS ∗ ttP c TT ∗ csbP c (putRow C k.val (csOf (chunk c cH (b18 k.val))))
            ∗ yfP c (putRow Y k.val (yfOf (wOf (chunk c cH (b18 k.val)) VW) TT)) ∗ ysfP c (putRow YS k.val (ysfOf (wOf (chunk c cH (b18 k.val)) VW) TT))
            ∗ (∃ W, wP c W) ∗ (∃ w, owes (c : Thread nD τ) 0 w)
            ∗ flyQ c (s2 k.val) (b18 k.val) (qOf (chunk c cH (b18 k.val))) ∗ cblkP c cH (b18 k.val) ∗ inCellP c (s10 k.val)
            ∗ flyOut c (s10 k.val) (b18 k.val) (oOf (chunk c cH (b18 k.val)) VW TT VQ VS) ∗ oblkP c (b18 (k.val - 1)) Xo ∗ flyIn c cH (s10 (k.val + 9)) (b18 (k.val + 9)) ∗ outCellP c (s10 (k.val + 9)))) := by
  have hc1 : ¬ k0_cond1 k = 1#1 := fun h => by have := (cond1_iff k).1 h; omega
  have h8 : k.val ≤ 8 := by omega
  have hc2 : k0_cond2 k = 1#1 := (cond2_iff k).2 ⟨h1, by omega⟩
  iintro ⟨Hvq, Hvw, Hvs, Htt, Hcs, Hy, Hys, Hw, ⟨%ow, HO⟩, Hqs, Hqc, Hfi, Hqb, Hoc, Hob, Hfo, Hic, Hcb⟩
  sl_unfold [k0_t2_body]
  sl_exec
  ihave Hw := (whole_rep c wM (View.set_whole _) _ (k0_pay86 (F := F)) ?hw0) $$ Hw
  case hw0 => exact View.read_writes_full _ _ _ _ _
  ihave Hcs := (whole_rep c csbM (View.set_whole _) _ (putRow C k.val (k0_pay87 (F := F))) ?hc0) $$ Hcs
  case hc0 => rw [View.read_writes_cons_put _ _ _ _ _ (k0_off14_eq k), View.writes_nil, View.read_rep]; rfl
  sl_exec
  have hk18 := k_lt k
  have et3 : Scf.trips k0_t3_loop.lb k0_t3_loop.ub k0_t3_loop.st = 32 := t3_trips
  have et4 : Scf.trips k0_t4_loop.lb k0_t4_loop.ub k0_t4_loop.st = 32 := t4_trips
  have hw : wS (chunk c cH (b18 k.val)) VW (shapeCast S64x128 (broadcast S64x128 (FloatOps.ofBits FTy.f32 0#32)) shapeCasts_S64x128_S64x128)
        (Scf.trips k0_t3_loop.lb k0_t3_loop.ub k0_t3_loop.st) = wOf (chunk c cH (b18 k.val)) VW := by
    rw [et3]; rfl
  have e0 : trip_one.sl.r c cH k VW TT = k0_pay88 (wOf (chunk c cH (b18 k.val)) VW) TT := by
    delta trip_one.sl.r trip_one.sl.v381; rw [View.readAt_rep_full, View.readAt_rep_full, ← hw]
  have e1 : trip_one.sl.r_1 c cH k VW TT = k0_pay89 (wOf (chunk c cH (b18 k.val)) VW) TT := by
    delta trip_one.sl.r_1 trip_one.sl.v381; rw [View.readAt_rep_full, View.readAt_rep_full, ← hw]
  have e2 : trip_one.sl.r_2 c cH k VW TT = k0_pay90 (wOf (chunk c cH (b18 k.val)) VW) TT := by
    delta trip_one.sl.r_2 trip_one.sl.v381; rw [View.readAt_rep_full, View.readAt_rep_full, ← hw]
  have e3 : trip_one.sl.r_3 c cH k VW TT = yqOf (wOf (chunk c cH (b18 k.val)) VW) TT := by
    delta trip_one.sl.r_3; rw [e0, e1, e2]; rfl
  have e4 : trip_one.sl.r_4 c cH k VW TT = ysOf (wOf (chunk c cH (b18 k.val)) VW) TT := by
    delta trip_one.sl.r_4; rw [e1, e2]; rfl
  have eq : qS (chunk c cH (b18 k.val)) Q (Scf.trips k0_t3_loop.lb k0_t3_loop.ub k0_t3_loop.st) = qOf (chunk c cH (b18 k.val)) := by
    rw [et3, qS_eq]; exact mix_full _ _
  have eo : updS (trip_one.sl.r_3 c cH k VW TT) (trip_one.sl.r_4 c cH k VW TT) VQ VS (View.read (Elt F) (cblk (b18 k.val)).view cH)
      (Scf.trips k0_t4_loop.lb k0_t4_loop.ub k0_t4_loop.st) = oOf (chunk c cH (b18 k.val)) VW TT VQ VS := by
    rw [et4, updS_eq, e3, e4]; exact mix_full _ _
  sl_step
  isplitl [Hvq]; · iexact Hvq
  isplitl [Hvw]; · iexact Hvw
  isplitl [Hvs]; · iexact Hvs
  isplitl [Htt]; · iexact Htt
  isplitl [Hcs]
  · iapply (entails_of_eq (congrArg (csbP c) (show csS (chunk c cH (b18 k.val)) (VecWindow.put (s := S1152x128) C ![64 * k.val, 0] ![64, 128] (k0_pay87 (F := F))) k.val (k_lt k) (Scf.trips k0_t3_loop.lb k0_t3_loop.ub k0_t3_loop.st) = _ from by
      rw [et3]; exact cs_put _ _ _ _))) $$ Hcs
  isplitl [Hy]
  · iapply (whole_rep c yfM (View.set_whole _) _ _ ?hy) $$ Hy
    case hy => rw [View.read_writes_cons_put _ _ _ _ _ (k0_off14_eq k), View.writes_nil, View.read_rep, e0, e1, e2]; rfl
  isplitl [Hys]
  · iapply (whole_rep c ysfM (View.set_whole _) _ _ ?hy) $$ Hys
    case hy => rw [View.read_writes_cons_put _ _ _ _ _ (k0_off14_eq k), View.writes_nil, View.read_rep, e1, e2]; rfl
  isplitl [Hw]; · iexists _; iexact Hw
  isplitl [HO]; · iexists _; iexact HO
  isplitl [Hqc]
  · iapply (Transfers.Flight_mono countersEmb (c : Thread nD τ) ?m) $$ Hqc
    case m =>
      iintro ⟨Hd, Hs⟩
      isplitl [Hd]
      · iapply (pointsTo_rep_of_read (c : Thread nD τ) (qblk (b18 k.val)) _ fullShare _ ?h) $$ Hd
        case h => rw [View.read_writes_whole]; exact (View.read_rep _ _).trans eq
      · iapply (entails_of_eq (congrArg (qslotP c (s2 k.val)) eq)) $$ Hs
  isplitl [Hfi_src]; · iexact Hfi_src
  isplitl [Hfi]; · iexact Hfi
  isplitl [Hoc]
  · iapply (Transfers.Flight_mono countersEmb (c : Thread nD τ) ?m) $$ Hoc
    case m =>
      iintro ⟨Hd, Hs⟩
      isplitl [Hd]
      · iapply (pointsTo_rep_of_read (c : Thread nD τ) (oblk (b18 k.val)) _ fullShare _ ?h) $$ Hd
        case h => rw [View.read_writes_whole]; exact (View.read_rep _ _).trans eo
      · iapply (entails_of_eq (congrArg (slotP c (s10 k.val)) eo)) $$ Hs
  isplitl [Hfo_dst]; · iexact Hfo_dst
  isplitl [Hic]
  · iapply (Transfers.Flight_mono countersEmb (c : Thread nD τ) ?m) $$ Hic
    case m =>
      iintro ⟨Hd, Hs⟩
      isplitl [Hd]
      · iapply (pointsTo_rep_of_read (c : Thread nD τ) (slot (s10 (k.val + 9))) _ fullShare _ ?h) $$ Hd
        case h => rw [View.read_writes_whole]; rfl
      · iexact Hs
  iexact Hfo

set_option backward.proofsInPublic true in
theorem trip_mid (c : Dev nD) (cH : Buf (Elt F) (cM.view.loc (c : Thread nD τ)))
    (v104 : IVec S1x128 32) (v105 : FVec F S1x128 .f32) (k : Fin k0_t2_loop.trips) (h1 : 1 ≤ k.val) (h2 : 2 ≤ k.val) (h8 : k.val ≤ 8)
    (VQ : S96x16384.Idx → F .fp8e4m3) (VW : S80x16384.Idx → F .bf16) (VS : S1x16384.Idx → F .f32) (TT : S128x128.Idx → F .f32)
    (C Y YS : S1152x128.Idx → F .f32) (W : S64x128.Idx → F .f32) (Xo : S64x16384.Idx → F .f32) (Q : S64x16384.Idx → F .fp8e4m3)
    (O : Buf (Elt F) ((oblk (b18 k.val)).view.loc (c : Thread nD τ))) (QQ : Buf (Elt F) ((qblk (b18 k.val)).view.loc (c : Thread nD τ))) :
    iprop(vqP c VQ ∗ vwP c VW ∗ vsrP c VS ∗ ttP c TT ∗ csbP c C ∗ yfP c Y ∗ ysfP c YS ∗ wP c W
        ∗ (∃ w, owes (c : Thread nD τ) 0 w)
        ∗ flyQ c (s2 k.val) (b18 (k.val - 2)) Q ∗ flyIn c cH (s10 k.val) (b18 k.val)
        ∗ ((qblk (b18 k.val)).view.loc (c : Thread nD τ) ↦[(qblk (b18 k.val)).view.set]{fullShare} QQ) ∗ outCellP c (s10 k.val)
        ∗ ((oblk (b18 k.val)).view.loc (c : Thread nD τ) ↦[(oblk (b18 k.val)).view.set]{fullShare} O) ∗ flyOut c (s10 (k.val + 9)) (b18 (k.val - 1)) Xo ∗ inCellP c (s10 (k.val + 9)) ∗ cblkP c cH (b18 (k.val + 9)))
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => iprop(vqP c VQ ∗ vwP c VW ∗ vsrP c VS ∗ ttP c TT ∗ csbP c (putRow C k.val (csOf (chunk c cH (b18 k.val))))
            ∗ yfP c (putRow Y k.val (yfOf (wOf (chunk c cH (b18 k.val)) VW) TT)) ∗ ysfP c (putRow YS k.val (ysfOf (wOf (chunk c cH (b18 k.val)) VW) TT))
            ∗ (∃ W, wP c W) ∗ (∃ w, owes (c : Thread nD τ) 0 w)
            ∗ qblkP c (b18 (k.val - 2)) Q ∗ flyQ c (s2 k.val) (b18 k.val) (qOf (chunk c cH (b18 k.val))) ∗ cblkP c cH (b18 k.val) ∗ inCellP c (s10 k.val)
            ∗ flyOut c (s10 k.val) (b18 k.val) (oOf (chunk c cH (b18 k.val)) VW TT VQ VS) ∗ oblkP c (b18 (k.val - 1)) Xo ∗ flyIn c cH (s10 (k.val + 9)) (b18 (k.val + 9)) ∗ outCellP c (s10 (k.val + 9)))) := by
  have hc1 : k0_cond1 k = 1#1 := (cond1_iff k).2 h2
  have hc2 : k0_cond2 k = 1#1 := (cond2_iff k).2 ⟨h1, by omega⟩
  iintro ⟨Hvq, Hvw, Hvs, Htt, Hcs, Hy, Hys, Hw, ⟨%ow, HO⟩, Hfq, Hfi, Hqb, Hoc, Hob, Hfo, Hic, Hcb⟩
  sl_unfold [k0_t2_body]
  sl_exec
  ihave Hw := (whole_rep c wM (View.set_whole _) _ (k0_pay86 (F := F)) ?hw0) $$ Hw
  case hw0 => exact View.read_writes_full _ _ _ _ _
  ihave Hcs := (whole_rep c csbM (View.set_whole _) _ (putRow C k.val (k0_pay87 (F := F))) ?hc0) $$ Hcs
  case hc0 => rw [View.read_writes_cons_put _ _ _ _ _ (k0_off14_eq k), View.writes_nil, View.read_rep]; rfl
  sl_exec
  have hk18 := k_lt k
  have et3 : Scf.trips k0_t3_loop.lb k0_t3_loop.ub k0_t3_loop.st = 32 := t3_trips
  have et4 : Scf.trips k0_t4_loop.lb k0_t4_loop.ub k0_t4_loop.st = 32 := t4_trips
  have hw : wS (chunk c cH (b18 k.val)) VW (shapeCast S64x128 (broadcast S64x128 (FloatOps.ofBits FTy.f32 0#32)) shapeCasts_S64x128_S64x128)
        (Scf.trips k0_t3_loop.lb k0_t3_loop.ub k0_t3_loop.st) = wOf (chunk c cH (b18 k.val)) VW := by
    rw [et3]; rfl
  have e0 : trip_mid.sl.r c cH k VW TT = k0_pay88 (wOf (chunk c cH (b18 k.val)) VW) TT := by
    delta trip_mid.sl.r trip_mid.sl.v381; rw [View.readAt_rep_full, View.readAt_rep_full, ← hw]
  have e1 : trip_mid.sl.r_1 c cH k VW TT = k0_pay89 (wOf (chunk c cH (b18 k.val)) VW) TT := by
    delta trip_mid.sl.r_1 trip_mid.sl.v381; rw [View.readAt_rep_full, View.readAt_rep_full, ← hw]
  have e2 : trip_mid.sl.r_2 c cH k VW TT = k0_pay90 (wOf (chunk c cH (b18 k.val)) VW) TT := by
    delta trip_mid.sl.r_2 trip_mid.sl.v381; rw [View.readAt_rep_full, View.readAt_rep_full, ← hw]
  have e3 : trip_mid.sl.r_3 c cH k VW TT = yqOf (wOf (chunk c cH (b18 k.val)) VW) TT := by
    delta trip_mid.sl.r_3; rw [e0, e1, e2]; rfl
  have e4 : trip_mid.sl.r_4 c cH k VW TT = ysOf (wOf (chunk c cH (b18 k.val)) VW) TT := by
    delta trip_mid.sl.r_4; rw [e1, e2]; rfl
  have eq : qS (chunk c cH (b18 k.val)) Q (Scf.trips k0_t3_loop.lb k0_t3_loop.ub k0_t3_loop.st) = qOf (chunk c cH (b18 k.val)) := by
    rw [et3, qS_eq]; exact mix_full _ _
  have eo : updS (trip_mid.sl.r_3 c cH k VW TT) (trip_mid.sl.r_4 c cH k VW TT) VQ VS (View.read (Elt F) (cblk (b18 k.val)).view cH)
      (Scf.trips k0_t4_loop.lb k0_t4_loop.ub k0_t4_loop.st) = oOf (chunk c cH (b18 k.val)) VW TT VQ VS := by
    rw [et4, updS_eq, e3, e4]; exact mix_full _ _
  sl_step
  isplitl [Hvq]; · iexact Hvq
  isplitl [Hvw]; · iexact Hvw
  isplitl [Hvs]; · iexact Hvs
  isplitl [Htt]; · iexact Htt
  isplitl [Hcs]
  · iapply (entails_of_eq (congrArg (csbP c) (show csS (chunk c cH (b18 k.val)) (VecWindow.put (s := S1152x128) C ![64 * k.val, 0] ![64, 128] (k0_pay87 (F := F))) k.val (k_lt k) (Scf.trips k0_t3_loop.lb k0_t3_loop.ub k0_t3_loop.st) = _ from by
      rw [et3]; exact cs_put _ _ _ _))) $$ Hcs
  isplitl [Hy]
  · iapply (whole_rep c yfM (View.set_whole _) _ _ ?hy) $$ Hy
    case hy => rw [View.read_writes_cons_put _ _ _ _ _ (k0_off14_eq k), View.writes_nil, View.read_rep, e0, e1, e2]; rfl
  isplitl [Hys]
  · iapply (whole_rep c ysfM (View.set_whole _) _ _ ?hy) $$ Hys
    case hy => rw [View.read_writes_cons_put _ _ _ _ _ (k0_off14_eq k), View.writes_nil, View.read_rep, e1, e2]; rfl
  isplitl [Hw]; · iexists _; iexact Hw
  isplitl [HO]; · iexists _; iexact HO
  isplitl [Hfq_dst]; · iexact Hfq_dst
  isplitl [Hfq]
  · iapply (Transfers.Flight_mono countersEmb (c : Thread nD τ) ?m) $$ Hfq
    case m =>
      iintro ⟨Hd, Hs⟩
      isplitl [Hd]
      · iapply (pointsTo_rep_of_read (c : Thread nD τ) (qblk (b18 k.val)) _ fullShare _ ?h) $$ Hd
        case h => rw [View.read_writes_whole]; exact (View.read_rep _ _).trans eq
      · iapply (entails_of_eq (congrArg (qslotP c (s2 k.val)) eq)) $$ Hs
  isplitl [Hfi_src]; · iexact Hfi_src
  isplitl [Hfi]; · iexact Hfi
  isplitl [Hoc]
  · iapply (Transfers.Flight_mono countersEmb (c : Thread nD τ) ?m) $$ Hoc
    case m =>
      iintro ⟨Hd, Hs⟩
      isplitl [Hd]
      · iapply (pointsTo_rep_of_read (c : Thread nD τ) (oblk (b18 k.val)) _ fullShare _ ?h) $$ Hd
        case h => rw [View.read_writes_whole]; exact (View.read_rep _ _).trans eo
      · iapply (entails_of_eq (congrArg (slotP c (s10 k.val)) eo)) $$ Hs
  isplitl [Hfo_dst]; · iexact Hfo_dst
  isplitl [Hic]
  · iapply (Transfers.Flight_mono countersEmb (c : Thread nD τ) ?m) $$ Hic
    case m =>
      iintro ⟨Hd, Hs⟩
      isplitl [Hd]
      · iapply (pointsTo_rep_of_read (c : Thread nD τ) (slot (s10 (k.val + 9))) _ fullShare _ ?h) $$ Hd
        case h => rw [View.read_writes_whole]; rfl
      · iexact Hs
  iexact Hfo

set_option backward.proofsInPublic true in
theorem trip_last (c : Dev nD) (cH : Buf (Elt F) (cM.view.loc (c : Thread nD τ)))
    (v104 : IVec S1x128 32) (v105 : FVec F S1x128 .f32) (k : Fin k0_t2_loop.trips) (h1 : 1 ≤ k.val) (h2 : 2 ≤ k.val) (h9 : 9 ≤ k.val)
    (VQ : S96x16384.Idx → F .fp8e4m3) (VW : S80x16384.Idx → F .bf16) (VS : S1x16384.Idx → F .f32) (TT : S128x128.Idx → F .f32)
    (C Y YS : S1152x128.Idx → F .f32) (W : S64x128.Idx → F .f32) (Xo : S64x16384.Idx → F .f32) (Q : S64x16384.Idx → F .fp8e4m3)
    (O : Buf (Elt F) ((oblk (b18 k.val)).view.loc (c : Thread nD τ))) (QQ : Buf (Elt F) ((qblk (b18 k.val)).view.loc (c : Thread nD τ))) :
    iprop(vqP c VQ ∗ vwP c VW ∗ vsrP c VS ∗ ttP c TT ∗ csbP c C ∗ yfP c Y ∗ ysfP c YS ∗ wP c W
        ∗ (∃ w, owes (c : Thread nD τ) 0 w)
        ∗ flyQ c (s2 k.val) (b18 (k.val - 2)) Q ∗ flyIn c cH (s10 k.val) (b18 k.val)
        ∗ ((qblk (b18 k.val)).view.loc (c : Thread nD τ) ↦[(qblk (b18 k.val)).view.set]{fullShare} QQ) ∗ outCellP c (s10 k.val)
        ∗ ((oblk (b18 k.val)).view.loc (c : Thread nD τ) ↦[(oblk (b18 k.val)).view.set]{fullShare} O))
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => iprop(vqP c VQ ∗ vwP c VW ∗ vsrP c VS ∗ ttP c TT ∗ csbP c (putRow C k.val (csOf (chunk c cH (b18 k.val))))
            ∗ yfP c (putRow Y k.val (yfOf (wOf (chunk c cH (b18 k.val)) VW) TT)) ∗ ysfP c (putRow YS k.val (ysfOf (wOf (chunk c cH (b18 k.val)) VW) TT))
            ∗ (∃ W, wP c W) ∗ (∃ w, owes (c : Thread nD τ) 0 w)
            ∗ qblkP c (b18 (k.val - 2)) Q ∗ flyQ c (s2 k.val) (b18 k.val) (qOf (chunk c cH (b18 k.val))) ∗ cblkP c cH (b18 k.val) ∗ inCellP c (s10 k.val)
            ∗ flyOut c (s10 k.val) (b18 k.val) (oOf (chunk c cH (b18 k.val)) VW TT VQ VS))) := by
  have hc1 : k0_cond1 k = 1#1 := (cond1_iff k).2 h2
  have hc2 : ¬ k0_cond2 k = 1#1 := fun h => by have := (cond2_iff k).1 h; omega
  iintro ⟨Hvq, Hvw, Hvs, Htt, Hcs, Hy, Hys, Hw, ⟨%ow, HO⟩, Hfq, Hfi, Hqb, Hoc, Hob⟩
  sl_unfold [k0_t2_body]
  sl_exec
  ihave Hw := (whole_rep c wM (View.set_whole _) _ (k0_pay86 (F := F)) ?hw0) $$ Hw
  case hw0 => exact View.read_writes_full _ _ _ _ _
  ihave Hcs := (whole_rep c csbM (View.set_whole _) _ (putRow C k.val (k0_pay87 (F := F))) ?hc0) $$ Hcs
  case hc0 => rw [View.read_writes_cons_put _ _ _ _ _ (k0_off14_eq k), View.writes_nil, View.read_rep]; rfl
  sl_exec
  have hk18 := k_lt k
  have et3 : Scf.trips k0_t3_loop.lb k0_t3_loop.ub k0_t3_loop.st = 32 := t3_trips
  have et4 : Scf.trips k0_t4_loop.lb k0_t4_loop.ub k0_t4_loop.st = 32 := t4_trips
  have hw : wS (chunk c cH (b18 k.val)) VW (shapeCast S64x128 (broadcast S64x128 (FloatOps.ofBits FTy.f32 0#32)) shapeCasts_S64x128_S64x128)
        (Scf.trips k0_t3_loop.lb k0_t3_loop.ub k0_t3_loop.st) = wOf (chunk c cH (b18 k.val)) VW := by
    rw [et3]; rfl
  have e0 : trip_last.sl.r c cH k VW TT = k0_pay88 (wOf (chunk c cH (b18 k.val)) VW) TT := by
    delta trip_last.sl.r trip_last.sl.v381; rw [View.readAt_rep_full, View.readAt_rep_full, ← hw]
  have e1 : trip_last.sl.r_1 c cH k VW TT = k0_pay89 (wOf (chunk c cH (b18 k.val)) VW) TT := by
    delta trip_last.sl.r_1 trip_last.sl.v381; rw [View.readAt_rep_full, View.readAt_rep_full, ← hw]
  have e2 : trip_last.sl.r_2 c cH k VW TT = k0_pay90 (wOf (chunk c cH (b18 k.val)) VW) TT := by
    delta trip_last.sl.r_2 trip_last.sl.v381; rw [View.readAt_rep_full, View.readAt_rep_full, ← hw]
  have e3 : trip_last.sl.r_3 c cH k VW TT = yqOf (wOf (chunk c cH (b18 k.val)) VW) TT := by
    delta trip_last.sl.r_3; rw [e0, e1, e2]; rfl
  have e4 : trip_last.sl.r_4 c cH k VW TT = ysOf (wOf (chunk c cH (b18 k.val)) VW) TT := by
    delta trip_last.sl.r_4; rw [e1, e2]; rfl
  have eq : qS (chunk c cH (b18 k.val)) Q (Scf.trips k0_t3_loop.lb k0_t3_loop.ub k0_t3_loop.st) = qOf (chunk c cH (b18 k.val)) := by
    rw [et3, qS_eq]; exact mix_full _ _
  have eo : updS (trip_last.sl.r_3 c cH k VW TT) (trip_last.sl.r_4 c cH k VW TT) VQ VS (View.read (Elt F) (cblk (b18 k.val)).view cH)
      (Scf.trips k0_t4_loop.lb k0_t4_loop.ub k0_t4_loop.st) = oOf (chunk c cH (b18 k.val)) VW TT VQ VS := by
    rw [et4, updS_eq, e3, e4]; exact mix_full _ _
  sl_step
  isplitl [Hvq]; · iexact Hvq
  isplitl [Hvw]; · iexact Hvw
  isplitl [Hvs]; · iexact Hvs
  isplitl [Htt]; · iexact Htt
  isplitl [Hcs]
  · iapply (entails_of_eq (congrArg (csbP c) (show csS (chunk c cH (b18 k.val)) (VecWindow.put (s := S1152x128) C ![64 * k.val, 0] ![64, 128] (k0_pay87 (F := F))) k.val (k_lt k) (Scf.trips k0_t3_loop.lb k0_t3_loop.ub k0_t3_loop.st) = _ from by
      rw [et3]; exact cs_put _ _ _ _))) $$ Hcs
  isplitl [Hy]
  · iapply (whole_rep c yfM (View.set_whole _) _ _ ?hy) $$ Hy
    case hy => rw [View.read_writes_cons_put _ _ _ _ _ (k0_off14_eq k), View.writes_nil, View.read_rep, e0, e1, e2]; rfl
  isplitl [Hys]
  · iapply (whole_rep c ysfM (View.set_whole _) _ _ ?hy) $$ Hys
    case hy => rw [View.read_writes_cons_put _ _ _ _ _ (k0_off14_eq k), View.writes_nil, View.read_rep, e1, e2]; rfl
  isplitl [Hw]; · iexists _; iexact Hw
  isplitl [HO]; · iexists _; iexact HO
  isplitl [Hfq_dst]; · iexact Hfq_dst
  isplitl [Hfq]
  · iapply (Transfers.Flight_mono countersEmb (c : Thread nD τ) ?m) $$ Hfq
    case m =>
      iintro ⟨Hd, Hs⟩
      isplitl [Hd]
      · iapply (pointsTo_rep_of_read (c : Thread nD τ) (qblk (b18 k.val)) _ fullShare _ ?h) $$ Hd
        case h => rw [View.read_writes_whole]; exact (View.read_rep _ _).trans eq
      · iapply (entails_of_eq (congrArg (qslotP c (s2 k.val)) eq)) $$ Hs
  isplitl [Hfi_src]; · iexact Hfi_src
  isplitl [Hfi]; · iexact Hfi
  iapply (Transfers.Flight_mono countersEmb (c : Thread nD τ) ?m) $$ Hoc
  case m =>
      iintro ⟨Hd, Hs⟩
      isplitl [Hd]
      · iapply (pointsTo_rep_of_read (c : Thread nD τ) (oblk (b18 k.val)) _ fullShare _ ?h) $$ Hd
        case h => rw [View.read_writes_whole]; exact (View.read_rep _ _).trans eo
      · iapply (entails_of_eq (congrArg (slotP c (s10 k.val)) eo)) $$ Hs

end Cert.KernelIdeal.Hand

end
-- ==== Proof.IL2.lean ====
/-
  The loop over the chunks: which chunks are home, on their way in, on their way out or written back before each trip, and that a trip keeps this.
-/
module

public import proofs.«01_k».proof.Proof.IT2

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

section Inv
variable (c : Dev nD) (cH : Buf (Elt F) (cM.view.loc (c : Thread nD τ)))
  (VQ : S96x16384.Idx → F .fp8e4m3) (VW : S80x16384.Idx → F .bf16) (VS : S1x16384.Idx → F .f32) (TT : S128x128.Idx → F .f32)

/-- Chunks below this one are back in HBM before trip `k`, -/
def outLo (k : ℕ) : ℕ := min (k - 1) 8
/-- and chunks below this one have been fetched. -/
def inTop (k : ℕ) : ℕ := min (max k 1 + 9) 18

def oJ (j : Fin 18) : S64x16384.Idx → F .f32 := oOf (chunk c cH j) VW TT VQ VS
def qJ (j : Fin 18) : S64x16384.Idx → F .fp8e4m3 := qOf (chunk c cH j)

def oAny (j : Fin 18) : sProp 𝕄 := iprop(∃ f : Buf (Elt F) ((oblk j).view.loc (c : Thread nD τ)), (oblk j).view.loc (c : Thread nD τ) ↦[(oblk j).view.set]{fullShare} f)
def qAny (j : Fin 18) : sProp 𝕄 := iprop(∃ f : Buf (Elt F) ((qblk j).view.loc (c : Thread nD τ)), (qblk j).view.loc (c : Thread nD τ) ↦[(qblk j).view.set]{fullShare} f)
/-- Chunk `j` written back, -/
def stDone (j : Fin 18) : sProp 𝕄 := iprop(cblkP c cH j ∗ oblkP c j (oJ c cH VQ VW VS TT j))
/-- on its way out, -/
def stOut (j : Fin 18) : sProp 𝕄 := iprop(flyOut c (s10 j.val) j (oJ c cH VQ VW VS TT j) ∗ inCellP c (s10 j.val) ∗ cblkP c cH j)
/-- on its way in, -/
def stIn (j : Fin 18) : sProp 𝕄 := iprop(flyIn c cH (s10 j.val) j ∗ outCellP c (s10 j.val) ∗ oAny c j)
/-- not yet asked for. -/
def stHome (j : Fin 18) : sProp 𝕄 := iprop(cblkP c cH j ∗ oAny c j)

/-- Chunk `j` before trip `k`. -/
def chunkRes (k : ℕ) (j : Fin 18) : sProp 𝕄 :=
  if j.val < outLo k then stDone c cH VQ VW VS TT j else if j.val < k then stOut c cH VQ VW VS TT j
  else if j.val < inTop k then stIn c cH j else stHome c cH j
/-- The codes of chunk `j` before trip `k`. -/
def qRes (k : ℕ) (j : Fin 18) : sProp 𝕄 :=
  if j.val + 2 < k then qblkP c j (qJ c cH j) else if j.val < k then flyQ c (s2 j.val) j (qJ c cH j) else qAny c j
def qSlotFree (s : Fin 2) : sProp 𝕄 := iprop((∃ Q, qslotP c s Q) ∗ qCellP c s)
/-- The slots of codes no trip has used yet. -/
def qFree (k : ℕ) : sProp 𝕄 := iprop((if k = 0 then qSlotFree c 0 else emp) ∗ (if k ≤ 1 then qSlotFree c 1 else emp))

def csT (C : S1152x128.Idx → F .f32) : ℕ → S1152x128.Idx → F .f32
  | 0 => C
  | k + 1 => putRow (csT C k) k (csOf (chunk c cH (b18 k)))
def yfT (C : S1152x128.Idx → F .f32) : ℕ → S1152x128.Idx → F .f32
  | 0 => C
  | k + 1 => putRow (yfT C k) k (yfOf (wOf (chunk c cH (b18 k)) VW) TT)
def ysfT (C : S1152x128.Idx → F .f32) : ℕ → S1152x128.Idx → F .f32
  | 0 => C
  | k + 1 => putRow (ysfT C k) k (ysfOf (wOf (chunk c cH (b18 k)) VW) TT)

/-- Before trip `k`. -/
def inv2 (C Y YS : S1152x128.Idx → F .f32) (k : ℕ) : sProp 𝕄 :=
  iprop(vqP c VQ ∗ vwP c VW ∗ vsrP c VS ∗ ttP c TT ∗ csbP c (csT c cH C k) ∗ yfP c (yfT c cH VW TT Y k) ∗ ysfP c (ysfT c cH VW TT YS k)
    ∗ (∃ W, wP c W) ∗ (∃ w, owes (c : Thread nD τ) 0 w)
    ∗ bigSep Finset.univ (chunkRes c cH VQ VW VS TT k) ∗ bigSep Finset.univ (qRes c cH k) ∗ qFree (F := F) c k)

omit [FloatOps F] in
theorem split_at (f : Fin 18 → sProp 𝕄) {S : Finset (Fin 18)} {a : Fin 18} (h : a ∈ S) : bigSep S f = iprop(f a ∗ bigSep (S.erase a) f) := by
  conv_lhs => rw [← Finset.insert_erase h, bigSep_insert (Finset.notMem_erase a S)]
  rfl
theorem b18v {k : ℕ} (h : k < 18) : (b18 k).val = k := Nat.mod_eq_of_lt h
theorem b18ne {k l : ℕ} (h : k < 18) (h' : l < 18) (hn : k ≠ l) : b18 k ≠ b18 l := fun e => hn (by rw [← b18v h, e, b18v h'])
theorem s10_back {k : ℕ} (h : 1 ≤ k) : s10 (k - 1) = s10 (k + 9) := Fin.ext (by show (k - 1) % 10 = (k + 9) % 10; omega)
theorem s2_back {k : ℕ} (h : 2 ≤ k) : s2 (k - 2) = s2 k := Fin.ext (by show (k - 2) % 2 = k % 2; omega)

theorem cr_done {k : ℕ} {j : Fin 18} (h : j.val < outLo k) : chunkRes c cH VQ VW VS TT k j = stDone c cH VQ VW VS TT j := if_pos h
theorem cr_out {k : ℕ} {j : Fin 18} (h : ¬ j.val < outLo k) (h' : j.val < k) : chunkRes c cH VQ VW VS TT k j = stOut c cH VQ VW VS TT j := by
  unfold chunkRes; rw [if_neg h, if_pos h']
theorem cr_in {k : ℕ} {j : Fin 18} (h : ¬ j.val < outLo k) (h' : ¬ j.val < k) (h'' : j.val < inTop k) : chunkRes c cH VQ VW VS TT k j = stIn c cH j := by
  unfold chunkRes; rw [if_neg h, if_neg h', if_pos h'']
theorem cr_home {k : ℕ} {j : Fin 18} (h : ¬ j.val < outLo k) (h' : ¬ j.val < k) (h'' : ¬ j.val < inTop k) : chunkRes c cH VQ VW VS TT k j = stHome c cH j := by
  unfold chunkRes; rw [if_neg h, if_neg h', if_neg h'']
theorem cr_same {k : ℕ} {j : Fin 18} (h0 : j.val ≠ k) (h1 : j.val + 1 ≠ k ∨ 9 ≤ k) (h2 : j.val ≠ k + 9 ∨ k = 0) :
    chunkRes c cH VQ VW VS TT k j = chunkRes c cH VQ VW VS TT (k + 1) j := by
  have hj := j.isLt
  unfold chunkRes outLo inTop
  split_ifs <;> first | rfl | (exfalso; omega)
theorem qr_same {k : ℕ} {j : Fin 18} (h0 : j.val ≠ k) (h1 : j.val + 2 ≠ k) : qRes (F := F) c cH k j = qRes c cH (k + 1) j := by
  unfold qRes
  split_ifs <;> first | rfl | (exfalso; omega)
theorem qr_done {k : ℕ} {j : Fin 18} (h : j.val + 2 < k) : qRes (F := F) c cH k j = qblkP c j (qJ c cH j) := if_pos h
theorem qr_fly {k : ℕ} {j : Fin 18} (h : ¬ j.val + 2 < k) (h' : j.val < k) : qRes (F := F) c cH k j = flyQ c (s2 j.val) j (qJ c cH j) := by
  unfold qRes; rw [if_neg h, if_pos h']
theorem qr_any {k : ℕ} {j : Fin 18} (h : ¬ j.val + 2 < k) (h' : ¬ j.val < k) : qRes (F := F) c cH k j = qAny c j := by
  unfold qRes; rw [if_neg h, if_neg h']

theorem step_zero (v104 : IVec S1x128 32) (v105 : FVec F S1x128 .f32) (k : Fin k0_t2_loop.trips) (h0 : k.val = 0) (C Y YS : S1152x128.Idx → F .f32) :
    inv2 c cH VQ VW VS TT C Y YS k.val
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => inv2 c cH VQ VW VS TT C Y YS (k.val + 1)) := by
  have hk := k_lt k
  have ek := b18v hk
  have ca : chunkRes c cH VQ VW VS TT k.val (b18 k.val) = stIn c cH (b18 k.val) := cr_in _ _ _ _ _ _ (by rw [ek]; unfold outLo; omega) (by omega) (by rw [ek]; unfold inTop; omega)
  have cb : chunkRes c cH VQ VW VS TT (k.val + 1) (b18 k.val) = stOut c cH VQ VW VS TT (b18 k.val) := cr_out _ _ _ _ _ _ (by rw [ek]; unfold outLo; omega) (by omega)
  have rest : bigSep (Finset.univ.erase (b18 k.val)) (chunkRes c cH VQ VW VS TT k.val)
      = bigSep (Finset.univ.erase (b18 k.val)) (chunkRes c cH VQ VW VS TT (k.val + 1)) :=
    bigSep_congr fun j hj => cr_same _ _ _ _ _ _ (fun e => by simp [Fin.ext_iff, ek] at hj; omega) (by have := j.isLt; omega) (by have := j.isLt; omega)
  have qa : qRes (F := F) c cH k.val (b18 k.val) = qAny c (b18 k.val) := qr_any _ _ (by omega) (by omega)
  have qb : qRes (F := F) c cH (k.val + 1) (b18 k.val) = flyQ c (s2 (b18 k.val).val) (b18 k.val) (qJ c cH (b18 k.val)) := qr_fly _ _ (by omega) (by omega)
  have qrest : bigSep (Finset.univ.erase (b18 k.val)) (qRes (F := F) c cH k.val) = bigSep (Finset.univ.erase (b18 k.val)) (qRes c cH (k.val + 1)) :=
    bigSep_congr fun j hj => qr_same _ _ (fun e => by simp [Fin.ext_iff, ek] at hj; omega) (by omega)
  have qf : qFree (F := F) c k.val = iprop(qSlotFree c (s2 k.val) ∗ qSlotFree c 1) := by
    have e : s2 k.val = 0 := Fin.ext (by show k.val % 2 = 0; omega)
    unfold qFree; rw [if_pos h0, if_pos (by omega), e]
  have qf' : qFree (F := F) c (k.val + 1) = iprop(emp ∗ qSlotFree c 1) := by unfold qFree; rw [if_neg (by omega), if_pos (by omega)]
  unfold inv2
  rw [split_at _ (Finset.mem_univ (b18 k.val)), split_at (chunkRes c cH VQ VW VS TT (k.val + 1)) (Finset.mem_univ (b18 k.val)), ca, cb, rest]
  rw [split_at (qRes c cH k.val) (Finset.mem_univ (b18 k.val)), split_at (qRes c cH (k.val + 1)) (Finset.mem_univ (b18 k.val)), qa, qb, qrest, qf, qf']
  unfold stIn stOut oAny qAny
  unfold qSlotFree
  rw [ek]
  iintro ⟨Hvq, Hvw, Hvs, Htt, Hcs, Hy, Hys, ⟨%W, Hw⟩, HO, ⟨⟨Hfi, Hoc, ⟨%O, Hob⟩⟩, Hr⟩, Hq⟩
  icases Hq with ⟨⟨⟨%QQ, Hqb⟩, Hqr⟩, ⟨⟨%Q, Hqs⟩, Hqc⟩, Hqf⟩
  iapply (wp_wand_r Idealize.ShloMosaic.frame (wpE (defs₀ (F := F)) 𝒱₀ (c : Thread nD τ) none) Set.univ)
  isplitl [Hvq Hvw Hvs Htt Hcs Hy Hys Hw HO Hfi Hoc Hob Hqb Hqs Hqc ]
  · iapply (trip_zero c cH v104 v105 k h0 VQ VW VS TT (csT c cH C k.val) (yfT c cH VW TT Y k.val) (ysfT c cH VW TT YS k.val) W (oJ c cH VQ VW VS TT (b18 (k.val - 1))) Q O QQ)
    isplitl [Hvq]; · iexact Hvq
    isplitl [Hvw]; · iexact Hvw
    isplitl [Hvs]; · iexact Hvs
    isplitl [Htt]; · iexact Htt
    isplitl [Hcs]; · iexact Hcs
    isplitl [Hy]; · iexact Hy
    isplitl [Hys]; · iexact Hys
    isplitl [Hw]; · iexact Hw
    isplitl [HO]; · iexact HO
    isplitl [Hqs]; · iexact Hqs
    isplitl [Hqc]; · iexact Hqc
    isplitl [Hfi]; · iexact Hfi
    isplitl [Hqb]; · iexact Hqb
    isplitl [Hoc]; · iexact Hoc
    iexact Hob
  iintro %_ ⟨Hvq, Hvw, Hvs, Htt, Hcs, Hy, Hys, Hw, HO, Hfq, Hck, Hick, Hfok⟩
  isplitl [Hvq]; · iexact Hvq
  isplitl [Hvw]; · iexact Hvw
  isplitl [Hvs]; · iexact Hvs
  isplitl [Htt]; · iexact Htt
  isplitl [Hcs]; · iexact Hcs
  isplitl [Hy]; · iexact Hy
  isplitl [Hys]; · iexact Hys
  isplitl [Hw]; · iexact Hw
  isplitl [HO]; · iexact HO
  isplitl [Hck Hick Hfok Hr]
  · isplitl [Hck Hick Hfok]
    · isplitl [Hfok]; · iexact Hfok
      isplitl [Hick]; · iexact Hick
      iexact Hck
    iexact Hr
  isplitl [Hfq Hqr]
  · isplitl [Hfq]; · iexact Hfq
    iexact Hqr
  isplitr; · iempintro
  iexact Hqf

theorem step_one (v104 : IVec S1x128 32) (v105 : FVec F S1x128 .f32) (k : Fin k0_t2_loop.trips) (h0 : k.val = 1) (h1 : 1 ≤ k.val) (C Y YS : S1152x128.Idx → F .f32) :
    inv2 c cH VQ VW VS TT C Y YS k.val
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => inv2 c cH VQ VW VS TT C Y YS (k.val + 1)) := by
  have hk := k_lt k
  have ek := b18v hk
  have em := b18v (k := k.val - 1) (by omega)
  have ep := b18v (k := k.val + 9) (by omega)
  have nm : b18 (k.val - 1) ∈ (Finset.univ.erase (b18 k.val)) := Finset.mem_erase.2 ⟨b18ne (by omega) (by omega) (by omega), Finset.mem_univ _⟩
  have np : b18 (k.val + 9) ∈ (Finset.univ.erase (b18 k.val)).erase (b18 (k.val - 1)) :=
    Finset.mem_erase.2 ⟨b18ne (by omega) (by omega) (by omega), Finset.mem_erase.2 ⟨b18ne (by omega) (by omega) (by omega), Finset.mem_univ _⟩⟩
  have ca : chunkRes c cH VQ VW VS TT k.val (b18 k.val) = stIn c cH (b18 k.val) := cr_in _ _ _ _ _ _ (by rw [ek]; unfold outLo; omega) (by omega) (by rw [ek]; unfold inTop; omega)
  have cb : chunkRes c cH VQ VW VS TT (k.val + 1) (b18 k.val) = stOut c cH VQ VW VS TT (b18 k.val) := cr_out _ _ _ _ _ _ (by rw [ek]; unfold outLo; omega) (by omega)
  have ma : chunkRes c cH VQ VW VS TT k.val (b18 (k.val - 1)) = stOut c cH VQ VW VS TT (b18 (k.val - 1)) := cr_out _ _ _ _ _ _ (by rw [em]; unfold outLo; omega) (by omega)
  have mb : chunkRes c cH VQ VW VS TT (k.val + 1) (b18 (k.val - 1)) = stDone c cH VQ VW VS TT (b18 (k.val - 1)) := cr_done _ _ _ _ _ _ (by rw [em]; unfold outLo; omega)
  have pa : chunkRes c cH VQ VW VS TT k.val (b18 (k.val + 9)) = stHome c cH (b18 (k.val + 9)) := cr_home _ _ _ _ _ _ (by rw [ep]; unfold outLo; omega) (by omega) (by rw [ep]; unfold inTop; omega)
  have pb : chunkRes c cH VQ VW VS TT (k.val + 1) (b18 (k.val + 9)) = stIn c cH (b18 (k.val + 9)) := cr_in _ _ _ _ _ _ (by rw [ep]; unfold outLo; omega) (by omega) (by rw [ep]; unfold inTop; omega)
  have rest : bigSep (((Finset.univ.erase (b18 k.val)).erase (b18 (k.val - 1))).erase (b18 (k.val + 9))) (chunkRes c cH VQ VW VS TT k.val)
      = bigSep (((Finset.univ.erase (b18 k.val)).erase (b18 (k.val - 1))).erase (b18 (k.val + 9))) (chunkRes c cH VQ VW VS TT (k.val + 1)) :=
    bigSep_congr fun j hj => cr_same _ _ _ _ _ _ (fun e => by simp [Fin.ext_iff, ek, em, ep] at hj; omega) (Or.inl fun e => by simp [Fin.ext_iff, ek, em, ep] at hj; omega) (Or.inl fun e => by simp [Fin.ext_iff, ek, em, ep] at hj; omega)
  have qa : qRes (F := F) c cH k.val (b18 k.val) = qAny c (b18 k.val) := qr_any _ _ (by omega) (by omega)
  have qb : qRes (F := F) c cH (k.val + 1) (b18 k.val) = flyQ c (s2 (b18 k.val).val) (b18 k.val) (qJ c cH (b18 k.val)) := qr_fly _ _ (by omega) (by omega)
  have qrest : bigSep (Finset.univ.erase (b18 k.val)) (qRes (F := F) c cH k.val) = bigSep (Finset.univ.erase (b18 k.val)) (qRes c cH (k.val + 1)) :=
    bigSep_congr fun j hj => qr_same _ _ (fun e => by simp [Fin.ext_iff, ek] at hj; omega) (by omega)
  have qf : qFree (F := F) c k.val = iprop(emp ∗ qSlotFree c (s2 k.val)) := by
    have e : s2 k.val = 1 := Fin.ext (by show k.val % 2 = 1; omega)
    unfold qFree; rw [if_neg (by omega), if_pos (by omega), e]
  have qf' : qFree (F := F) c (k.val + 1) = iprop(emp ∗ emp) := by unfold qFree; rw [if_neg (by omega), if_neg (by omega)]
  unfold inv2
  rw [split_at _ (Finset.mem_univ (b18 k.val)), split_at _ nm, split_at _ np, split_at (chunkRes c cH VQ VW VS TT (k.val + 1)) (Finset.mem_univ (b18 k.val)),
    split_at (chunkRes c cH VQ VW VS TT (k.val + 1)) nm, split_at (chunkRes c cH VQ VW VS TT (k.val + 1)) np, ca, cb, ma, mb, pa, pb, rest]
  rw [split_at (qRes c cH k.val) (Finset.mem_univ (b18 k.val)), split_at (qRes c cH (k.val + 1)) (Finset.mem_univ (b18 k.val)), qa, qb, qrest, qf, qf']
  unfold stIn stOut oAny qAny
  unfold stHome stDone oAny
  unfold qSlotFree
  rw [ek]
  rw [em, ep, s10_back (by omega)]
  iintro ⟨Hvq, Hvw, Hvs, Htt, Hcs, Hy, Hys, ⟨%W, Hw⟩, HO, ⟨⟨Hfi, Hoc, ⟨%O, Hob⟩⟩, ⟨Hfo, Hic, Hcm⟩, ⟨Hcp, Hop⟩, Hr⟩, Hq⟩
  icases Hq with ⟨⟨⟨%QQ, Hqb⟩, Hqr⟩, Hqf, ⟨%Q, Hqs⟩, Hqc⟩
  iapply (wp_wand_r Idealize.ShloMosaic.frame (wpE (defs₀ (F := F)) 𝒱₀ (c : Thread nD τ) none) Set.univ)
  isplitl [Hvq Hvw Hvs Htt Hcs Hy Hys Hw HO Hfi Hoc Hob Hqb Hqs Hqc Hfo Hic Hcp]
  · iapply (trip_one c cH v104 v105 k h0 h1 VQ VW VS TT (csT c cH C k.val) (yfT c cH VW TT Y k.val) (ysfT c cH VW TT YS k.val) W (oJ c cH VQ VW VS TT (b18 (k.val - 1))) Q O QQ)
    isplitl [Hvq]; · iexact Hvq
    isplitl [Hvw]; · iexact Hvw
    isplitl [Hvs]; · iexact Hvs
    isplitl [Htt]; · iexact Htt
    isplitl [Hcs]; · iexact Hcs
    isplitl [Hy]; · iexact Hy
    isplitl [Hys]; · iexact Hys
    isplitl [Hw]; · iexact Hw
    isplitl [HO]; · iexact HO
    isplitl [Hqs]; · iexact Hqs
    isplitl [Hqc]; · iexact Hqc
    isplitl [Hfi]; · iexact Hfi
    isplitl [Hqb]; · iexact Hqb
    isplitl [Hoc]; · iexact Hoc
    isplitl [Hob]; · iexact Hob
    isplitl [Hfo]; · iexact Hfo
    isplitl [Hic]; · iexact Hic
    iexact Hcp
  iintro %_ ⟨Hvq, Hvw, Hvs, Htt, Hcs, Hy, Hys, Hw, HO, Hfq, Hck, Hick, Hfok, Hx⟩
  isplitl [Hvq]; · iexact Hvq
  isplitl [Hvw]; · iexact Hvw
  isplitl [Hvs]; · iexact Hvs
  isplitl [Htt]; · iexact Htt
  isplitl [Hcs]; · iexact Hcs
  isplitl [Hy]; · iexact Hy
  isplitl [Hys]; · iexact Hys
  isplitl [Hw]; · iexact Hw
  isplitl [HO]; · iexact HO
  icases Hx with ⟨Hod, Hfip, Hocp⟩
  isplitl [Hck Hick Hfok Hod Hcm Hfip Hocp Hop Hr]
  · isplitl [Hck Hick Hfok]
    · isplitl [Hfok]; · iexact Hfok
      isplitl [Hick]; · iexact Hick
      iexact Hck
    isplitl [Hod Hcm]
    · isplitl [Hcm]; · iexact Hcm
      iexact Hod
    isplitl [Hfip Hocp Hop]
    · isplitl [Hfip]; · iexact Hfip
      isplitl [Hocp]; · iexact Hocp
      iexact Hop
    iexact Hr
  isplitl [Hfq Hqr]
  · isplitl [Hfq]; · iexact Hfq
    iexact Hqr
  isplitl; · iempintro
  iempintro

theorem step_mid (v104 : IVec S1x128 32) (v105 : FVec F S1x128 .f32) (k : Fin k0_t2_loop.trips) (h1 : 1 ≤ k.val) (h2 : 2 ≤ k.val) (h8 : k.val ≤ 8) (C Y YS : S1152x128.Idx → F .f32) :
    inv2 c cH VQ VW VS TT C Y YS k.val
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => inv2 c cH VQ VW VS TT C Y YS (k.val + 1)) := by
  have hk := k_lt k
  have ek := b18v hk
  have em := b18v (k := k.val - 1) (by omega)
  have ep := b18v (k := k.val + 9) (by omega)
  have nm : b18 (k.val - 1) ∈ (Finset.univ.erase (b18 k.val)) := Finset.mem_erase.2 ⟨b18ne (by omega) (by omega) (by omega), Finset.mem_univ _⟩
  have np : b18 (k.val + 9) ∈ (Finset.univ.erase (b18 k.val)).erase (b18 (k.val - 1)) :=
    Finset.mem_erase.2 ⟨b18ne (by omega) (by omega) (by omega), Finset.mem_erase.2 ⟨b18ne (by omega) (by omega) (by omega), Finset.mem_univ _⟩⟩
  have eq := b18v (k := k.val - 2) (by omega)
  have nq : b18 (k.val - 2) ∈ (Finset.univ.erase (b18 k.val)) := Finset.mem_erase.2 ⟨b18ne (by omega) (by omega) (by omega), Finset.mem_univ _⟩
  have ca : chunkRes c cH VQ VW VS TT k.val (b18 k.val) = stIn c cH (b18 k.val) := cr_in _ _ _ _ _ _ (by rw [ek]; unfold outLo; omega) (by omega) (by rw [ek]; unfold inTop; omega)
  have cb : chunkRes c cH VQ VW VS TT (k.val + 1) (b18 k.val) = stOut c cH VQ VW VS TT (b18 k.val) := cr_out _ _ _ _ _ _ (by rw [ek]; unfold outLo; omega) (by omega)
  have ma : chunkRes c cH VQ VW VS TT k.val (b18 (k.val - 1)) = stOut c cH VQ VW VS TT (b18 (k.val - 1)) := cr_out _ _ _ _ _ _ (by rw [em]; unfold outLo; omega) (by omega)
  have mb : chunkRes c cH VQ VW VS TT (k.val + 1) (b18 (k.val - 1)) = stDone c cH VQ VW VS TT (b18 (k.val - 1)) := cr_done _ _ _ _ _ _ (by rw [em]; unfold outLo; omega)
  have pa : chunkRes c cH VQ VW VS TT k.val (b18 (k.val + 9)) = stHome c cH (b18 (k.val + 9)) := cr_home _ _ _ _ _ _ (by rw [ep]; unfold outLo; omega) (by omega) (by rw [ep]; unfold inTop; omega)
  have pb : chunkRes c cH VQ VW VS TT (k.val + 1) (b18 (k.val + 9)) = stIn c cH (b18 (k.val + 9)) := cr_in _ _ _ _ _ _ (by rw [ep]; unfold outLo; omega) (by omega) (by rw [ep]; unfold inTop; omega)
  have rest : bigSep (((Finset.univ.erase (b18 k.val)).erase (b18 (k.val - 1))).erase (b18 (k.val + 9))) (chunkRes c cH VQ VW VS TT k.val)
      = bigSep (((Finset.univ.erase (b18 k.val)).erase (b18 (k.val - 1))).erase (b18 (k.val + 9))) (chunkRes c cH VQ VW VS TT (k.val + 1)) :=
    bigSep_congr fun j hj => cr_same _ _ _ _ _ _ (fun e => by simp [Fin.ext_iff, ek, em, ep] at hj; omega) (Or.inl fun e => by simp [Fin.ext_iff, ek, em, ep] at hj; omega) (Or.inl fun e => by simp [Fin.ext_iff, ek, em, ep] at hj; omega)
  have qa : qRes (F := F) c cH k.val (b18 k.val) = qAny c (b18 k.val) := qr_any _ _ (by omega) (by omega)
  have qb : qRes (F := F) c cH (k.val + 1) (b18 k.val) = flyQ c (s2 (b18 k.val).val) (b18 k.val) (qJ c cH (b18 k.val)) := qr_fly _ _ (by omega) (by omega)
  have qc : qRes (F := F) c cH k.val (b18 (k.val - 2)) = flyQ c (s2 (b18 (k.val - 2)).val) (b18 (k.val - 2)) (qJ c cH (b18 (k.val - 2))) := qr_fly _ _ (by omega) (by omega)
  have qd : qRes (F := F) c cH (k.val + 1) (b18 (k.val - 2)) = qblkP c (b18 (k.val - 2)) (qJ c cH (b18 (k.val - 2))) := qr_done _ _ (by omega)
  have qrest : bigSep ((Finset.univ.erase (b18 k.val)).erase (b18 (k.val - 2))) (qRes (F := F) c cH k.val)
      = bigSep ((Finset.univ.erase (b18 k.val)).erase (b18 (k.val - 2))) (qRes c cH (k.val + 1)) :=
    bigSep_congr fun j hj => qr_same _ _ (fun e => by simp [Fin.ext_iff, ek, eq] at hj; omega) (fun e => by simp [Fin.ext_iff, ek, eq] at hj; omega)
  have qf : qFree (F := F) c k.val = qFree c (k.val + 1) := by unfold qFree; rw [if_neg (by omega), if_neg (by omega), if_neg (by omega), if_neg (by omega)]
  unfold inv2
  rw [split_at _ (Finset.mem_univ (b18 k.val)), split_at _ nm, split_at _ np, split_at (chunkRes c cH VQ VW VS TT (k.val + 1)) (Finset.mem_univ (b18 k.val)),
    split_at (chunkRes c cH VQ VW VS TT (k.val + 1)) nm, split_at (chunkRes c cH VQ VW VS TT (k.val + 1)) np, ca, cb, ma, mb, pa, pb, rest]
  rw [split_at (qRes c cH k.val) (Finset.mem_univ (b18 k.val)), split_at (qRes c cH k.val) nq, split_at (qRes c cH (k.val + 1)) (Finset.mem_univ (b18 k.val)),
    split_at (qRes c cH (k.val + 1)) nq, qa, qb, qc, qd, qrest, qf]
  unfold stIn stOut oAny qAny
  unfold stHome stDone oAny
  rw [ek]
  rw [em, ep, s10_back (by omega)]
  rw [eq, s2_back h2]
  iintro ⟨Hvq, Hvw, Hvs, Htt, Hcs, Hy, Hys, ⟨%W, Hw⟩, HO, ⟨⟨Hfi, Hoc, ⟨%O, Hob⟩⟩, ⟨Hfo, Hic, Hcm⟩, ⟨Hcp, Hop⟩, Hr⟩, Hq⟩
  icases Hq with ⟨⟨⟨%QQ, Hqb⟩, Hfq, Hqr⟩, Hqf⟩
  iapply (wp_wand_r Idealize.ShloMosaic.frame (wpE (defs₀ (F := F)) 𝒱₀ (c : Thread nD τ) none) Set.univ)
  isplitl [Hvq Hvw Hvs Htt Hcs Hy Hys Hw HO Hfi Hoc Hob Hqb Hfq Hfo Hic Hcp]
  · iapply (trip_mid c cH v104 v105 k h1 h2 h8 VQ VW VS TT (csT c cH C k.val) (yfT c cH VW TT Y k.val) (ysfT c cH VW TT YS k.val) W (oJ c cH VQ VW VS TT (b18 (k.val - 1))) (qJ c cH (b18 (k.val - 2))) O QQ)
    isplitl [Hvq]; · iexact Hvq
    isplitl [Hvw]; · iexact Hvw
    isplitl [Hvs]; · iexact Hvs
    isplitl [Htt]; · iexact Htt
    isplitl [Hcs]; · iexact Hcs
    isplitl [Hy]; · iexact Hy
    isplitl [Hys]; · iexact Hys
    isplitl [Hw]; · iexact Hw
    isplitl [HO]; · iexact HO
    isplitl [Hfq]; · iexact Hfq
    isplitl [Hfi]; · iexact Hfi
    isplitl [Hqb]; · iexact Hqb
    isplitl [Hoc]; · iexact Hoc
    isplitl [Hob]; · iexact Hob
    isplitl [Hfo]; · iexact Hfo
    isplitl [Hic]; · iexact Hic
    iexact Hcp
  iintro %_ ⟨Hvq, Hvw, Hvs, Htt, Hcs, Hy, Hys, Hw, HO, Hqd, Hfq, Hck, Hick, Hfok, Hx⟩
  isplitl [Hvq]; · iexact Hvq
  isplitl [Hvw]; · iexact Hvw
  isplitl [Hvs]; · iexact Hvs
  isplitl [Htt]; · iexact Htt
  isplitl [Hcs]; · iexact Hcs
  isplitl [Hy]; · iexact Hy
  isplitl [Hys]; · iexact Hys
  isplitl [Hw]; · iexact Hw
  isplitl [HO]; · iexact HO
  icases Hx with ⟨Hod, Hfip, Hocp⟩
  isplitl [Hck Hick Hfok Hod Hcm Hfip Hocp Hop Hr]
  · isplitl [Hck Hick Hfok]
    · isplitl [Hfok]; · iexact Hfok
      isplitl [Hick]; · iexact Hick
      iexact Hck
    isplitl [Hod Hcm]
    · isplitl [Hcm]; · iexact Hcm
      iexact Hod
    isplitl [Hfip Hocp Hop]
    · isplitl [Hfip]; · iexact Hfip
      isplitl [Hocp]; · iexact Hocp
      iexact Hop
    iexact Hr
  isplitl [Hqd Hfq Hqr]
  · isplitl [Hfq]; · iexact Hfq
    isplitl [Hqd]; · iexact Hqd
    iexact Hqr
  iexact Hqf

theorem step_last (v104 : IVec S1x128 32) (v105 : FVec F S1x128 .f32) (k : Fin k0_t2_loop.trips) (h1 : 1 ≤ k.val) (h2 : 2 ≤ k.val) (h9 : 9 ≤ k.val) (C Y YS : S1152x128.Idx → F .f32) :
    inv2 c cH VQ VW VS TT C Y YS k.val
      ⊢ wp frame (wpE (defs₀ (F := F)) 𝒱₀ (c : Thread nD τ) none) Set.univ
          (k0_t2_body (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 k ())
          (fun _ => inv2 c cH VQ VW VS TT C Y YS (k.val + 1)) := by
  have hk := k_lt k
  have ek := b18v hk
  have eq := b18v (k := k.val - 2) (by omega)
  have nq : b18 (k.val - 2) ∈ (Finset.univ.erase (b18 k.val)) := Finset.mem_erase.2 ⟨b18ne (by omega) (by omega) (by omega), Finset.mem_univ _⟩
  have ca : chunkRes c cH VQ VW VS TT k.val (b18 k.val) = stIn c cH (b18 k.val) := cr_in _ _ _ _ _ _ (by rw [ek]; unfold outLo; omega) (by omega) (by rw [ek]; unfold inTop; omega)
  have cb : chunkRes c cH VQ VW VS TT (k.val + 1) (b18 k.val) = stOut c cH VQ VW VS TT (b18 k.val) := cr_out _ _ _ _ _ _ (by rw [ek]; unfold outLo; omega) (by omega)
  have rest : bigSep (Finset.univ.erase (b18 k.val)) (chunkRes c cH VQ VW VS TT k.val)
      = bigSep (Finset.univ.erase (b18 k.val)) (chunkRes c cH VQ VW VS TT (k.val + 1)) :=
    bigSep_congr fun j hj => cr_same _ _ _ _ _ _ (fun e => by simp [Fin.ext_iff, ek] at hj; omega) (by have := j.isLt; omega) (by have := j.isLt; omega)
  have qa : qRes (F := F) c cH k.val (b18 k.val) = qAny c (b18 k.val) := qr_any _ _ (by omega) (by omega)
  have qb : qRes (F := F) c cH (k.val + 1) (b18 k.val) = flyQ c (s2 (b18 k.val).val) (b18 k.val) (qJ c cH (b18 k.val)) := qr_fly _ _ (by omega) (by omega)
  have qc : qRes (F := F) c cH k.val (b18 (k.val - 2)) = flyQ c (s2 (b18 (k.val - 2)).val) (b18 (k.val - 2)) (qJ c cH (b18 (k.val - 2))) := qr_fly _ _ (by omega) (by omega)
  have qd : qRes (F := F) c cH (k.val + 1) (b18 (k.val - 2)) = qblkP c (b18 (k.val - 2)) (qJ c cH (b18 (k.val - 2))) := qr_done _ _ (by omega)
  have qrest : bigSep ((Finset.univ.erase (b18 k.val)).erase (b18 (k.val - 2))) (qRes (F := F) c cH k.val)
      = bigSep ((Finset.univ.erase (b18 k.val)).erase (b18 (k.val - 2))) (qRes c cH (k.val + 1)) :=
    bigSep_congr fun j hj => qr_same _ _ (fun e => by simp [Fin.ext_iff, ek, eq] at hj; omega) (fun e => by simp [Fin.ext_iff, ek, eq] at hj; omega)
  have qf : qFree (F := F) c k.val = qFree c (k.val + 1) := by unfold qFree; rw [if_neg (by omega), if_neg (by omega), if_neg (by omega), if_neg (by omega)]
  unfold inv2
  rw [split_at _ (Finset.mem_univ (b18 k.val)), split_at (chunkRes c cH VQ VW VS TT (k.val + 1)) (Finset.mem_univ (b18 k.val)), ca, cb, rest]
  rw [split_at (qRes c cH k.val) (Finset.mem_univ (b18 k.val)), split_at (qRes c cH k.val) nq, split_at (qRes c cH (k.val + 1)) (Finset.mem_univ (b18 k.val)),
    split_at (qRes c cH (k.val + 1)) nq, qa, qb, qc, qd, qrest, qf]
  unfold stIn stOut oAny qAny
  rw [ek]
  rw [eq, s2_back h2]
  iintro ⟨Hvq, Hvw, Hvs, Htt, Hcs, Hy, Hys, ⟨%W, Hw⟩, HO, ⟨⟨Hfi, Hoc, ⟨%O, Hob⟩⟩, Hr⟩, Hq⟩
  icases Hq with ⟨⟨⟨%QQ, Hqb⟩, Hfq, Hqr⟩, Hqf⟩
  iapply (wp_wand_r Idealize.ShloMosaic.frame (wpE (defs₀ (F := F)) 𝒱₀ (c : Thread nD τ) none) Set.univ)
  isplitl [Hvq Hvw Hvs Htt Hcs Hy Hys Hw HO Hfi Hoc Hob Hqb Hfq ]
  · iapply (trip_last c cH v104 v105 k h1 h2 h9 VQ VW VS TT (csT c cH C k.val) (yfT c cH VW TT Y k.val) (ysfT c cH VW TT YS k.val) W (oJ c cH VQ VW VS TT (b18 (k.val - 1))) (qJ c cH (b18 (k.val - 2))) O QQ)
    isplitl [Hvq]; · iexact Hvq
    isplitl [Hvw]; · iexact Hvw
    isplitl [Hvs]; · iexact Hvs
    isplitl [Htt]; · iexact Htt
    isplitl [Hcs]; · iexact Hcs
    isplitl [Hy]; · iexact Hy
    isplitl [Hys]; · iexact Hys
    isplitl [Hw]; · iexact Hw
    isplitl [HO]; · iexact HO
    isplitl [Hfq]; · iexact Hfq
    isplitl [Hfi]; · iexact Hfi
    isplitl [Hqb]; · iexact Hqb
    isplitl [Hoc]; · iexact Hoc
    iexact Hob
  iintro %_ ⟨Hvq, Hvw, Hvs, Htt, Hcs, Hy, Hys, Hw, HO, Hqd, Hfq, Hck, Hick, Hfok⟩
  isplitl [Hvq]; · iexact Hvq
  isplitl [Hvw]; · iexact Hvw
  isplitl [Hvs]; · iexact Hvs
  isplitl [Htt]; · iexact Htt
  isplitl [Hcs]; · iexact Hcs
  isplitl [Hy]; · iexact Hy
  isplitl [Hys]; · iexact Hys
  isplitl [Hw]; · iexact Hw
  isplitl [HO]; · iexact HO
  isplitl [Hck Hick Hfok Hr]
  · isplitl [Hck Hick Hfok]
    · isplitl [Hfok]; · iexact Hfok
      isplitl [Hick]; · iexact Hick
      iexact Hck
    iexact Hr
  isplitl [Hqd Hfq Hqr]
  · isplitl [Hfq]; · iexact Hfq
    isplitl [Hqd]; · iexact Hqd
    iexact Hqr
  iexact Hqf

end Inv

set_option warn.classDefReducibility false in
@[sl_loop] def loopInv2 (c : Dev nD) (v104 : IVec S1x128 32) (v105 : FVec F S1x128 .f32) (cH : Buf (Elt F) (cM.view.loc (c : Thread nD τ)))
    (VQ : S96x16384.Idx → F .fp8e4m3) (VW : S80x16384.Idx → F .bf16) (VS : S1x16384.Idx → F .f32) (TT : S128x128.Idx → F .f32)
    (C Y YS : S1152x128.Idx → F .f32) :
    LoopInvTy_k0_t2 (F := F) Unit ℕ (UU nD τ) ℕ 𝒱₀ c none Set.univ vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20 v104 v105 0#32 where
  inv k _ := inv2 c cH VQ VW VS TT C Y YS k
  step k _ := by
    by_cases h9 : 9 ≤ k.val
    · exact step_last c cH VQ VW VS TT v104 v105 k (by omega) (by omega) h9 C Y YS
    by_cases h2 : 2 ≤ k.val
    · exact step_mid c cH VQ VW VS TT v104 v105 k (by omega) h2 (by omega) C Y YS
    by_cases h1 : k.val = 1
    · exact step_one c cH VQ VW VS TT v104 v105 k h1 (by omega) C Y YS
    · exact step_zero c cH VQ VW VS TT v104 v105 k (by omega) C Y YS

end Cert.KernelIdeal.Hand

end
-- ==== Proof.IGeo.lean ====
/-
  The buffers' parts: disjoint, covering, and put back together.
-/
module

public import proofs.«01_k».proof.Proof.IL2

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 400000
open Cert.Hand
local notation "𝕄" => MT nD τ sig Unit (Elt F) ℕ (UU nD τ) ℕ

theorem splitF {n : ℕ} (f : Fin n → sProp 𝕄) {S : Finset (Fin n)} {a : Fin n} (h : a ∈ S) : bigSep S f = iprop(f a ∗ bigSep (S.erase a) f) := by
  conv_lhs => rw [← Finset.insert_erase h, bigSep_insert (Finset.notMem_erase a S)]
  rfl
/-- Held at contents that read the same, a memref's elements are held at either. -/
theorem pts_read (c : Dev nD) {sp : Space} {s : Shape} {e : EltTy} (m : Memref sig .tc sp s e) (f g : Buf (Elt F) (m.view.loc (c : Thread nD τ)))
    (h : m.view.read (Elt F) f = m.view.read (Elt F) g) :
    (m.view.loc (c : Thread nD τ) ↦[m.view.set]{fullShare} f : sProp 𝕄) = m.view.loc (c : Thread nD τ) ↦[m.view.set]{fullShare} g := by
  rw [pointsTo_rep (Ix := Unit) (Name := ℕ) (U := UU nD τ) (Lvl := ℕ) (c : Thread nD τ) m f, pointsTo_rep (Ix := Unit) (Name := ℕ) (U := UU nD τ) (Lvl := ℕ) (c : Thread nD τ) m g, h]

/-! ### The panel's columns in VMEM -/
def acolG (b : Fin 4) : Finset S72x16384.Idx := (Rect.unit (s := S72x16384) ![0, 4096 * b.val] S72x4096.size (colInb b)).set
theorem acol_set (b : Fin 4) : (acol b).view.set = acolG b := View.set_slice_whole _ _
theorem acol_off (b : Fin 4) (a : Fin S72x16384.rank) (h : a ≠ 1) : (![0, 4096 * b.val] : Fin _ → ℕ) a = 0 := by
  fin_cases a <;> first | rfl | exact absurd rfl h
theorem acol_sz (a : Fin S72x16384.rank) (h : a ≠ 1) : S72x4096.size a = S72x16384.size a := by
  fin_cases a <;> first | rfl | exact absurd rfl h
theorem acol_off₀ (b : Fin 4) : (![0, 4096 * b.val] : Fin S72x16384.rank → ℕ) 1 = 4096 * b.val := by first | rfl | (show b.val = 1 * b.val; omega)
theorem acol_disj (b b' : Fin 4) (h : b ≠ b') : Disjoint (acolG b) (acolG b') :=
  Ring.lead_disjoint (s := S72x16384) 1 4096 (fun b => ![0, 4096 * b.val]) S72x4096.size colInb acol_off₀ rfl b b' h
theorem acol_cover : (Finset.univ : Finset (Fin 4)).biUnion acolG = Finset.univ :=
  Ring.lead_cover (s := S72x16384) 1 4096 (fun b => ![0, 4096 * b.val]) S72x4096.size colInb acol_off₀ acol_off rfl acol_sz rfl
theorem acol_pt (c : Dev nD) (b : Fin 4) (f : Buf (Elt F) ((c : Thread nD τ).loc cc0_scratch1)) :
    ((acol b).view.loc (c : Thread nD τ) ↦[(acol b).view.set]{fullShare} f : sProp 𝕄) = (((c : Thread nD τ).loc cc0_scratch1) ↦[acolG b]{fullShare} f : sProp 𝕄) :=
  congrArg (fun S => (_ ↦[S]{fullShare} f : sProp 𝕄)) (acol_set b)
theorem acol_blocks (c : Dev nD) (f : Buf (Elt F) ((c : Thread nD τ).loc cc0_scratch1)) :
    (((c : Thread nD τ).loc cc0_scratch1) ↦{fullShare} f : sProp 𝕄) = bigSep Finset.univ fun b => ((acol b).view.loc (c : Thread nD τ) ↦[(acol b).view.set]{fullShare} f : sProp 𝕄) := by
  rw [Ring.pointsTo_blocks (ℓ := (c : Thread nD τ).loc cc0_scratch1) acolG acol_disj acol_cover]
  exact bigSep_congr fun b _ => (acol_pt c b f).symm
abbrev acolAny (c : Dev nD) (b : Fin 4) : sProp 𝕄 := iprop(∃ f : Buf (Elt F) ((acol b).view.loc (c : Thread nD τ)), (acol b).view.loc (c : Thread nD τ) ↦[(acol b).view.set]{fullShare} f)
theorem acol_give (c : Dev nD) :
    (iprop(∃ f : Buf (Elt F) ((c : Thread nD τ).loc cc0_scratch1), ((c : Thread nD τ).loc cc0_scratch1) ↦{fullShare} f) : sProp 𝕄)
      ⊢ bigSep Finset.univ (acolAny (F := F) c) := by
  iintro ⟨%f, H⟩
  ihave H' := (entails_of_eq (acol_blocks c f)) $$ H
  have hm : bigSep Finset.univ (fun b => ((acol b).view.loc (c : Thread nD τ) ↦[(acol b).view.set]{fullShare} f : sProp 𝕄)) ⊢ bigSep Finset.univ (acolAny (F := F) c) :=
    bigSep_mono fun b _ => (by iintro H; iexists f; iexact H : (_ : sProp 𝕄) ⊢ acolAny (F := F) c b)
  iapply hm $$ H'
/-! ### and in HBM -/
def vcolG (b : Fin 4) : Finset S72x16384.Idx := (Rect.unit (s := S72x16384) ![0, 4096 * b.val] S72x4096.size (colInb b)).set
theorem vcol_set (b : Fin 4) : (vcol b).view.set = vcolG b := View.set_slice_whole _ _
theorem vcol_off (b : Fin 4) (a : Fin S72x16384.rank) (h : a ≠ 1) : (![0, 4096 * b.val] : Fin _ → ℕ) a = 0 := by
  fin_cases a <;> first | rfl | exact absurd rfl h
theorem vcol_sz (a : Fin S72x16384.rank) (h : a ≠ 1) : S72x4096.size a = S72x16384.size a := by
  fin_cases a <;> first | rfl | exact absurd rfl h
theorem vcol_off₀ (b : Fin 4) : (![0, 4096 * b.val] : Fin S72x16384.rank → ℕ) 1 = 4096 * b.val := by first | rfl | (show b.val = 1 * b.val; omega)
theorem vcol_disj (b b' : Fin 4) (h : b ≠ b') : Disjoint (vcolG b) (vcolG b') :=
  Ring.lead_disjoint (s := S72x16384) 1 4096 (fun b => ![0, 4096 * b.val]) S72x4096.size colInb vcol_off₀ rfl b b' h
theorem vcol_cover : (Finset.univ : Finset (Fin 4)).biUnion vcolG = Finset.univ :=
  Ring.lead_cover (s := S72x16384) 1 4096 (fun b => ![0, 4096 * b.val]) S72x4096.size colInb vcol_off₀ vcol_off rfl vcol_sz rfl
theorem vcol_pt (c : Dev nD) (b : Fin 4) (f : Buf (Elt F) ((c : Thread nD τ).loc main_v1)) :
    ((vcol b).view.loc (c : Thread nD τ) ↦[(vcol b).view.set]{fullShare} f : sProp 𝕄) = (((c : Thread nD τ).loc main_v1) ↦[vcolG b]{fullShare} f : sProp 𝕄) :=
  congrArg (fun S => (_ ↦[S]{fullShare} f : sProp 𝕄)) (vcol_set b)
theorem vcol_blocks (c : Dev nD) (f : Buf (Elt F) ((c : Thread nD τ).loc main_v1)) :
    (((c : Thread nD τ).loc main_v1) ↦{fullShare} f : sProp 𝕄) = bigSep Finset.univ fun b => ((vcol b).view.loc (c : Thread nD τ) ↦[(vcol b).view.set]{fullShare} f : sProp 𝕄) := by
  rw [Ring.pointsTo_blocks (ℓ := (c : Thread nD τ).loc main_v1) vcolG vcol_disj vcol_cover]
  exact bigSep_congr fun b _ => (vcol_pt c b f).symm
abbrev vcolAny (c : Dev nD) (b : Fin 4) : sProp 𝕄 := iprop(∃ f : Buf (Elt F) ((vcol b).view.loc (c : Thread nD τ)), (vcol b).view.loc (c : Thread nD τ) ↦[(vcol b).view.set]{fullShare} f)
/-! ### The chunks of the trailing matrix -/
def cblkG (b : Fin 18) : Finset S1152x16384.Idx := (Rect.unit (s := S1152x16384) ![64 * b.val, 0] S64x16384.size (blkInb b)).set
theorem cblk_set (b : Fin 18) : (cblk b).view.set = cblkG b := View.set_slice_whole _ _
theorem cblk_off (b : Fin 18) (a : Fin S1152x16384.rank) (h : a ≠ 0) : (![64 * b.val, 0] : Fin _ → ℕ) a = 0 := by
  fin_cases a <;> first | rfl | exact absurd rfl h
theorem cblk_sz (a : Fin S1152x16384.rank) (h : a ≠ 0) : S64x16384.size a = S1152x16384.size a := by
  fin_cases a <;> first | rfl | exact absurd rfl h
theorem cblk_off₀ (b : Fin 18) : (![64 * b.val, 0] : Fin S1152x16384.rank → ℕ) 0 = 64 * b.val := by first | rfl | (show b.val = 1 * b.val; omega)
theorem cblk_disj (b b' : Fin 18) (h : b ≠ b') : Disjoint (cblkG b) (cblkG b') :=
  Ring.lead_disjoint (s := S1152x16384) 0 64 (fun b => ![64 * b.val, 0]) S64x16384.size blkInb cblk_off₀ rfl b b' h
theorem cblk_cover : (Finset.univ : Finset (Fin 18)).biUnion cblkG = Finset.univ :=
  Ring.lead_cover (s := S1152x16384) 0 64 (fun b => ![64 * b.val, 0]) S64x16384.size blkInb cblk_off₀ cblk_off rfl cblk_sz rfl
theorem cblk_pt (c : Dev nD) (b : Fin 18) (f : Buf (Elt F) ((c : Thread nD τ).loc main_v3)) :
    ((cblk b).view.loc (c : Thread nD τ) ↦[(cblk b).view.set]{fullShare} f : sProp 𝕄) = (((c : Thread nD τ).loc main_v3) ↦[cblkG b]{fullShare} f : sProp 𝕄) :=
  congrArg (fun S => (_ ↦[S]{fullShare} f : sProp 𝕄)) (cblk_set b)
theorem cblk_blocks (c : Dev nD) (f : Buf (Elt F) ((c : Thread nD τ).loc main_v3)) :
    (((c : Thread nD τ).loc main_v3) ↦{fullShare} f : sProp 𝕄) = bigSep Finset.univ fun b => ((cblk b).view.loc (c : Thread nD τ) ↦[(cblk b).view.set]{fullShare} f : sProp 𝕄) := by
  rw [Ring.pointsTo_blocks (ℓ := (c : Thread nD τ).loc main_v3) cblkG cblk_disj cblk_cover]
  exact bigSep_congr fun b _ => (cblk_pt c b f).symm
abbrev cblkAny (c : Dev nD) (b : Fin 18) : sProp 𝕄 := iprop(∃ f : Buf (Elt F) ((cblk b).view.loc (c : Thread nD τ)), (cblk b).view.loc (c : Thread nD τ) ↦[(cblk b).view.set]{fullShare} f)
/-! ### of the result -/
def oblkG (b : Fin 18) : Finset S1152x16384.Idx := (Rect.unit (s := S1152x16384) ![64 * b.val, 0] S64x16384.size (blkInb b)).set
theorem oblk_set (b : Fin 18) : (oblk b).view.set = oblkG b := View.set_slice_whole _ _
theorem oblk_off (b : Fin 18) (a : Fin S1152x16384.rank) (h : a ≠ 0) : (![64 * b.val, 0] : Fin _ → ℕ) a = 0 := by
  fin_cases a <;> first | rfl | exact absurd rfl h
theorem oblk_sz (a : Fin S1152x16384.rank) (h : a ≠ 0) : S64x16384.size a = S1152x16384.size a := by
  fin_cases a <;> first | rfl | exact absurd rfl h
theorem oblk_off₀ (b : Fin 18) : (![64 * b.val, 0] : Fin S1152x16384.rank → ℕ) 0 = 64 * b.val := by first | rfl | (show b.val = 1 * b.val; omega)
theorem oblk_disj (b b' : Fin 18) (h : b ≠ b') : Disjoint (oblkG b) (oblkG b') :=
  Ring.lead_disjoint (s := S1152x16384) 0 64 (fun b => ![64 * b.val, 0]) S64x16384.size blkInb oblk_off₀ rfl b b' h
theorem oblk_cover : (Finset.univ : Finset (Fin 18)).biUnion oblkG = Finset.univ :=
  Ring.lead_cover (s := S1152x16384) 0 64 (fun b => ![64 * b.val, 0]) S64x16384.size blkInb oblk_off₀ oblk_off rfl oblk_sz rfl
theorem oblk_pt (c : Dev nD) (b : Fin 18) (f : Buf (Elt F) ((c : Thread nD τ).loc main_v4_0)) :
    ((oblk b).view.loc (c : Thread nD τ) ↦[(oblk b).view.set]{fullShare} f : sProp 𝕄) = (((c : Thread nD τ).loc main_v4_0) ↦[oblkG b]{fullShare} f : sProp 𝕄) :=
  congrArg (fun S => (_ ↦[S]{fullShare} f : sProp 𝕄)) (oblk_set b)
theorem oblk_blocks (c : Dev nD) (f : Buf (Elt F) ((c : Thread nD τ).loc main_v4_0)) :
    (((c : Thread nD τ).loc main_v4_0) ↦{fullShare} f : sProp 𝕄) = bigSep Finset.univ fun b => ((oblk b).view.loc (c : Thread nD τ) ↦[(oblk b).view.set]{fullShare} f : sProp 𝕄) := by
  rw [Ring.pointsTo_blocks (ℓ := (c : Thread nD τ).loc main_v4_0) oblkG oblk_disj oblk_cover]
  exact bigSep_congr fun b _ => (oblk_pt c b f).symm
abbrev oblkAny (c : Dev nD) (b : Fin 18) : sProp 𝕄 := iprop(∃ f : Buf (Elt F) ((oblk b).view.loc (c : Thread nD τ)), (oblk b).view.loc (c : Thread nD τ) ↦[(oblk b).view.set]{fullShare} f)
theorem oblk_give (c : Dev nD) :
    (iprop(∃ f : Buf (Elt F) ((c : Thread nD τ).loc main_v4_0), ((c : Thread nD τ).loc main_v4_0) ↦{fullShare} f) : sProp 𝕄)
      ⊢ bigSep Finset.univ (oblkAny (F := F) c) := by
  iintro ⟨%f, H⟩
  ihave H' := (entails_of_eq (oblk_blocks c f)) $$ H
  have hm : bigSep Finset.univ (fun b => ((oblk b).view.loc (c : Thread nD τ) ↦[(oblk b).view.set]{fullShare} f : sProp 𝕄)) ⊢ bigSep Finset.univ (oblkAny (F := F) c) :=
    bigSep_mono fun b _ => (by iintro H; iexists f; iexact H : (_ : sProp 𝕄) ⊢ oblkAny (F := F) c b)
  iapply hm $$ H'
theorem oblk_join (c : Dev nD) (X : Fin 18 → Buf (Elt F) ((c : Thread nD τ).loc main_v4_0)) :
    bigSep Finset.univ (fun b => ((oblk b).view.loc (c : Thread nD τ) ↦[(oblk b).view.set]{fullShare} X b : sProp 𝕄))
      ⊢ (iprop(∃ g : Buf (Elt F) ((c : Thread nD τ).loc main_v4_0), ⌜∀ b, ∀ i ∈ oblkG b, g i = X b i⌝ ∗ ((c : Thread nD τ).loc main_v4_0) ↦{fullShare} g) : sProp 𝕄) := by
  refine (entails_of_eq (bigSep_congr fun b _ => oblk_pt c b (X b))).trans ?_
  refine (pointsTo_biUnion_join (ℓ := (c : Thread nD τ).loc main_v4_0) Finset.univ oblkG X coutM.view.junk (fun b _ b' _ h => oblk_disj b b' h)).trans ?_
  rw [oblk_cover]
  iintro ⟨%g, %h, H⟩
  iexists g
  isplitr
  · ipureintro; intro b i hi; exact h b (Finset.mem_univ b) i hi
  · iexact H

/-! ### and of its codes -/
def qblkG (b : Fin 18) : Finset S1152x16384.Idx := (Rect.unit (s := S1152x16384) ![64 * b.val, 0] S64x16384.size (blkInb b)).set
theorem qblk_set (b : Fin 18) : (qblk b).view.set = qblkG b := View.set_slice_whole _ _
theorem qblk_off (b : Fin 18) (a : Fin S1152x16384.rank) (h : a ≠ 0) : (![64 * b.val, 0] : Fin _ → ℕ) a = 0 := by
  fin_cases a <;> first | rfl | exact absurd rfl h
theorem qblk_sz (a : Fin S1152x16384.rank) (h : a ≠ 0) : S64x16384.size a = S1152x16384.size a := by
  fin_cases a <;> first | rfl | exact absurd rfl h
theorem qblk_off₀ (b : Fin 18) : (![64 * b.val, 0] : Fin S1152x16384.rank → ℕ) 0 = 64 * b.val := by first | rfl | (show b.val = 1 * b.val; omega)
theorem qblk_disj (b b' : Fin 18) (h : b ≠ b') : Disjoint (qblkG b) (qblkG b') :=
  Ring.lead_disjoint (s := S1152x16384) 0 64 (fun b => ![64 * b.val, 0]) S64x16384.size blkInb qblk_off₀ rfl b b' h
theorem qblk_cover : (Finset.univ : Finset (Fin 18)).biUnion qblkG = Finset.univ :=
  Ring.lead_cover (s := S1152x16384) 0 64 (fun b => ![64 * b.val, 0]) S64x16384.size blkInb qblk_off₀ qblk_off rfl qblk_sz rfl
theorem qblk_pt (c : Dev nD) (b : Fin 18) (f : Buf (Elt F) ((c : Thread nD τ).loc main_v4_3)) :
    ((qblk b).view.loc (c : Thread nD τ) ↦[(qblk b).view.set]{fullShare} f : sProp 𝕄) = (((c : Thread nD τ).loc main_v4_3) ↦[qblkG b]{fullShare} f : sProp 𝕄) :=
  congrArg (fun S => (_ ↦[S]{fullShare} f : sProp 𝕄)) (qblk_set b)
theorem qblk_blocks (c : Dev nD) (f : Buf (Elt F) ((c : Thread nD τ).loc main_v4_3)) :
    (((c : Thread nD τ).loc main_v4_3) ↦{fullShare} f : sProp 𝕄) = bigSep Finset.univ fun b => ((qblk b).view.loc (c : Thread nD τ) ↦[(qblk b).view.set]{fullShare} f : sProp 𝕄) := by
  rw [Ring.pointsTo_blocks (ℓ := (c : Thread nD τ).loc main_v4_3) qblkG qblk_disj qblk_cover]
  exact bigSep_congr fun b _ => (qblk_pt c b f).symm
abbrev qblkAny (c : Dev nD) (b : Fin 18) : sProp 𝕄 := iprop(∃ f : Buf (Elt F) ((qblk b).view.loc (c : Thread nD τ)), (qblk b).view.loc (c : Thread nD τ) ↦[(qblk b).view.set]{fullShare} f)
theorem qblk_give (c : Dev nD) :
    (iprop(∃ f : Buf (Elt F) ((c : Thread nD τ).loc main_v4_3), ((c : Thread nD τ).loc main_v4_3) ↦{fullShare} f) : sProp 𝕄)
      ⊢ bigSep Finset.univ (qblkAny (F := F) c) := by
  iintro ⟨%f, H⟩
  ihave H' := (entails_of_eq (qblk_blocks c f)) $$ H
  have hm : bigSep Finset.univ (fun b => ((qblk b).view.loc (c : Thread nD τ) ↦[(qblk b).view.set]{fullShare} f : sProp 𝕄)) ⊢ bigSep Finset.univ (qblkAny (F := F) c) :=
    bigSep_mono fun b _ => (by iintro H; iexists f; iexact H : (_ : sProp 𝕄) ⊢ qblkAny (F := F) c b)
  iapply hm $$ H'
theorem qblk_join (c : Dev nD) (X : Fin 18 → Buf (Elt F) ((c : Thread nD τ).loc main_v4_3)) :
    bigSep Finset.univ (fun b => ((qblk b).view.loc (c : Thread nD τ) ↦[(qblk b).view.set]{fullShare} X b : sProp 𝕄))
      ⊢ (iprop(∃ g : Buf (Elt F) ((c : Thread nD τ).loc main_v4_3), ⌜∀ b, ∀ i ∈ qblkG b, g i = X b i⌝ ∗ ((c : Thread nD τ).loc main_v4_3) ↦{fullShare} g) : sProp 𝕄) := by
  refine (entails_of_eq (bigSep_congr fun b _ => qblk_pt c b (X b))).trans ?_
  refine (pointsTo_biUnion_join (ℓ := (c : Thread nD τ).loc main_v4_3) Finset.univ qblkG X cqM.view.junk (fun b _ b' _ h => qblk_disj b b' h)).trans ?_
  rw [qblk_cover]
  iintro ⟨%g, %h, H⟩
  iexists g
  isplitr
  · ipureintro; intro b i hi; exact h b (Finset.mem_univ b) i hi
  · iexact H

/-! ### The ring of chunks -/
def slotG (b : Fin 10) : Finset S10x64x16384.Idx := (Rect.unit (s := S10x64x16384) ![b.val, 0, 0] S1x64x16384.size (slotInb b)).set
theorem slot_set (b : Fin 10) : (slot b).view.set = slotG b := (View.set_reshape _ _).trans (View.set_slice_whole _ _)
theorem slot_off (b : Fin 10) (a : Fin S10x64x16384.rank) (h : a ≠ 0) : (![b.val, 0, 0] : Fin _ → ℕ) a = 0 := by
  fin_cases a <;> first | rfl | exact absurd rfl h
theorem slot_sz (a : Fin S10x64x16384.rank) (h : a ≠ 0) : S1x64x16384.size a = S10x64x16384.size a := by
  fin_cases a <;> first | rfl | exact absurd rfl h
theorem slot_off₀ (b : Fin 10) : (![b.val, 0, 0] : Fin S10x64x16384.rank → ℕ) 0 = 1 * b.val := by first | rfl | (show b.val = 1 * b.val; omega)
theorem slot_disj (b b' : Fin 10) (h : b ≠ b') : Disjoint (slotG b) (slotG b') :=
  Ring.lead_disjoint (s := S10x64x16384) 0 1 (fun b => ![b.val, 0, 0]) S1x64x16384.size slotInb slot_off₀ rfl b b' h
theorem slot_cover : (Finset.univ : Finset (Fin 10)).biUnion slotG = Finset.univ :=
  Ring.lead_cover (s := S10x64x16384) 0 1 (fun b => ![b.val, 0, 0]) S1x64x16384.size slotInb slot_off₀ slot_off rfl slot_sz rfl
theorem slot_pt (c : Dev nD) (b : Fin 10) (f : Buf (Elt F) ((c : Thread nD τ).loc cc0_scratch0)) :
    ((slot b).view.loc (c : Thread nD τ) ↦[(slot b).view.set]{fullShare} f : sProp 𝕄) = (((c : Thread nD τ).loc cc0_scratch0) ↦[slotG b]{fullShare} f : sProp 𝕄) :=
  congrArg (fun S => (_ ↦[S]{fullShare} f : sProp 𝕄)) (slot_set b)
theorem slot_blocks (c : Dev nD) (f : Buf (Elt F) ((c : Thread nD τ).loc cc0_scratch0)) :
    (((c : Thread nD τ).loc cc0_scratch0) ↦{fullShare} f : sProp 𝕄) = bigSep Finset.univ fun b => ((slot b).view.loc (c : Thread nD τ) ↦[(slot b).view.set]{fullShare} f : sProp 𝕄) := by
  rw [Ring.pointsTo_blocks (ℓ := (c : Thread nD τ).loc cc0_scratch0) slotG slot_disj slot_cover]
  exact bigSep_congr fun b _ => (slot_pt c b f).symm
abbrev slotAny (c : Dev nD) (b : Fin 10) : sProp 𝕄 := iprop(∃ f : Buf (Elt F) ((slot b).view.loc (c : Thread nD τ)), (slot b).view.loc (c : Thread nD τ) ↦[(slot b).view.set]{fullShare} f)
theorem slot_any (c : Dev nD) :
    bigSep Finset.univ (slotAny (F := F) c)
      ⊢ (iprop(∃ f : Buf (Elt F) ((c : Thread nD τ).loc cc0_scratch0), ((c : Thread nD τ).loc cc0_scratch0) ↦{fullShare} f) : sProp 𝕄) := by
  refine (entails_of_eq (bigSep_congr (Ψ := fun b => iprop(∃ f : Buf (Elt F) ((c : Thread nD τ).loc cc0_scratch0), ((c : Thread nD τ).loc cc0_scratch0) ↦[slotG b]{fullShare} f)) fun b _ => ?_)).trans
    (Ring.pointsTo_blocks_join_exists (ℓ := (c : Thread nD τ).loc cc0_scratch0) slotG slot_disj slot_cover cbufM.view.junk)
  exact congrArg BIBase.exists (funext fun f => slot_pt c b f)
theorem slot_give (c : Dev nD) :
    (iprop(∃ f : Buf (Elt F) ((c : Thread nD τ).loc cc0_scratch0), ((c : Thread nD τ).loc cc0_scratch0) ↦{fullShare} f) : sProp 𝕄)
      ⊢ bigSep Finset.univ (slotAny (F := F) c) := by
  iintro ⟨%f, H⟩
  ihave H' := (entails_of_eq (slot_blocks c f)) $$ H
  have hm : bigSep Finset.univ (fun b => ((slot b).view.loc (c : Thread nD τ) ↦[(slot b).view.set]{fullShare} f : sProp 𝕄)) ⊢ bigSep Finset.univ (slotAny (F := F) c) :=
    bigSep_mono fun b _ => (by iintro H; iexists f; iexact H : (_ : sProp 𝕄) ⊢ slotAny (F := F) c b)
  iapply hm $$ H'
/-! ### and of codes -/
def qslotG (b : Fin 2) : Finset S2x64x16384.Idx := (Rect.unit (s := S2x64x16384) ![b.val, 0, 0] S1x64x16384.size (qslotInb b)).set
theorem qslot_set (b : Fin 2) : (qslot b).view.set = qslotG b := (View.set_reshape _ _).trans (View.set_slice_whole _ _)
theorem qslot_off (b : Fin 2) (a : Fin S2x64x16384.rank) (h : a ≠ 0) : (![b.val, 0, 0] : Fin _ → ℕ) a = 0 := by
  fin_cases a <;> first | rfl | exact absurd rfl h
theorem qslot_sz (a : Fin S2x64x16384.rank) (h : a ≠ 0) : S1x64x16384.size a = S2x64x16384.size a := by
  fin_cases a <;> first | rfl | exact absurd rfl h
theorem qslot_off₀ (b : Fin 2) : (![b.val, 0, 0] : Fin S2x64x16384.rank → ℕ) 0 = 1 * b.val := by first | rfl | (show b.val = 1 * b.val; omega)
theorem qslot_disj (b b' : Fin 2) (h : b ≠ b') : Disjoint (qslotG b) (qslotG b') :=
  Ring.lead_disjoint (s := S2x64x16384) 0 1 (fun b => ![b.val, 0, 0]) S1x64x16384.size qslotInb qslot_off₀ rfl b b' h
theorem qslot_cover : (Finset.univ : Finset (Fin 2)).biUnion qslotG = Finset.univ :=
  Ring.lead_cover (s := S2x64x16384) 0 1 (fun b => ![b.val, 0, 0]) S1x64x16384.size qslotInb qslot_off₀ qslot_off rfl qslot_sz rfl
theorem qslot_pt (c : Dev nD) (b : Fin 2) (f : Buf (Elt F) ((c : Thread nD τ).loc cc0_scratch5)) :
    ((qslot b).view.loc (c : Thread nD τ) ↦[(qslot b).view.set]{fullShare} f : sProp 𝕄) = (((c : Thread nD τ).loc cc0_scratch5) ↦[qslotG b]{fullShare} f : sProp 𝕄) :=
  congrArg (fun S => (_ ↦[S]{fullShare} f : sProp 𝕄)) (qslot_set b)
theorem qslot_blocks (c : Dev nD) (f : Buf (Elt F) ((c : Thread nD τ).loc cc0_scratch5)) :
    (((c : Thread nD τ).loc cc0_scratch5) ↦{fullShare} f : sProp 𝕄) = bigSep Finset.univ fun b => ((qslot b).view.loc (c : Thread nD τ) ↦[(qslot b).view.set]{fullShare} f : sProp 𝕄) := by
  rw [Ring.pointsTo_blocks (ℓ := (c : Thread nD τ).loc cc0_scratch5) qslotG qslot_disj qslot_cover]
  exact bigSep_congr fun b _ => (qslot_pt c b f).symm
abbrev qslotAny (c : Dev nD) (b : Fin 2) : sProp 𝕄 := iprop(∃ f : Buf (Elt F) ((qslot b).view.loc (c : Thread nD τ)), (qslot b).view.loc (c : Thread nD τ) ↦[(qslot b).view.set]{fullShare} f)
theorem qslot_any (c : Dev nD) :
    bigSep Finset.univ (qslotAny (F := F) c)
      ⊢ (iprop(∃ f : Buf (Elt F) ((c : Thread nD τ).loc cc0_scratch5), ((c : Thread nD τ).loc cc0_scratch5) ↦{fullShare} f) : sProp 𝕄) := by
  refine (entails_of_eq (bigSep_congr (Ψ := fun b => iprop(∃ f : Buf (Elt F) ((c : Thread nD τ).loc cc0_scratch5), ((c : Thread nD τ).loc cc0_scratch5) ↦[qslotG b]{fullShare} f)) fun b _ => ?_)).trans
    (Ring.pointsTo_blocks_join_exists (ℓ := (c : Thread nD τ).loc cc0_scratch5) qslotG qslot_disj qslot_cover qbufM.view.junk)
  exact congrArg BIBase.exists (funext fun f => qslot_pt c b f)
theorem qslot_give (c : Dev nD) :
    (iprop(∃ f : Buf (Elt F) ((c : Thread nD τ).loc cc0_scratch5), ((c : Thread nD τ).loc cc0_scratch5) ↦{fullShare} f) : sProp 𝕄)
      ⊢ bigSep Finset.univ (qslotAny (F := F) c) := by
  iintro ⟨%f, H⟩
  ihave H' := (entails_of_eq (qslot_blocks c f)) $$ H
  have hm : bigSep Finset.univ (fun b => ((qslot b).view.loc (c : Thread nD τ) ↦[(qslot b).view.set]{fullShare} f : sProp 𝕄)) ⊢ bigSep Finset.univ (qslotAny (F := F) c) :=
    bigSep_mono fun b _ => (by iintro H; iexists f; iexact H : (_ : sProp 𝕄) ⊢ qslotAny (F := F) c b)
  iapply hm $$ H'
theorem big4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem acol_rep (c : Dev nD) (vH : Buf (Elt F) (vtM.view.loc (c : Thread nD τ))) (i : Fin 4) (f : Buf (Elt F) ((acol i).view.loc (c : Thread nD τ)))
    (h : (acol i).view.read (Elt F) f = (vcol i).view.read (Elt F) vH) :
    ((acol i).view.loc (c : Thread nD τ) ↦[(acol i).view.set]{fullShare} f : sProp 𝕄)
      ⊢ ((acol i).view.loc (c : Thread nD τ) ↦[(acol i).view.set]{fullShare} atM.view.rep (vtM.view.read (Elt F) vH) : sProp 𝕄) := by
  refine entails_of_eq (pts_read c (acol i) _ _ ?_)
  rw [h]
  funext x
  have e := congrFun (View.read_rep (Val := Elt F) atM.view (vtM.view.read (Elt F) vH)) ((Rect.unit (s := S72x16384) ![0, 4096 * i.val] S72x4096.size (colInb i)).emb x)
  exact e.symm
theorem at_join4 (c : Dev nD) (A : S72x16384.Idx → F .f32) :
    iprop(((acol 0).view.loc (c : Thread nD τ) ↦[(acol 0).view.set]{fullShare} atM.view.rep A : sProp 𝕄) ∗ ((acol 1).view.loc (c : Thread nD τ) ↦[(acol 1).view.set]{fullShare} atM.view.rep A)
      ∗ ((acol 2).view.loc (c : Thread nD τ) ↦[(acol 2).view.set]{fullShare} atM.view.rep A) ∗ ((acol 3).view.loc (c : Thread nD τ) ↦[(acol 3).view.set]{fullShare} atM.view.rep A))
      ⊢ (atP c A : sProp 𝕄) :=
  entails_of_eq ((acol_blocks c (atM.view.rep A)).trans (big4 _)).symm

end Cert.KernelIdeal.Hand

end
-- ==== Proof.IPre.lean ====
/-
  What the body is handed, and the chunk loop entered and left.
-/
module

public import proofs.«01_k».proof.Proof.IGeo

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

section Body
variable (c : Dev nD) (vH : Buf (Elt F) (vtM.view.loc (c : Thread nD τ))) (tH : Buf (Elt F) (tM.view.loc (c : Thread nD τ))) (cH : Buf (Elt F) (cM.view.loc (c : Thread nD τ)))

abbrev aCellP (s : Fin 4) : sProp 𝕄 := semVal ((c : Thread nD τ), SemLoc.dma (aC s).sem) 0
abbrev mCellP (s : Fin 8) : sProp 𝕄 := semVal ((c : Thread nD τ), SemLoc.dma (mC s).sem) 0
abbrev vcolP (i : Fin 4) : sProp 𝕄 := (vcol i).view.loc (c : Thread nD τ) ↦[(vcol i).view.set]{fullShare} vH
abbrev anyP {sp : Space} {s : Shape} {e : EltTy} (m : Memref sig .tc sp s e) : sProp 𝕄 :=
  iprop(∃ f : Buf (Elt F) (m.view.loc (c : Thread nD τ)), m.view.loc (c : Thread nD τ) ↦[m.view.set]{fullShare} f)
abbrev anyW {sp : Space} {s : Shape} {e : EltTy} (m : Memref sig .tc sp s e) : sProp 𝕄 :=
  iprop(∃ f : Buf (Elt F) (m.view.loc (c : Thread nD τ)), m.view.loc (c : Thread nD τ) ↦{fullShare} f)

/-- What the body is handed. -/
def PRE : sProp 𝕄 :=
  iprop(vcolP c vH 0 ∗ anyP c (acol 0) ∗ aCellP c 0 ∗ vcolP c vH 1 ∗ anyP c (acol 1) ∗ aCellP c 1 ∗ vcolP c vH 2 ∗ anyP c (acol 2) ∗ aCellP c 2 ∗ vcolP c vH 3 ∗ anyP c (acol 3) ∗ aCellP c 3
    ∗ (tM.view.loc (c : Thread nD τ) ↦{fullShare} tH) ∗ anyW c toM
    ∗ anyW c vqM ∗ anyW c vqoM ∗ anyW c vwM ∗ anyW c vsrM ∗ anyW c vsvM ∗ anyW c wM ∗ anyW c ttM
    ∗ anyW c csbM ∗ anyW c yfM ∗ anyW c ysfM ∗ anyW c yqbM ∗ anyW c ysbM
    ∗ anyW c vqtM ∗ anyW c vsM ∗ anyW c csM ∗ anyW c yqtM ∗ anyW c ysM
    ∗ mCellP c 0 ∗ mCellP c 1 ∗ mCellP c 2 ∗ mCellP c 3 ∗ mCellP c 4 ∗ mCellP c 5 ∗ mCellP c 6 ∗ mCellP c 7
    ∗ anyP c (slot 0) ∗ anyP c (slot 1) ∗ anyP c (slot 2) ∗ anyP c (slot 3) ∗ anyP c (slot 4) ∗ anyP c (slot 5) ∗ anyP c (slot 6) ∗ anyP c (slot 7) ∗ anyP c (slot 8) ∗ anyP c (slot 9)
    ∗ inCellP c 0 ∗ outCellP c 0 ∗ inCellP c 1 ∗ outCellP c 1 ∗ inCellP c 2 ∗ outCellP c 2 ∗ inCellP c 3 ∗ outCellP c 3 ∗ inCellP c 4 ∗ outCellP c 4 ∗ inCellP c 5 ∗ outCellP c 5 ∗ inCellP c 6 ∗ outCellP c 6 ∗ inCellP c 7 ∗ outCellP c 7 ∗ inCellP c 8 ∗ outCellP c 8 ∗ inCellP c 9 ∗ outCellP c 9
    ∗ bigSep Finset.univ (stHome c cH) ∗ bigSep Finset.univ (qAny (F := F) c) ∗ qSlotFree c 0 ∗ qSlotFree c 1
    ∗ (∃ w, owes (c : Thread nD τ) 0 w))

abbrev R10 : Finset (Fin 18) := ((((((((((Finset.univ.erase 0).erase 1).erase 2).erase 3).erase 4).erase 5).erase 6).erase 7).erase 8).erase 9)
theorem R10_ge : ∀ j ∈ R10, 10 ≤ j.val := by decide
theorem split10 (f : Fin 18 → sProp 𝕄) : bigSep Finset.univ f = iprop(f 0 ∗ f 1 ∗ f 2 ∗ f 3 ∗ f 4 ∗ f 5 ∗ f 6 ∗ f 7 ∗ f 8 ∗ f 9 ∗ bigSep R10 f) := by
  rw [splitF f (S := Finset.univ) (a := 0) (by decide), splitF f (S := (Finset.univ.erase 0)) (a := 1) (by decide), splitF f (S := ((Finset.univ.erase 0).erase 1)) (a := 2) (by decide), splitF f (S := (((Finset.univ.erase 0).erase 1).erase 2)) (a := 3) (by decide), splitF f (S := ((((Finset.univ.erase 0).erase 1).erase 2).erase 3)) (a := 4) (by decide), splitF f (S := (((((Finset.univ.erase 0).erase 1).erase 2).erase 3).erase 4)) (a := 5) (by decide), splitF f (S := ((((((Finset.univ.erase 0).erase 1).erase 2).erase 3).erase 4).erase 5)) (a := 6) (by decide), splitF f (S := (((((((Finset.univ.erase 0).erase 1).erase 2).erase 3).erase 4).erase 5).erase 6)) (a := 7) (by decide), splitF f (S := ((((((((Finset.univ.erase 0).erase 1).erase 2).erase 3).erase 4).erase 5).erase 6).erase 7)) (a := 8) (by decide), splitF f (S := (((((((((Finset.univ.erase 0).erase 1).erase 2).erase 3).erase 4).erase 5).erase 6).erase 7).erase 8)) (a := 9) (by decide)]

/-- A fetch under way delivers its chunk. -/
theorem fly_in (s : Fin 10) (j : Fin 18) (f : Buf (Elt F) ((slot s).view.loc (c : Thread nD τ))) (sm : SemLoc sig) (hs : sm = SemLoc.dma (inC s).sem)
    (X : S64x16384.Idx → F .f32) (hX : X = (cblk j).view.read (Elt F) cH) :
    (Transfers.Flight countersEmb (c : Thread nD τ) sm default 131072
      iprop(((slot s).view.loc (c : Thread nD τ) ↦[(slot s).view.set]{fullShare} (slot s).view.writes (Elt F) f [⟨Rect.whole S64x16384, X⟩]) ∗ cblkP c cH j) : sProp 𝕄)
      ⊢ flyIn c cH s j := by
  subst hs hX
  iintro H
  iapply (Transfers.Flight_mono countersEmb (c : Thread nD τ) ?m) $$ H
  case m =>
    iintro ⟨Hd, Hs⟩
    isplitl [Hd]
    · iapply (pointsTo_rep_of_read (c : Thread nD τ) (slot s) _ fullShare (chunk c cH j) ?h) $$ Hd
      case h => exact View.read_writes_whole _ _ _
    · iexact Hs
theorem inv2_zero (VQ : S96x16384.Idx → F .fp8e4m3) (VW : S80x16384.Idx → F .bf16) (VS : S1x16384.Idx → F .f32) (TT : S128x128.Idx → F .f32) (C Y YS : S1152x128.Idx → F .f32) :
    iprop(vqP c VQ ∗ vwP c VW ∗ vsrP c VS ∗ ttP c TT ∗ csbP c C ∗ yfP c Y ∗ ysfP c YS ∗ (∃ W, wP c W) ∗ (∃ w, owes (c : Thread nD τ) 0 w)
      ∗ ((flyIn c cH 0 0 ∗ outCellP c 0 ∗ oAny c 0) ∗ (flyIn c cH 1 1 ∗ outCellP c 1 ∗ oAny c 1) ∗ (flyIn c cH 2 2 ∗ outCellP c 2 ∗ oAny c 2) ∗ (flyIn c cH 3 3 ∗ outCellP c 3 ∗ oAny c 3) ∗ (flyIn c cH 4 4 ∗ outCellP c 4 ∗ oAny c 4) ∗ (flyIn c cH 5 5 ∗ outCellP c 5 ∗ oAny c 5) ∗ (flyIn c cH 6 6 ∗ outCellP c 6 ∗ oAny c 6) ∗ (flyIn c cH 7 7 ∗ outCellP c 7 ∗ oAny c 7) ∗ (flyIn c cH 8 8 ∗ outCellP c 8 ∗ oAny c 8) ∗ (flyIn c cH 9 9 ∗ outCellP c 9 ∗ oAny c 9) ∗ bigSep R10 (stHome c cH)) ∗ bigSep Finset.univ (qAny (F := F) c) ∗ qSlotFree c 0 ∗ qSlotFree c 1)
      ⊢ (inv2 c cH VQ VW VS TT C Y YS 0 : sProp 𝕄) := by
  refine entails_of_eq ?_
  unfold inv2 qFree
  rw [split10 (chunkRes c cH VQ VW VS TT 0)]
  rw [bigSep_congr (s := R10) (Φ := chunkRes c cH VQ VW VS TT 0) (Ψ := stHome c cH) (fun j hj => cr_home c cH VQ VW VS TT (by have := R10_ge j hj; unfold outLo; omega) (by omega) (by have := R10_ge j hj; unfold inTop; omega))]
  rfl
theorem mixT_t1 {α : Type} {R : ℕ} (B : ℕ → (Sh R 128).Idx → α) (X : (Sh R 16384).Idx → α) :
    mixT (Scf.trips k0_t1_loop.lb k0_t1_loop.ub k0_t1_loop.st) B X = full B := by
  have e : Scf.trips k0_t1_loop.lb k0_t1_loop.ub k0_t1_loop.st = 32 := by decide +kernel
  rw [e]; exact mix_full B X

abbrev R8 : Finset (Fin 18) := ((((((((((Finset.univ.erase 8).erase 9).erase 10).erase 11).erase 12).erase 13).erase 14).erase 15).erase 16).erase 17)
theorem R8_lt : ∀ j ∈ R8, j.val < 8 := by decide
theorem split8 (f : Fin 18 → sProp 𝕄) : bigSep Finset.univ f = iprop(f 8 ∗ f 9 ∗ f 10 ∗ f 11 ∗ f 12 ∗ f 13 ∗ f 14 ∗ f 15 ∗ f 16 ∗ f 17 ∗ bigSep R8 f) := by
  rw [splitF f (S := Finset.univ) (a := 8) (by decide), splitF f (S := (Finset.univ.erase 8)) (a := 9) (by decide), splitF f (S := ((Finset.univ.erase 8).erase 9)) (a := 10) (by decide), splitF f (S := (((Finset.univ.erase 8).erase 9).erase 10)) (a := 11) (by decide), splitF f (S := ((((Finset.univ.erase 8).erase 9).erase 10).erase 11)) (a := 12) (by decide), splitF f (S := (((((Finset.univ.erase 8).erase 9).erase 10).erase 11).erase 12)) (a := 13) (by decide), splitF f (S := ((((((Finset.univ.erase 8).erase 9).erase 10).erase 11).erase 12).erase 13)) (a := 14) (by decide), splitF f (S := (((((((Finset.univ.erase 8).erase 9).erase 10).erase 11).erase 12).erase 13).erase 14)) (a := 15) (by decide), splitF f (S := ((((((((Finset.univ.erase 8).erase 9).erase 10).erase 11).erase 12).erase 13).erase 14).erase 15)) (a := 16) (by decide), splitF f (S := (((((((((Finset.univ.erase 8).erase 9).erase 10).erase 11).erase 12).erase 13).erase 14).erase 15).erase 16)) (a := 17) (by decide)]
abbrev R16 : Finset (Fin 18) := (Finset.univ.erase 16).erase 17
theorem R16_lt : ∀ j ∈ R16, j.val < 16 := by decide
theorem split16 (f : Fin 18 → sProp 𝕄) : bigSep Finset.univ f = iprop(f 16 ∗ f 17 ∗ bigSep R16 f) := by
  rw [splitF f (S := Finset.univ) (a := 16) (by decide), splitF f (S := Finset.univ.erase 16) (a := 17) (by decide)]

theorem qr_out_lit (s : Fin 2) (j : Fin 18) (h : s2 j.val = s) (h1 : ¬ j.val + 2 < 18) (h2 : j.val < 18) : qRes c cH 18 j = flyQ c s j (qJ c cH j) := by
  subst h; unfold qRes; rw [if_neg h1, if_pos h2]
theorem t2_trips : Scf.trips k0_t2_loop.lb k0_t2_loop.ub k0_t2_loop.st = 18 := by decide +kernel
theorem inv2_exit (VQ : S96x16384.Idx → F .fp8e4m3) (VW : S80x16384.Idx → F .bf16) (VS : S1x16384.Idx → F .f32) (TT : S128x128.Idx → F .f32) (C Y YS : S1152x128.Idx → F .f32) :
    (inv2 c cH VQ VW VS TT C Y YS (Scf.trips k0_t2_loop.lb k0_t2_loop.ub k0_t2_loop.st) : sProp 𝕄)
      ⊢ iprop(vqP c VQ ∗ vwP c VW ∗ vsrP c VS ∗ ttP c TT ∗ csbP c (csT c cH C 18) ∗ yfP c (yfT c cH VW TT Y 18) ∗ ysfP c (ysfT c cH VW TT YS 18)
        ∗ (∃ W, wP c W) ∗ (∃ w, owes (c : Thread nD τ) 0 w)
        ∗ bigSep R8 (stDone c cH VQ VW VS TT)
        ∗ flyOut c 8 8 (oJ c cH VQ VW VS TT 8) ∗ inCellP c 8 ∗ cblkP c cH 8 ∗ flyOut c 9 9 (oJ c cH VQ VW VS TT 9) ∗ inCellP c 9 ∗ cblkP c cH 9 ∗ flyOut c 0 10 (oJ c cH VQ VW VS TT 10) ∗ inCellP c 0 ∗ cblkP c cH 10 ∗ flyOut c 1 11 (oJ c cH VQ VW VS TT 11) ∗ inCellP c 1 ∗ cblkP c cH 11 ∗ flyOut c 2 12 (oJ c cH VQ VW VS TT 12) ∗ inCellP c 2 ∗ cblkP c cH 12 ∗ flyOut c 3 13 (oJ c cH VQ VW VS TT 13) ∗ inCellP c 3 ∗ cblkP c cH 13 ∗ flyOut c 4 14 (oJ c cH VQ VW VS TT 14) ∗ inCellP c 4 ∗ cblkP c cH 14 ∗ flyOut c 5 15 (oJ c cH VQ VW VS TT 15) ∗ inCellP c 5 ∗ cblkP c cH 15 ∗ flyOut c 6 16 (oJ c cH VQ VW VS TT 16) ∗ inCellP c 6 ∗ cblkP c cH 16 ∗ flyOut c 7 17 (oJ c cH VQ VW VS TT 17) ∗ inCellP c 7 ∗ cblkP c cH 17
        ∗ bigSep R16 (fun j => qblkP c j (qJ c cH j)) ∗ flyQ c 0 16 (qJ c cH 16) ∗ flyQ c 1 17 (qJ c cH 17) ∗ emp ∗ emp) := by
  rw [t2_trips]
  unfold inv2
  rw [split8 (chunkRes c cH VQ VW VS TT 18), split16 (qRes c cH 18),
    bigSep_congr (s := R8) (Φ := chunkRes c cH VQ VW VS TT 18) (Ψ := stDone c cH VQ VW VS TT) (fun j hj => cr_done c cH VQ VW VS TT (by have := R8_lt j hj; unfold outLo; omega)),
    bigSep_congr (s := R16) (Φ := qRes c cH 18) (Ψ := fun j => qblkP c j (qJ c cH j)) (fun j hj => by unfold qRes; rw [if_pos (by have := R16_lt j hj; omega)]),
    show qFree (F := F) c 18 = iprop(emp ∗ emp) by unfold qFree; rw [if_neg (by omega), if_neg (by omega)],
    cr_out c cH VQ VW VS TT (k := 18) (j := 8) (by unfold outLo; decide) (by decide), cr_out c cH VQ VW VS TT (k := 18) (j := 9) (by unfold outLo; decide) (by decide), cr_out c cH VQ VW VS TT (k := 18) (j := 10) (by unfold outLo; decide) (by decide), cr_out c cH VQ VW VS TT (k := 18) (j := 11) (by unfold outLo; decide) (by decide), cr_out c cH VQ VW VS TT (k := 18) (j := 12) (by unfold outLo; decide) (by decide), cr_out c cH VQ VW VS TT (k := 18) (j := 13) (by unfold outLo; decide) (by decide), cr_out c cH VQ VW VS TT (k := 18) (j := 14) (by unfold outLo; decide) (by decide), cr_out c cH VQ VW VS TT (k := 18) (j := 15) (by unfold outLo; decide) (by decide), cr_out c cH VQ VW VS TT (k := 18) (j := 16) (by unfold outLo; decide) (by decide), cr_out c cH VQ VW VS TT (k := 18) (j := 17) (by unfold outLo; decide) (by decide)]
  unfold stOut
  iintro ⟨H1, H2, H3, H4, H5, H6, H7, H8, H9, ⟨⟨Ho8, Hci8, Hcb8⟩, ⟨Ho9, Hci9, Hcb9⟩, ⟨Ho10, Hci10, Hcb10⟩, ⟨Ho11, Hci11, Hcb11⟩, ⟨Ho12, Hci12, Hcb12⟩, ⟨Ho13, Hci13, Hcb13⟩, ⟨Ho14, Hci14, Hcb14⟩, ⟨Ho15, Hci15, Hcb15⟩, ⟨Ho16, Hci16, Hcb16⟩, ⟨Ho17, Hci17, Hcb17⟩, Hd⟩, ⟨Hq16, Hq17, Hqd⟩, He, He'⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hd]; · iexact Hd
  isplitl [Ho8]; · iexact Ho8
  isplitl [Hci8]; · iexact Hci8
  isplitl [Hcb8]; · iexact Hcb8
  isplitl [Ho9]; · iexact Ho9
  isplitl [Hci9]; · iexact Hci9
  isplitl [Hcb9]; · iexact Hcb9
  isplitl [Ho10]; · iexact Ho10
  isplitl [Hci10]; · iexact Hci10
  isplitl [Hcb10]; · iexact Hcb10
  isplitl [Ho11]; · iexact Ho11
  isplitl [Hci11]; · iexact Hci11
  isplitl [Hcb11]; · iexact Hcb11
  isplitl [Ho12]; · iexact Ho12
  isplitl [Hci12]; · iexact Hci12
  isplitl [Hcb12]; · iexact Hcb12
  isplitl [Ho13]; · iexact Ho13
  isplitl [Hci13]; · iexact Hci13
  isplitl [Hcb13]; · iexact Hcb13
  isplitl [Ho14]; · iexact Ho14
  isplitl [Hci14]; · iexact Hci14
  isplitl [Hcb14]; · iexact Hcb14
  isplitl [Ho15]; · iexact Ho15
  isplitl [Hci15]; · iexact Hci15
  isplitl [Hcb15]; · iexact Hcb15
  isplitl [Ho16]; · iexact Ho16
  isplitl [Hci16]; · iexact Hci16
  isplitl [Hcb16]; · iexact Hcb16
  isplitl [Ho17]; · iexact Ho17
  isplitl [Hci17]; · iexact Hci17
  isplitl [Hcb17]; · iexact Hcb17
  isplitl [Hqd]; · iexact Hqd
  isplitl [Hq16]; · iapply (entails_of_eq (qr_out_lit c cH 0 16 rfl (by decide) (by decide))) $$ Hq16
  isplitl [Hq17]; · iapply (entails_of_eq (qr_out_lit c cH 1 17 rfl (by decide) (by decide))) $$ Hq17
  isplitl [He]; · iexact He
  iexact He'

end Body

end Cert.KernelIdeal.Hand

end
-- ==== Proof.IPost.lean ====
/-
  What the launch hands the body and what it is handed back.
-/
module

public import proofs.«01_k».proof.Proof.IPre

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

section Body
variable (c : Dev nD) (vH : Buf (Elt F) (vtM.view.loc (c : Thread nD τ))) (tH : Buf (Elt F) (tM.view.loc (c : Thread nD τ))) (cH : Buf (Elt F) (cM.view.loc (c : Thread nD τ)))

theorem big10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ
theorem big2 (Φ : Fin 2 → sProp 𝕄) : bigSep Finset.univ Φ = iprop(Φ 0 ∗ Φ 1) :=
  bigSep_univ_eq_bigSepL [(0 : Fin 2), 1] (by decide) (by decide) Φ

/-- The arguments' arrays, -/
def ARGS_ : sProp 𝕄 := iprop((((c : Thread nD τ).loc main_v1) ↦{fullShare} vH) ∗ (((c : Thread nD τ).loc main_v2) ↦{fullShare} tH) ∗ (((c : Thread nD τ).loc main_v3) ↦{fullShare} cH))
/-- the results' arrays at anything, -/
def OUTS_ : sProp 𝕄 := iprop((∃ f : Buf (Elt F) ((c : Thread nD τ).loc main_v4_0), ((c : Thread nD τ).loc main_v4_0) ↦{fullShare} f) ∗ (∃ f : Buf (Elt F) ((c : Thread nD τ).loc main_v4_1), ((c : Thread nD τ).loc main_v4_1) ↦{fullShare} f) ∗ (∃ f : Buf (Elt F) ((c : Thread nD τ).loc main_v4_2), ((c : Thread nD τ).loc main_v4_2) ↦{fullShare} f) ∗ (∃ f : Buf (Elt F) ((c : Thread nD τ).loc main_v4_3), ((c : Thread nD τ).loc main_v4_3) ↦{fullShare} f) ∗ (∃ f : Buf (Elt F) ((c : Thread nD τ).loc main_v4_4), ((c : Thread nD τ).loc main_v4_4) ↦{fullShare} f) ∗ (∃ f : Buf (Elt F) ((c : Thread nD τ).loc main_v4_5), ((c : Thread nD τ).loc main_v4_5) ↦{fullShare} f) ∗ (∃ f : Buf (Elt F) ((c : Thread nD τ).loc main_v4_6), ((c : Thread nD τ).loc main_v4_6) ↦{fullShare} f))
/-- the scratch buffers at anything, -/
def SCR_ : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f) ∗ (∃ f : Buf (Elt F) ((c : Thread nD τ).loc cc0_scratch14), ((c : Thread nD τ).loc cc0_scratch14) ↦{fullShare} f) ∗ (∃ f : Buf (Elt F) ((c : Thread nD τ).loc cc0_scratch15), ((c : Thread nD τ).loc cc0_scratch15) ↦{fullShare} f))
/-- the kernel's counters at zero. -/
def CELLS_ : sProp 𝕄 := iprop(aCellP c 0 ∗ aCellP c 1 ∗ aCellP c 2 ∗ aCellP c 3 ∗ inCellP c 0 ∗ inCellP c 1 ∗ inCellP c 2 ∗ inCellP c 3 ∗ inCellP c 4 ∗ inCellP c 5 ∗ inCellP c 6 ∗ inCellP c 7 ∗ inCellP c 8 ∗ inCellP c 9 ∗ outCellP c 0 ∗ outCellP c 1 ∗ outCellP c 2 ∗ outCellP c 3 ∗ outCellP c 4 ∗ outCellP c 5 ∗ outCellP c 6 ∗ outCellP c 7 ∗ outCellP c 8 ∗ outCellP c 9 ∗ qCellP c 0 ∗ qCellP c 1 ∗ mCellP c 0 ∗ mCellP c 1 ∗ mCellP c 2 ∗ mCellP c 3 ∗ mCellP c 4 ∗ mCellP c 5 ∗ mCellP c 6 ∗ mCellP c 7)

/-- What the launch hands the body. -/
def PREW : sProp 𝕄 := iprop(ARGS_ c vH tH cH ∗ OUTS_ (F := F) c ∗ SCR_ (F := F) c ∗ CELLS_ (F := F) c ∗ (∃ w, owes (c : Thread nD τ) 0 w))

theorem pre_give : (PREW c vH tH cH : sProp 𝕄) ⊢ PRE c vH tH cH := by
  unfold PREW PRE ARGS_ OUTS_ SCR_ CELLS_ stHome qSlotFree
  iintro ⟨⟨Hv, Ht, Hc⟩, ⟨Hout, Hvqt, Hvs, Hcq, Hcs, Hyqt, Hys⟩, ⟨Hcbuf, Hat, Hvq, Hvqo, Hvw, Hqbuf, Hcsb, Hyf, Hysf, Hyqb, Hysb, Hvsr, Hvsv, Hw, Htt, Hto⟩, ⟨Hac0, Hac1, Hac2, Hac3, Hic0, Hic1, Hic2, Hic3, Hic4, Hic5, Hic6, Hic7, Hic8, Hic9, Hoc0, Hoc1, Hoc2, Hoc3, Hoc4, Hoc5, Hoc6, Hoc7, Hoc8, Hoc9, Hqc0, Hqc1, Hm0, Hm1, Hm2, Hm3, Hm4, Hm5, Hm6, Hm7⟩, HO⟩
  ihave Hv4 := (entails_of_eq ((vcol_blocks c vH).trans (big4 _))) $$ Hv
  icases Hv4 with ⟨Hv0, Hv1, Hv2, Hv3⟩
  ihave Ha4 := ((acol_give c).trans (entails_of_eq (big4 _))) $$ Hat
  icases Ha4 with ⟨Ha0, Ha1, Ha2, Ha3⟩
  ihave Hs := ((slot_give c).trans (entails_of_eq (big10 _))) $$ Hcbuf
  icases Hs with ⟨Hs0, Hs1, Hs2, Hs3, Hs4, Hs5, Hs6, Hs7, Hs8, Hs9⟩
  ihave Hq := ((qslot_give c).trans (entails_of_eq (big2 _))) $$ Hqbuf
  icases Hq with ⟨⟨%fq0, Hq0⟩, ⟨%fq1, Hq1⟩⟩
  ihave Hcb := (entails_of_eq (cblk_blocks c cH)) $$ Hc
  ihave Hob := (oblk_give c) $$ Hout
  ihave Hqb := (qblk_give c) $$ Hcq
  isplitl [Hv0]; · iexact Hv0
  isplitl [Ha0]; · iexact Ha0
  isplitl [Hac0]; · iexact Hac0
  isplitl [Hv1]; · iexact Hv1
  isplitl [Ha1]; · iexact Ha1
  isplitl [Hac1]; · iexact Hac1
  isplitl [Hv2]; · iexact Hv2
  isplitl [Ha2]; · iexact Ha2
  isplitl [Hac2]; · iexact Hac2
  isplitl [Hv3]; · iexact Hv3
  isplitl [Ha3]; · iexact Ha3
  isplitl [Hac3]; · iexact Hac3
  isplitl [Ht]; · iexact Ht
  isplitl [Hto]; · iexact Hto
  isplitl [Hvq]; · iexact Hvq
  isplitl [Hvqo]; · iexact Hvqo
  isplitl [Hvw]; · iexact Hvw
  isplitl [Hvsr]; · iexact Hvsr
  isplitl [Hvsv]; · iexact Hvsv
  isplitl [Hw]; · iexact Hw
  isplitl [Htt]; · iexact Htt
  isplitl [Hcsb]; · iexact Hcsb
  isplitl [Hyf]; · iexact Hyf
  isplitl [Hysf]; · iexact Hysf
  isplitl [Hyqb]; · iexact Hyqb
  isplitl [Hysb]; · iexact Hysb
  isplitl [Hvqt]; · iexact Hvqt
  isplitl [Hvs]; · iexact Hvs
  isplitl [Hcs]; · iexact Hcs
  isplitl [Hyqt]; · iexact Hyqt
  isplitl [Hys]; · iexact Hys
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hic0]; · iexact Hic0
  isplitl [Hoc0]; · iexact Hoc0
  isplitl [Hic1]; · iexact Hic1
  isplitl [Hoc1]; · iexact Hoc1
  isplitl [Hic2]; · iexact Hic2
  isplitl [Hoc2]; · iexact Hoc2
  isplitl [Hic3]; · iexact Hic3
  isplitl [Hoc3]; · iexact Hoc3
  isplitl [Hic4]; · iexact Hic4
  isplitl [Hoc4]; · iexact Hoc4
  isplitl [Hic5]; · iexact Hic5
  isplitl [Hoc5]; · iexact Hoc5
  isplitl [Hic6]; · iexact Hic6
  isplitl [Hoc6]; · iexact Hoc6
  isplitl [Hic7]; · iexact Hic7
  isplitl [Hoc7]; · iexact Hoc7
  isplitl [Hic8]; · iexact Hic8
  isplitl [Hoc8]; · iexact Hoc8
  isplitl [Hic9]; · iexact Hic9
  isplitl [Hoc9]; · iexact Hoc9
  isplitl [Hcb Hob]
  · iapply (entails_of_eq (bigSep_sep' Finset.univ (fun j => cblkP c cH j) (oAny (F := F) c)).symm)
    isplitl [Hcb]; · iexact Hcb
    iexact Hob
  isplitl [Hqb]; · iexact Hqb
  isplitl [Hq0 Hqc0]
  · isplitl [Hq0]
    · iexists ((qslot 0).view.read (Elt F) fq0)
      iapply (pointsTo_rep_entails (c : Thread nD τ) (qslot 0) fq0 fullShare) $$ Hq0
    iexact Hqc0
  isplitl [Hq1 Hqc1]
  · isplitl [Hq1]
    · iexists ((qslot 1).view.read (Elt F) fq1)
      iapply (pointsTo_rep_entails (c : Thread nD τ) (qslot 1) fq1 fullShare) $$ Hq1
    iexact Hqc1
  iexact HO

/-- The lane blocks below `n` put from `B`. -/
def colPut {α : Type} {R : ℕ} (B : ℕ → (Sh R 128).Idx → α) (X : (Sh R 1152).Idx → α) : ℕ → (Sh R 1152).Idx → α
  | 0 => X
  | n + 1 => VecWindow.put (colPut B X n) ![0, 128 * n] (Sh R 128).size (B n)
/-- Rows `128 n` on. -/
def rblk {α : Type} (X : S1152x128.Idx → α) (n : ℕ) : S128x128.Idx → α :=
  fun y => X (ix2 ⟨(128 * n + (y 0).val) % 1152, Nat.mod_lt _ (by decide)⟩ (y 1))
theorem rblk_load (m : Memref sig .tc .vmem S1152x128 .f32) (X : S1152x128.Idx → F .f32) (n : ℕ) (hn : n < 9) (off : Fin 2 → ℕ) (h : off = ![128 * n, 0]) (inb) :
    m.view.readAt (Elt F) (Rect.unit (s := S1152x128) off S128x128.size inb).toLoadRect (m.view.rep X) = rblk X n := by
  subst h
  refine (View.readAt_rep_unit (Val := Elt F) m.view X inb rfl inb).trans ?_
  funext y
  unfold VecWindow.window rblk
  refine congrArg X ?_
  have hy : (y 0).val < 128 := (y 0).isLt
  funext a
  match a with
  | 0 => refine Fin.ext ?_; show 128 * n + 1 * (y 0).val = (128 * n + (y 0).val) % 1152; omega
  | 1 => refine Fin.ext ?_; show 0 + 1 * (y 1).val = (y 1).val; omega

abbrev VQ_ : S96x16384.Idx → F .fp8e4m3 := full (fun n => qV96 (blk 128 (vtM.view.read (Elt F) vH) n))
abbrev VW_ : S80x16384.Idx → F .bf16 := full (fun n => dqV (blk 128 (vtM.view.read (Elt F) vH) n))
abbrev VS_ : S1x16384.Idx → F .f32 := full (fun n => scV (blk 128 (vtM.view.read (Elt F) vH) n))
abbrev TT_ : S128x128.Idx → F .f32 := k0_pay105 (tM.view.read (Elt F) tH)

/-- What the seven results hold. -/
structure Facts (g0 : Buf (Elt F) ((c : Thread nD τ).loc main_v4_0)) (g1 : Buf (Elt F) ((c : Thread nD τ).loc main_v4_1)) (g2 : Buf (Elt F) ((c : Thread nD τ).loc main_v4_2)) (g3 : Buf (Elt F) ((c : Thread nD τ).loc main_v4_3)) (g4 : Buf (Elt F) ((c : Thread nD τ).loc main_v4_4)) (g5 : Buf (Elt F) ((c : Thread nD τ).loc main_v4_5)) (g6 : Buf (Elt F) ((c : Thread nD τ).loc main_v4_6)) : Prop where
  h0 : ∀ j, (oblk j).view.read (Elt F) g0 = oJ c cH (VQ_ c vH) (VW_ c vH) (VS_ c vH) (TT_ c tH) j
  h1 : vqtM.view.read (Elt F) g1 = full (fun n => qV72 (blk 128 (vtM.view.read (Elt F) vH) n))
  h2 : vsM.view.read (Elt F) g2 = k0_pay104 (vsN (iota .tc S1x128 32 [1] iota_S1x128_d1_w32) (vtM.view.read (Elt F) vH) k0_pay97 32)
  h3 : ∀ j, (qblk j).view.read (Elt F) g3 = qJ c cH j
  h4 : ∃ C, csM.view.read (Elt F) g4 = csT c cH C 18
  h5 : ∃ Y Z, yqtM.view.read (Elt F) g5 = colPut (fun n => k0_pay111 (rblk (yfT c cH (VW_ c vH) (TT_ c tH) Y 18) n)) Z 9
  h6 : ∃ Y Z, ysM.view.read (Elt F) g6 = colPut (fun n => k0_pay110 (rblk (ysfT c cH (VW_ c vH) (TT_ c tH) Y 18) n)) Z 9
theorem t1_trips : Scf.trips k0_t1_loop.lb k0_t1_loop.ub k0_t1_loop.st = 32 := by decide +kernel
theorem yqb_step (f : Buf (Elt F) (yqbM.view.loc (c : Thread nD τ))) (B : ℕ → S72x128.Idx → F .fp8e4m3) (X : S72x1152.Idx → F .fp8e4m3) (n : ℕ) (off : Fin 2 → ℕ) (h : off = ![0, 128 * n]) (inb)
    (w : S72x128.Idx → F .fp8e4m3) (L) (hw : w = B n) (hL : yqbM.view.read (Elt F) (yqbM.view.writes (Elt F) f L) = colPut B X n) :
    yqbM.view.read (Elt F) (yqbM.view.writes (Elt F) f (⟨Rect.unit (s := S72x1152) off S72x128.size inb, w⟩ :: L)) = colPut B X (n + 1) := by
  subst hw
  refine (View.read_writes_cons_put yqbM.view f inb (B n) L h).trans ?_
  rw [hL]
  rfl
/-- The nine stores, read. -/
theorem yqb_cols (B : ℕ → S72x128.Idx → F .fp8e4m3) (f : Buf (Elt F) (yqbM.view.loc (c : Thread nD τ))) (w0 w1 w2 w3 w4 w5 w6 w7 w8 : S72x128.Idx → F .fp8e4m3)
    (h8 : w8 = B 8) (h7 : w7 = B 7) (h6 : w6 = B 6) (h5 : w5 = B 5) (h4 : w4 = B 4) (h3 : w3 = B 3) (h2 : w2 = B 2) (h1 : w1 = B 1) (h0 : w0 = B 0) :
    yqbM.view.read (Elt F) (yqbM.view.writes (Elt F) f [⟨Rect.unit (s := S72x1152) ![0, 1024] S72x128.size inb_S72x1152_S72x128_0_1024, w8⟩, ⟨Rect.unit (s := S72x1152) ![0, 896] S72x128.size inb_S72x1152_S72x128_0_896, w7⟩, ⟨Rect.unit (s := S72x1152) ![0, 768] S72x128.size inb_S72x1152_S72x128_0_768, w6⟩, ⟨Rect.unit (s := S72x1152) ![0, 640] S72x128.size inb_S72x1152_S72x128_0_640, w5⟩, ⟨Rect.unit (s := S72x1152) ![0, 512] S72x128.size inb_S72x1152_S72x128_0_512, w4⟩, ⟨Rect.unit (s := S72x1152) ![0, 384] S72x128.size inb_S72x1152_S72x128_0_384, w3⟩, ⟨Rect.unit (s := S72x1152) ![0, 256] S72x128.size inb_S72x1152_S72x128_0_256, w2⟩, ⟨Rect.unit (s := S72x1152) ![0, 128] S72x128.size inb_S72x1152_S72x128_0_128, w1⟩, ⟨Rect.unit (s := S72x1152) ![0, 0] S72x128.size inb_S72x1152_S72x128_0_0, w0⟩]) = colPut B (yqbM.view.read (Elt F) f) 9 := by
  exact yqb_step c f B _ 8 _ rfl _ _ _ h8 (yqb_step c f B _ 7 _ rfl _ _ _ h7 (yqb_step c f B _ 6 _ rfl _ _ _ h6 (yqb_step c f B _ 5 _ rfl _ _ _ h5 (yqb_step c f B _ 4 _ rfl _ _ _ h4 (yqb_step c f B _ 3 _ rfl _ _ _ h3 (yqb_step c f B _ 2 _ rfl _ _ _ h2 (yqb_step c f B _ 1 _ rfl _ _ _ h1 (yqb_step c f B _ 0 _ rfl _ _ _ h0 (rfl)))))))))
theorem ysb_step (f : Buf (Elt F) (ysbM.view.loc (c : Thread nD τ))) (B : ℕ → S1x128.Idx → F .f32) (X : S1x1152.Idx → F .f32) (n : ℕ) (off : Fin 2 → ℕ) (h : off = ![0, 128 * n]) (inb)
    (w : S1x128.Idx → F .f32) (L) (hw : w = B n) (hL : ysbM.view.read (Elt F) (ysbM.view.writes (Elt F) f L) = colPut B X n) :
    ysbM.view.read (Elt F) (ysbM.view.writes (Elt F) f (⟨Rect.unit (s := S1x1152) off S1x128.size inb, w⟩ :: L)) = colPut B X (n + 1) := by
  subst hw
  refine (View.read_writes_cons_put ysbM.view f inb (B n) L h).trans ?_
  rw [hL]
  rfl
/-- The nine stores, read. -/
theorem ysb_cols (B : ℕ → S1x128.Idx → F .f32) (f : Buf (Elt F) (ysbM.view.loc (c : Thread nD τ))) (w0 w1 w2 w3 w4 w5 w6 w7 w8 : S1x128.Idx → F .f32)
    (h8 : w8 = B 8) (h7 : w7 = B 7) (h6 : w6 = B 6) (h5 : w5 = B 5) (h4 : w4 = B 4) (h3 : w3 = B 3) (h2 : w2 = B 2) (h1 : w1 = B 1) (h0 : w0 = B 0) :
    ysbM.view.read (Elt F) (ysbM.view.writes (Elt F) f [⟨Rect.unit (s := S1x1152) ![0, 1024] S1x128.size inb_S1x1152_S1x128_0_1024, w8⟩, ⟨Rect.unit (s := S1x1152) ![0, 896] S1x128.size inb_S1x1152_S1x128_0_896, w7⟩, ⟨Rect.unit (s := S1x1152) ![0, 768] S1x128.size inb_S1x1152_S1x128_0_768, w6⟩, ⟨Rect.unit (s := S1x1152) ![0, 640] S1x128.size inb_S1x1152_S1x128_0_640, w5⟩, ⟨Rect.unit (s := S1x1152) ![0, 512] S1x128.size inb_S1x1152_S1x128_0_512, w4⟩, ⟨Rect.unit (s := S1x1152) ![0, 384] S1x128.size inb_S1x1152_S1x128_0_384, w3⟩, ⟨Rect.unit (s := S1x1152) ![0, 256] S1x128.size inb_S1x1152_S1x128_0_256, w2⟩, ⟨Rect.unit (s := S1x1152) ![0, 128] S1x128.size inb_S1x1152_S1x128_0_128, w1⟩, ⟨Rect.unit (s := S1x1152) ![0, 0] S1x128.size inb_S1x1152_S1x128_0_0, w0⟩]) = colPut B (ysbM.view.read (Elt F) f) 9 := by
  exact ysb_step c f B _ 8 _ rfl _ _ _ h8 (ysb_step c f B _ 7 _ rfl _ _ _ h7 (ysb_step c f B _ 6 _ rfl _ _ _ h6 (ysb_step c f B _ 5 _ rfl _ _ _ h5 (ysb_step c f B _ 4 _ rfl _ _ _ h4 (ysb_step c f B _ 3 _ rfl _ _ _ h3 (ysb_step c f B _ 2 _ rfl _ _ _ h2 (ysb_step c f B _ 1 _ rfl _ _ _ h1 (ysb_step c f B _ 0 _ rfl _ _ _ h0 (rfl)))))))))

/-- What the body hands back. -/
def POSTW : sProp 𝕄 :=
  iprop(∃ (g0 : Buf (Elt F) ((c : Thread nD τ).loc main_v4_0)) (g1 : Buf (Elt F) ((c : Thread nD τ).loc main_v4_1)) (g2 : Buf (Elt F) ((c : Thread nD τ).loc main_v4_2)) (g3 : Buf (Elt F) ((c : Thread nD τ).loc main_v4_3)) (g4 : Buf (Elt F) ((c : Thread nD τ).loc main_v4_4)) (g5 : Buf (Elt F) ((c : Thread nD τ).loc main_v4_5)) (g6 : Buf (Elt F) ((c : Thread nD τ).loc main_v4_6)), ⌜Facts c vH tH cH g0 g1 g2 g3 g4 g5 g6⌝ ∗ ARGS_ c vH tH cH
    ∗ ((((c : Thread nD τ).loc main_v4_0) ↦{fullShare} g0) ∗ (((c : Thread nD τ).loc main_v4_1) ↦{fullShare} g1) ∗ (((c : Thread nD τ).loc main_v4_2) ↦{fullShare} g2) ∗ (((c : Thread nD τ).loc main_v4_3) ↦{fullShare} g3) ∗ (((c : Thread nD τ).loc main_v4_4) ↦{fullShare} g4) ∗ (((c : Thread nD τ).loc main_v4_5) ↦{fullShare} g5) ∗ (((c : Thread nD τ).loc main_v4_6) ↦{fullShare} g6)) ∗ SCR_ (F := F) c ∗ CELLS_ (F := F) c ∗ (∃ w, owes (c : Thread nD τ) 0 w))

/-- The same, piece by piece as the run leaves it. -/
def POST (g1 : Buf (Elt F) ((c : Thread nD τ).loc main_v4_1)) (g2 : Buf (Elt F) ((c : Thread nD τ).loc main_v4_2)) (g4 : Buf (Elt F) ((c : Thread nD τ).loc main_v4_4)) (g5 : Buf (Elt F) ((c : Thread nD τ).loc main_v4_5)) (g6 : Buf (Elt F) ((c : Thread nD τ).loc main_v4_6)) : sProp 𝕄 :=
  iprop(vcolP c vH 0 ∗ vcolP c vH 1 ∗ vcolP c vH 2 ∗ vcolP c vH 3 ∗ (tM.view.loc (c : Thread nD τ) ↦{fullShare} tH) ∗ bigSep R8 (stDone c cH (VQ_ c vH) (VW_ c vH) (VS_ c vH) (TT_ c tH)) ∗ cblkP c cH 8 ∗ oblkP c 8 (oJ c cH (VQ_ c vH) (VW_ c vH) (VS_ c vH) (TT_ c tH) 8) ∗ cblkP c cH 9 ∗ oblkP c 9 (oJ c cH (VQ_ c vH) (VW_ c vH) (VS_ c vH) (TT_ c tH) 9) ∗ cblkP c cH 10 ∗ oblkP c 10 (oJ c cH (VQ_ c vH) (VW_ c vH) (VS_ c vH) (TT_ c tH) 10) ∗ cblkP c cH 11 ∗ oblkP c 11 (oJ c cH (VQ_ c vH) (VW_ c vH) (VS_ c vH) (TT_ c tH) 11) ∗ cblkP c cH 12 ∗ oblkP c 12 (oJ c cH (VQ_ c vH) (VW_ c vH) (VS_ c vH) (TT_ c tH) 12) ∗ cblkP c cH 13 ∗ oblkP c 13 (oJ c cH (VQ_ c vH) (VW_ c vH) (VS_ c vH) (TT_ c tH) 13) ∗ cblkP c cH 14 ∗ oblkP c 14 (oJ c cH (VQ_ c vH) (VW_ c vH) (VS_ c vH) (TT_ c tH) 14) ∗ cblkP c cH 15 ∗ oblkP c 15 (oJ c cH (VQ_ c vH) (VW_ c vH) (VS_ c vH) (TT_ c tH) 15) ∗ cblkP c cH 16 ∗ oblkP c 16 (oJ c cH (VQ_ c vH) (VW_ c vH) (VS_ c vH) (TT_ c tH) 16) ∗ cblkP c cH 17 ∗ oblkP c 17 (oJ c cH (VQ_ c vH) (VW_ c vH) (VS_ c vH) (TT_ c tH) 17) ∗ bigSep R16 (fun j => qblkP c j (qJ c cH j)) ∗ qblkP c 16 (qJ c cH 16) ∗ qblkP c 17 (qJ c cH 17) ∗ (((c : Thread nD τ).loc main_v4_1) ↦{fullShare} g1) ∗ (((c : Thread nD τ).loc main_v4_2) ↦{fullShare} g2) ∗ (((c : Thread nD τ).loc main_v4_4) ↦{fullShare} g4) ∗ (((c : Thread nD τ).loc main_v4_5) ↦{fullShare} g5) ∗ (((c : Thread nD τ).loc main_v4_6) ↦{fullShare} g6) ∗ anyP c (slot 0) ∗ anyP c (slot 1) ∗ anyP c (slot 2) ∗ anyP c (slot 3) ∗ anyP c (slot 4) ∗ anyP c (slot 5) ∗ anyP c (slot 6) ∗ anyP c (slot 7) ∗ anyP c (slot 8) ∗ anyP c (slot 9) ∗ anyP c (qslot 0) ∗ anyP c (qslot 1) ∗ anyW c atM ∗ anyW c vqM ∗ anyW c vqoM ∗ anyW c vwM ∗ anyW c csbM ∗ anyW c yfM ∗ anyW c ysfM ∗ anyW c yqbM ∗ anyW c ysbM ∗ anyW c vsrM ∗ anyW c vsvM ∗ anyW c wM ∗ anyW c ttM ∗ anyW c toM ∗ aCellP c 0 ∗ aCellP c 1 ∗ aCellP c 2 ∗ aCellP c 3 ∗ inCellP c 0 ∗ inCellP c 1 ∗ inCellP c 2 ∗ inCellP c 3 ∗ inCellP c 4 ∗ inCellP c 5 ∗ inCellP c 6 ∗ inCellP c 7 ∗ inCellP c 8 ∗ inCellP c 9 ∗ outCellP c 0 ∗ outCellP c 1 ∗ outCellP c 2 ∗ outCellP c 3 ∗ outCellP c 4 ∗ outCellP c 5 ∗ outCellP c 6 ∗ outCellP c 7 ∗ outCellP c 8 ∗ outCellP c 9 ∗ qCellP c 0 ∗ qCellP c 1 ∗ mCellP c 0 ∗ mCellP c 1 ∗ mCellP c 2 ∗ mCellP c 3 ∗ mCellP c 4 ∗ mCellP c 5 ∗ mCellP c 6 ∗ mCellP c 7 ∗ (∃ w, owes (c : Thread nD τ) 0 w))

theorem oblk_read (g X : Buf (Elt F) ((c : Thread nD τ).loc main_v4_0)) (b : Fin 18) (h : ∀ i ∈ oblkG b, g i = X i) : (oblk b).view.read (Elt F) g = (oblk b).view.read (Elt F) X :=
  View.read_congr (fun i hi => h i ((congrArg (fun S => i ∈ S) (oblk_set b)).mp hi))
theorem qblk_read (g X : Buf (Elt F) ((c : Thread nD τ).loc main_v4_3)) (b : Fin 18) (h : ∀ i ∈ qblkG b, g i = X i) : (qblk b).view.read (Elt F) g = (qblk b).view.read (Elt F) X :=
  View.read_congr (fun i hi => h i ((congrArg (fun S => i ∈ S) (qblk_set b)).mp hi))

theorem bigSep_eta : bigSep Finset.univ (stDone c cH (VQ_ c vH) (VW_ c vH) (VS_ c vH) (TT_ c tH))
    = (bigSep Finset.univ (fun j => iprop(cblkP c cH j ∗ oblkP c j (oJ c cH (VQ_ c vH) (VW_ c vH) (VS_ c vH) (TT_ c tH) j))) : sProp 𝕄) := rfl
theorem post_take (g1 : Buf (Elt F) ((c : Thread nD τ).loc main_v4_1)) (g2 : Buf (Elt F) ((c : Thread nD τ).loc main_v4_2)) (g4 : Buf (Elt F) ((c : Thread nD τ).loc main_v4_4)) (g5 : Buf (Elt F) ((c : Thread nD τ).loc main_v4_5)) (g6 : Buf (Elt F) ((c : Thread nD τ).loc main_v4_6))
    (h1 : vqtM.view.read (Elt F) g1 = full (fun n => qV72 (blk 128 (vtM.view.read (Elt F) vH) n)))
    (h2 : vsM.view.read (Elt F) g2 = k0_pay104 (vsN (iota .tc S1x128 32 [1] iota_S1x128_d1_w32) (vtM.view.read (Elt F) vH) k0_pay97 32))
    (h4 : ∃ C, csM.view.read (Elt F) g4 = csT c cH C 18)
    (h5 : ∃ Y Z, yqtM.view.read (Elt F) g5 = colPut (fun n => k0_pay111 (rblk (yfT c cH (VW_ c vH) (TT_ c tH) Y 18) n)) Z 9)
    (h6 : ∃ Y Z, ysM.view.read (Elt F) g6 = colPut (fun n => k0_pay110 (rblk (ysfT c cH (VW_ c vH) (TT_ c tH) Y 18) n)) Z 9) :
    (POST c vH tH cH g1 g2 g4 g5 g6 : sProp 𝕄) ⊢ POSTW c vH tH cH := by
  unfold POST POSTW ARGS_ SCR_ CELLS_
  iintro ⟨Hv0, Hv1, Hv2, Hv3, Ht, Hdone, Hcb8, Hob8, Hcb9, Hob9, Hcb10, Hob10, Hcb11, Hob11, Hcb12, Hob12, Hcb13, Hob13, Hcb14, Hob14, Hcb15, Hob15, Hcb16, Hob16, Hcb17, Hob17, Hqd, Hqb16, Hqb17, Hg1, Hg2, Hg4, Hg5, Hg6, Hs0, Hs1, Hs2, Hs3, Hs4, Hs5, Hs6, Hs7, Hs8, Hs9, Hq0, Hq1, Hat, Hvq, Hvqo, Hvw, Hcsb, Hyf, Hysf, Hyqb, Hysb, Hvsr, Hvsv, Hw, Htt, Hto, Hac0, Hac1, Hac2, Hac3, Hic0, Hic1, Hic2, Hic3, Hic4, Hic5, Hic6, Hic7, Hic8, Hic9, Hoc0, Hoc1, Hoc2, Hoc3, Hoc4, Hoc5, Hoc6, Hoc7, Hoc8, Hoc9, Hqc0, Hqc1, Hm0, Hm1, Hm2, Hm3, Hm4, Hm5, Hm6, Hm7, HO⟩
  ihave Hst := (entails_of_eq ((split8 (stDone c cH (VQ_ c vH) (VW_ c vH) (VS_ c vH) (TT_ c tH))).symm.trans (bigSep_eta c vH tH cH))) $$ [Hcb8 Hob8 Hcb9 Hob9 Hcb10 Hob10 Hcb11 Hob11 Hcb12 Hob12 Hcb13 Hob13 Hcb14 Hob14 Hcb15 Hob15 Hcb16 Hob16 Hcb17 Hob17 Hdone]
  · unfold stDone
    isplitl [Hcb8 Hob8]
    · isplitl [Hcb8]; · iexact Hcb8
      iexact Hob8
    isplitl [Hcb9 Hob9]
    · isplitl [Hcb9]; · iexact Hcb9
      iexact Hob9
    isplitl [Hcb10 Hob10]
    · isplitl [Hcb10]; · iexact Hcb10
      iexact Hob10
    isplitl [Hcb11 Hob11]
    · isplitl [Hcb11]; · iexact Hcb11
      iexact Hob11
    isplitl [Hcb12 Hob12]
    · isplitl [Hcb12]; · iexact Hcb12
      iexact Hob12
    isplitl [Hcb13 Hob13]
    · isplitl [Hcb13]; · iexact Hcb13
      iexact Hob13
    isplitl [Hcb14 Hob14]
    · isplitl [Hcb14]; · iexact Hcb14
      iexact Hob14
    isplitl [Hcb15 Hob15]
    · isplitl [Hcb15]; · iexact Hcb15
      iexact Hob15
    isplitl [Hcb16 Hob16]
    · isplitl [Hcb16]; · iexact Hcb16
      iexact Hob16
    isplitl [Hcb17 Hob17]
    · isplitl [Hcb17]; · iexact Hcb17
      iexact Hob17
    iexact Hdone
  ihave Hqq := (entails_of_eq (split16 (fun j => qblkP c j (qJ c cH j))).symm) $$ [Hqb16 Hqb17 Hqd]
  · isplitl [Hqb16]; · iexact Hqb16
    isplitl [Hqb17]; · iexact Hqb17
    iexact Hqd
  ihave Hst2 := (entails_of_eq (bigSep_sep' Finset.univ (fun j => cblkP c cH j) (fun j => oblkP c j (oJ c cH (VQ_ c vH) (VW_ c vH) (VS_ c vH) (TT_ c tH) j)))) $$ Hst
  icases Hst2 with ⟨Hcb, Hob⟩
  ihave Hc := (entails_of_eq (cblk_blocks c cH).symm) $$ Hcb
  ihave Hg := (oblk_join c (fun j => (oblk j).view.rep (oJ c cH (VQ_ c vH) (VW_ c vH) (VS_ c vH) (TT_ c tH) j))) $$ Hob
  icases Hg with ⟨%g0, %hg0, Hg0⟩
  ihave Hg := (qblk_join c (fun j => (qblk j).view.rep (qJ c cH j))) $$ Hqq
  icases Hg with ⟨%g3, %hg3, Hg3⟩
  ihave Hv := (entails_of_eq ((vcol_blocks c vH).trans (big4 _)).symm) $$ [Hv0 Hv1 Hv2 Hv3]
  · isplitl [Hv0]; · iexact Hv0
    isplitl [Hv1]; · iexact Hv1
    isplitl [Hv2]; · iexact Hv2
    iexact Hv3
  ihave Hs := ((entails_of_eq (big10 (slotAny (F := F) c)).symm).trans (slot_any c)) $$ [Hs0 Hs1 Hs2 Hs3 Hs4 Hs5 Hs6 Hs7 Hs8 Hs9]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hs9
  ihave Hq := ((entails_of_eq (big2 (qslotAny (F := F) c)).symm).trans (qslot_any c)) $$ [Hq0 Hq1]
  · isplitl [Hq0]; · iexact Hq0
    iexact Hq1
  iexists g0, g1, g2, g3, g4, g5, g6
  isplitr
  · ipureintro
    exact ⟨fun j => (oblk_read c _ _ j (hg0 j)).trans (View.read_rep _ _), h1, h2, fun j => (qblk_read c _ _ j (hg3 j)).trans (View.read_rep _ _), h4, h5, h6⟩
  isplitl [Hv Ht Hc]
  · isplitl [Hv]; · iexact Hv
    isplitl [Ht]; · iexact Ht
    iexact Hc
  isplitl [Hg0 Hg1 Hg2 Hg3 Hg4 Hg5 Hg6]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  isplitl [Hs Hat Hvq Hvqo Hvw Hq Hcsb Hyf Hysf Hyqb Hysb Hvsr Hvsv Hw Htt Hto]
  · isplitl [Hs]; · iexact Hs
    isplitl [Hat]; · iexact Hat
    isplitl [Hvq]; · iexact Hvq
    isplitl [Hvqo]; · iexact Hvqo
    isplitl [Hvw]; · iexact Hvw
    isplitl [Hq]; · iexact Hq
    isplitl [Hcsb]; · iexact Hcsb
    isplitl [Hyf]; · iexact Hyf
    isplitl [Hysf]; · iexact Hysf
    isplitl [Hyqb]; · iexact Hyqb
    isplitl [Hysb]; · iexact Hysb
    isplitl [Hvsr]; · iexact Hvsr
    isplitl [Hvsv]; · iexact Hvsv
    isplitl [Hw]; · iexact Hw
    isplitl [Htt]; · iexact Htt
    iexact Hto
  isplitl [Hac0 Hac1 Hac2 Hac3 Hic0 Hic1 Hic2 Hic3 Hic4 Hic5 Hic6 Hic7 Hic8 Hic9 Hoc0 Hoc1 Hoc2 Hoc3 Hoc4 Hoc5 Hoc6 Hoc7 Hoc8 Hoc9 Hqc0 Hqc1 Hm0 Hm1 Hm2 Hm3 Hm4 Hm5 Hm6 Hm7]
  · isplitl [Hac0]; · iexact Hac0
    isplitl [Hac1]; · iexact Hac1
    isplitl [Hac2]; · iexact Hac2
    isplitl [Hac3]; · iexact Hac3
    isplitl [Hic0]; · iexact Hic0
    isplitl [Hic1]; · iexact Hic1
    isplitl [Hic2]; · iexact Hic2
    isplitl [Hic3]; · iexact Hic3
    isplitl [Hic4]; · iexact Hic4
    isplitl [Hic5]; · iexact Hic5
    isplitl [Hic6]; · iexact Hic6
    isplitl [Hic7]; · iexact Hic7
    isplitl [Hic8]; · iexact Hic8
    isplitl [Hic9]; · iexact Hic9
    isplitl [Hoc0]; · iexact Hoc0
    isplitl [Hoc1]; · iexact Hoc1
    isplitl [Hoc2]; · iexact Hoc2
    isplitl [Hoc3]; · iexact Hoc3
    isplitl [Hoc4]; · iexact Hoc4
    isplitl [Hoc5]; · iexact Hoc5
    isplitl [Hoc6]; · iexact Hoc6
    isplitl [Hoc7]; · iexact Hoc7
    isplitl [Hoc8]; · iexact Hoc8
    isplitl [Hoc9]; · iexact Hoc9
    isplitl [Hqc0]; · iexact Hqc0
    isplitl [Hqc1]; · iexact Hqc1
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    iexact Hm7
  iexact HO

end Body

end Cert.KernelIdeal.Hand

end
-- ==== Proof.IBody.lean ====
/-
  The kernel body: what it is handed, and what it hands back.
-/
module

public import proofs.«01_k».proof.Proof.IPost

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

section Body
variable (c : Dev nD) (vH : Buf (Elt F) (vtM.view.loc (c : Thread nD τ))) (tH : Buf (Elt F) (tM.view.loc (c : Thread nD τ))) (cH : Buf (Elt F) (cM.view.loc (c : Thread nD τ)))

set_option backward.proofsInPublic true in
theorem body_run : PREW c vH tH cH
      ⊢ wp frame (wpE (defs₀ (F := F)) 𝒱₀ (c : Thread nD τ) none) Set.univ
          (cc0_qr_trailing (F := F) vtM (Memref.isWhole_whole _) tM (Memref.isWhole_whole _) cM (Memref.isWhole_whole _) coutM (Memref.isWhole_whole _) vqtM (Memref.isWhole_whole _) vsM (Memref.isWhole_whole _) cqM (Memref.isWhole_whole _) csM (Memref.isWhole_whole _) yqtM (Memref.isWhole_whole _) ysM (Memref.isWhole_whole _) cbufM (Memref.isWhole_whole _) atM (Memref.isWhole_whole _) vqM (Memref.isWhole_whole _) vqoM (Memref.isWhole_whole _) vwM (Memref.isWhole_whole _) qbufM (Memref.isWhole_whole _) csbM (Memref.isWhole_whole _) yfM (Memref.isWhole_whole _) ysfM (Memref.isWhole_whole _) yqbM (Memref.isWhole_whole _) ysbM (Memref.isWhole_whole _) vsrM (Memref.isWhole_whole _) vsvM (Memref.isWhole_whole _) wM (Memref.isWhole_whole _) ttM (Memref.isWhole_whole _) toM (Memref.isWhole_whole _) cc0_scratch16 cc0_scratch17 cc0_scratch18 cc0_scratch19 cc0_scratch20)
          (fun _ => POSTW c vH tH cH) := by
  refine (pre_give c vH tH cH).trans ?_
  unfold PRE
  rw [split10 (stHome c cH)]
  unfold stHome
  iintro ⟨Hv0, ⟨%fa0, Ha0⟩, Hac0, Hv1, ⟨%fa1, Ha1⟩, Hac1, Hv2, ⟨%fa2, Ha2⟩, Hac2, Hv3, ⟨%fa3, Ha3⟩, Hac3, Ht, ⟨%fto, Hto⟩, ⟨%fvq, Hvq⟩, ⟨%fvqo, Hvqo⟩, ⟨%fvw, Hvw⟩, ⟨%fvsr, Hvsr⟩, ⟨%fvsv, Hvsv⟩, ⟨%fw, Hw⟩, ⟨%ftt, Htt⟩, ⟨%fcsb, Hcsb⟩, ⟨%fyf, Hyf⟩, ⟨%fysf, Hysf⟩, ⟨%fyqb, Hyqb⟩, ⟨%fysb, Hysb⟩, ⟨%fvqt, Hvqt⟩, ⟨%fvs, Hvs⟩, ⟨%fcs, Hcs⟩, ⟨%fyqt, Hyqt⟩, ⟨%fys, Hys⟩, Hm0, Hm1, Hm2, Hm3, Hm4, Hm5, Hm6, Hm7, ⟨%fs0, Hs0⟩, ⟨%fs1, Hs1⟩, ⟨%fs2, Hs2⟩, ⟨%fs3, Hs3⟩, ⟨%fs4, Hs4⟩, ⟨%fs5, Hs5⟩, ⟨%fs6, Hs6⟩, ⟨%fs7, Hs7⟩, ⟨%fs8, Hs8⟩, ⟨%fs9, Hs9⟩, Hic0, Hoc0, Hic1, Hoc1, Hic2, Hoc2, Hic3, Hoc3, Hic4, Hoc4, Hic5, Hoc5, Hic6, Hoc6, Hic7, Hoc7, Hic8, Hoc8, Hic9, Hoc9, Hch, Hqa, Hq0, Hq1, ⟨%ow, HO⟩⟩
  icases Hch with ⟨⟨Hc0, Hob0⟩, ⟨Hc1, Hob1⟩, ⟨Hc2, Hob2⟩, ⟨Hc3, Hob3⟩, ⟨Hc4, Hob4⟩, ⟨Hc5, Hob5⟩, ⟨Hc6, Hob6⟩, ⟨Hc7, Hob7⟩, ⟨Hc8, Hob8⟩, ⟨Hc9, Hob9⟩, Hrest⟩
  sl_unfold [cc0_qr_trailing]
  sl_exec
  ihave Ha0' := (acol_rep c vH 0 _ ?h0) $$ Ha0
  case h0 => exact (View.read_writes_whole _ _ _).trans rfl
  ihave Ha1' := (acol_rep c vH 1 _ ?h1) $$ Ha1
  case h1 => exact (View.read_writes_whole _ _ _).trans rfl
  ihave Ha2' := (acol_rep c vH 2 _ ?h2) $$ Ha2
  case h2 => exact (View.read_writes_whole _ _ _).trans rfl
  ihave Ha3' := (acol_rep c vH 3 _ ?h3) $$ Ha3
  case h3 => exact (View.read_writes_whole _ _ _).trans rfl
  ihave HA := (at_join4 c (vtM.view.read (Elt F) vH)) $$ [Ha0' Ha1' Ha2' Ha3']
  · isplitl [Ha0']; · iexact Ha0'
    isplitl [Ha1']; · iexact Ha1'
    isplitl [Ha2']; · iexact Ha2'
    iexact Ha3'
  ihave Hvq' := (whole_rep c vqM (View.set_whole _) _ (vqM.view.read (Elt F) fvq) rfl) $$ Hvq
  ihave Hvqo' := (whole_rep c vqoM (View.set_whole _) _ (vqoM.view.read (Elt F) fvqo) rfl) $$ Hvqo
  ihave Hvw' := (whole_rep c vwM (View.set_whole _) _ (vwM.view.read (Elt F) fvw) rfl) $$ Hvw
  ihave Hvsr' := (whole_rep c vsrM (View.set_whole _) _ (vsrM.view.read (Elt F) fvsr) rfl) $$ Hvsr
  sl_exec
  ihave Hvq2 := (entails_of_eq (congrArg (fun X => (vqP c X : sProp 𝕄)) (mixT_t1 _ _))) $$ Hvq'
  ihave Hvw2 := (entails_of_eq (congrArg (fun X => (vwP c X : sProp 𝕄)) (mixT_t1 _ _))) $$ Hvw'
  ihave Hvsr2 := (entails_of_eq (congrArg (fun X => (vsrP c X : sProp 𝕄)) (mixT_t1 _ _))) $$ Hvsr'
  ihave Htt2 := (whole_rep c ttM (View.set_whole _) _ (k0_pay105 (tM.view.read (Elt F) tH)) ?htt) $$ Htt
  case htt =>
    refine (View.read_writes_full _ _ _ _ _).trans (congrArg k0_pay105 ?_)
    rw [View.readAt_full]
    exact View.read_write_univ _ _
  ihave Hw2 := (whole_rep c wM (View.set_whole _) _ (k0_pay106 (F := F)) ?hw) $$ Hw
  case hw => exact View.read_writes_full _ _ _ _ _
  ihave Hcsb2 := (whole_rep c csbM (View.set_whole _) _ (csbM.view.read (Elt F) fcsb) rfl) $$ Hcsb
  ihave Hyf2 := (whole_rep c yfM (View.set_whole _) _ (yfM.view.read (Elt F) fyf) rfl) $$ Hyf
  ihave Hysf2 := (whole_rep c ysfM (View.set_whole _) _ (ysfM.view.read (Elt F) fysf) rfl) $$ Hysf
  sl_for (fun k _ => inv2 c cH (full (fun n => qV96 (blk 128 (vtM.view.read (Elt F) vH) n))) (full (fun n => dqV (blk 128 (vtM.view.read (Elt F) vH) n)))
      (full (fun n => scV (blk 128 (vtM.view.read (Elt F) vH) n))) (k0_pay105 (tM.view.read (Elt F) tH)) (csbM.view.read (Elt F) fcsb) (yfM.view.read (Elt F) fyf) (ysfM.view.read (Elt F) fysf) k) $$ [Hvq2 Hvw2 Hvsr2 Htt2 Hcsb2 Hyf2 Hysf2 Hw2 HO Hic0 Hoc0 Hob0 Hic1 Hoc1 Hob1 Hic2 Hoc2 Hob2 Hic3 Hoc3 Hob3 Hic4 Hoc4 Hob4 Hic5 Hoc5 Hob5 Hic6 Hoc6 Hob6 Hic7 Hoc7 Hob7 Hic8 Hoc8 Hob8 Hic9 Hoc9 Hob9 Hrest Hqa Hq0 Hq1]
  case region =>
    intro k acc
    exact (loopInv2 c _ _ cH _ _ _ _ _ _ _).step k acc
  · iapply (inv2_zero c cH _ _ _ _ _ _ _)
    isplitl [Hvq2]; · iexact Hvq2
    isplitl [Hvw2]; · iexact Hvw2
    isplitl [Hvsr2]; · iexact Hvsr2
    isplitl [Htt2]; · iexact Htt2
    isplitl [Hcsb2]; · iexact Hcsb2
    isplitl [Hyf2]; · iexact Hyf2
    isplitl [Hysf2]; · iexact Hysf2
    isplitl [Hw2]; · iexists _; iexact Hw2
    isplitl [HO]; · iexists _; iexact HO
    isplitl [Hic0 Hoc0 Hob0 Hic1 Hoc1 Hob1 Hic2 Hoc2 Hob2 Hic3 Hoc3 Hob3 Hic4 Hoc4 Hob4 Hic5 Hoc5 Hob5 Hic6 Hoc6 Hob6 Hic7 Hoc7 Hob7 Hic8 Hoc8 Hob8 Hic9 Hoc9 Hob9 Hrest]
    · isplitl [Hic0 Hoc0 Hob0]
      · isplitl [Hic0]
        · iapply (fly_in c cH 0 0 _ _ ?hs _ ?hX) $$ Hic0
          case hs => rfl
          case hX => rfl
        isplitl [Hoc0]; · iexact Hoc0
        iexact Hob0
      isplitl [Hic1 Hoc1 Hob1]
      · isplitl [Hic1]
        · iapply (fly_in c cH 1 1 _ _ ?hs _ ?hX) $$ Hic1
          case hs => rfl
          case hX => rfl
        isplitl [Hoc1]; · iexact Hoc1
        iexact Hob1
      isplitl [Hic2 Hoc2 Hob2]
      · isplitl [Hic2]
        · iapply (fly_in c cH 2 2 _ _ ?hs _ ?hX) $$ Hic2
          case hs => rfl
          case hX => rfl
        isplitl [Hoc2]; · iexact Hoc2
        iexact Hob2
      isplitl [Hic3 Hoc3 Hob3]
      · isplitl [Hic3]
        · iapply (fly_in c cH 3 3 _ _ ?hs _ ?hX) $$ Hic3
          case hs => rfl
          case hX => rfl
        isplitl [Hoc3]; · iexact Hoc3
        iexact Hob3
      isplitl [Hic4 Hoc4 Hob4]
      · isplitl [Hic4]
        · iapply (fly_in c cH 4 4 _ _ ?hs _ ?hX) $$ Hic4
          case hs => rfl
          case hX => rfl
        isplitl [Hoc4]; · iexact Hoc4
        iexact Hob4
      isplitl [Hic5 Hoc5 Hob5]
      · isplitl [Hic5]
        · iapply (fly_in c cH 5 5 _ _ ?hs _ ?hX) $$ Hic5
          case hs => rfl
          case hX => rfl
        isplitl [Hoc5]; · iexact Hoc5
        iexact Hob5
      isplitl [Hic6 Hoc6 Hob6]
      · isplitl [Hic6]
        · iapply (fly_in c cH 6 6 _ _ ?hs _ ?hX) $$ Hic6
          case hs => rfl
          case hX => rfl
        isplitl [Hoc6]; · iexact Hoc6
        iexact Hob6
      isplitl [Hic7 Hoc7 Hob7]
      · isplitl [Hic7]
        · iapply (fly_in c cH 7 7 _ _ ?hs _ ?hX) $$ Hic7
          case hs => rfl
          case hX => rfl
        isplitl [Hoc7]; · iexact Hoc7
        iexact Hob7
      isplitl [Hic8 Hoc8 Hob8]
      · isplitl [Hic8]
        · iapply (fly_in c cH 8 8 _ _ ?hs _ ?hX) $$ Hic8
          case hs => rfl
          case hX => rfl
        isplitl [Hoc8]; · iexact Hoc8
        iexact Hob8
      isplitl [Hic9 Hoc9 Hob9]
      · isplitl [Hic9]
        · iapply (fly_in c cH 9 9 _ _ ?hs _ ?hX) $$ Hic9
          case hs => rfl
          case hX => rfl
        isplitl [Hoc9]; · iexact Hoc9
        iexact Hob9
      iexact Hrest
    isplitl [Hqa]; · iexact Hqa
    isplitl [Hq0]; · iexact Hq0
    iexact Hq1
  iintro %acc HI
  ihave HE := (inv2_exit c cH _ _ _ _ _ _ _) $$ HI
  icases HE with ⟨Hvq3, Hvw3, Hvsr3, Htt3, Hcsb3, Hyf3, Hysf3, ⟨%W3, Hw3⟩, ⟨%ow3, HO⟩, Hdone, Hfo8, Hci8, Hcb8, Hfo9, Hci9, Hcb9, Hfo10, Hci10, Hcb10, Hfo11, Hci11, Hcb11, Hfo12, Hci12, Hcb12, Hfo13, Hci13, Hcb13, Hfo14, Hci14, Hcb14, Hfo15, Hci15, Hcb15, Hfo16, Hci16, Hcb16, Hfo17, Hci17, Hcb17, Hqdone, Hfq16, Hfq17, -, -⟩
  sl_exec
  sl_step
  iapply (post_take c vH tH cH (View.write (Elt F) vqtM.view fvqt (body_run.sl.dma5 c vH fvqo) Finset.univ) (View.write (Elt F) vsM.view fvs (body_run.sl.dma5_1 c vH fvsv) Finset.univ) (View.write (Elt F) csM.view fcs (body_run.sl.dma54 c cH fcsb) Finset.univ) (View.write (Elt F) yqtM.view fyqt (body_run.sl.dma54_1 c vH tH cH fyf fyqb) Finset.univ) (View.write (Elt F) ysM.view fys (body_run.sl.dma54_2 c vH tH cH fysf fysb) Finset.univ) ?h1 ?h2 ?h4 ?h5 ?h6)
  case h1 =>
    refine (View.read_write_univ _ _).trans ?_
    delta body_run.sl.dma5
    exact (View.read_rep _ _).trans (mixT_t1 _ _)
  case h2 =>
    refine (View.read_write_univ _ _).trans ?_
    delta body_run.sl.dma5_1
    refine (View.read_writes_full _ _ _ _ _).trans ?_
    rw [t1_trips]
    rfl
  case h4 =>
    exact ⟨_, (View.read_write_univ _ _).trans (View.read_rep _ _)⟩
  case h5 =>
    refine ⟨yfM.view.read (Elt F) fyf, yqbM.view.read (Elt F) fyqb, (View.read_write_univ _ _).trans ?_⟩
    delta body_run.sl.dma54_1
    refine (yqb_cols c (fun n => k0_pay111 (rblk (yfT c cH (VW_ c vH) (TT_ c tH) (yfM.view.read (Elt F) fyf) 18) n)) fyqb _ _ _ _ _ _ _ _ _ ?_ ?_ ?_ ?_ ?_ ?_ ?_ ?_ ?_)
    · have e := congrArg k0_pay111 (rblk_load yfM (yfT c cH (VW_ c vH) (TT_ c tH) (yfM.view.read (Elt F) fyf) 18) 8 (by decide) ![1024, 0] rfl inb_S1152x128_S128x128_1024_0); exact e
    · have e := congrArg k0_pay111 (rblk_load yfM (yfT c cH (VW_ c vH) (TT_ c tH) (yfM.view.read (Elt F) fyf) 18) 7 (by decide) ![896, 0] rfl inb_S1152x128_S128x128_896_0); exact e
    · have e := congrArg k0_pay111 (rblk_load yfM (yfT c cH (VW_ c vH) (TT_ c tH) (yfM.view.read (Elt F) fyf) 18) 6 (by decide) ![768, 0] rfl inb_S1152x128_S128x128_768_0); exact e
    · have e := congrArg k0_pay111 (rblk_load yfM (yfT c cH (VW_ c vH) (TT_ c tH) (yfM.view.read (Elt F) fyf) 18) 5 (by decide) ![640, 0] rfl inb_S1152x128_S128x128_640_0); exact e
    · have e := congrArg k0_pay111 (rblk_load yfM (yfT c cH (VW_ c vH) (TT_ c tH) (yfM.view.read (Elt F) fyf) 18) 4 (by decide) ![512, 0] rfl inb_S1152x128_S128x128_512_0); exact e
    · have e := congrArg k0_pay111 (rblk_load yfM (yfT c cH (VW_ c vH) (TT_ c tH) (yfM.view.read (Elt F) fyf) 18) 3 (by decide) ![384, 0] rfl inb_S1152x128_S128x128_384_0); exact e
    · have e := congrArg k0_pay111 (rblk_load yfM (yfT c cH (VW_ c vH) (TT_ c tH) (yfM.view.read (Elt F) fyf) 18) 2 (by decide) ![256, 0] rfl inb_S1152x128_S128x128_256_0); exact e
    · have e := congrArg k0_pay111 (rblk_load yfM (yfT c cH (VW_ c vH) (TT_ c tH) (yfM.view.read (Elt F) fyf) 18) 1 (by decide) ![128, 0] rfl inb_S1152x128_S128x128_128_0); exact e
    · have e := congrArg k0_pay111 (rblk_load yfM (yfT c cH (VW_ c vH) (TT_ c tH) (yfM.view.read (Elt F) fyf) 18) 0 (by decide) ![0, 0] rfl inb_S1152x128_S128x128_0_0); exact e
  case h6 =>
    refine ⟨ysfM.view.read (Elt F) fysf, ysbM.view.read (Elt F) fysb, (View.read_write_univ _ _).trans ?_⟩
    delta body_run.sl.dma54_2
    refine (ysb_cols c (fun n => k0_pay110 (rblk (ysfT c cH (VW_ c vH) (TT_ c tH) (ysfM.view.read (Elt F) fysf) 18) n)) fysb _ _ _ _ _ _ _ _ _ ?_ ?_ ?_ ?_ ?_ ?_ ?_ ?_ ?_)
    · have e := congrArg k0_pay110 (rblk_load ysfM (ysfT c cH (VW_ c vH) (TT_ c tH) (ysfM.view.read (Elt F) fysf) 18) 8 (by decide) ![1024, 0] rfl inb_S1152x128_S128x128_1024_0); exact e
    · have e := congrArg k0_pay110 (rblk_load ysfM (ysfT c cH (VW_ c vH) (TT_ c tH) (ysfM.view.read (Elt F) fysf) 18) 7 (by decide) ![896, 0] rfl inb_S1152x128_S128x128_896_0); exact e
    · have e := congrArg k0_pay110 (rblk_load ysfM (ysfT c cH (VW_ c vH) (TT_ c tH) (ysfM.view.read (Elt F) fysf) 18) 6 (by decide) ![768, 0] rfl inb_S1152x128_S128x128_768_0); exact e
    · have e := congrArg k0_pay110 (rblk_load ysfM (ysfT c cH (VW_ c vH) (TT_ c tH) (ysfM.view.read (Elt F) fysf) 18) 5 (by decide) ![640, 0] rfl inb_S1152x128_S128x128_640_0); exact e
    · have e := congrArg k0_pay110 (rblk_load ysfM (ysfT c cH (VW_ c vH) (TT_ c tH) (ysfM.view.read (Elt F) fysf) 18) 4 (by decide) ![512, 0] rfl inb_S1152x128_S128x128_512_0); exact e
    · have e := congrArg k0_pay110 (rblk_load ysfM (ysfT c cH (VW_ c vH) (TT_ c tH) (ysfM.view.read (Elt F) fysf) 18) 3 (by decide) ![384, 0] rfl inb_S1152x128_S128x128_384_0); exact e
    · have e := congrArg k0_pay110 (rblk_load ysfM (ysfT c cH (VW_ c vH) (TT_ c tH) (ysfM.view.read (Elt F) fysf) 18) 2 (by decide) ![256, 0] rfl inb_S1152x128_S128x128_256_0); exact e
    · have e := congrArg k0_pay110 (rblk_load ysfM (ysfT c cH (VW_ c vH) (TT_ c tH) (ysfM.view.read (Elt F) fysf) 18) 1 (by decide) ![128, 0] rfl inb_S1152x128_S128x128_128_0); exact e
    · have e := congrArg k0_pay110 (rblk_load ysfM (ysfT c cH (VW_ c vH) (TT_ c tH) (ysfM.view.read (Elt F) fysf) 18) 0 (by decide) ![0, 0] rfl inb_S1152x128_S128x128_0_0); exact e
  unfold POST
  isplitl [Hv0]; · iexact Hv0
  isplitl [Hv1]; · iexact Hv1
  isplitl [Hv2]; · iexact Hv2
  isplitl [Hv3]; · iexact Hv3
  isplitl [Ht]; · iexact Ht
  isplitl [Hdone]; · iexact Hdone
  isplitl [Hcb8]; · iexact Hcb8
  isplitl [Hfo8_dst]; · iexact Hfo8_dst
  isplitl [Hcb9]; · iexact Hcb9
  isplitl [Hfo9_dst]; · iexact Hfo9_dst
  isplitl [Hcb10]; · iexact Hcb10
  isplitl [Hfo10_dst]; · iexact Hfo10_dst
  isplitl [Hcb11]; · iexact Hcb11
  isplitl [Hfo11_dst]; · iexact Hfo11_dst
  isplitl [Hcb12]; · iexact Hcb12
  isplitl [Hfo12_dst]; · iexact Hfo12_dst
  isplitl [Hcb13]; · iexact Hcb13
  isplitl [Hfo13_dst]; · iexact Hfo13_dst
  isplitl [Hcb14]; · iexact Hcb14
  isplitl [Hfo14_dst]; · iexact Hfo14_dst
  isplitl [Hcb15]; · iexact Hcb15
  isplitl [Hfo15_dst]; · iexact Hfo15_dst
  isplitl [Hcb16]; · iexact Hcb16
  isplitl [Hfo16_dst]; · iexact Hfo16_dst
  isplitl [Hcb17]; · iexact Hcb17
  isplitl [Hfo17_dst]; · iexact Hfo17_dst
  isplitl [Hqdone]; · iexact Hqdone
  isplitl [Hfq16_dst]; · iexact Hfq16_dst
  isplitl [Hfq17_dst]; · iexact Hfq17_dst
  isplitl [Hvqt]; · iexact Hvqt
  isplitl [Hvs]; · iexact Hvs
  isplitl [Hcs]; · iexact Hcs
  isplitl [Hyqt]; · iexact Hyqt
  isplitl [Hys]; · iexact Hys
  isplitl [Hfo10_src]; · iexists _; iexact Hfo10_src
  isplitl [Hfo11_src]; · iexists _; iexact Hfo11_src
  isplitl [Hfo12_src]; · iexists _; iexact Hfo12_src
  isplitl [Hfo13_src]; · iexists _; iexact Hfo13_src
  isplitl [Hfo14_src]; · iexists _; iexact Hfo14_src
  isplitl [Hfo15_src]; · iexists _; iexact Hfo15_src
  isplitl [Hfo16_src]; · iexists _; iexact Hfo16_src
  isplitl [Hfo17_src]; · iexists _; iexact Hfo17_src
  isplitl [Hfo8_src]; · iexists _; iexact Hfo8_src
  isplitl [Hfo9_src]; · iexists _; iexact Hfo9_src
  isplitl [Hfq16_src]; · iexists _; iexact Hfq16_src
  isplitl [Hfq17_src]; · iexists _; iexact Hfq17_src
  isplitl [HA]; · iexists _; iexact HA
  isplitl [Hvq3]; · iexists _; iexact Hvq3
  isplitl [Hvqo']; · iexists _; iexact Hvqo'
  isplitl [Hvw3]; · iexists _; iexact Hvw3
  isplitl [Hcsb3]; · iexists _; iexact Hcsb3
  isplitl [Hyf3]; · iexists _; iexact Hyf3
  isplitl [Hysf3]; · iexists _; iexact Hysf3
  isplitl [Hyqb]; · iexists _; iexact Hyqb
  isplitl [Hysb]; · iexists _; iexact Hysb
  isplitl [Hvsr3]; · iexists _; iexact Hvsr3
  isplitl [Hvsv]; · iexists _; iexact Hvsv
  isplitl [Hw3]; · iexists _; iexact Hw3
  isplitl [Htt3]; · iexists _; iexact Htt3
  isplitl [Hto]; · iexists _; iexact Hto
  isplitl [Hac0]; · iexact Hac0
  isplitl [Hac1]; · iexact Hac1
  isplitl [Hac2]; · iexact Hac2
  isplitl [Hac3]; · iexact Hac3
  isplitl [Hci10]; · iexact Hci10
  isplitl [Hci11]; · iexact Hci11
  isplitl [Hci12]; · iexact Hci12
  isplitl [Hci13]; · iexact Hci13
  isplitl [Hci14]; · iexact Hci14
  isplitl [Hci15]; · iexact Hci15
  isplitl [Hci16]; · iexact Hci16
  isplitl [Hci17]; · iexact Hci17
  isplitl [Hci8]; · iexact Hci8
  isplitl [Hci9]; · iexact Hci9
  isplitl [Hfo10]; · iexact Hfo10
  isplitl [Hfo11]; · iexact Hfo11
  isplitl [Hfo12]; · iexact Hfo12
  isplitl [Hfo13]; · iexact Hfo13
  isplitl [Hfo14]; · iexact Hfo14
  isplitl [Hfo15]; · iexact Hfo15
  isplitl [Hfo16]; · iexact Hfo16
  isplitl [Hfo17]; · iexact Hfo17
  isplitl [Hfo8]; · iexact Hfo8
  isplitl [Hfo9]; · iexact Hfo9
  isplitl [Hfq16]; · iexact Hfq16
  isplitl [Hfq17]; · iexact Hfq17
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  iexists _; iexact HO

end Body

end Cert.KernelIdeal.Hand

end
-- ==== Proof.ILaunch.lean ====
/-
  The launch: the whole run of the program.
-/
module

public import proofs.«01_k».proof.Proof.IBody
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.KitQuiescent

@[expose] public section

set_option maxRecDepth 16384
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Hand
local notation "𝕄" => MT nD τ sig Unit (Elt F) ℕ (UU nD τ) ℕ

section Launch
variable (m : (ℓ : Loc nD τ sig) → Buf (Elt F) ℓ) (ρ : Dev nD → PrngReg)

/-- The kernel's own counters. -/
def osem : Fin 34 → SemLoc sig := fun s => .dma s
theorem ownSemFacts : Pipeline.OwnSemFacts cfg0.spec osem := by decide

theorem big34 (Φ : Fin 34 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33) :=
  bigSep_univ_eq_bigSepL [(0 : Fin 34), 1, 2, 3, 4, 5, 6, 7, 8, 9, 10, 11, 12, 13, 14, 15, 16, 17, 18, 19, 20, 21, 22, 23, 24, 25, 26, 27, 28, 29, 30, 31, 32, 33] (by decide) (by decide) Φ
theorem ownSems0_eq (c : Dev nD) : (Pipeline.ownSems0 (Ix := Unit) (Name := ℕ) (U := UU nD τ) (Lvl := ℕ) (Val := Elt F) (τ := τ) osem c : sProp 𝕄) = CELLS_ c := by
  unfold Pipeline.ownSems0 CELLS_; rw [big34]; rfl

/-- What the body is handed, less the ledger, -/
def ΦI (c : Dev nD) : sProp 𝕄 := iprop(ARGS_ c (V m c main_v1) (V m c main_v2) (V m c main_v3) ∗ OUTS_ (F := F) c ∗ SCR_ (F := F) c ∗ CELLS_ (F := F) c)
/-- and what it hands back. -/
def ΦO (c : Dev nD) : sProp 𝕄 :=
  iprop(∃ (g0 : Buf (Elt F) ((c : Thread nD τ).loc main_v4_0)) (g1 : Buf (Elt F) ((c : Thread nD τ).loc main_v4_1)) (g2 : Buf (Elt F) ((c : Thread nD τ).loc main_v4_2)) (g3 : Buf (Elt F) ((c : Thread nD τ).loc main_v4_3)) (g4 : Buf (Elt F) ((c : Thread nD τ).loc main_v4_4)) (g5 : Buf (Elt F) ((c : Thread nD τ).loc main_v4_5)) (g6 : Buf (Elt F) ((c : Thread nD τ).loc main_v4_6)), ⌜Facts c (V m c main_v1) (V m c main_v2) (V m c main_v3) g0 g1 g2 g3 g4 g5 g6⌝ ∗ ARGS_ c (V m c main_v1) (V m c main_v2) (V m c main_v3)
    ∗ ((((c : Thread nD τ).loc main_v4_0) ↦{fullShare} g0) ∗ (((c : Thread nD τ).loc main_v4_1) ↦{fullShare} g1) ∗ (((c : Thread nD τ).loc main_v4_2) ↦{fullShare} g2) ∗ (((c : Thread nD τ).loc main_v4_3) ↦{fullShare} g3) ∗ (((c : Thread nD τ).loc main_v4_4) ↦{fullShare} g4) ∗ (((c : Thread nD τ).loc main_v4_5) ↦{fullShare} g5) ∗ (((c : Thread nD τ).loc main_v4_6) ↦{fullShare} g6)) ∗ SCR_ (F := F) c ∗ CELLS_ (F := F) c)

def dats (_ : Fin 1) (c : Dev nD) : Dat τ (Elt F) Unit ℕ (UU nD τ) ℕ cfg0 c where
  A w := w.elim0
  after w _ := w.elim0
  Φ t := if t.val = 0 then ΦI m c else ΦO m c
  q _ := fullShare
  owed _ := 0

theorem defs_tc : (defs₀ (F := F)) .tc cfg0.body = fun _ => bodyAt0 t0_0 := rfl
theorem prog_eq (t : Fin cfg0.N) : (defs₀ (F := F)) .tc cfg0.body (cfg0.bodyArgs t (cfg0.slots t)) = bodyAt0 t0_0 :=
  (congrFun defs_tc _).trans rfl
theorem Φ_eq (c : Dev nD) (t : Fin (cfg0.N + 1)) : (dats m 0 c).Φ t = if t.val = 0 then ΦI m c else ΦO m c := rfl
theorem Φ_first (c : Dev nD) (t : Fin cfg0.N) : (dats m 0 c).Φ t.castSucc = ΦI m c := by
  rw [Φ_eq]; rw [fin_N0 t]; exact if_pos rfl
theorem Φ_after (c : Dev nD) (t : Fin cfg0.N) : (dats m 0 c).Φ t.succ = ΦO m c := by
  rw [Φ_eq]; exact if_neg (Nat.succ_ne_zero _)
theorem Φ_last (c : Dev nD) : (dats m 0 c).Φ (Fin.last cfg0.N) = ΦO m c := by
  rw [Φ_eq]; exact if_neg (Nat.succ_ne_zero 0)

set_option backward.isDefEq.respectTransparency.types false in
theorem body_obligation (c : Dev nD) : BodyObligation (dats (F := F) m 0 c) (defs₀ (F := F)) 𝒱₀ () Set.univ := fun t => by
  rw [prog_eq t, Φ_first, Φ_after]
  unfold Dat.owesAt Pipeline.owesWithin
  rw [show (dats m 0 c).owed t.castSucc = 0 from rfl, show (dats m 0 c).owed t.succ = 0 from rfl]
  rw [show (Finset.univ : Finset (Fin cfg0.W)) = ∅ from rfl, BI.bigSep_empty, BI.bigSep_empty]
  refine BIBase.Entails.trans ?_ ((body_run c (V m c main_v1) (V m c main_v2) (V m c main_v3)).trans (wp_mono _ _ _ fun _ => ?_))
  · unfold ΦI PREW
    iintro ⟨⟨HA, Ho, Hs, Hc⟩, ⟨%W, -, HW⟩, -⟩
    isplitl [HA]; · iexact HA
    isplitl [Ho]; · iexact Ho
    isplitl [Hs]; · iexact Hs
    isplitl [Hc]; · iexact Hc
    iexists W; iexact HW
  · unfold ΦO POSTW
    iintro ⟨%g0, %g1, %g2, %g3, %g4, %g5, %g6, %hF, HA, Hg, Hs, Hc, ⟨%W, HW⟩⟩
    isplitl [HA Hg Hs Hc]
    · iexists g0, g1, g2, g3, g4, g5, g6
      isplitr; · ipureintro; exact hF
      isplitl [HA]; · iexact HA
      isplitl [Hg]; · iexact Hg
      isplitl [Hs]; · iexact Hs
      iexact Hc
    isplitl [HW]
    · iexists W; isplitr; · ipureintro; exact fun _ _ => Or.inl trivial
      iexact HW
    iempintro

/-! ## The run -/

def intoΦ (c : Dev nD) : sProp 𝕄 := iprop(ARGS_ c (V m c main_v1) (V m c main_v2) (V m c main_v3) ∗ OUTS_ (F := F) c ∗ CELLS_ (F := F) c)
def outOfΦ (c : Dev nD) : sProp 𝕄 :=
  iprop(∃ (g0 : Buf (Elt F) ((c : Thread nD τ).loc main_v4_0)) (g1 : Buf (Elt F) ((c : Thread nD τ).loc main_v4_1)) (g2 : Buf (Elt F) ((c : Thread nD τ).loc main_v4_2)) (g3 : Buf (Elt F) ((c : Thread nD τ).loc main_v4_3)) (g4 : Buf (Elt F) ((c : Thread nD τ).loc main_v4_4)) (g5 : Buf (Elt F) ((c : Thread nD τ).loc main_v4_5)) (g6 : Buf (Elt F) ((c : Thread nD τ).loc main_v4_6)), ⌜Facts c (V m c main_v1) (V m c main_v2) (V m c main_v3) g0 g1 g2 g3 g4 g5 g6⌝ ∗ (((c : Thread nD τ).loc main_v4_0) ↦{fullShare} g0) ∗ (((c : Thread nD τ).loc main_v4_1) ↦{fullShare} g1) ∗ (((c : Thread nD τ).loc main_v4_2) ↦{fullShare} g2) ∗ (((c : Thread nD τ).loc main_v4_3) ↦{fullShare} g3) ∗ (((c : Thread nD τ).loc main_v4_4) ↦{fullShare} g4) ∗ (((c : Thread nD τ).loc main_v4_5) ↦{fullShare} g5) ∗ (((c : Thread nD τ).loc main_v4_6) ↦{fullShare} g6))
def aside (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2))
def u₀ : UU nD τ := (initOf (Pipeline.cells cfgs cellOf_inj) (Pipeline.launchToks cfgs cellOf_inj), 1)
structure QY (c : Dev nD) (s : MemSt nD τ sig (Elt F)) : Prop where
  facts : Facts c (V m c main_v1) (V m c main_v2) (V m c main_v3) (s.mem ((c : Thread nD τ).loc main_v4_0)) (s.mem ((c : Thread nD τ).loc main_v4_1)) (s.mem ((c : Thread nD τ).loc main_v4_2)) (s.mem ((c : Thread nD τ).loc main_v4_3)) (s.mem ((c : Thread nD τ).loc main_v4_4)) (s.mem ((c : Thread nD τ).loc main_v4_5)) (s.mem ((c : Thread nD τ).loc main_v4_6))
  a0 : s.mem ((c : Thread nD τ).loc main_arg0) = V m c main_arg0
  a1 : s.mem ((c : Thread nD τ).loc main_arg1) = V m c main_arg1
  a2 : s.mem ((c : Thread nD τ).loc main_arg2) = V m c main_arg2

set_option backward.isDefEq.respectTransparency.types false in
/-- From any memory with zero counters, every weakly fair execution of @main terminates with the seven results as the
    run computes them, the arguments unchanged, every counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := intoΦ m) (Y := outOfΦ m) (Z := aside m)
    (hX := fun c => by
      rw [unscopedRest0_eq, ownSems0_eq]
      unfold intoΦ aside ARGS_ OUTS_
      iintro ⟨⟨H0, H1, H2, -, Hv1, Hv2, Hv3, Ho0, Ho1, Ho2, Ho3, Ho4, Ho5, Ho6⟩, HS, -, -, -⟩; imodintro
      isplitl [Hv1 Hv2 Hv3 Ho0 Ho1 Ho2 Ho3 Ho4 Ho5 Ho6 HS]
      · isplitl [Hv1 Hv2 Hv3]
        · isplitl [Hv1]; · iexact Hv1
          isplitl [Hv2]; · iexact Hv2
          iexact Hv3
        isplitl [Ho0 Ho1 Ho2 Ho3 Ho4 Ho5 Ho6]
        · isplitl [Ho0]; · iexists _; iexact Ho0
          isplitl [Ho1]; · iexists _; iexact Ho1
          isplitl [Ho2]; · iexists _; iexact Ho2
          isplitl [Ho3]; · iexists _; iexact Ho3
          isplitl [Ho4]; · iexists _; iexact Ho4
          isplitl [Ho5]; · iexists _; iexact Ho5
          iexists _; iexact Ho6
        iexact HS
      isplitl [H0]; · iexact H0
      isplitl [H1]; · iexact H1
      iexact H2)
    (hin := fun c => by
      rw [scopedRest0_eq, show (dats m 0 c).Φ 0 = ΦI m c from rfl]
      unfold intoΦ ΦI SCR_
      iintro ⟨⟨HA, Ho, Hc⟩, Hb⟩
      isplitl [HA]; · iexact HA
      isplitl [Ho]; · iexact Ho
      isplitl [Hb]; · iexact Hb
      iexact Hc)
    (hout := fun c => by
      rw [scopedRest0_eq, Φ_last, ownSems0_eq]
      unfold ΦO outOfΦ SCR_
      iintro ⟨%g0, %g1, %g2, %g3, %g4, %g5, %g6, %hF, HA, Hg, Hs, Hc⟩
      isplitl [Hg]
      · iexists g0, g1, g2, g3, g4, g5, g6
        isplitr; · ipureintro; exact hF
        iexact Hg
      isplitl [Hc]; · iexact Hc
      iexact Hs)
    (QY := QY m)
    (hY := fun c s' => by
      unfold outOfΦ aside
      iintro ⟨⟨%g0, %g1, %g2, %g3, %g4, %g5, %g6, %hF, Ho0, Ho1, Ho2, Ho3, Ho4, Ho5, Ho6⟩, ⟨A0, A1, A2⟩, HSI⟩
      icombine HSI Ho0 gives %h0
      icombine HSI Ho1 gives %h1
      icombine HSI Ho2 gives %h2
      icombine HSI Ho3 gives %h3
      icombine HSI Ho4 gives %h4
      icombine HSI Ho5 gives %h5
      icombine HSI Ho6 gives %h6
      icombine HSI A0 gives %a0
      icombine HSI A1 gives %a1
      icombine HSI A2 gives %a2
      imodintro
      isplitr
      · ipureintro
        have e0 := Buf.eq_of_forall_mem_univ h0
        have e1 := Buf.eq_of_forall_mem_univ h1
        have e2 := Buf.eq_of_forall_mem_univ h2
        have e3 := Buf.eq_of_forall_mem_univ h3
        have e4 := Buf.eq_of_forall_mem_univ h4
        have e5 := Buf.eq_of_forall_mem_univ h5
        have e6 := Buf.eq_of_forall_mem_univ h6
        subst e0 e1 e2 e3 e4 e5 e6
        exact ⟨hF, Buf.eq_of_forall_mem_univ a0, Buf.eq_of_forall_mem_univ a1, Buf.eq_of_forall_mem_univ a2⟩
      iexact HSI)
    (hQ := fun _ hh hz => ⟨fun c => (hh c).2, hz⟩)

end Launch

end Cert.KernelIdeal.Hand

end
-- ==== Proof.RRun.lean ====
/- What the reference leaves in its seven result arrays: its one grid point writes each of them whole. -/
module

public import proofs.«01_k».proof.Defs
public import proofs.«01_k».proof.Proof.Gen.ReferenceIdeal.Frame
public import Idealize.ShloMosaic.Lib.Pipeline.Value
public import Idealize.ShloMosaic.Lib.Pipeline.ValueKit.Geometry

@[expose] public section

set_option maxRecDepth 16384

noncomputable section

namespace Cert.ReferenceIdeal.Hand

open Cert.ReferenceIdeal Cert.ReferenceIdeal.Gen
open Idealize.ShloMosaic
open Idealize.ShloMosaic.TcCoe
open Idealize.SL Idealize.SL.RA Idealize.SL.BI Idealize.SL.Sem
open Idealize.ShloMosaic.Pipeline (Dat Cfg Window)

variable {F : FTy → Type} [FloatOps F] (m : (ℓ : Loc nD τ sig) → Buf (Elt F) ℓ) (ρ : Dev nD → PrngReg) (c : Dev nD)

theorem cast_apply_id {α β γ : Type} (h : α = β) (x : α) (y : β) (e : HEq x y) : cast h x = y := by cases h; exact eq_of_heq e

abbrev t₀ : Fin cfg0.N := ⟨0, by decide⟩
abbrev X0 : Vec F S16384x72 .f32 := V m c main_v0
abbrev X1 : Vec F S72x72 .f32 := V m c main_v1
abbrev X2 : Vec F S1152x16384 .f32 := V m c main_v2

theorem iblk0 : iblk m c 0 t₀ = X0 m c := by
  unfold iblk X0
  show (fun y => V m c main_v0 (((cfg0.win 0).blk t₀).view.emb y)) = _
  generalize V m c main_v0 = f
  refine funext fun y => ?_
  refine congrArg f (funext fun a => Fin.ext ?_)
  exact Pipeline.Window.rect_emb_val_of_index_zero (cfg0.win 0) t₀ a (by revert a; decide) y

theorem iblk1 : iblk m c 1 t₀ = X1 m c := by
  unfold iblk X1
  show (fun y => V m c main_v1 (((cfg0.win 1).blk t₀).view.emb y)) = _
  generalize V m c main_v1 = f
  refine funext fun y => ?_
  refine congrArg f (funext fun a => Fin.ext ?_)
  exact Pipeline.Window.rect_emb_val_of_index_zero (cfg0.win 1) t₀ a (by revert a; decide) y

theorem iblk2 : iblk m c 2 t₀ = X2 m c := by
  unfold iblk X2
  show (fun y => V m c main_v2 (((cfg0.win 2).blk t₀).view.emb y)) = _
  generalize V m c main_v2 = f
  refine funext fun y => ?_
  refine congrArg f (funext fun a => Fin.ext ?_)
  exact Pipeline.Window.rect_emb_val_of_index_zero (cfg0.win 2) t₀ a (by revert a; decide) y

theorem fin3 : (dats m 0 c).arrAt 3 cfg0.N = out0_3 (iblk m c 0 t₀) (iblk m c 1 t₀) (iblk m c 2 t₀) :=
  (dats m 0 c).arrAt_eq_of_after_last 3 t₀ (by decide +kernel) _ (fun j => by rw [after0_3]; generalize out0_3 (iblk m c 0 t₀) (iblk m c 1 t₀) (iblk m c 2 t₀) = f; exact cast_eq _ _)

theorem fin4 : (dats m 0 c).arrAt 4 cfg0.N = out0_4 (iblk m c 0 t₀) (iblk m c 1 t₀) (iblk m c 2 t₀) :=
  (dats m 0 c).arrAt_eq_of_after_last 4 t₀ (by decide +kernel) _ (fun j => by rw [after0_4]; generalize out0_4 (iblk m c 0 t₀) (iblk m c 1 t₀) (iblk m c 2 t₀) = f; exact cast_eq _ _)

theorem fin5 : (dats m 0 c).arrAt 5 cfg0.N = out0_5 (iblk m c 0 t₀) (iblk m c 1 t₀) (iblk m c 2 t₀) :=
  (dats m 0 c).arrAt_eq_of_after_last 5 t₀ (by decide +kernel) _ (fun j => by rw [after0_5]; generalize out0_5 (iblk m c 0 t₀) (iblk m c 1 t₀) (iblk m c 2 t₀) = f; exact cast_eq _ _)

theorem fin6 : (dats m 0 c).arrAt 6 cfg0.N = out0_6 (iblk m c 0 t₀) (iblk m c 1 t₀) (iblk m c 2 t₀) :=
  (dats m 0 c).arrAt_eq_of_after_last 6 t₀ (by decide +kernel) _ (fun j => by rw [after0_6]; generalize out0_6 (iblk m c 0 t₀) (iblk m c 1 t₀) (iblk m c 2 t₀) = f; exact cast_eq _ _)

theorem fin7 : (dats m 0 c).arrAt 7 cfg0.N = out0_7 (iblk m c 0 t₀) (iblk m c 1 t₀) (iblk m c 2 t₀) :=
  (dats m 0 c).arrAt_eq_of_after_last 7 t₀ (by decide +kernel) _ (fun j => by rw [after0_7]; generalize out0_7 (iblk m c 0 t₀) (iblk m c 1 t₀) (iblk m c 2 t₀) = f; exact cast_eq _ _)

theorem fin8 : (dats m 0 c).arrAt 8 cfg0.N = out0_8 (iblk m c 0 t₀) (iblk m c 1 t₀) (iblk m c 2 t₀) :=
  (dats m 0 c).arrAt_eq_of_after_last 8 t₀ (by decide +kernel) _ (fun j => by rw [after0_8]; generalize out0_8 (iblk m c 0 t₀) (iblk m c 1 t₀) (iblk m c 2 t₀) = f; exact cast_eq _ _)

theorem fin9 : (dats m 0 c).arrAt 9 cfg0.N = out0_9 (iblk m c 0 t₀) (iblk m c 1 t₀) (iblk m c 2 t₀) :=
  (dats m 0 c).arrAt_eq_of_after_last 9 t₀ (by decide +kernel) _ (fun j => by rw [after0_9]; generalize out0_9 (iblk m c 0 t₀) (iblk m c 1 t₀) (iblk m c 2 t₀) = f; exact cast_eq _ _)

end Cert.ReferenceIdeal.Hand

end
-- ==== Proof.ValS.lean ====
/- What both programs compute, index by index: the power-of-two scale, the codes, the products. -/
module

public import Idealize.ShloMosaic.Adequacy
public import Idealize.ShloMosaic.Lib.Pointwise
public import Idealize.ShloMosaic.Lib.MatmulPlain
public import Idealize.ShloMosaic.Lib.Pipeline.Value
public import Idealize.ShloMosaic.PureOps.Ideal.Laws
public import Idealize.ShloMosaic.PureOps.Reduce

@[expose] public section

noncomputable section

namespace Cert.Val

open Idealize.ShloMosaic

section Scale
variable {F : FTy → Type} [FloatOps F]

/-- One step of the bisection: the scale times `k` where the value reaches it. -/
def stepV {s : Shape} (k : BitVec 32) (u a : FVec F s .f32) : FVec F s .f32 :=
  select (cmpf .oge u (mulf a (broadcast s (Scalar.ofBits .f32 k)))) (mulf a (broadcast s (Scalar.ofBits .f32 k))) a
/-- Its start, -/
def startV {s : Shape} (u : FVec F s .f32) : FVec F s .f32 :=
  select (cmpf .oge u (broadcast s (Scalar.ofBits .f32 0x40800000#32))) (broadcast s (Scalar.ofBits .f32 0x40800000#32)) (broadcast s (Scalar.ofBits .f32 0x00800000#32))
/-- its end, -/
def endV {s : Shape} (u a : FVec F s .f32) : FVec F s .f32 :=
  select (cmpf .olt u (broadcast s (Scalar.ofBits .f32 0x00800000#32))) (broadcast s (Scalar.ofBits .f32 0x3F800000#32)) (mulf a (broadcast s (Scalar.ofBits .f32 0x40000000#32)))
/-- and the scale of `u`. -/
def bisV {s : Shape} (u : FVec F s .f32) : FVec F s .f32 :=
  endV u (stepV 0x40000000#32 u (stepV 0x40800000#32 u (stepV 0x41800000#32 u (stepV 0x43800000#32 u (stepV 0x47800000#32 u
    (stepV 0x4F800000#32 u (stepV 0x5F800000#32 u (startV u))))))))
/-- The scale of one value. -/
def bis1 (x : F .f32) : F .f32 := bisV (s := ⟨0, ![]⟩) (fun _ => x) (fun a => a.elim0)

theorem stepV_apply {s t : Shape} (k : BitVec 32) (u a : FVec F s .f32) (u' a' : FVec F t .f32) (i : s.Idx) (j : t.Idx)
    (hu : u i = u' j) (ha : a i = a' j) : stepV k u a i = stepV k u' a' j := by
  show (if FloatOps.cmpf .oge (u i) (FloatOps.mulf (a i) (Scalar.ofBits .f32 k)) = 1#1 then FloatOps.mulf (a i) (Scalar.ofBits .f32 k) else a i)
    = (if FloatOps.cmpf .oge (u' j) (FloatOps.mulf (a' j) (Scalar.ofBits .f32 k)) = 1#1 then FloatOps.mulf (a' j) (Scalar.ofBits .f32 k) else a' j)
  rw [hu, ha]
theorem startV_apply {s t : Shape} (u : FVec F s .f32) (u' : FVec F t .f32) (i : s.Idx) (j : t.Idx)
    (hu : u i = u' j) : startV u i = startV u' j := by
  show (if FloatOps.cmpf .oge (u i) (Scalar.ofBits .f32 0x40800000#32) = 1#1 then _ else _) = (if FloatOps.cmpf .oge (u' j) (Scalar.ofBits .f32 0x40800000#32) = 1#1 then _ else _)
  rw [hu]; rfl
theorem endV_apply {s t : Shape} (u a : FVec F s .f32) (u' a' : FVec F t .f32) (i : s.Idx) (j : t.Idx)
    (hu : u i = u' j) (ha : a i = a' j) : endV u a i = endV u' a' j := by
  show (if FloatOps.cmpf .olt (u i) (Scalar.ofBits .f32 0x00800000#32) = 1#1 then Scalar.ofBits .f32 0x3F800000#32 else FloatOps.mulf (a i) (Scalar.ofBits .f32 0x40000000#32))
    = (if FloatOps.cmpf .olt (u' j) (Scalar.ofBits .f32 0x00800000#32) = 1#1 then Scalar.ofBits .f32 0x3F800000#32 else FloatOps.mulf (a' j) (Scalar.ofBits .f32 0x40000000#32))
  rw [hu, ha]
/-- The scale is taken value by value. -/
theorem bisV_apply {s : Shape} (u : FVec F s .f32) (i : s.Idx) : bisV u i = bis1 (u i) := by
  unfold bis1 bisV
  exact endV_apply _ _ _ _ _ _ rfl (stepV_apply _ _ _ _ _ _ _ rfl (stepV_apply _ _ _ _ _ _ _ rfl (stepV_apply _ _ _ _ _ _ _ rfl
    (stepV_apply _ _ _ _ _ _ _ rfl (stepV_apply _ _ _ _ _ _ _ rfl (stepV_apply _ _ _ _ _ _ _ rfl (stepV_apply _ _ _ _ _ _ _ rfl (startV_apply _ _ _ _ rfl))))))))
end Scale

/-- 1/448 as the programs write it. -/
def c448 : EReal := Scalar.ofBits (F := Ideal) .f32 0x3B124925#32
/-- The scale of a block whose greatest absolute value is `a`. -/
def scE (a : EReal) : EReal := bis1 (F := Ideal) (a * c448)
/-- The code of `x` in a block of that scale. -/
def cdE (x s : EReal) : EReal :=
  min (Scalar.ofBits (F := Ideal) .f32 0x43E00000#32) (max (Scalar.ofBits (F := Ideal) .f32 0xC3E00000#32) (x * Ideal.div 1 s))
/-- The absolute value. -/
def abE (x : EReal) : EReal := max x (-x)

/-- Column `l` of block `n`. -/
def cI (n l : ℕ) : Fin 16384 := ⟨(128 * n + l) % 16384, Nat.mod_lt _ (by decide)⟩

/-- The panel, row by row. -/
abbrev VA := Fin 16384 → Fin 72 → EReal
/-- The trailing matrix. -/
abbrev CA := Fin 1152 → Fin 16384 → EReal
abbrev TA := Fin 72 → Fin 72 → EReal

variable (v : VA) (t : TA) (c : CA)

/-- The scale of block `n` of the panel, -/
def sV (n : ℕ) : EReal := scE (Finset.univ.sup fun l : Fin 128 => Finset.univ.sup fun q : Fin 72 => abE (v (cI n l.val) q))
/-- its codes, -/
def qV (r : Fin 16384) (q : Fin 72) : EReal := cdE (v r q) (sV v (r.val / 128))
/-- the scale of block `n` of a row, -/
def sC (i : Fin 1152) (n : ℕ) : EReal := scE (Finset.univ.sup fun l : Fin 128 => abE (c i (cI n l.val)))
/-- its codes, -/
def qC (i : Fin 1152) (r : Fin 16384) : EReal := cdE (c i r) (sC c i (r.val / 128))
/-- the product of the two, -/
def wE (i : Fin 1152) (q : Fin 72) : EReal := ∑ r : Fin 16384, (qC c i r * sC c i (r.val / 128)) * (qV v r q * sV v (r.val / 128))
/-- times the triangular factor, -/
def yE (i : Fin 1152) (q : Fin 72) : EReal := ∑ k : Fin 72, wE v c i k * t k q
/-- the scale of a row of it, -/
def sY (i : Fin 1152) : EReal := scE (Finset.univ.sup fun q : Fin 72 => abE (yE v t c i q))
/-- its codes, -/
def qY (i : Fin 1152) (q : Fin 72) : EReal := cdE (yE v t c i q) (sY v t c i)
/-- and the updated matrix. -/
def oE (i : Fin 1152) (r : Fin 16384) : EReal :=
  c i r - ((∑ q : Fin 72, qY v t c i q * qV v r q) * sY v t c i) * sV v (r.val / 128)

end Cert.Val

end
-- ==== Proof.ValM.lean ====
/- Maximum reductions over the ideal numbers, as suprema. -/
module

public import proofs.«01_k».proof.Proof.ValS

@[expose] public section

set_option maxRecDepth 16384

noncomputable section

namespace Cert.Val

open Cert.Val
open Idealize.ShloMosaic

theorem absf_ix {s : Shape} (x : FVec Ideal s .f32) (i : s.Idx) : absf x i = abE (x i) := rfl

theorem mulf_ix {s : Shape} (x y : FVec Ideal s .f32) (i : s.Idx) : mulf x y i = x i * y i := rfl

theorem zero_ix {s : Shape} (i : s.Idx) : constant (F := Ideal) s .f32 0x00000000#32 i = (0 : EReal) := Ideal.ofBits_zero_f32

theorem bot_ix : FloatOps.ofBits (F := Ideal) .f32 0xFF800000#32 = (⊥ : EReal) := by
  show Ideal.ieee 8 23 0xFF800000#32 = ⊥
  unfold Ideal.ieee; simp; try decide

/-- The maximum over the last of two axes. -/
theorem max1 {n0 n1 : Nat} {t : Shape} (src : FVec Ideal ⟨2, ![n0, n1]⟩ .f32) (h : (⟨2, ![n0, n1]⟩ : Shape).Reduces [1] t)
    (hφ) (hacc) (j : t.Idx) (i : Fin n0) (hi : (j ⟨0, h.lt_r2_a1_0⟩).val = i.val) :
    multiReduction .maximumf [1] t src 0xFF800000#32 h hφ hacc j = Finset.univ.sup fun k : Fin n1 => src (ix2 i k) := by
  rw [multiReduction_maximumf_eq_fold, Shape.Reduces.fold_fiber_r2_a1, bot_ix]
  have e : (⟨(j ⟨0, h.lt_r2_a1_0⟩).val, Shape.coordLt (j ⟨0, h.lt_r2_a1_0⟩) h.size_r2_a1_0⟩ : Fin n0) = i := Fin.ext hi
  rw [e]; rfl

/-- The maximum over the first of two axes. -/
theorem max0 {n0 n1 : Nat} {t : Shape} (src : FVec Ideal ⟨2, ![n0, n1]⟩ .f32) (h : (⟨2, ![n0, n1]⟩ : Shape).Reduces [0] t)
    (hφ) (hacc) (j : t.Idx) (i : Fin n1) (hi : (j ⟨0, h.lt_r2_a0_0⟩).val = i.val) :
    multiReduction .maximumf [0] t src 0xFF800000#32 h hφ hacc j = Finset.univ.sup fun k : Fin n0 => src (ix2 k i) := by
  rw [multiReduction_maximumf_eq_fold, Shape.Reduces.fold_fiber_r2_a0, bot_ix]
  have e : (⟨(j ⟨0, h.lt_r2_a0_0⟩).val, Shape.coordLt (j ⟨0, h.lt_r2_a0_0⟩) h.size_r2_a0_0⟩ : Fin n1) = i := Fin.ext hi
  rw [e]; rfl

/-- The maximum over the last of three axes. -/
theorem max2 {n0 n1 n2 : Nat} {t : Shape} (src : FVec Ideal ⟨3, ![n0, n1, n2]⟩ .f32) (h : (⟨3, ![n0, n1, n2]⟩ : Shape).Reduces [2] t)
    (hφ) (hacc) (j : t.Idx) (a : Fin n0) (b : Fin n1) (ha : (j ⟨0, h.lt_r3_a2_0⟩).val = a.val) (hb : (j ⟨1, h.lt_r3_a2_1⟩).val = b.val) :
    multiReduction .maximumf [2] t src 0xFF800000#32 h hφ hacc j = Finset.univ.sup fun k : Fin n2 => src (ix3 a b k) := by
  rw [multiReduction_maximumf_eq_fold, Shape.Reduces.fold_fiber_r3_a2, bot_ix]
  have e : (⟨(j ⟨0, h.lt_r3_a2_0⟩).val, Shape.coordLt (j ⟨0, h.lt_r3_a2_0⟩) h.size_r3_a2_0⟩ : Fin n0) = a := Fin.ext ha
  have e' : (⟨(j ⟨1, h.lt_r3_a2_1⟩).val, Shape.coordLt (j ⟨1, h.lt_r3_a2_1⟩) h.size_r3_a2_1⟩ : Fin n1) = b := Fin.ext hb
  rw [e, e']; rfl

/-- The maximum over the last two of three axes. -/
theorem max12 {n0 n1 n2 : Nat} {t : Shape} (src : FVec Ideal ⟨3, ![n0, n1, n2]⟩ .f32) (h : (⟨3, ![n0, n1, n2]⟩ : Shape).Reduces [1, 2] t)
    (hφ) (hacc) (j : t.Idx) (a : Fin n0) (ha : (j ⟨0, h.lt_r3_a12_0⟩).val = a.val) :
    multiReduction .maximumf [1, 2] t src 0xFF800000#32 h hφ hacc j
      = Finset.univ.sup fun k : Fin n1 => Finset.univ.sup fun l : Fin n2 => src (ix3 a k l) := by
  rw [multiReduction_maximumf_eq_fold, Shape.Reduces.fold_fiber_r3_a12, bot_ix]
  have e : (⟨(j ⟨0, h.lt_r3_a12_0⟩).val, Shape.coordLt (j ⟨0, h.lt_r3_a12_0⟩) h.size_r3_a12_0⟩ : Fin n0) = a := Fin.ext ha
  rw [e]
  exact Finset.sup_product_left (s := (Finset.univ : Finset (Fin n1))) (t := (Finset.univ : Finset (Fin n2))) (fun k : Fin n1 × Fin n2 => src (ix3 a k.1 k.2))

theorem rm1 {n0 : Nat} (a : Fin n0) : ((⟨1, ![n0]⟩ : Shape).rowMajor (ix1 a)).val = a.val := Shape.rowMajor_val_one _
theorem rm2 {n0 n1 : Nat} (a : Fin n0) (b : Fin n1) : ((⟨2, ![n0, n1]⟩ : Shape).rowMajor (ix2 a b)).val = a.val * n1 + b.val :=
  Shape.rowMajor_val_two _
theorem rm3 {n0 n1 n2 : Nat} (a : Fin n0) (b : Fin n1) (c : Fin n2) :
    ((⟨3, ![n0, n1, n2]⟩ : Shape).rowMajor (ix3 a b c)).val = (a.val * n1 + b.val) * n2 + c.val := Shape.rowMajor_val_three _

/-- Reshapes, read at an index. -/
theorem sc13 {n0 m0 m1 m2 : Nat} {α : Type} (x : (⟨1, ![n0]⟩ : Shape).Idx → α) (h : (⟨1, ![n0]⟩ : Shape).ShapeCasts ⟨3, ![m0, m1, m2]⟩)
    (a b c) (i : Fin n0) (e : i.val = (a.val * m1 + b.val) * m2 + c.val) : shapeCast ⟨3, ![m0, m1, m2]⟩ x h (ix3 a b c) = x (ix1 i) :=
  shapeCast_apply x h _ _ ((rm1 i).trans (e.trans (rm3 a b c).symm))
theorem sc23 {n0 n1 m0 m1 m2 : Nat} {α : Type} (x : (⟨2, ![n0, n1]⟩ : Shape).Idx → α) (h : (⟨2, ![n0, n1]⟩ : Shape).ShapeCasts ⟨3, ![m0, m1, m2]⟩)
    (a b c) (i : Fin n0) (j : Fin n1) (e : i.val * n1 + j.val = (a.val * m1 + b.val) * m2 + c.val) :
    shapeCast ⟨3, ![m0, m1, m2]⟩ x h (ix3 a b c) = x (ix2 i j) :=
  shapeCast_apply x h _ _ ((rm2 i j).trans (e.trans (rm3 a b c).symm))
theorem sc32 {n0 n1 m0 m1 m2 : Nat} {α : Type} (x : (⟨3, ![m0, m1, m2]⟩ : Shape).Idx → α) (h : (⟨3, ![m0, m1, m2]⟩ : Shape).ShapeCasts ⟨2, ![n0, n1]⟩)
    (i : Fin n0) (j : Fin n1) (a b c) (e : (a.val * m1 + b.val) * m2 + c.val = i.val * n1 + j.val) :
    shapeCast ⟨2, ![n0, n1]⟩ x h (ix2 i j) = x (ix3 a b c) :=
  shapeCast_apply x h _ _ ((rm3 a b c).trans (e.trans (rm2 i j).symm))
theorem sc12 {n0 m0 m1 : Nat} {α : Type} (x : (⟨1, ![n0]⟩ : Shape).Idx → α) (h : (⟨1, ![n0]⟩ : Shape).ShapeCasts ⟨2, ![m0, m1]⟩)
    (a b) (i : Fin n0) (e : i.val = a.val * m1 + b.val) : shapeCast ⟨2, ![m0, m1]⟩ x h (ix2 a b) = x (ix1 i) :=
  shapeCast_apply x h _ _ ((rm1 i).trans (e.trans (rm2 a b).symm))
theorem sc22 {n0 n1 m0 m1 : Nat} {α : Type} (x : (⟨2, ![n0, n1]⟩ : Shape).Idx → α) (h : (⟨2, ![n0, n1]⟩ : Shape).ShapeCasts ⟨2, ![m0, m1]⟩)
    (a b) (i : Fin n0) (j : Fin n1) (e : i.val * n1 + j.val = a.val * m1 + b.val) : shapeCast ⟨2, ![m0, m1]⟩ x h (ix2 a b) = x (ix2 i j) :=
  shapeCast_apply x h _ _ ((rm2 i j).trans (e.trans (rm2 a b).symm))

/-- Broadcasts, read at an index. -/
theorem bc2 {n0 n1 m0 m1 : Nat} {α : Type} (x : (⟨2, ![n0, n1]⟩ : Shape).Idx → α) (h : (⟨2, ![n0, n1]⟩ : Shape).Broadcasts ⟨2, ![m0, m1]⟩)
    (a b) (i : Fin n0) (j : Fin n1) (e0 : i.val = if n0 = 1 then 0 else a.val) (e1 : j.val = if n1 = 1 then 0 else b.val) :
    broadcastTo ⟨2, ![m0, m1]⟩ x h (ix2 a b) = x (ix2 i j) :=
  broadcastTo_apply x h _ _ fun k => match k with
    | ⟨0, _⟩ => e0
    | ⟨1, _⟩ => e1
theorem bc3 {n0 n1 n2 m0 m1 m2 : Nat} {α : Type} (x : (⟨3, ![n0, n1, n2]⟩ : Shape).Idx → α) (h : (⟨3, ![n0, n1, n2]⟩ : Shape).Broadcasts ⟨3, ![m0, m1, m2]⟩)
    (a b c) (i : Fin n0) (j : Fin n1) (k : Fin n2) (e0 : i.val = if n0 = 1 then 0 else a.val) (e1 : j.val = if n1 = 1 then 0 else b.val)
    (e2 : k.val = if n2 = 1 then 0 else c.val) :
    broadcastTo ⟨3, ![m0, m1, m2]⟩ x h (ix3 a b c) = x (ix3 i j k) :=
  broadcastTo_apply x h _ _ fun l => match l with
    | ⟨0, _⟩ => e0
    | ⟨1, _⟩ => e1
    | ⟨2, _⟩ => e2

/-- Slices and paddings of a matrix, read at an index. -/
theorem es2 {n0 n1 m0 m1 : Nat} {α : Type} (o0 o1 : ℕ) (x : (⟨2, ![n0, n1]⟩ : Shape).Idx → α) (h : (⟨2, ![n0, n1]⟩ : Shape).Slices ![o0, o1] ⟨2, ![m0, m1]⟩)
    (a b) (i : Fin n0) (j : Fin n1) (e0 : i.val = o0 + a.val) (e1 : j.val = o1 + b.val) :
    extractStridedSlice ⟨2, ![m0, m1]⟩ ![o0, o1] x h (ix2 a b) = x (ix2 i j) :=
  extractStridedSlice_apply _ x h _ _ fun k => match k with
    | ⟨0, _⟩ => e0
    | ⟨1, _⟩ => e1
theorem cat0 {n0 n1 n p : Nat} {α : Type} (x₁ : (⟨2, ![n0, p]⟩ : Shape).Idx → α) (x₂ : (⟨2, ![n1, p]⟩ : Shape).Idx → α)
    (h : Shape.Concatenates [⟨2, ![n0, p]⟩, ⟨2, ![n1, p]⟩] ⟨2, ![n, p]⟩ 0) (hn : n = n0 + n1) (i : Fin n) (j : Fin p) :
    concatenate ⟨2, ![n, p]⟩ 0 [⟨⟨2, ![n0, p]⟩, x₁⟩, ⟨⟨2, ![n1, p]⟩, x₂⟩] h (ix2 i j)
      = if e : i.val < n0 then x₁ (ix2 ⟨i.val, e⟩ j) else x₂ (ix2 ⟨i.val - n0, by omega⟩ j) := by
  split
  · next e =>
    exact concatenate_pair_apply_left (t := ⟨2, ![n, p]⟩) 0 x₁ x₂ h (ix2 i j) rfl (ix2 ⟨i.val, e⟩ j) (fun b => match b with
      | ⟨0, _⟩ => rfl
      | ⟨1, _⟩ => rfl)
  · next e =>
    exact concatenate_pair_apply_right (t := ⟨2, ![n, p]⟩) 0 x₁ x₂ h (ix2 i j) rfl rfl (ix2 ⟨i.val - n0, by omega⟩ j) (fun b hb => match b, hb with
      | ⟨0, _⟩, hb => absurd rfl hb
      | ⟨1, _⟩, hb => rfl) (show i.val - n0 + n0 = i.val by omega)
theorem cat1 {n0 n1 n p : Nat} {α : Type} (x₁ : (⟨2, ![p, n0]⟩ : Shape).Idx → α) (x₂ : (⟨2, ![p, n1]⟩ : Shape).Idx → α)
    (h : Shape.Concatenates [⟨2, ![p, n0]⟩, ⟨2, ![p, n1]⟩] ⟨2, ![p, n]⟩ 1) (hn : n = n0 + n1) (j : Fin p) (i : Fin n) :
    concatenate ⟨2, ![p, n]⟩ 1 [⟨⟨2, ![p, n0]⟩, x₁⟩, ⟨⟨2, ![p, n1]⟩, x₂⟩] h (ix2 j i)
      = if e : i.val < n0 then x₁ (ix2 j ⟨i.val, e⟩) else x₂ (ix2 j ⟨i.val - n0, by omega⟩) := by
  split
  · next e =>
    exact concatenate_pair_apply_left (t := ⟨2, ![p, n]⟩) 1 x₁ x₂ h (ix2 j i) rfl (ix2 j ⟨i.val, e⟩) (fun b => match b with
      | ⟨0, _⟩ => rfl
      | ⟨1, _⟩ => rfl)
  · next e =>
    exact concatenate_pair_apply_right (t := ⟨2, ![p, n]⟩) 1 x₁ x₂ h (ix2 j i) rfl rfl (ix2 j ⟨i.val - n0, by omega⟩) (fun b hb => match b, hb with
      | ⟨0, _⟩, hb => rfl
      | ⟨1, _⟩, hb => absurd rfl hb) (show i.val - n0 + n0 = i.val by omega)

/-- A transpose of a matrix, read at an index. -/
theorem tr2 {n0 n1 : Nat} {α : Type} (x : (⟨2, ![n0, n1]⟩ : Shape).Idx → α) (h : (⟨2, ![n0, n1]⟩ : Shape).Transposes [1, 0] ⟨2, ![n1, n0]⟩)
    (a b) : transpose ⟨2, ![n1, n0]⟩ [1, 0] x h (ix2 a b) = x (ix2 b a) :=
  transpose_apply [1, 0] x h _ _ fun k => match k with
    | ⟨0, _⟩ => rfl
    | ⟨1, _⟩ => rfl

theorem cI_lo (n l : Fin 128) : (cI n.val l.val).val = 128 * n.val + l.val := Nat.mod_eq_of_lt (by omega)

theorem truncf_ix {s : Shape} {φ : FTy} (ψ : FTy) (x : FVec Ideal s φ) (h) (i : s.Idx) : truncf ψ x h i = x i := rfl

/-- A quotient, clipped and rounded to a code, read at an index. -/
theorem clip_ix {s : Shape} (c d : Ideal .f32) (x y : FVec Ideal s .f32) (h) (i : s.Idx) :
    truncf .fp8e4m3 (minimumf (broadcast s c) (maximumf (broadcast s d) (mulf x y))) h i = min c (max d (x i * y i)) := rfl
theorem recip_ix {s : Shape} (y : FVec Ideal s .f32) (i : s.Idx) :
    divf (broadcast s (Scalar.ofBits (F := Ideal) .f32 0x3F800000#32)) y i = Ideal.div 1 (y i) := by
  show Ideal.div (Ideal.ofBits .f32 0x3F800000#32) _ = _
  rw [Ideal.ofBits_one_f32]

theorem cI_split (r : Fin 16384) : cI (r.val / 128) (r.val % 128) = r :=
  Fin.ext (by show (128 * (r.val / 128) + r.val % 128) % 16384 = r.val; omega)

/-- A sum or a supremum over 128 whose last 56 terms add nothing. -/
theorem sumPad {K M N : ℕ} (h : M = K + N) (f : Fin M → EReal) (h0 : ∀ k : Fin M, K ≤ k.val → f k = 0) :
    ∑ k : Fin M, f k = ∑ k : Fin K, f ⟨k.val, by omega⟩ := by
  subst h
  rw [Fin.sum_univ_add, Finset.sum_eq_zero (s := (Finset.univ : Finset (Fin N))) (fun k _ => h0 _ (by simp)), add_zero]
  rfl
theorem abE_nonneg (x : EReal) : 0 ≤ abE x := by
  unfold abE
  rcases le_total 0 x with h | h
  · exact le_max_of_le_left h
  · exact le_max_of_le_right (EReal.neg_nonneg.mpr h)
theorem supPad {K M : ℕ} (hK : 0 < K) (h : K ≤ M) (f : Fin M → EReal) (h0 : ∀ k : Fin M, K ≤ k.val → f k = 0) :
    (Finset.univ.sup fun k : Fin M => abE (f k)) = Finset.univ.sup fun k : Fin K => abE (f ⟨k.val, by omega⟩) := by
  refine le_antisymm (Finset.sup_le fun k _ => ?_) (Finset.sup_le fun k _ => Finset.le_sup (f := fun k : Fin M => abE (f k)) (Finset.mem_univ _))
  by_cases hk : k.val < K
  · exact Finset.le_sup (f := fun k : Fin K => abE (f ⟨k.val, by omega⟩)) (Finset.mem_univ (⟨k.val, hk⟩ : Fin K))
  · rw [h0 k (by omega)]
    have e : abE 0 = 0 := by unfold abE; simp
    rw [e]
    exact (abE_nonneg _).trans (Finset.le_sup (f := fun k : Fin K => abE (f ⟨k.val, by omega⟩)) (Finset.mem_univ (⟨0, hK⟩ : Fin K)))

/-- A sum along consecutive blocks. -/
theorem sumBlk (w : ℕ) (g : ℕ → EReal) (n : ℕ) : ∑ r ∈ Finset.range (w * (n + 1)), g r = (∑ r ∈ Finset.range (w * n), g r) + ∑ k : Fin w, g (w * n + k.val) := by
  rw [Nat.mul_succ, Finset.sum_range_add, Finset.sum_range (fun x => g (w * n + x))]

end Cert.Val

end
-- ==== Proof.ValR.lean ====
/- The reference's scales and codes of the panel and of the matrix, at an index. -/
module

public import proofs.«01_k».proof.Proof.ValM
public import proofs.«01_k».proof.Proof.RRun

@[expose] public section

set_option maxRecDepth 16384

noncomputable section

namespace Cert.ReferenceIdeal.Hand

open Cert.ReferenceIdeal Cert.ReferenceIdeal.Gen Cert.Val
open Idealize.ShloMosaic

section
variable (x0 : Vec Ideal S16384x72 .f32) (x1 : Vec Ideal S72x72 .f32) (x2 : Vec Ideal S1152x16384 .f32)

/-- The three arguments as functions of their indices. -/
abbrev vOf : VA := fun r q => x0 (ix2 r q)
abbrev tOf : TA := fun r q => x1 (ix2 r q)
abbrev cOf : CA := fun r q => x2 (ix2 r q)

theorem pay35_eq : k0_pay35 (F := Ideal) x0 x1 x2 = bisV (k0_pay32 (F := Ideal) x0 x1 x2) := rfl
theorem pay45_eq : k0_pay45 (F := Ideal) x0 x1 x2 = bisV (k0_pay42 (F := Ideal) x0 x1 x2) := rfl
theorem pay22_eq : k0_pay22 (k0_pay39 (F := Ideal) x0 x1 x2) (k0_pay40 (F := Ideal) x0 x1 x2) (Scalar.ofBits .f32 0x3F800000#32) = bisV (k0_pay38 (F := Ideal) x0 x1 x2) := rfl

theorem ldA : View.ld x0 r0_1 = x0 := View.ld_unit_zero (by decide) _ _
theorem ldT : View.ld x1 r0_2 = x1 := View.ld_unit_zero (by decide) _ _
theorem ldC : View.ld x2 r0_0 = x2 := View.ld_unit_zero (by decide) _ _

theorem p10 (n l : Fin 128) (q : Fin 72) : k0_pay10 (F := Ideal) (View.ld x0 r0_1) (ix3 n l q) = vOf x0 (cI n.val l.val) q := by
  unfold k0_pay10
  rw [ldA, shapeCast_self]
  exact sc23 _ _ _ _ _ (cI n.val l.val) q (by rw [cI_lo]; omega)

theorem p11 (n : Fin 128) : k0_pay32 (F := Ideal) x0 x1 x2 (ix3 n 0 0)
    = (Finset.univ.sup fun l : Fin 128 => Finset.univ.sup fun q : Fin 72 => abE (vOf x0 (cI n.val l.val) q)) * c448 := by
  unfold k0_pay32 k0_pay11
  rw [mulf_ix]
  refine congrArg₂ (· * ·) ?_ rfl
  refine (sc13 _ _ _ _ _ n (by simp)).trans ((max12 _ _ _ _ (ix1 n) n rfl).trans ?_)
  refine congrArg _ (funext fun l => congrArg _ (funext fun q => ?_))
  rw [absf_ix, p10]

theorem pSv (n : Fin 128) : k0_pay35 (F := Ideal) x0 x1 x2 (ix3 n 0 0) = sV (vOf x0) n.val := by
  rw [pay35_eq, bisV_apply, p11]; rfl

theorem pQv (n l : Fin 128) (q : Fin 72) : k0_pay36 (F := Ideal) x0 x1 x2 (ix3 n l q) = qV (vOf x0) (cI n.val l.val) q := by
  have e : (cI n.val l.val).val / 128 = n.val := by rw [cI_lo]; omega
  unfold k0_pay36 k0_pay15
  refine (clip_ix _ _ _ _ _ _).trans ?_
  rw [bc3 _ _ _ _ _ n 0 0 (by simp) (by simp) (by simp), p10, recip_ix]
  unfold qV cdE
  rw [e, ← pSv x0 x1 x2]
  rfl

theorem pQv2 (r : Fin 16384) (q : Fin 72) : k0_pay41 (F := Ideal) x0 x1 x2 (ix2 r q) = qV (vOf x0) r q := by
  have e : cI (r.val / 128) (r.val % 128) = r := Fin.ext (by show (128 * (r.val / 128) + r.val % 128) % 16384 = r.val; omega)
  unfold k0_pay41 k0_pay24
  refine (sc32 _ _ _ _ (⟨r.val / 128, by omega⟩ : Fin 128) (⟨r.val % 128, by omega⟩ : Fin 128) q (by dsimp only; omega)).trans ?_
  rw [pQv]; dsimp only; rw [e]

theorem p31 : k0_pay31 (F := Ideal) x0 x1 x2 = x2 := by
  unfold k0_pay31 k0_pay9
  rw [ldC, shapeCast_self]

theorem p37 (i : Fin 1152) (n l : Fin 128) : k0_pay37 (F := Ideal) x0 x1 x2 (ix3 i n l) = cOf x2 i (cI n.val l.val) := by
  unfold k0_pay37 k0_pay16
  rw [p31]
  exact sc23 _ _ _ _ _ i (cI n.val l.val) (by rw [cI_lo]; omega)

theorem p38 (i : Fin 1152) (n : Fin 128) : k0_pay38 (F := Ideal) x0 x1 x2 (ix3 i n 0)
    = (Finset.univ.sup fun l : Fin 128 => abE (cOf x2 i (cI n.val l.val))) * c448 := by
  unfold k0_pay38 k0_pay17
  rw [mulf_ix]
  refine congrArg₂ (· * ·) ?_ rfl
  refine (sc23 _ _ _ _ _ i n (by simp)).trans ((max2 _ _ _ _ (ix2 i n) i n rfl rfl).trans ?_)
  refine congrArg _ (funext fun l => ?_)
  rw [absf_ix]
  exact congrArg abE (p37 x0 x1 x2 i n l)

/-- The matrix's scales. -/
def sc22v : FVec Ideal S1152x128x1 .f32 := k0_pay22 (k0_pay39 (F := Ideal) x0 x1 x2) (k0_pay40 (F := Ideal) x0 x1 x2) (Scalar.ofBits .f32 0x3F800000#32)

theorem pSc (i : Fin 1152) (n : Fin 128) : sc22v x0 x1 x2 (ix3 i n 0) = sC (cOf x2) i n.val := by
  unfold sc22v
  rw [pay22_eq, bisV_apply, p38]; rfl

/-- The matrix's codes. -/
def qc23v : FVec Ideal S1152x128x128 .fp8e4m3 := k0_pay23 (k0_pay37 (F := Ideal) x0 x1 x2) (k0_pay39 (F := Ideal) x0 x1 x2) (k0_pay40 (F := Ideal) x0 x1 x2) (Scalar.ofBits .f32 0x3F800000#32)

theorem pQc (i : Fin 1152) (n l : Fin 128) : qc23v x0 x1 x2 (ix3 i n l) = qC (cOf x2) i (cI n.val l.val) := by
  have e : (cI n.val l.val).val / 128 = n.val := by rw [cI_lo]; omega
  unfold qc23v k0_pay23
  refine (clip_ix _ _ _ _ _ _).trans ?_
  rw [bc3 _ _ _ _ _ i n 0 (by simp) (by simp) (by simp), p37, recip_ix]
  unfold qC cdE
  rw [e, ← pSc x0 x1 x2]
  rfl

theorem pQc2 (i : Fin 1152) (r : Fin 16384) : k0_pay5 (qc23v x0 x1 x2) (ix2 i r) = qC (cOf x2) i r := by
  unfold k0_pay5
  refine (sc32 _ _ _ _ i (⟨r.val / 128, by omega⟩ : Fin 128) (⟨r.val % 128, by omega⟩ : Fin 128) (by dsimp only; omega)).trans ?_
  rw [pQc]; dsimp only; rw [cI_split]

theorem pSc2 (i : Fin 1152) (n : Fin 128) : k0_pay6 (sc22v x0 x1 x2) (ix2 i n) = sC (cOf x2) i n.val := by
  unfold k0_pay6
  exact (sc32 _ _ _ _ i n 0 (by simp)).trans (pSc x0 x1 x2 i n)

theorem pSv2 (n : Fin 128) : k0_pay4 (k0_pay35 (F := Ideal) x0 x1 x2) (ix2 0 n) = sV (vOf x0) n.val := by
  unfold k0_pay4
  exact (sc32 _ _ _ _ n 0 0 (by simp)).trans (pSv x0 x1 x2 n)

theorem pQv3 (r : Fin 16384) (q : Fin 72) : k0_pay3 (k0_pay41 (F := Ideal) x0 x1 x2) (ix2 q r) = qV (vOf x0) r q := by
  unfold k0_pay3
  exact (tr2 _ _ _ _).trans (pQv2 x0 x1 x2 r q)
end

end Cert.ReferenceIdeal.Hand

end
-- ==== Proof.ValR2.lean ====
/- The reference's product, its codes and its output, at an index. -/
module

public import proofs.«01_k».proof.Proof.ValR

@[expose] public section

set_option maxRecDepth 16384

noncomputable section

namespace Cert.ReferenceIdeal.Hand

open Cert.ReferenceIdeal Cert.ReferenceIdeal.Gen Cert.Val
open Idealize.ShloMosaic

section
variable (x0 : Vec Ideal S16384x72 .f32) (x1 : Vec Ideal S72x72 .f32) (x2 : Vec Ideal S1152x16384 .f32)

/-- The product `y`. -/
def y25v : FVec Ideal S1152x72 .f32 := k0_pay25 (k0_pay35 (F := Ideal) x0 x1 x2) (k0_pay36 (F := Ideal) x0 x1 x2) (k0_pay37 (F := Ideal) x0 x1 x2) (k0_pay39 (F := Ideal) x0 x1 x2) (k0_pay40 (F := Ideal) x0 x1 x2) (Scalar.ofBits .f32 0x3F800000#32) (View.ld x1 r0_2)

theorem pY (i : Fin 1152) (q : Fin 72) : y25v x0 x1 x2 (ix2 i q) = yE (vOf x0) (tOf x1) (cOf x2) i q := by
  unfold y25v k0_pay25
  refine (Ideal.matmul_plain_apply (some .fp32) _ _ _ i q).trans ?_
  rw [zero_ix, zero_add]
  unfold yE
  refine Finset.sum_congr rfl fun k _ => congrArg₂ (· * ·) ?_ ?_
  · refine (Ideal.matmul_plain_apply none _ _ _ i k).trans ?_
    rw [zero_ix, zero_add]
    unfold wE
    refine Finset.sum_congr rfl fun r _ => congrArg₂ (· * ·) ?_ ?_
    · refine (sc32 _ _ _ _ i (⟨r.val / 128, by omega⟩ : Fin 128) (⟨r.val % 128, by omega⟩ : Fin 128) (by dsimp only; omega)).trans ?_
      refine congrArg₂ (· * ·) ((pQc x0 x1 x2 i _ _).trans ?_) ((bc3 _ _ _ _ _ i ⟨r.val / 128, by omega⟩ 0 (by simp) (by simp) (by simp)).trans (pSc x0 x1 x2 i _))
      dsimp only; rw [cI_split]
    · refine (sc32 _ _ _ _ (⟨r.val / 128, by omega⟩ : Fin 128) (⟨r.val % 128, by omega⟩ : Fin 128) k (by dsimp only; omega)).trans ?_
      refine congrArg₂ (· * ·) ?_ ?_
      · refine (pQv x0 x1 x2 _ _ _).trans ?_
        dsimp only; rw [cI_split]
      · refine (bc3 _ _ _ _ _ ⟨r.val / 128, by omega⟩ 0 0 (by simp) (by simp) (by simp)).trans ?_
        exact (truncf_ix (φ := .f32) .bf16 (k0_pay35 (F := Ideal) x0 x1 x2) bitsLt_bf16_f32 _).trans (pSv x0 x1 x2 ⟨r.val / 128, by omega⟩)
  · rw [shapeCast_self, ldT]; rfl

theorem p42 (i : Fin 1152) : k0_pay42 (F := Ideal) x0 x1 x2 (ix2 i 0)
    = (Finset.univ.sup fun q : Fin 72 => abE (yE (vOf x0) (tOf x1) (cOf x2) i q)) * c448 := by
  unfold k0_pay42 k0_pay26
  rw [mulf_ix]
  refine congrArg₂ (· * ·) ?_ rfl
  refine (sc12 _ _ _ _ i (by simp)).trans ((max1 _ _ _ _ (ix1 i) i rfl).trans ?_)
  refine congrArg _ (funext fun q => ?_)
  rw [absf_ix]
  exact congrArg abE (pY x0 x1 x2 i q)

theorem pSy (i : Fin 1152) : k0_pay45 (F := Ideal) x0 x1 x2 (ix2 i 0) = sY (vOf x0) (tOf x1) (cOf x2) i := by
  rw [pay45_eq, bisV_apply, p42]; rfl

/-- The product's codes. -/
def qy1v : FVec Ideal S1152x72 .fp8e4m3 := k0_pay1 (k0_pay46 (F := Ideal) x0 x1 x2) (Scalar.ofBits .f32 0xC3E00000#32) (Scalar.ofBits .f32 0x43E00000#32)

theorem pQy (i : Fin 1152) (q : Fin 72) : qy1v x0 x1 x2 (ix2 i q) = qY (vOf x0) (tOf x1) (cOf x2) i q := by
  unfold qy1v k0_pay1 k0_pay46 k0_pay30
  refine (clip_ix _ _ _ _ _ _).trans ?_
  rw [bc2 _ _ _ _ i 0 (by simp) (by simp), recip_ix]
  unfold qY cdE
  rw [← pSy, ← pY]
  rfl

theorem pQy2 (i : Fin 1152) (q : Fin 72) : k0_pay7 (k0_pay46 (F := Ideal) x0 x1 x2) (Scalar.ofBits .f32 0xC3E00000#32) (Scalar.ofBits .f32 0x43E00000#32) (ix2 q i) = qY (vOf x0) (tOf x1) (cOf x2) i q := by
  unfold k0_pay7
  exact (tr2 _ _ _ _).trans (pQy x0 x1 x2 i q)

theorem pSy2 (i : Fin 1152) : k0_pay8 (k0_pay45 (F := Ideal) x0 x1 x2) (ix2 0 i) = sY (vOf x0) (tOf x1) (cOf x2) i := by
  unfold k0_pay8
  exact (sc22 _ _ _ _ i 0 (by simp)).trans (pSy x0 x1 x2 i)

theorem pO (i : Fin 1152) (r : Fin 16384) :
    k0_pay2 (k0_pay31 (F := Ideal) x0 x1 x2) (k0_pay35 (F := Ideal) x0 x1 x2) (k0_pay41 (F := Ideal) x0 x1 x2) (k0_pay45 (F := Ideal) x0 x1 x2) (k0_pay46 (F := Ideal) x0 x1 x2)
      (Scalar.ofBits .f32 0xC3E00000#32) (Scalar.ofBits .f32 0x43E00000#32) (ix2 i r) = oE (vOf x0) (tOf x1) (cOf x2) i r := by
  unfold k0_pay2 oE
  refine congrArg₂ (· - ·) (by rw [p31]) (congrArg₂ (· * ·) (congrArg₂ (· * ·) ?_ ?_) ?_)
  · refine (Ideal.matmul_transposedRhs_apply none _ _ _ i r).trans ?_
    rw [zero_ix, zero_add]
    exact Finset.sum_congr rfl fun q _ => congrArg₂ (· * ·) (pQy x0 x1 x2 i q) (pQv2 x0 x1 x2 r q)
  · exact (bc2 _ _ _ _ i 0 (by simp) (by simp)).trans (pSy x0 x1 x2 i)
  · refine (bc2 _ _ _ _ 0 r (by simp) (by simp)).trans ?_
    refine (sc32 _ _ _ _ (⟨r.val / 128, by omega⟩ : Fin 128) (⟨r.val % 128, by omega⟩ : Fin 128) 0 (by simp; omega)).trans ?_
    rw [shapeCast_self]
    exact (bc3 _ _ _ _ _ ⟨r.val / 128, by omega⟩ 0 0 (by simp) (by simp) (by simp)).trans (pSv x0 x1 x2 _)
end

end Cert.ReferenceIdeal.Hand

end
-- ==== Proof.RRun2.lean ====
/- The reference's run: its seven results are the specification's. -/
module

public import proofs.«01_k».proof.Proof.RRun
public import proofs.«01_k».proof.Proof.ValR2

@[expose] public section

set_option maxRecDepth 16384

noncomputable section

namespace Cert.ReferenceIdeal.Hand

open Cert.ReferenceIdeal Cert.ReferenceIdeal.Gen Cert.Val
open Idealize.ShloMosaic
open Idealize.ShloMosaic.TcCoe
open Idealize.SL Idealize.SL.RA Idealize.SL.BI Idealize.SL.Sem

section
variable (m : (ℓ : Loc nD τ sig) → Buf (Elt Ideal) ℓ) (ρ : Dev nD → PrngReg) (c : Dev nD)

/-- The arguments, reshaped. -/
theorem V_v0 : V m c main_v0 = (shapeCast S16384x72 (m ((c : Thread nD τ).loc main_arg0) : S1x16384x72.Idx → Ideal .f32) shapeCasts_S1x16384x72_S16384x72 : S16384x72.Idx → Ideal .f32) := by
  show StableHlo.after hostOps0 _ (Proc.devRef .tc main_v0) = _
  after_results
  rfl
theorem V_v1 : V m c main_v1 = (shapeCast S72x72 (m ((c : Thread nD τ).loc main_arg1) : S1x72x72.Idx → Ideal .f32) shapeCasts_S1x72x72_S72x72 : S72x72.Idx → Ideal .f32) := by
  show StableHlo.after hostOps0 _ (Proc.devRef .tc main_v1) = _
  after_results
  rfl
theorem V_v2 : V m c main_v2 = (shapeCast S1152x16384 (m ((c : Thread nD τ).loc main_arg2) : S1x1152x16384.Idx → Ideal .f32) shapeCasts_S1x1152x16384_S1152x16384 : S1152x16384.Idx → Ideal .f32) := by
  show StableHlo.after hostOps0 _ (Proc.devRef .tc main_v2) = _
  after_results
  rfl

variable (x0 : Vec Ideal S16384x72 .f32) (x1 : Vec Ideal S72x72 .f32) (x2 : Vec Ideal S1152x16384 .f32)
theorem o3 (i : Fin 1152) (r : Fin 16384) : out0_3 (F := Ideal) x0 x1 x2 (ix2 i r) = oE (vOf x0) (tOf x1) (cOf x2) i r :=
  (congrFun (View.canon_unit_zero (by decide) _ _) _).trans (pO x0 x1 x2 i r)
theorem o4 (q : Fin 72) (r : Fin 16384) : out0_4 (F := Ideal) x0 x1 x2 (ix2 q r) = qV (vOf x0) r q :=
  (congrFun (View.canon_unit_zero (by decide) _ _) _).trans (pQv3 x0 x1 x2 r q)
theorem o5 (n : Fin 128) : out0_5 (F := Ideal) x0 x1 x2 (ix2 0 n) = sV (vOf x0) n.val :=
  (congrFun (View.canon_unit_zero (by decide) _ _) _).trans (pSv2 x0 x1 x2 n)
theorem o6 (i : Fin 1152) (r : Fin 16384) : out0_6 (F := Ideal) x0 x1 x2 (ix2 i r) = qC (cOf x2) i r :=
  (congrFun (View.canon_unit_zero (by decide) _ _) _).trans (pQc2 x0 x1 x2 i r)
theorem o7 (i : Fin 1152) (n : Fin 128) : out0_7 (F := Ideal) x0 x1 x2 (ix2 i n) = sC (cOf x2) i n.val :=
  (congrFun (View.canon_unit_zero (by decide) _ _) _).trans (pSc2 x0 x1 x2 i n)
theorem o8 (q : Fin 72) (i : Fin 1152) : out0_8 (F := Ideal) x0 x1 x2 (ix2 q i) = qY (vOf x0) (tOf x1) (cOf x2) i q :=
  (congrFun (View.canon_unit_zero (by decide) _ _) _).trans (pQy2 x0 x1 x2 i q)
theorem o9 (i : Fin 1152) : out0_9 (F := Ideal) x0 x1 x2 (ix2 0 i) = sY (vOf x0) (tOf x1) (cOf x2) i :=
  (congrFun (View.canon_unit_zero (by decide) _ _) _).trans (pSy2 x0 x1 x2 i)

/-- The arguments of the specification. -/
abbrev rV : VA := vOf (X0 m c)
abbrev rT : TA := tOf (X1 m c)
abbrev rC : CA := cOf (X2 m c)

/-- What the seven results hold. -/
structure RVals (s : MemSt nD τ sig (Elt Ideal)) : Prop where
  o : ∀ i r, (s.mem ((c : Thread nD τ).loc main_v3_0) : S1152x16384.Idx → Ideal .f32) (ix2 i r) = oE (rV m c) (rT m c) (rC m c) i r
  qv : ∀ q r, (s.mem ((c : Thread nD τ).loc main_v3_1) : S72x16384.Idx → Ideal .fp8e4m3) (ix2 q r) = qV (rV m c) r q
  sv : ∀ n : Fin 128, (s.mem ((c : Thread nD τ).loc main_v3_2) : S1x128.Idx → Ideal .f32) (ix2 0 n) = sV (rV m c) n.val
  qc : ∀ i r, (s.mem ((c : Thread nD τ).loc main_v3_3) : S1152x16384.Idx → Ideal .fp8e4m3) (ix2 i r) = qC (rC m c) i r
  sc : ∀ i (n : Fin 128), (s.mem ((c : Thread nD τ).loc main_v3_4) : S1152x128.Idx → Ideal .f32) (ix2 i n) = sC (rC m c) i n.val
  qy : ∀ q i, (s.mem ((c : Thread nD τ).loc main_v3_5) : S72x1152.Idx → Ideal .fp8e4m3) (ix2 q i) = qY (rV m c) (rT m c) (rC m c) i q
  sy : ∀ i, (s.mem ((c : Thread nD τ).loc main_v3_6) : S1x1152.Idx → Ideal .f32) (ix2 0 i) = sY (rV m c) (rT m c) (rC m c) i

theorem run_vals : θ_run defs (onTc (τ := τ) (main (F := Ideal))) (s₀ m ρ) (fun r => ∀ c, RVals m c r.2) :=
  (θ_run defs _ _).mono (fun r h c => by
    have e0 := iblk0 m c
    have e1 := iblk1 m c
    have e2 := iblk2 m c
    have f3 := ((h c).1 3).trans (fin3 m c)
    have f4 := ((h c).1 4).trans (fin4 m c)
    have f5 := ((h c).1 5).trans (fin5 m c)
    have f6 := ((h c).1 6).trans (fin6 m c)
    have f7 := ((h c).1 7).trans (fin7 m c)
    have f8 := ((h c).1 8).trans (fin8 m c)
    have f9 := ((h c).1 9).trans (fin9 m c)
    rw [e0, e1, e2] at f3 f4 f5 f6 f7 f8 f9
    exact ⟨fun i r => (congrFun f3 _).trans (o3 _ _ _ i r), fun q r => (congrFun f4 _).trans (o4 _ _ _ q r), fun n => (congrFun f5 _).trans (o5 _ _ _ n),
      fun i r => (congrFun f6 _).trans (o6 _ _ _ i r), fun i n => (congrFun f7 _).trans (o7 _ _ _ i n), fun q i => (congrFun f8 _).trans (o8 _ _ _ q i),
      fun i => (congrFun f9 _).trans (o9 _ _ _ i)⟩) (run_main m ρ)
end

end Cert.ReferenceIdeal.Hand

end
-- ==== Proof.ValK1.lean ====
/- The kernel's scales and codes of the panel, at an index. -/
module

public import proofs.«01_k».proof.Proof.ValM
public import proofs.«01_k».proof.Proof.ILaunch

@[expose] public section

set_option maxRecDepth 16384

noncomputable section

namespace Cert.KernelIdeal.Hand

open Cert.KernelIdeal Cert.KernelIdeal.Gen Cert.Val Cert.Hand
open Idealize.ShloMosaic

/-- The panel, from its transpose. -/
abbrev kv (A : S72x16384.Idx → EReal) : VA := fun r q => A (ix2 q r)

theorem scV_eq (x : S72x128.Idx → Ideal .f32) : scV (F := Ideal) x = bisV (k0_pay1 (F := Ideal) x) := rfl

theorem kp1 (A : S72x16384.Idx → Ideal .f32) (n : ℕ) (l : Fin 128) : k0_pay1 (F := Ideal) (blk 128 A n) (ix2 0 l)
    = (Finset.univ.sup fun l : Fin 128 => Finset.univ.sup fun q : Fin 72 => abE (kv A (cI n l.val) q)) * c448 := by
  unfold k0_pay1
  rw [mulf_ix]
  refine congrArg₂ (· * ·) ?_ rfl
  refine (bc2 _ _ _ _ 0 0 (by simp) (by simp)).trans ?_
  rw [shapeCast_self]
  refine (sc12 _ _ _ _ 0 (by simp)).trans ((max1 _ _ _ _ (ix1 0) 0 rfl).trans ?_)
  refine congrArg _ (funext fun m => ?_)
  refine (sc12 _ _ _ _ m (by simp)).trans ((max0 _ _ _ _ (ix1 m) m rfl).trans ?_)
  refine congrArg _ (funext fun q => ?_)
  rfl

theorem kSv (A : S72x16384.Idx → Ideal .f32) (n : ℕ) (l : Fin 128) : scV (F := Ideal) (blk 128 A n) (ix2 0 l) = sV (kv A) n := by
  rw [scV_eq, bisV_apply, kp1]; rfl

/-- The codes before their rounding. -/
abbrev kc5 (x : S72x128.Idx → Ideal .f32) : FVec Ideal S72x128 .f32 := k0_pay5 (F := Ideal) x (k0_pay1 (F := Ideal) x) (k0_pay2 (F := Ideal) x) (k0_pay3 (F := Ideal) x) (Scalar.ofBits .f32 0x43800000#32)

theorem kp5 (A : S72x16384.Idx → Ideal .f32) (n : Fin 128) (q : Fin 72) (l : Fin 128) : kc5 (blk 128 A n.val) (ix2 q l)
      = qV (kv A) (cI n.val l.val) q := by
  have e : (cI n.val l.val).val / 128 = n.val := by rw [cI_lo]; omega
  unfold kc5 k0_pay5
  refine (clip_ix _ _ _ _ (by decide) _).trans ?_
  rw [bc2 _ _ _ _ 0 l (by simp) (by simp), recip_ix]
  unfold qV cdE
  rw [e, ← kSv A n.val l]
  rfl

theorem kQ72 (A : S72x16384.Idx → Ideal .f32) (n : Fin 128) (q : Fin 72) (l : Fin 128) : qV72 (F := Ideal) (blk 128 A n.val) (ix2 q l) = qV (kv A) (cI n.val l.val) q := by
  unfold qV72 k0_pay8
  exact (truncf_ix (φ := .f32) .fp8e4m3 _ bitsLt_fp8e4m3_f32 _).trans (kp5 A n q l)

theorem zero_bc {s : Shape} (i : s.Idx) : broadcast s (Scalar.ofBits (F := Ideal) .f32 0x00000000#32) i = (0 : EReal) := Ideal.ofBits_zero_f32

theorem kQ96 (A : S72x16384.Idx → Ideal .f32) (n : Fin 128) (q : Fin 96) (l : Fin 128) : qV96 (F := Ideal) (blk 128 A n.val) (ix2 q l)
    = if h : q.val < 72 then qV (kv A) (cI n.val l.val) ⟨q.val, h⟩ else 0 := by
  unfold qV96 k0_pay6
  refine (truncf_ix (φ := .f32) .fp8e4m3 _ bitsLt_fp8e4m3_f32 _).trans ((cat0 (n0 := 72) (n1 := 24) (n := 96) (p := 128) _ _ _ rfl q l).trans ?_)
  split
  · exact kp5 A n _ l
  · exact zero_bc _

theorem kDq (A : S72x16384.Idx → Ideal .f32) (n : Fin 128) (q : Fin 80) (l : Fin 128) : dqV (F := Ideal) (blk 128 A n.val) (ix2 q l)
    = if h : q.val < 72 then qV (kv A) (cI n.val l.val) ⟨q.val, h⟩ * sV (kv A) n.val else 0 := by
  unfold dqV k0_pay10
  rw [shapeCast_self]
  refine (es2 0 0 _ _ _ _ (⟨q.val, by omega⟩ : Fin 96) l (by simp) (by simp)).trans ?_
  have e1 := kQ96 A n ⟨q.val, by omega⟩ l
  have e2 := kSv A n.val l
  refine (congrArg₂ (· * ·) e1 ((bc2 _ _ _ _ 0 l (by simp) (by simp)).trans ((congrFun (shapeCast_self _ _) _).trans e2))).trans ?_
  dsimp only
  split
  · rfl
  · exact zero_mul _

theorem full_ix {R : ℕ} {α : Type} (B : ℕ → (Sh R 128).Idx → α) (q : Fin R) (r : Fin 16384) : full B (ix2 q r) = B (r.val / 128) (ix2 q ⟨r.val % 128, Nat.mod_lt _ (by decide)⟩) := rfl

theorem kVQ (A : S72x16384.Idx → Ideal .f32) (q : Fin 96) (r : Fin 16384) : full (fun n => qV96 (F := Ideal) (blk 128 A n)) (ix2 q r)
    = if h : q.val < 72 then qV (kv A) r ⟨q.val, h⟩ else 0 := by
  rw [full_ix]
  have h := kQ96 A ⟨r.val / 128, by omega⟩ q ⟨r.val % 128, by omega⟩
  dsimp only at h
  rw [cI_split] at h; exact h
theorem kVQ72 (A : S72x16384.Idx → Ideal .f32) (q : Fin 72) (r : Fin 16384) : full (fun n => qV72 (F := Ideal) (blk 128 A n)) (ix2 q r) = qV (kv A) r q := by
  rw [full_ix]
  have h := kQ72 A ⟨r.val / 128, by omega⟩ q ⟨r.val % 128, by omega⟩
  dsimp only at h
  rw [cI_split] at h; exact h
theorem kVW (A : S72x16384.Idx → Ideal .f32) (q : Fin 80) (r : Fin 16384) : full (fun n => dqV (F := Ideal) (blk 128 A n)) (ix2 q r)
    = if h : q.val < 72 then qV (kv A) r ⟨q.val, h⟩ * sV (kv A) (r.val / 128) else 0 := by
  rw [full_ix]
  have h := kDq A ⟨r.val / 128, by omega⟩ q ⟨r.val % 128, by omega⟩
  dsimp only at h
  rw [cI_split] at h; exact h
theorem kVS (A : S72x16384.Idx → Ideal .f32) (r : Fin 16384) : full (fun n => scV (F := Ideal) (blk 128 A n)) (ix2 0 r) = sV (kv A) (r.val / 128) := by
  rw [full_ix]
  exact kSv A _ _

/-- One lane of the row of scales. -/
theorem vsUpd_ix (n : ℕ) (hn : n < 128) (x : S72x128.Idx → Ideal .f32) (acc : FVec Ideal S1x128 .f32) (l : Fin 128) :
    vsUpd (F := Ideal) (iota .tc S1x128 32 [1] iota_S1x128_d1_w32) n x acc (ix2 0 l) = if l.val = n then scV x (ix2 0 l) else acc (ix2 0 l) := by
  have hl := l.isLt
  have e : IntOp.cmpi .eq (iota .tc S1x128 32 [1] iota_S1x128_d1_w32 (ix2 0 l)) (BitVec.ofNat 32 n) = BitVec.ofBool (decide (l.val = n)) := by
    rw [iota_single_apply]
    show BitVec.ofBool (BitVec.ofNat 32 l.val == BitVec.ofNat 32 n) = _
    refine congrArg BitVec.ofBool ?_
    rw [beq_eq_decide]
    refine decide_eq_decide.mpr ⟨fun h => ?_, fun h => by rw [h]⟩
    have h' := congrArg BitVec.toNat h
    simp only [BitVec.toNat_ofNat] at h'
    omega
  show Scalar.select (IntOp.cmpi .eq (iota .tc S1x128 32 [1] iota_S1x128_d1_w32 (ix2 0 l)) (BitVec.ofNat 32 n)) _ _ = _
  rw [e]
  by_cases h : l.val = n
  · rw [if_pos h, decide_eq_true h]; rfl
  · rw [if_neg h, decide_eq_false h]; rfl

/-- The row of scales, one lane per block. -/
theorem vsN_ix (A : S72x16384.Idx → Ideal .f32) (init : FVec Ideal S1x128 .f32) (t : ℕ) (ht : t ≤ 32) (l : Fin 128) (hl : l.val < 4 * t) :
    vsN (F := Ideal) (iota .tc S1x128 32 [1] iota_S1x128_d1_w32) A init t (ix2 0 l) = sV (kv A) l.val := by
  induction t with
  | zero => omega
  | succ t ih =>
    unfold vsN
    rw [vsUpd_ix _ (by omega), vsUpd_ix _ (by omega), vsUpd_ix _ (by omega), vsUpd_ix _ (by omega)]
    simp only [kSv]
    split
    · next h => rw [h]
    split
    · next h => rw [h]
    split
    · next h => rw [h]
    split
    · next h => rw [h]
    exact ih (by omega) (by omega)

theorem k104 (x : FVec Ideal S1x128 .f32) : k0_pay104 x = x := shapeCast_self _ _

end Cert.KernelIdeal.Hand

end
-- ==== Proof.ValK2.lean ====
/- The kernel's scales, codes and product of one chunk, at an index. -/
module

public import proofs.«01_k».proof.Proof.ValK1

@[expose] public section

set_option maxRecDepth 16384

noncomputable section

namespace Cert.KernelIdeal.Hand

open Cert.KernelIdeal Cert.KernelIdeal.Gen Cert.Val Cert.Hand
open Idealize.ShloMosaic

/-- A matrix with a window replaced, read at an index. -/
theorem put2_in {n0 n1 m0 m1 : ℕ} {α : Type} (o0 o1 : ℕ) (x : (⟨2, ![n0, n1]⟩ : Shape).Idx → α) (w : (⟨2, ![m0, m1]⟩ : Shape).Idx → α) (i : Fin n0) (j : Fin n1)
    (i' : Fin m0) (j' : Fin m1) (hi : i.val = o0 + i'.val) (hj : j.val = o1 + j'.val) :
    VecWindow.put (s := ⟨2, ![n0, n1]⟩) x ![o0, o1] ![m0, m1] w (ix2 i j) = w (ix2 i' j') := by
  have hin : ∀ b : Fin (⟨2, ![n0, n1]⟩ : Shape).rank, (![o0, o1] : Fin 2 → ℕ) b ≤ ((ix2 i j : (⟨2, ![n0, n1]⟩ : Shape).Idx) b).val
      ∧ ((ix2 i j : (⟨2, ![n0, n1]⟩ : Shape).Idx) b).val < (![o0, o1] : Fin 2 → ℕ) b + (![m0, m1] : Fin 2 → ℕ) b := fun b => match b with
    | ⟨0, _⟩ => (by constructor <;> omega : o0 ≤ i.val ∧ i.val < o0 + m0)
    | ⟨1, _⟩ => (by constructor <;> omega : o1 ≤ j.val ∧ j.val < o1 + m1)
  refine (dif_pos hin).trans (congrArg w (funext fun b => match b with
    | ⟨0, _⟩ => Fin.ext (by show i.val - o0 = i'.val; omega)
    | ⟨1, _⟩ => Fin.ext (by show j.val - o1 = j'.val; omega)))
theorem put2_out {n0 n1 m0 m1 : ℕ} {α : Type} (o0 o1 : ℕ) (x : (⟨2, ![n0, n1]⟩ : Shape).Idx → α) (w : (⟨2, ![m0, m1]⟩ : Shape).Idx → α) (i : Fin n0) (j : Fin n1)
    (h : ¬ (o0 ≤ i.val ∧ i.val < o0 + m0) ∨ ¬ (o1 ≤ j.val ∧ j.val < o1 + m1)) :
    VecWindow.put (s := ⟨2, ![n0, n1]⟩) x ![o0, o1] ![m0, m1] w (ix2 i j) = x (ix2 i j) :=
  dif_neg fun hb => by
    have h0 : o0 ≤ i.val ∧ i.val < o0 + m0 := hb 0
    have h1 : o1 ≤ j.val ∧ j.val < o1 + m1 := hb 1
    omega

/-- A sum along `r`, from a function of the natural numbers. -/
abbrev ixr (n : ℕ) : Fin 16384 := ⟨n % 16384, Nat.mod_lt _ (by decide)⟩

section
variable (X : S64x16384.Idx → Ideal .f32) (c : CA) (a : Fin 64) (i : Fin 1152) (hX : ∀ r, X (ix2 a r) = c i r)
include hX

theorem kp40 (n : ℕ) (l : Fin 128) : k0_pay40 (F := Ideal) (blk 128 X n) (ix2 a l) = (Finset.univ.sup fun l : Fin 128 => abE (c i (cI n l.val))) * c448 := by
  unfold k0_pay40
  rw [mulf_ix]
  refine congrArg₂ (· * ·) ?_ rfl
  refine (bc2 _ _ _ _ a 0 (by simp) (by simp)).trans ?_
  rw [shapeCast_self]
  refine (sc12 _ _ _ _ a (by simp)).trans ((max1 _ _ _ _ (ix1 a) a rfl).trans ?_)
  refine congrArg _ (funext fun m => ?_)
  rw [absf_ix]
  exact congrArg abE (hX _)

omit hX in
theorem pay43_eq (x : S64x128.Idx → Ideal .f32) : k0_pay43 (F := Ideal) (k0_pay40 x) (k0_pay41 x) k0_pay42 = bisV (k0_pay40 (F := Ideal) x) := rfl

theorem k43 (n : ℕ) (l : Fin 128) : k0_pay43 (F := Ideal) (k0_pay40 (blk 128 X n)) (k0_pay41 (blk 128 X n)) k0_pay42 (ix2 a l) = sC c i n := by
  rw [pay43_eq, bisV_apply, kp40 X c a i hX]; rfl

theorem kSc (n : ℕ) (l : Fin 128) : scB (F := Ideal) (blk 128 X n) (ix2 a l) = sC c i n := by
  unfold scB k0_pay44
  exact (truncf_ix (φ := .f32) .bf16 _ bitsLt_bf16_f32 _).trans (k43 X c a i hX n l)

theorem kQc (n l : Fin 128) : qB (F := Ideal) (blk 128 X n.val) (ix2 a l) = Cert.Val.qC c i (cI n.val l.val) := by
  have e : (cI n.val l.val).val / 128 = n.val := by rw [cI_lo]; omega
  unfold qB k0_pay45
  refine (clip_ix _ _ _ _ _ _).trans ?_
  rw [recip_ix, k43 X c a i hX]
  unfold Cert.Val.qC cdE
  rw [e, ← hX]
  rfl

theorem kDc (n l : Fin 128) : dqB (F := Ideal) (blk 128 X n.val) (ix2 a l) = Cert.Val.qC c i (cI n.val l.val) * sC c i n.val := by
  unfold dqB k0_pay48
  exact congrArg₂ (· * ·) (kQc X c a i hX n l) (kSc X c a i hX n.val l)

theorem kQo (r : Fin 16384) : qOf (F := Ideal) X (ix2 a r) = Cert.Val.qC c i r := by
  unfold qOf
  rw [full_ix]
  have h := kQc X c a i hX ⟨r.val / 128, by omega⟩ ⟨r.val % 128, by omega⟩
  dsimp only at h
  rw [cI_split] at h; exact h

omit hX in
/-- One lane of the table of scales. -/
theorem csUpd_ix (n : ℕ) (hn : n < 128) (x : S64x128.Idx → Ideal .f32) (acc : S64x128.Idx → Ideal .f32) (l : Fin 128) :
    csUpd (F := Ideal) n x acc (ix2 a l) = if l.val = n then scB x (ix2 a l) else acc (ix2 a l) := by
  have hl := l.isLt
  have t : ∀ k : ℕ, k < 128 → (BitVec.ofNat 32 k).toInt = (k : ℤ) := fun k hk => by
    rw [BitVec.toInt_eq_toNat_of_lt (by simp only [BitVec.toNat_ofNat]; omega), BitVec.toNat_ofNat]
    omega
  have e : Ideal.cmp .oeq ((((iota .tc S64x128 32 [1] iota_S64x128_d1_w32 (ix2 a l)).toInt : ℝ)) : EReal) ((((BitVec.ofNat 32 n).toInt : ℝ)) : EReal) = BitVec.ofBool (decide (l.val = n)) := by
    rw [iota_single_apply, show BitVec.ofNat 32 ((ix2 a l : S64x128.Idx) 1).val = BitVec.ofNat 32 l.val from rfl, t _ hl, t _ hn]
    refine congrArg BitVec.ofBool (decide_eq_decide.mpr ?_)
    rw [EReal.coe_eq_coe_iff]
    norm_cast
  show Scalar.select (Ideal.cmp .oeq ((((iota .tc S64x128 32 [1] iota_S64x128_d1_w32 (ix2 a l)).toInt : ℝ)) : EReal) ((((BitVec.ofNat 32 n).toInt : ℝ)) : EReal)) _ _ = _
  rw [e]
  by_cases h : l.val = n
  · rw [if_pos h, decide_eq_true h]; rfl
  · rw [if_neg h, decide_eq_false h]; rfl

theorem csN_ix (init : S64x128.Idx → Ideal .f32) (t : ℕ) (ht : t ≤ 32) (l : Fin 128) (hl : l.val < 4 * t) :
    csN (F := Ideal) X init t (ix2 a l) = sC c i l.val := by
  induction t with
  | zero => omega
  | succ t ih =>
    unfold csN
    rw [csUpd_ix _ _ (by omega), csUpd_ix _ _ (by omega), csUpd_ix _ _ (by omega), csUpd_ix _ _ (by omega)]
    simp only [kSc X c a i hX]
    split
    · next h => rw [h]
    split
    · next h => rw [h]
    split
    · next h => rw [h]
    split
    · next h => rw [h]
    exact ih (by omega) (by omega)

theorem kCs (l : Fin 128) : csOf (F := Ideal) X (ix2 a l) = sC c i l.val := csN_ix X c a i hX _ 32 (by omega) l (by omega)

omit hX in
/-- Four blocks side by side. -/
theorem cat4 {α : Type} (f : Fin 4 → S64x128.Idx → α) (k : Fin 512) :
    concatenate S64x512 1 [⟨S64x128, f 0⟩, ⟨S64x128, f 1⟩, ⟨S64x128, f 2⟩, ⟨S64x128, f 3⟩] concatenates_S64x128_S64x128_S64x128_S64x128_S64x512_d1 (ix2 a k)
      = f ⟨k.val / 128, by omega⟩ (ix2 a ⟨k.val % 128, by omega⟩) :=
  concatenate_ofFn_apply (t := S64x512) (s₁ := S64x128) 1 f concatenates_S64x128_S64x128_S64x128_S64x128_S64x512_d1 rfl 128 rfl (ix2 a k) ⟨k.val / 128, by omega⟩ rfl
    (ix2 a ⟨k.val % 128, by omega⟩) rfl (fun b hb => match b, hb with
      | ⟨0, _⟩, _ => rfl
      | ⟨1, _⟩, hb => absurd rfl hb)

/-- The product, summed up to trip `t`. -/
theorem kwN (VW : S80x16384.Idx → Ideal .bf16) (W0 : S64x80.Idx → Ideal .f32) (q : Fin 80) (t : ℕ) (ht : t ≤ 32) :
    wN (F := Ideal) X VW W0 t (ix2 a q)
      = W0 (ix2 a q) + ∑ r ∈ Finset.range (512 * t), (Cert.Val.qC c i (ixr r) * sC c i (r / 128)) * VW (ix2 q (ixr r)) := by
  induction t with
  | zero => simp [wN]
  | succ t ih =>
    unfold wN wStep
    rw [sumBlk 512, ← add_assoc, ← ih (by omega)]
    refine congrArg₂ (· + ·) rfl ?_
    refine (Ideal.matmul_transposedRhs_apply none _ _ _ a q).trans ?_
    rw [zero_ix, zero_add]
    refine Finset.sum_congr rfl fun k _ => congrArg₂ (· * ·) ?_ rfl
    have hk := k.isLt
    refine (cat4 a (fun b : Fin 4 => dqB (blk 128 X (4 * t + b.val))) k).trans ?_
    have h := kDc X c a i hX ⟨4 * t + k.val / 128, by omega⟩ ⟨k.val % 128, by omega⟩
    dsimp only at h ⊢
    rw [h]
    have e1 : cI (4 * t + k.val / 128) (k.val % 128) = ixr (512 * t + k.val) := Fin.ext (by
      show (128 * (4 * t + k.val / 128) + k.val % 128) % 16384 = (512 * t + k.val) % 16384
      congr 1; omega)
    rw [e1, show (512 * t + k.val) / 128 = 4 * t + k.val / 128 by omega]

/-- The chunk's product. -/
theorem kW (A : S72x16384.Idx → Ideal .f32) (k : Fin 128) : wOf (F := Ideal) X (full (fun n => dqV (F := Ideal) (blk 128 A n))) (ix2 a k)
    = if h : k.val < 72 then wE (kv A) c i ⟨k.val, h⟩ else 0 := by
  have hz : ∀ y, k0_pay86 (F := Ideal) y = 0 := fun y => by unfold k0_pay86; rw [shapeCast_self]; exact Ideal.ofBits_zero_f32
  show VecWindow.put (s := S64x128) (k0_pay86 (F := Ideal)) ![0, 0] ![64, 80]
    (wN X (full (fun n => dqV (F := Ideal) (blk 128 A n))) (VecWindow.window (k0_pay86 (F := Ideal)) ![0, 0] ![64, 80] wInb) 32) (ix2 a k) = _
  by_cases hk : k.val < 80
  · refine (put2_in (n0 := 64) (n1 := 128) (m0 := 64) (m1 := 80) 0 0 _ _ a k a ⟨k.val, hk⟩ (by omega) (by dsimp only; omega)).trans ?_
    refine (kwN X c a i hX _ _ ⟨k.val, hk⟩ 32 (by omega)).trans ?_
    rw [show VecWindow.window (k0_pay86 (F := Ideal)) ![0, 0] ![64, 80] wInb (ix2 a ⟨k.val, hk⟩ : S64x80.Idx) = 0 from hz _, zero_add, Finset.sum_range]
    by_cases h : k.val < 72
    · rw [dif_pos h]
      unfold wE
      refine Finset.sum_congr rfl fun r _ => ?_
      have er : ixr r.val = r := Fin.ext (Nat.mod_eq_of_lt r.isLt)
      rw [er, kVW, dif_pos h]
    · rw [dif_neg h]
      refine Finset.sum_eq_zero fun r _ => ?_
      rw [kVW, dif_neg h]
      exact mul_zero _
  · refine (put2_out (n0 := 64) (n1 := 128) (m0 := 64) (m1 := 80) 0 0 _ _ a k (by omega)).trans ?_
    rw [dif_neg (by omega)]
    exact hz _
end

end Cert.KernelIdeal.Hand

end
-- ==== Proof.ValK3.lean ====
/- The kernel's small product, its codes and the updated chunk, at an index. -/
module

public import proofs.«01_k».proof.Proof.ValK2

@[expose] public section

set_option maxRecDepth 16384

noncomputable section

namespace Cert.KernelIdeal.Hand

open Cert.KernelIdeal Cert.KernelIdeal.Gen Cert.Val Cert.Hand
open Idealize.ShloMosaic

theorem zero_b {s : Shape} (i : s.Idx) : broadcast s (Scalar.ofBits (F := Ideal) .f32 0x00000000#32) i = (0 : EReal) := Ideal.ofBits_zero_f32

/-- The triangular factor, transposed and padded. -/
theorem kTT (T : S72x72.Idx → Ideal .f32) (q k : Fin 128) : k0_pay105 (F := Ideal) T (ix2 q k)
    = if h : k.val < 72 ∧ q.val < 72 then T (ix2 ⟨k.val, h.1⟩ ⟨q.val, h.2⟩) else 0 := by
  unfold k0_pay105
  rw [shapeCast_self]
  refine (tr2 _ _ _ _).trans ((cat0 (n0 := 72) (n1 := 56) (n := 128) (p := 128) _ _ _ rfl k q).trans ?_)
  by_cases hk : k.val < 72
  · rw [dif_pos hk]
    refine (cat1 (n0 := 72) (n1 := 56) (n := 128) (p := 72) _ _ _ rfl _ q).trans ?_
    by_cases hq : q.val < 72
    · rw [dif_pos hq, dif_pos ⟨hk, hq⟩]
    · rw [dif_neg hq, dif_neg (fun h => hq h.2)]
      exact zero_b _
  · rw [dif_neg hk, dif_neg (fun h => hk h.1)]
    exact zero_b _

section
variable (X : S64x16384.Idx → Ideal .f32) (A : S72x16384.Idx → Ideal .f32) (T : S72x72.Idx → Ideal .f32) (c : CA) (a : Fin 64) (i : Fin 1152) (hX : ∀ r, X (ix2 a r) = c i r)

/-- The panel times its scales. -/
abbrev vwA : S80x16384.Idx → Ideal .bf16 := full (fun n => dqV (F := Ideal) (blk 128 A n))
/-- The triangular factor. -/
abbrev ktA : TA := fun k q => T (ix2 k q)
/-- The chunk's product and the padded factor. -/
abbrev kw : S64x128.Idx → Ideal .f32 := wOf (F := Ideal) X (vwA A)
abbrev ktt : S128x128.Idx → Ideal .f32 := k0_pay105 (F := Ideal) T

include hX

theorem k88 (q : Fin 128) : k0_pay88 (F := Ideal) (kw X A) (ktt T) (ix2 a q) = if h : q.val < 72 then yE (kv A) (ktA T) c i ⟨q.val, h⟩ else 0 := by
  unfold k0_pay88
  refine (Ideal.matmul_transposedRhs_apply (some .fp32) _ _ _ a q).trans ?_
  rw [zero_ix, zero_add]
  have hw : ∀ k : Fin 128, kw X A (ValueIdx.ix2 a k) = if h : k.val < 72 then wE (kv A) c i ⟨k.val, h⟩ else 0 := fun k => kW X c a i hX A k
  have ht : ∀ k : Fin 128, ktt T (ValueIdx.ix2 q k) = if h : k.val < 72 ∧ q.val < 72 then T (ix2 ⟨k.val, h.1⟩ ⟨q.val, h.2⟩) else 0 := fun k => kTT T q k
  simp only [hw, ht]
  by_cases hq : q.val < 72
  · rw [dif_pos hq, sumPad (K := 72) (N := 56) rfl _ (fun k hk => by rw [dif_neg (by omega)]; exact zero_mul _)]
    unfold yE
    refine Finset.sum_congr rfl fun k _ => ?_
    rw [dif_pos k.isLt, dif_pos ⟨k.isLt, hq⟩]
  · rw [dif_neg hq]
    refine Finset.sum_eq_zero fun k _ => ?_
    rw [dif_neg (show ¬ (k.val < 72 ∧ q.val < 72) from fun h => hq h.2)]
    exact mul_zero _

theorem k89 : k0_pay89 (F := Ideal) (kw X A) (ktt T) (ix2 a 0) = (Finset.univ.sup fun q : Fin 72 => abE (yE (kv A) (ktA T) c i q)) * c448 := by
  unfold k0_pay89
  rw [mulf_ix]
  refine congrArg₂ (· * ·) ?_ rfl
  refine (sc12 _ _ _ _ a (by simp)).trans ((max1 _ _ _ _ (ix1 a) a rfl).trans ?_)
  refine (congrArg _ (funext fun q => (absf_ix _ _).trans (congrArg abE (k88 X A T c a i hX q)))).trans ?_
  refine (supPad (K := 72) (M := 128) (by omega) (by omega) (fun q : Fin 128 => if h : q.val < 72 then yE (kv A) (ktA T) c i ⟨q.val, h⟩ else 0) (fun k hk => dif_neg (by omega))).trans ?_
  refine congrArg _ (funext fun q => congrArg abE ?_)
  exact dif_pos q.isLt

omit hX in
theorem k91_eq (w : S64x128.Idx → Ideal .f32) (tt : S128x128.Idx → Ideal .f32) :
    k0_pay91 (F := Ideal) (k0_pay89 (F := Ideal) w tt) (k0_pay90 (F := Ideal) w tt) (Scalar.ofBits .f32 0x41800000#32) = bisV (k0_pay89 (F := Ideal) w tt) := rfl

theorem k91 : k0_pay91 (F := Ideal) (k0_pay89 (F := Ideal) (kw X A) (ktt T)) (k0_pay90 (F := Ideal) (kw X A) (ktt T)) (Scalar.ofBits .f32 0x41800000#32) (ix2 a 0) = sY (kv A) (ktA T) c i := by
  rw [k91_eq, bisV_apply, k89 X A T c a i hX]; rfl

/-- The codes of `y`, before their rounding. -/
abbrev k92v : FVec Ideal S64x128 .f32 := k0_pay92 (F := Ideal) (k0_pay88 (F := Ideal) (kw X A) (ktt T)) (k0_pay89 (F := Ideal) (kw X A) (ktt T)) (k0_pay90 (F := Ideal) (kw X A) (ktt T)) (Scalar.ofBits .f32 0x41800000#32)

theorem k92 (q : Fin 72) : k92v X A T (ix2 a ⟨q.val, by omega⟩) = Cert.Val.qY (kv A) (ktA T) c i q := by
  unfold k92v k0_pay92
  refine (clip_ix _ _ _ _ bitsLt_fp8e4m3_f32 _).trans ?_
  rw [bc2 _ _ _ _ a 0 (by simp) (by simp), recip_ix, k91 X A T c a i hX, k88 X A T c a i hX]
  rw [dif_pos q.isLt]
  rfl

theorem kYf (q : Fin 72) : yfOf (F := Ideal) (kw X A) (ktt T) (ix2 a ⟨q.val, by omega⟩) = Cert.Val.qY (kv A) (ktA T) c i q := by
  unfold yfOf k0_pay93
  rw [shapeCast_self]
  exact k92 X A T c a i hX q

theorem kYq (q : Fin 72) : yqOf (F := Ideal) (kw X A) (ktt T) (ix2 a ⟨q.val, by omega⟩) = Cert.Val.qY (kv A) (ktA T) c i q := by
  unfold yqOf k0_pay95
  refine (truncf_ix (φ := .f32) .fp8e4m3 _ bitsLt_fp8e4m3_f32 _).trans ?_
  exact (es2 0 0 _ _ _ _ a (⟨q.val, by omega⟩ : Fin 128) (by simp) (by simp)).trans (k92 X A T c a i hX q)

theorem kYs : ysOf (F := Ideal) (kw X A) (ktt T) (ix2 a 0) = sY (kv A) (ktA T) c i := by
  unfold ysOf k0_pay96
  rw [shapeCast_self]
  exact k91 X A T c a i hX

theorem kYsf (l : Fin 128) : ysfOf (F := Ideal) (kw X A) (ktt T) (ix2 a l) = sY (kv A) (ktA T) c i := by
  unfold ysfOf k0_pay94
  rw [shapeCast_self, shapeCast_self]
  exact (bc2 _ _ _ _ a 0 (by simp) (by simp)).trans (k91 X A T c a i hX)

/-- The panel's codes and its scales. -/
abbrev vqA : S96x16384.Idx → Ideal .fp8e4m3 := full (fun n => qV96 (F := Ideal) (blk 128 A n))
abbrev vsA : S1x16384.Idx → Ideal .f32 := full (fun n => scV (F := Ideal) (blk 128 A n))

/-- The product of codes behind four blocks. -/
theorem k79 (t : ℕ) (k : Fin 512) : k0_pay79 (F := Ideal) (yqOf (F := Ideal) (kw X A) (ktt T)) (blk 512 (vqA A) t) (ix2 a k)
    = ∑ q : Fin 72, Cert.Val.qY (kv A) (ktA T) c i q * Cert.Val.qV (kv A) (ixr (512 * t + k.val)) q := by
  unfold k0_pay79
  refine (Ideal.matmul_plain_apply none _ _ _ a k).trans ?_
  rw [zero_ix, zero_add]
  have hv : ∀ q : Fin 96, blk 512 (vqA A) t (ValueIdx.ix2 q k) = if h : q.val < 72 then Cert.Val.qV (kv A) (ixr (512 * t + k.val)) ⟨q.val, h⟩ else 0 := fun q => kVQ A q _
  simp only [hv]
  rw [sumPad (K := 72) (N := 24) rfl _ (fun q hq => by rw [dif_neg (by omega)]; exact mul_zero _)]
  refine Finset.sum_congr rfl fun q _ => ?_
  rw [dif_pos q.isLt]
  exact congrArg (· * _) (kYq X A T c a i hX q)

/-- One updated block. -/
theorem kUpd (n : Fin 128) (l : Fin 128) :
    updB (F := Ideal) (yqOf (kw X A) (ktt T)) (k0_pay107 (ysOf (kw X A) (ktt T))) (vqA A) (vsA A) X n.val (ix2 a l) = oE (kv A) (ktA T) c i (cI n.val l.val) := by
  have hn := n.isLt
  have hl := l.isLt
  have hy : k0_pay107 (ysOf (F := Ideal) (kw X A) (ktt T)) (ix2 a l) = sY (kv A) (ktA T) c i := by
    unfold k0_pay107
    exact (bc2 _ _ _ _ a 0 (by simp) (by simp)).trans (kYs X A T c a i hX)
  have hx : blk 128 X n.val (ix2 a l) = c i (cI n.val l.val) := hX _
  have hs : blk 128 (vsA A) n.val (ix2 0 l) = sV (kv A) ((cI n.val l.val).val / 128) := kVS A _
  have hp : ∀ m (h : m < 4), n.val % 4 = m → k0_pay79 (F := Ideal) (yqOf (F := Ideal) (kw X A) (ktt T)) (blk 512 (vqA A) (n.val / 4)) (ix2 a ⟨128 * m + l.val, by omega⟩)
      = ∑ q : Fin 72, Cert.Val.qY (kv A) (ktA T) c i q * Cert.Val.qV (kv A) (cI n.val l.val) q := by
    intro m h hm
    refine (k79 X A T c a i hX _ _).trans ?_
    have e : ixr (512 * (n.val / 4) + (128 * m + l.val)) = cI n.val l.val := Fin.ext (by
      show (512 * (n.val / 4) + (128 * m + l.val)) % 16384 = (128 * n.val + l.val) % 16384
      congr 1; omega)
    dsimp only
    rw [e]
  have fin : ∀ (P : S64x128.Idx → Ideal .f32), P (ix2 a l) = (∑ q : Fin 72, Cert.Val.qY (kv A) (ktA T) c i q * Cert.Val.qV (kv A) (cI n.val l.val) q) →
      subf (blk 128 X n.val) (mulf (mulf P (k0_pay107 (ysOf (F := Ideal) (kw X A) (ktt T)))) (broadcastTo S64x128 (blk 128 (vsA A) n.val) broadcasts_S1x128_S64x128)) (ix2 a l)
        = oE (kv A) (ktA T) c i (cI n.val l.val) := by
    intro P hP
    refine congrArg₂ (· - ·) hx (congrArg₂ (· * ·) (congrArg₂ (· * ·) hP hy) ?_)
    exact (bc2 _ _ _ _ 0 l (by simp) (by simp)).trans hs
  have h4 : n.val % 4 = 0 ∨ n.val % 4 = 1 ∨ n.val % 4 = 2 ∨ n.val % 4 = 3 := by omega
  unfold updB
  rcases h4 with h | h | h | h <;> simp only [h]
  · unfold k0_pay80
    rw [shapeCast_self]
    exact fin _ ((es2 0 0 _ _ _ _ a (⟨128 * 0 + l.val, by omega⟩ : Fin 512) (by simp) (by simp)).trans (hp 0 (by omega) h))
  · unfold k0_pay82 k0_pay81
    rw [shapeCast_self]
    exact fin _ ((es2 0 128 _ _ _ _ a (⟨128 * 1 + l.val, by omega⟩ : Fin 512) (by simp) (by simp)).trans (hp 1 (by omega) h))
  · unfold k0_pay83
    rw [shapeCast_self]
    exact fin _ ((es2 0 256 _ _ _ _ a (⟨128 * 2 + l.val, by omega⟩ : Fin 512) (by simp) (by simp)).trans (hp 2 (by omega) h))
  · unfold k0_pay84
    rw [shapeCast_self]
    exact fin _ ((es2 0 384 _ _ _ _ a (⟨128 * 3 + l.val, by omega⟩ : Fin 512) (by simp) (by simp)).trans (hp 3 (by omega) h))

theorem kO (r : Fin 16384) : oOf (F := Ideal) X (vwA A) (ktt T) (vqA A) (vsA A) (ix2 a r) = oE (kv A) (ktA T) c i r := by
  unfold oOf
  rw [full_ix]
  have h := kUpd X A T c a i hX ⟨r.val / 128, by omega⟩ ⟨r.val % 128, by omega⟩
  dsimp only at h
  rw [cI_split] at h; exact h
end

end Cert.KernelIdeal.Hand

end
-- ==== Proof.ValK4.lean ====
/- What the kernel's seven results hold, at an index. -/
module

public import proofs.«01_k».proof.Proof.ValK3
public import proofs.«01_k».proof.Proof.IPost

@[expose] public section

set_option maxRecDepth 16384

noncomputable section

namespace Cert.KernelIdeal.Hand

open Cert.KernelIdeal Cert.KernelIdeal.Gen Cert.Val Cert.Hand
open Idealize.ShloMosaic
open Idealize.ShloMosaic.TcCoe

section
variable (c : Dev nD) (vH : Buf (Elt Ideal) ((c : Thread nD τ).loc main_v1)) (tH : Buf (Elt Ideal) ((c : Thread nD τ).loc main_v2)) (cH : Buf (Elt Ideal) ((c : Thread nD τ).loc main_v3))

/-- The three arguments as the kernel reads them. -/
abbrev aR : S72x16384.Idx → Ideal .f32 := vtM.view.read (Elt Ideal) vH
abbrev tR : S72x72.Idx → Ideal .f32 := tM.view.read (Elt Ideal) tH
abbrev cR : CA := fun i r => (cM.view.read (Elt Ideal) cH : S1152x16384.Idx → Ideal .f32) (ix2 i r)

/-- Row `a` of chunk `j`. -/
abbrev rowI (j : Fin 18) (a : Fin 64) : Fin 1152 := ⟨64 * j.val + a.val, by omega⟩
abbrev hiI (i : Fin 1152) : Fin 18 := ⟨i.val / 64, by omega⟩
abbrev loI (i : Fin 1152) : Fin 64 := ⟨i.val % 64, by omega⟩
theorem rowI_split (i : Fin 1152) : rowI (hiI i) (loI i) = i := Fin.ext (by show 64 * (i.val / 64) + i.val % 64 = i.val; omega)

theorem chunk_ix (j : Fin 18) (a : Fin 64) (r : Fin 16384) : chunk (F := Ideal) c cH j (ix2 a r) = cR c cH (rowI j a) r := by
  unfold chunk cR
  refine congrArg cH (funext fun (b : Fin 2) => ?_)
  match b with
  | 0 => refine Fin.ext ?_; show 64 * j.val + 1 * a.val = 64 * j.val + a.val; omega
  | 1 => refine Fin.ext ?_; show 0 + 1 * r.val = r.val; omega

theorem oblk_ix (g : Buf (Elt Ideal) ((c : Thread nD τ).loc main_v4_0)) (j : Fin 18) (a : Fin 64) (r : Fin 16384) :
    ((oblk j).view.read (Elt Ideal) g : S64x16384.Idx → Ideal .f32) (ix2 a r) = (coutM.view.read (Elt Ideal) g : S1152x16384.Idx → Ideal .f32) (ix2 (rowI j a) r) := by
  refine congrArg g (funext fun (b : Fin 2) => ?_)
  match b with
  | 0 => refine Fin.ext ?_; show 64 * j.val + 1 * a.val = 64 * j.val + a.val; omega
  | 1 => refine Fin.ext ?_; show 0 + 1 * r.val = r.val; omega

theorem qblk_ix (g : Buf (Elt Ideal) ((c : Thread nD τ).loc main_v4_3)) (j : Fin 18) (a : Fin 64) (r : Fin 16384) :
    ((qblk j).view.read (Elt Ideal) g : S64x16384.Idx → Ideal .fp8e4m3) (ix2 a r) = (cqM.view.read (Elt Ideal) g : S1152x16384.Idx → Ideal .fp8e4m3) (ix2 (rowI j a) r) := by
  refine congrArg g (funext fun (b : Fin 2) => ?_)
  match b with
  | 0 => refine Fin.ext ?_; show 64 * j.val + 1 * a.val = 64 * j.val + a.val; omega
  | 1 => refine Fin.ext ?_; show 0 + 1 * r.val = r.val; omega
end

/-- Eighteen windows of 64 rows, read. -/
theorem chainRow (f : ℕ → S1152x128.Idx → Ideal .f32) (x : ℕ → S64x128.Idx → Ideal .f32) (h : ∀ k, f (k + 1) = putRow (F := Ideal) (f k) k (x k))
    (n : ℕ) (i : Fin 1152) (l : Fin 128) (hi : i.val < 64 * n) : f n (ix2 i l) = x (i.val / 64) (ix2 (loI i) l) := by
  induction n with
  | zero => omega
  | succ n ih =>
    rw [h]
    unfold putRow
    by_cases hn : i.val < 64 * n
    · exact (put2_out (n0 := 1152) (n1 := 128) (m0 := 64) (m1 := 128) (64 * n) 0 _ _ i l (Or.inl (by omega))).trans (ih hn)
    · have e : i.val / 64 = n := by omega
      rw [e]
      exact put2_in (n0 := 1152) (n1 := 128) (m0 := 64) (m1 := 128) (64 * n) 0 _ _ i l (loI i) l (by show i.val = 64 * n + i.val % 64; omega) (by omega)

/-- Nine windows of 128 columns, read. -/
theorem colPut_ix {α : Type} {R : ℕ} (B : ℕ → (Sh R 128).Idx → α) (X : (Sh R 1152).Idx → α) (n : ℕ) (q : Fin R) (i : Fin 1152) (hi : i.val < 128 * n) :
    colPut B X n (ix2 q i) = B (i.val / 128) (ix2 q ⟨i.val % 128, by omega⟩) := by
  induction n with
  | zero => omega
  | succ n ih =>
    unfold colPut
    by_cases hn : i.val < 128 * n
    · exact (put2_out (n0 := R) (n1 := 1152) (m0 := R) (m1 := 128) 0 (128 * n) _ _ q i (Or.inr (by omega))).trans (ih hn)
    · have e : i.val / 128 = n := by omega
      rw [e]
      exact put2_in (n0 := R) (n1 := 1152) (m0 := R) (m1 := 128) 0 (128 * n) _ _ q i q ⟨i.val % 128, by omega⟩ (by omega) (by show i.val = 128 * n + i.val % 128; omega)

theorem k111 (x : S128x128.Idx → Ideal .f32) (q : Fin 72) (j : Fin 128) : k0_pay111 (F := Ideal) x (ix2 q j) = x (ix2 j ⟨q.val, by omega⟩) := by
  unfold k0_pay111
  rw [shapeCast_self]
  refine (truncf_ix (φ := .f32) .fp8e4m3 _ bitsLt_fp8e4m3_f32 _).trans ?_
  exact (es2 0 0 _ _ _ _ (⟨q.val, by omega⟩ : Fin 128) j (by simp) (by simp)).trans (tr2 _ _ _ _)

theorem k110 (x : S128x128.Idx → Ideal .f32) (j : Fin 128) : k0_pay110 (F := Ideal) x (ix2 0 j) = x (ix2 j 0) := by
  unfold k0_pay110
  rw [shapeCast_self]
  exact (es2 0 0 _ _ _ _ (0 : Fin 128) j (by simp) (by simp)).trans (tr2 _ _ _ _)

theorem rblk_ix {α : Type} (X : S1152x128.Idx → α) (i : Fin 1152) (l : Fin 128) : rblk X (i.val / 128) (ix2 ⟨i.val % 128, by omega⟩ l) = X (ix2 i l) := by
  unfold rblk
  refine congrArg X (congrArg (fun z => ix2 z l) (Fin.ext ?_))
  show (128 * (i.val / 128) + i.val % 128) % 1152 = i.val
  omega

theorem b18_hi (i : Fin 1152) : b18 (i.val / 64) = hiI i := Fin.ext (by show i.val / 64 % 18 = i.val / 64; omega)

section
variable (c : Dev nD) (vH : Buf (Elt Ideal) ((c : Thread nD τ).loc main_v1)) (tH : Buf (Elt Ideal) ((c : Thread nD τ).loc main_v2)) (cH : Buf (Elt Ideal) ((c : Thread nD τ).loc main_v3))

theorem hXi (i : Fin 1152) : ∀ r, chunk (F := Ideal) c cH (hiI i) (ix2 (loI i) r) = cR c cH i r := fun r => by
  rw [chunk_ix, rowI_split]

theorem csT_ix (C : S1152x128.Idx → Ideal .f32) (i : Fin 1152) (l : Fin 128) : csT (F := Ideal) c cH C 18 (ix2 i l) = sC (cR c cH) i l.val := by
  refine (chainRow (csT (F := Ideal) c cH C) (fun k => csOf (chunk (F := Ideal) c cH (b18 k))) (fun _ => rfl) 18 i l (by omega)).trans ?_
  rw [b18_hi]
  exact kCs _ _ (loI i) i (hXi c cH i) l

theorem yfT_ix (C : S1152x128.Idx → Ideal .f32) (i : Fin 1152) (q : Fin 72) :
    yfT (F := Ideal) c cH (VW_ c vH) (TT_ c tH) C 18 (ix2 i ⟨q.val, by omega⟩) = Cert.Val.qY (kv (aR c vH)) (ktA (tR c tH)) (cR c cH) i q := by
  refine (chainRow (yfT (F := Ideal) c cH (VW_ c vH) (TT_ c tH) C) (fun k => yfOf (wOf (chunk (F := Ideal) c cH (b18 k)) (VW_ c vH)) (TT_ c tH)) (fun _ => rfl) 18 i _ (by omega)).trans ?_
  rw [b18_hi]
  exact kYf _ _ _ _ (loI i) i (hXi c cH i) q

theorem ysfT_ix (C : S1152x128.Idx → Ideal .f32) (i : Fin 1152) (l : Fin 128) :
    ysfT (F := Ideal) c cH (VW_ c vH) (TT_ c tH) C 18 (ix2 i l) = sY (kv (aR c vH)) (ktA (tR c tH)) (cR c cH) i := by
  refine (chainRow (ysfT (F := Ideal) c cH (VW_ c vH) (TT_ c tH) C) (fun k => ysfOf (wOf (chunk (F := Ideal) c cH (b18 k)) (VW_ c vH)) (TT_ c tH)) (fun _ => rfl) 18 i _ (by omega)).trans ?_
  rw [b18_hi]
  exact kYsf _ _ _ _ (loI i) i (hXi c cH i) l

variable {g0 : Buf (Elt Ideal) ((c : Thread nD τ).loc main_v4_0)} {g1 : Buf (Elt Ideal) ((c : Thread nD τ).loc main_v4_1)} {g2 : Buf (Elt Ideal) ((c : Thread nD τ).loc main_v4_2)} {g3 : Buf (Elt Ideal) ((c : Thread nD τ).loc main_v4_3)} {g4 : Buf (Elt Ideal) ((c : Thread nD τ).loc main_v4_4)} {g5 : Buf (Elt Ideal) ((c : Thread nD τ).loc main_v4_5)} {g6 : Buf (Elt Ideal) ((c : Thread nD τ).loc main_v4_6)}
  (H : Facts (F := Ideal) c vH tH cH g0 g1 g2 g3 g4 g5 g6)
include H

theorem fO (i : Fin 1152) (r : Fin 16384) : (coutM.view.read (Elt Ideal) g0 : S1152x16384.Idx → Ideal .f32) (ix2 i r) = oE (kv (aR c vH)) (ktA (tR c tH)) (cR c cH) i r := by
  have e := congrFun (H.h0 (hiI i)) (ix2 (loI i) r)
  have e2 := oblk_ix c g0 (hiI i) (loI i) r
  rw [rowI_split] at e2
  exact e2.symm.trans (e.trans (kO _ _ _ _ (loI i) i (hXi c cH i) r))
theorem fQv (q : Fin 72) (r : Fin 16384) : (vqtM.view.read (Elt Ideal) g1 : S72x16384.Idx → Ideal .fp8e4m3) (ix2 q r) = Cert.Val.qV (kv (aR c vH)) r q :=
  (congrFun H.h1 (ix2 q r)).trans (kVQ72 _ _ _)
theorem fSv (l : Fin 128) : (vsM.view.read (Elt Ideal) g2 : S1x128.Idx → Ideal .f32) (ix2 0 l) = sV (kv (aR c vH)) l.val :=
  (congrFun H.h2 (ix2 0 l)).trans ((congrFun (k104 _) _).trans (vsN_ix _ _ 32 (by omega) l (by omega)))
theorem fQc (i : Fin 1152) (r : Fin 16384) : (cqM.view.read (Elt Ideal) g3 : S1152x16384.Idx → Ideal .fp8e4m3) (ix2 i r) = Cert.Val.qC (cR c cH) i r := by
  have e := congrFun (H.h3 (hiI i)) (ix2 (loI i) r)
  have e2 := qblk_ix c g3 (hiI i) (loI i) r
  rw [rowI_split] at e2
  exact e2.symm.trans (e.trans (kQo _ _ (loI i) i (hXi c cH i) r))
theorem fSc (i : Fin 1152) (l : Fin 128) : (csM.view.read (Elt Ideal) g4 : S1152x128.Idx → Ideal .f32) (ix2 i l) = sC (cR c cH) i l.val := by
  obtain ⟨C, h⟩ := H.h4
  exact (congrFun h (ix2 i l)).trans (csT_ix c cH C i l)
theorem fQy (q : Fin 72) (i : Fin 1152) : (yqtM.view.read (Elt Ideal) g5 : S72x1152.Idx → Ideal .fp8e4m3) (ix2 q i) = Cert.Val.qY (kv (aR c vH)) (ktA (tR c tH)) (cR c cH) i q := by
  obtain ⟨Y, Z, h⟩ := H.h5
  refine (congrFun h (ix2 q i)).trans ((colPut_ix (R := 72) _ Z 9 q i (by omega)).trans ?_)
  exact (k111 _ _ _).trans ((rblk_ix _ i _).trans (yfT_ix c vH tH cH Y i q))
theorem fSy (i : Fin 1152) : (ysM.view.read (Elt Ideal) g6 : S1x1152.Idx → Ideal .f32) (ix2 0 i) = sY (kv (aR c vH)) (ktA (tR c tH)) (cR c cH) i := by
  obtain ⟨Y, Z, h⟩ := H.h6
  refine (congrFun h (ix2 0 i)).trans ((colPut_ix (R := 1) _ Z 9 0 i (by omega)).trans ?_)
  exact (k110 _ _).trans ((rblk_ix _ i _).trans (ysfT_ix c vH tH cH Y i 0))
end

end Cert.KernelIdeal.Hand

end
-- ==== Proof.ILink.lean ====
/- The kernel's staged arguments, from the launched ones. -/
module

public import proofs.«01_k».proof.Proof.ValK4
public import proofs.«01_k».proof.Proof.Gen.KernelIdeal.Frame

@[expose] public section

set_option maxRecDepth 16384

noncomputable section

namespace Cert.KernelIdeal.Hand

open Cert.KernelIdeal Cert.KernelIdeal.Gen Cert.Val Cert.Hand
open Idealize.ShloMosaic
open Idealize.ShloMosaic.TcCoe

section
variable (m : (ℓ : Loc nD τ sig) → Buf (Elt Ideal) ℓ) (ρ : Dev nD → PrngReg) (c : Dev nD)

/-- The arguments, reshaped; the panel transposed too. -/
theorem V_v1 : V m c main_v1 = (transpose S72x16384 [1, 0] (shapeCast S16384x72 (m ((c : Thread nD τ).loc main_arg0) : S1x16384x72.Idx → Ideal .f32) shapeCasts_S1x16384x72_S16384x72 : S16384x72.Idx → Ideal .f32) transposes_S16384x72_S72x16384_1_0 : S72x16384.Idx → Ideal .f32) := by
  show StableHlo.after hostOps0 _ (Proc.devRef .tc main_v1) = _
  after_results
  rfl
theorem V_v2 : V m c main_v2 = (shapeCast S72x72 (m ((c : Thread nD τ).loc main_arg1) : S1x72x72.Idx → Ideal .f32) shapeCasts_S1x72x72_S72x72 : S72x72.Idx → Ideal .f32) := by
  show StableHlo.after hostOps0 _ (Proc.devRef .tc main_v2) = _
  after_results
  rfl
theorem V_v3 : V m c main_v3 = (shapeCast S1152x16384 (m ((c : Thread nD τ).loc main_arg2) : S1x1152x16384.Idx → Ideal .f32) shapeCasts_S1x1152x16384_S1152x16384 : S1152x16384.Idx → Ideal .f32) := by
  show StableHlo.after hostOps0 _ (Proc.devRef .tc main_v3) = _
  after_results
  rfl

theorem linkV : kv (aR c (V m c main_v1)) = fun r q => (shapeCast S16384x72 (m ((c : Thread nD τ).loc main_arg0) : S1x16384x72.Idx → Ideal .f32) shapeCasts_S1x16384x72_S16384x72 : S16384x72.Idx → Ideal .f32) (ix2 r q) := by
  rw [V_v1]
  refine funext fun r => funext fun q => ?_
  exact tr2 (shapeCast S16384x72 (m ((c : Thread nD τ).loc main_arg0) : S1x16384x72.Idx → Ideal .f32) shapeCasts_S1x16384x72_S16384x72 : S16384x72.Idx → Ideal .f32) transposes_S16384x72_S72x16384_1_0 q r
theorem linkT : ktA (tR c (V m c main_v2)) = fun k q => (shapeCast S72x72 (m ((c : Thread nD τ).loc main_arg1) : S1x72x72.Idx → Ideal .f32) shapeCasts_S1x72x72_S72x72 : S72x72.Idx → Ideal .f32) (ix2 k q) := by
  rw [V_v2]; rfl
theorem linkC : cR c (V m c main_v3) = fun i r => (shapeCast S1152x16384 (m ((c : Thread nD τ).loc main_arg2) : S1x1152x16384.Idx → Ideal .f32) shapeCasts_S1x1152x16384_S1152x16384 : S1152x16384.Idx → Ideal .f32) (ix2 i r) := by
  rw [V_v3]; rfl
end

end Cert.KernelIdeal.Hand

end
-- ==== Proof.Alg1.lean ====
/- The kernel's run: its seven results as functions of the launched arguments. -/
module

public import proofs.«01_k».proof.Proof.ILink
public import proofs.«01_k».proof.Proof.ILaunch

@[expose] public section

set_option maxRecDepth 16384

noncomputable section

namespace Cert.KernelIdeal.Hand

open Cert.KernelIdeal Cert.KernelIdeal.Gen Cert.Val Cert.Hand
open Idealize.ShloMosaic
open Idealize.ShloMosaic.TcCoe
open Idealize.SL Idealize.SL.RA Idealize.SL.BI Idealize.SL.Sem

/-- An index of a matrix, from its two coordinates. -/
theorem ext2 {n0 n1 : ℕ} {α : Type} (f : (⟨2, ![n0, n1]⟩ : Shape).Idx → α) (g : Fin n0 → Fin n1 → α) (h : ∀ i j, f (ix2 i j) = g i j) :
    f = fun y => g (y 0) (y 1) := by
  refine funext fun y => ?_
  have e : y = ix2 (y 0) (y 1) := funext fun (b : Fin 2) => match b with
    | ⟨0, _⟩ => rfl
    | ⟨1, _⟩ => rfl
  exact (congrArg f e).trans (h _ _)

section
variable (a0 : S1x16384x72.Idx → Ideal .f32) (a1 : S1x72x72.Idx → Ideal .f32) (a2 : S1x1152x16384.Idx → Ideal .f32)
/-- The specification's arguments. -/
def gV : VA := fun r q => (shapeCast S16384x72 a0 shapeCasts_S1x16384x72_S16384x72 : S16384x72.Idx → Ideal .f32) (ix2 r q)
def gT : TA := fun k q => (shapeCast S72x72 a1 shapeCasts_S1x72x72_S72x72 : S72x72.Idx → Ideal .f32) (ix2 k q)
def gC : CA := fun i r => (shapeCast S1152x16384 a2 shapeCasts_S1x1152x16384_S1152x16384 : S1152x16384.Idx → Ideal .f32) (ix2 i r)
/-- The seven results, from the three arguments. -/
def res0 : S1152x16384.Idx → Ideal .f32 := fun y => oE (gV a0) (gT a1) (gC a2) (y 0) (y 1)
def res1 : S72x16384.Idx → Ideal .fp8e4m3 := fun y => Cert.Val.qV (gV a0) (y 1) (y 0)
def res2 : S1x128.Idx → Ideal .f32 := fun y => sV (gV a0) (y 1).val
def res3 : S1152x16384.Idx → Ideal .fp8e4m3 := fun y => Cert.Val.qC (gC a2) (y 0) (y 1)
def res4 : S1152x128.Idx → Ideal .f32 := fun y => sC (gC a2) (y 0) (y 1).val
def res5 : S72x1152.Idx → Ideal .fp8e4m3 := fun y => Cert.Val.qY (gV a0) (gT a1) (gC a2) (y 1) (y 0)
def res6 : S1x1152.Idx → Ideal .f32 := fun y => sY (gV a0) (gT a1) (gC a2) (y 1)
end

theorem fin1 (i : Fin 1) : i = 0 := Subsingleton.elim _ _

section
variable (m : (ℓ : Loc nD τ sig) → Buf (Elt Ideal) ℓ) (c : Dev nD) (s : MemSt nD τ sig (Elt Ideal)) (H : QY (F := Ideal) m c s)
abbrev b0 : S1x16384x72.Idx → Ideal .f32 := m ((c : Thread nD τ).loc main_arg0)
abbrev b1 : S1x72x72.Idx → Ideal .f32 := m ((c : Thread nD τ).loc main_arg1)
abbrev b2 : S1x1152x16384.Idx → Ideal .f32 := m ((c : Thread nD τ).loc main_arg2)
theorem lV : kv (aR c (V m c main_v1)) = gV (b0 m c) := linkV m c
theorem lT : ktA (tR c (V m c main_v2)) = gT (b1 m c) := linkT m c
theorem lC : cR c (V m c main_v3) = gC (b2 m c) := linkC m c
include H
theorem kr0 : s.mem ((c : Thread nD τ).loc main_v4_0) = res0 (b0 m c) (b1 m c) (b2 m c) :=
  ext2 (n0 := 1152) (n1 := 16384) _ (fun i r => oE (gV (b0 m c)) (gT (b1 m c)) (gC (b2 m c)) i r) fun i r => by
    have h := fO c _ _ _ H.facts i r; rw [lV, lT, lC] at h; exact h
theorem kr1 : s.mem ((c : Thread nD τ).loc main_v4_1) = res1 (b0 m c) :=
  ext2 (n0 := 72) (n1 := 16384) _ (fun q r => Cert.Val.qV (gV (b0 m c)) r q) fun i r => by
    have h := fQv c _ _ _ H.facts i r; rw [lV] at h; exact h
theorem kr2 : s.mem ((c : Thread nD τ).loc main_v4_2) = res2 (b0 m c) :=
  ext2 (n0 := 1) (n1 := 128) _ (fun _ l => sV (gV (b0 m c)) l.val) fun i l => by
    have h := fSv c _ _ _ H.facts l; rw [lV] at h; rw [fin1 i]; exact h
theorem kr3 : s.mem ((c : Thread nD τ).loc main_v4_3) = res3 (b2 m c) :=
  ext2 (n0 := 1152) (n1 := 16384) _ (fun i r => Cert.Val.qC (gC (b2 m c)) i r) fun i r => by
    have h := fQc c _ _ _ H.facts i r; rw [lC] at h; exact h
theorem kr4 : s.mem ((c : Thread nD τ).loc main_v4_4) = res4 (b2 m c) :=
  ext2 (n0 := 1152) (n1 := 128) _ (fun i l => sC (gC (b2 m c)) i l.val) fun i r => by
    have h := fSc c _ _ _ H.facts i r; rw [lC] at h; exact h
theorem kr5 : s.mem ((c : Thread nD τ).loc main_v4_5) = res5 (b0 m c) (b1 m c) (b2 m c) :=
  ext2 (n0 := 72) (n1 := 1152) _ (fun q i => Cert.Val.qY (gV (b0 m c)) (gT (b1 m c)) (gC (b2 m c)) i q) fun q i => by
    have h := fQy c _ _ _ H.facts q i; rw [lV, lT, lC] at h; exact h
theorem kr6 : s.mem ((c : Thread nD τ).loc main_v4_6) = res6 (b0 m c) (b1 m c) (b2 m c) :=
  ext2 (n0 := 1) (n1 := 1152) _ (fun _ i => sY (gV (b0 m c)) (gT (b1 m c)) (gC (b2 m c)) i) fun z i => by
    have h := fSy c _ _ _ H.facts i; rw [lV, lT, lC] at h; rw [fin1 z]; exact h
end

end Cert.KernelIdeal.Hand

end
-- ==== Proof.Alg2.lean ====
/- The reference's run: its seven results as the same functions. -/
module

public import proofs.«01_k».proof.Proof.RRun2
public import proofs.«01_k».proof.Proof.Alg1

@[expose] public section

set_option maxRecDepth 16384

noncomputable section

namespace Cert.ReferenceIdeal.Hand

open Cert.ReferenceIdeal Cert.ReferenceIdeal.Gen Cert.Val
open Cert.KernelIdeal.Hand (gV gT gC res0 res1 res2 res3 res4 res5 res6 ext2 fin1)
open Idealize.ShloMosaic
open Idealize.ShloMosaic.TcCoe
open Idealize.SL Idealize.SL.RA Idealize.SL.BI Idealize.SL.Sem

section
variable (m : (ℓ : Loc nD τ sig) → Buf (Elt Ideal) ℓ) (c : Dev nD) (s : MemSt nD τ sig (Elt Ideal)) (H : RVals m c s)
variable (a0 : Cert.KernelIdeal.S1x16384x72.Idx → Ideal .f32) (a1 : Cert.KernelIdeal.S1x72x72.Idx → Ideal .f32) (a2 : Cert.KernelIdeal.S1x1152x16384.Idx → Ideal .f32)
  (h0 : m ((c : Thread nD τ).loc main_arg0) = a0) (h1 : m ((c : Thread nD τ).loc main_arg1) = a1) (h2 : m ((c : Thread nD τ).loc main_arg2) = a2)
include h0 in
theorem lV : rV m c = gV a0 := by
  subst h0
  unfold rV X0 vOf
  rw [V_v0]; rfl
include h1 in
theorem lT : rT m c = gT a1 := by
  subst h1
  unfold rT X1 tOf
  rw [V_v1]; rfl
include h2 in
theorem lC : rC m c = gC a2 := by
  subst h2
  unfold rC X2 cOf
  rw [V_v2]; rfl
include H
include h0 h1 h2 in
theorem rr0 : s.mem ((c : Thread nD τ).loc main_v3_0) = res0 a0 a1 a2 :=
  ext2 (n0 := 1152) (n1 := 16384) _ (fun i r => oE (gV a0) (gT a1) (gC a2) i r) fun i r => by
    have h := H.o i r; rw [lV m c a0 h0, lT m c a1 h1, lC m c a2 h2] at h; exact h
include h0 in
theorem rr1 : s.mem ((c : Thread nD τ).loc main_v3_1) = res1 a0 :=
  ext2 (n0 := 72) (n1 := 16384) _ (fun q r => qV (gV a0) r q) fun i r => by
    have h := H.qv i r; rw [lV m c a0 h0] at h; exact h
include h0 in
theorem rr2 : s.mem ((c : Thread nD τ).loc main_v3_2) = res2 a0 :=
  ext2 (n0 := 1) (n1 := 128) _ (fun _ l => sV (gV a0) l.val) fun i l => by
    have h := H.sv l; rw [lV m c a0 h0] at h; rw [fin1 i]; exact h
include h2 in
theorem rr3 : s.mem ((c : Thread nD τ).loc main_v3_3) = res3 a2 :=
  ext2 (n0 := 1152) (n1 := 16384) _ (fun i r => qC (gC a2) i r) fun i r => by
    have h := H.qc i r; rw [lC m c a2 h2] at h; exact h
include h2 in
theorem rr4 : s.mem ((c : Thread nD τ).loc main_v3_4) = res4 a2 :=
  ext2 (n0 := 1152) (n1 := 128) _ (fun i l => sC (gC a2) i l.val) fun i r => by
    have h := H.sc i r; rw [lC m c a2 h2] at h; exact h
include h0 h1 h2 in
theorem rr5 : s.mem ((c : Thread nD τ).loc main_v3_5) = res5 a0 a1 a2 :=
  ext2 (n0 := 72) (n1 := 1152) _ (fun q i => qY (gV a0) (gT a1) (gC a2) i q) fun q i => by
    have h := H.qy q i; rw [lV m c a0 h0, lT m c a1 h1, lC m c a2 h2] at h; exact h
include h0 h1 h2 in
theorem rr6 : s.mem ((c : Thread nD τ).loc main_v3_6) = res6 a0 a1 a2 :=
  ext2 (n0 := 1) (n1 := 1152) _ (fun _ i => sY (gV a0) (gT a1) (gC a2) i) fun z i => by
    have h := H.sy i; rw [lV m c a0 h0, lT m c a1 h1, lC m c a2 h2] at h; rw [fin1 z]; exact h
end

end Cert.ReferenceIdeal.Hand

end
-- ==== Proof.Alg.lean ====
/- The two runs end with the same results. -/
module

public import proofs.«01_k».proof.Proof.Alg2

@[expose] public section

set_option maxRecDepth 16384

noncomputable section

namespace Cert.Proof

open Cert.KernelIdeal.Hand
open Idealize.ShloMosaic
open Idealize.ShloMosaic.TcCoe
open Idealize.SL Idealize.SL.RA Idealize.SL.BI Idealize.SL.Sem

/-- The algebraic claim: both programs end with the specification's seven results, and their arguments unchanged. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => res0 (b0 m c) (b1 m c) (b2 m c), fun c => res1 (b0 m c), fun c => res2 (b0 m c), fun c => res3 (b2 m c), fun c => res4 (b2 m c),
    fun c => res5 (b0 m c) (b1 m c) (b2 m c), fun c => res6 (b0 m c) (b1 m c) (b2 m c), ?_, ?_⟩
  · refine (θ_run _ _ _).mono (fun r h c => ?_) (Cert.KernelIdeal.Hand.run_main (F := Ideal) m g)
    have H := h.1 c
    exact ⟨kr0 m c _ H, kr1 m c _ H, kr2 m c _ H, kr3 m c _ H, kr4 m c _ H, kr5 m c _ H, kr6 m c _ H,
      H.a0.trans (Cert.KernelIdeal.Gen.V_main_arg0 m c), H.a1.trans (Cert.KernelIdeal.Gen.V_main_arg1 m c), H.a2.trans (Cert.KernelIdeal.Gen.V_main_arg2 m c)⟩
  · refine (θ_run _ _ _).mono (fun r h c => ?_) (θ_run_and (Cert.ReferenceIdeal.Hand.run_vals m' g') (Cert.ReferenceIdeal.Gen.frame (F := Ideal) m' g'))
    have H := h.1 c
    have e0 := (hm c).1
    have e1 := (hm c).2.1
    have e2 := (hm c).2.2
    exact ⟨Cert.ReferenceIdeal.Hand.rr0 m' c _ H _ _ _ e0 e1 e2, Cert.ReferenceIdeal.Hand.rr1 m' c _ H _ e0, Cert.ReferenceIdeal.Hand.rr2 m' c _ H _ e0,
      Cert.ReferenceIdeal.Hand.rr3 m' c _ H _ e2, Cert.ReferenceIdeal.Hand.rr4 m' c _ H _ e2,
      Cert.ReferenceIdeal.Hand.rr5 m' c _ H _ _ _ e0 e1 e2, Cert.ReferenceIdeal.Hand.rr6 m' c _ H _ _ _ e0 e1 e2, h.2.1 c⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.KLaunch
public import proofs.«01_k».proof.Proof.ILaunch
public import proofs.«01_k».proof.Proof.Alg

@[expose] public section

noncomputable section

namespace Cert.Proof

open Idealize.ShloMosaic Idealize.SL.Sem

/-- The whole certificate. -/
theorem claim : Cert.Claim := ⟨Cert.Kernel.Gen.facts, Cert.KernelIdeal.Gen.facts, Cert.ReferenceIdeal.Gen.facts,
  fun m ρ _ => (θ_run _ _ _).mono (fun _ h => ⟨fun c => ⟨(h.1 c).a0.trans (Cert.Kernel.Gen.V_main_arg0 m c),
    (h.1 c).a1.trans (Cert.Kernel.Gen.V_main_arg1 m c), (h.1 c).a2.trans (Cert.Kernel.Gen.V_main_arg2 m c)⟩, h.2⟩)
    (Cert.Kernel.Hand.run_main (F := Bits) m ρ),
  fun m ρ _ => (θ_run _ _ _).mono (fun _ h => ⟨fun c => ⟨(h.1 c).a0.trans (Cert.KernelIdeal.Gen.V_main_arg0 m c),
    (h.1 c).a1.trans (Cert.KernelIdeal.Gen.V_main_arg1 m c), (h.1 c).a2.trans (Cert.KernelIdeal.Gen.V_main_arg2 m c)⟩, h.2⟩)
    (Cert.KernelIdeal.Hand.run_main (F := Ideal) m ρ),
  fun m ρ _ => Cert.ReferenceIdeal.Gen.frame m ρ,
  trivial, algebraic⟩

end Cert.Proof

end
